-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetIdeal_finite [hPre_finite : Cert.Pre_finite.Facts] (m : (ℓ : Loc Cert.RetIdeal.nD Cert.RetIdeal.τ Cert.RetIdeal.sig) → Buf (Elt Ideal) ℓ) : Prop :=
  ∀ c : Dev Cert.RetIdeal.nD,
    (Cert.Pre_finite.fn (F := Ideal) (m ((c.tc : Thread Cert.RetIdeal.nD Cert.RetIdeal.τ).loc Cert.RetIdeal.main_arg0)) (m ((c.tc : Thread Cert.RetIdeal.nD Cert.RetIdeal.τ).loc Cert.RetIdeal.main_arg1)) (m ((c.tc : Thread Cert.RetIdeal.nD Cert.RetIdeal.τ).loc Cert.RetIdeal.main_arg2)) (m ((c.tc : Thread Cert.RetIdeal.nD Cert.RetIdeal.τ).loc Cert.RetIdeal.main_arg3))) = (fun _ => 1#1)

def Pre_RetRefIdeal (m : (ℓ : Loc Cert.RetRefIdeal.nD Cert.RetRefIdeal.τ Cert.RetRefIdeal.sig) → Buf (Elt Ideal) ℓ) : Prop :=
  True

def Pre_RetRefIdeal_finite [hPre_finite : Cert.Pre_finite.Facts] (m : (ℓ : Loc Cert.RetRefIdeal.nD Cert.RetRefIdeal.τ Cert.RetRefIdeal.sig) → Buf (Elt Ideal) ℓ) : Prop :=
  ∀ c : Dev Cert.RetRefIdeal.nD,
    (Cert.Pre_finite.fn (F := Ideal) (m ((c.tc : Thread Cert.RetRefIdeal.nD Cert.RetRefIdeal.τ).loc Cert.RetRefIdeal.main_arg0)) (m ((c.tc : Thread Cert.RetRefIdeal.nD Cert.RetRefIdeal.τ).loc Cert.RetRefIdeal.main_arg1)) (m ((c.tc : Thread Cert.RetRefIdeal.nD Cert.RetRefIdeal.τ).loc Cert.RetRefIdeal.main_arg2)) (m ((c.tc : Thread Cert.RetRefIdeal.nD Cert.RetRefIdeal.τ).loc Cert.RetRefIdeal.main_arg3))) = (fun _ => 1#1)

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttIdeal_finite2 [hPre_finite2 : Cert.Pre_finite2.Facts] (m : (ℓ : Loc Cert.AttIdeal.nD Cert.AttIdeal.τ Cert.AttIdeal.sig) → Buf (Elt Ideal) ℓ) : Prop :=
  ∀ c : Dev Cert.AttIdeal.nD,
    (Cert.Pre_finite2.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2))) = (fun _ => 1#1)

def Pre_AttRefIdeal (m : (ℓ : Loc Cert.AttRefIdeal.nD Cert.AttRefIdeal.τ Cert.AttRefIdeal.sig) → Buf (Elt Ideal) ℓ) : Prop :=
  True

def Pre_AttRefIdeal_finite2 [hPre_finite2 : Cert.Pre_finite2.Facts] (m : (ℓ : Loc Cert.AttRefIdeal.nD Cert.AttRefIdeal.τ Cert.AttRefIdeal.sig) → Buf (Elt Ideal) ℓ) : Prop :=
  ∀ c : Dev Cert.AttRefIdeal.nD,
    (Cert.Pre_finite2.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2))) = (fun _ => 1#1)

def Pre_PostC (m : (ℓ : Loc Cert.PostC.nD Cert.PostC.τ Cert.PostC.sig) → Buf (Elt Bits) ℓ) : Prop :=
  True

def Pre_PostCIdeal (m : (ℓ : Loc Cert.PostCIdeal.nD Cert.PostCIdeal.τ Cert.PostCIdeal.sig) → Buf (Elt Ideal) ℓ) : Prop :=
  True

def Pre_PostCIdeal_finite3 [hPre_finite3 : Cert.Pre_finite3.Facts] (m : (ℓ : Loc Cert.PostCIdeal.nD Cert.PostCIdeal.τ Cert.PostCIdeal.sig) → Buf (Elt Ideal) ℓ) : Prop :=
  ∀ c : Dev Cert.PostCIdeal.nD,
    (Cert.Pre_finite3.fn (F := Ideal) (m ((c.tc : Thread Cert.PostCIdeal.nD Cert.PostCIdeal.τ).loc Cert.PostCIdeal.main_arg0)) (m ((c.tc : Thread Cert.PostCIdeal.nD Cert.PostCIdeal.τ).loc Cert.PostCIdeal.main_arg1)) (m ((c.tc : Thread Cert.PostCIdeal.nD Cert.PostCIdeal.τ).loc Cert.PostCIdeal.main_arg2)) (m ((c.tc : Thread Cert.PostCIdeal.nD Cert.PostCIdeal.τ).loc Cert.PostCIdeal.main_arg3)) (m ((c.tc : Thread Cert.PostCIdeal.nD Cert.PostCIdeal.τ).loc Cert.PostCIdeal.main_arg4)) (m ((c.tc : Thread Cert.PostCIdeal.nD Cert.PostCIdeal.τ).loc Cert.PostCIdeal.main_arg5)) (m ((c.tc : Thread Cert.PostCIdeal.nD Cert.PostCIdeal.τ).loc Cert.PostCIdeal.main_arg6)) (m ((c.tc : Thread Cert.PostCIdeal.nD Cert.PostCIdeal.τ).loc Cert.PostCIdeal.main_arg7)) (m ((c.tc : Thread Cert.PostCIdeal.nD Cert.PostCIdeal.τ).loc Cert.PostCIdeal.main_arg8)) (m ((c.tc : Thread Cert.PostCIdeal.nD Cert.PostCIdeal.τ).loc Cert.PostCIdeal.main_arg9)) (m ((c.tc : Thread Cert.PostCIdeal.nD Cert.PostCIdeal.τ).loc Cert.PostCIdeal.main_arg10))) = (fun _ => 1#1)

def Pre_PostCRefIdeal (m : (ℓ : Loc Cert.PostCRefIdeal.nD Cert.PostCRefIdeal.τ Cert.PostCRefIdeal.sig) → Buf (Elt Ideal) ℓ) : Prop :=
  True

def Pre_PostCRefIdeal_finite3 [hPre_finite3 : Cert.Pre_finite3.Facts] (m : (ℓ : Loc Cert.PostCRefIdeal.nD Cert.PostCRefIdeal.τ Cert.PostCRefIdeal.sig) → Buf (Elt Ideal) ℓ) : Prop :=
  ∀ c : Dev Cert.PostCRefIdeal.nD,
    (Cert.Pre_finite3.fn (F := Ideal) (m ((c.tc : Thread Cert.PostCRefIdeal.nD Cert.PostCRefIdeal.τ).loc Cert.PostCRefIdeal.main_arg0)) (m ((c.tc : Thread Cert.PostCRefIdeal.nD Cert.PostCRefIdeal.τ).loc Cert.PostCRefIdeal.main_arg1)) (m ((c.tc : Thread Cert.PostCRefIdeal.nD Cert.PostCRefIdeal.τ).loc Cert.PostCRefIdeal.main_arg2)) (m ((c.tc : Thread Cert.PostCRefIdeal.nD Cert.PostCRefIdeal.τ).loc Cert.PostCRefIdeal.main_arg3)) (m ((c.tc : Thread Cert.PostCRefIdeal.nD Cert.PostCRefIdeal.τ).loc Cert.PostCRefIdeal.main_arg4)) (m ((c.tc : Thread Cert.PostCRefIdeal.nD Cert.PostCRefIdeal.τ).loc Cert.PostCRefIdeal.main_arg5)) (m ((c.tc : Thread Cert.PostCRefIdeal.nD Cert.PostCRefIdeal.τ).loc Cert.PostCRefIdeal.main_arg6)) (m ((c.tc : Thread Cert.PostCRefIdeal.nD Cert.PostCRefIdeal.τ).loc Cert.PostCRefIdeal.main_arg7)) (m ((c.tc : Thread Cert.PostCRefIdeal.nD Cert.PostCRefIdeal.τ).loc Cert.PostCRefIdeal.main_arg8)) (m ((c.tc : Thread Cert.PostCRefIdeal.nD Cert.PostCRefIdeal.τ).loc Cert.PostCRefIdeal.main_arg9)) (m ((c.tc : Thread Cert.PostCRefIdeal.nD Cert.PostCRefIdeal.τ).loc Cert.PostCRefIdeal.main_arg10))) = (fun _ => 1#1)

def Pre_PostAb (m : (ℓ : Loc Cert.PostAb.nD Cert.PostAb.τ Cert.PostAb.sig) → Buf (Elt Bits) ℓ) : Prop :=
  True

def Pre_PostAbIdeal (m : (ℓ : Loc Cert.PostAbIdeal.nD Cert.PostAbIdeal.τ Cert.PostAbIdeal.sig) → Buf (Elt Ideal) ℓ) : Prop :=
  True

def Pre_PostAbIdeal_finite4 [hPre_finite4 : Cert.Pre_finite4.Facts] (m : (ℓ : Loc Cert.PostAbIdeal.nD Cert.PostAbIdeal.τ Cert.PostAbIdeal.sig) → Buf (Elt Ideal) ℓ) : Prop :=
  ∀ c : Dev Cert.PostAbIdeal.nD,
    (Cert.Pre_finite4.fn (F := Ideal) (m ((c.tc : Thread Cert.PostAbIdeal.nD Cert.PostAbIdeal.τ).loc Cert.PostAbIdeal.main_arg0)) (m ((c.tc : Thread Cert.PostAbIdeal.nD Cert.PostAbIdeal.τ).loc Cert.PostAbIdeal.main_arg1)) (m ((c.tc : Thread Cert.PostAbIdeal.nD Cert.PostAbIdeal.τ).loc Cert.PostAbIdeal.main_arg2)) (m ((c.tc : Thread Cert.PostAbIdeal.nD Cert.PostAbIdeal.τ).loc Cert.PostAbIdeal.main_arg3)) (m ((c.tc : Thread Cert.PostAbIdeal.nD Cert.PostAbIdeal.τ).loc Cert.PostAbIdeal.main_arg4)) (m ((c.tc : Thread Cert.PostAbIdeal.nD Cert.PostAbIdeal.τ).loc Cert.PostAbIdeal.main_arg5)) (m ((c.tc : Thread Cert.PostAbIdeal.nD Cert.PostAbIdeal.τ).loc Cert.PostAbIdeal.main_arg6)) (m ((c.tc : Thread Cert.PostAbIdeal.nD Cert.PostAbIdeal.τ).loc Cert.PostAbIdeal.main_arg7)) (m ((c.tc : Thread Cert.PostAbIdeal.nD Cert.PostAbIdeal.τ).loc Cert.PostAbIdeal.main_arg8)) (m ((c.tc : Thread Cert.PostAbIdeal.nD Cert.PostAbIdeal.τ).loc Cert.PostAbIdeal.main_arg9)) (m ((c.tc : Thread Cert.PostAbIdeal.nD Cert.PostAbIdeal.τ).loc Cert.PostAbIdeal.main_arg10)) (m ((c.tc : Thread Cert.PostAbIdeal.nD Cert.PostAbIdeal.τ).loc Cert.PostAbIdeal.main_arg11))) = (fun _ => 1#1)

def Pre_PostAbRefIdeal (m : (ℓ : Loc Cert.PostAbRefIdeal.nD Cert.PostAbRefIdeal.τ Cert.PostAbRefIdeal.sig) → Buf (Elt Ideal) ℓ) : Prop :=
  True

def Pre_PostAbRefIdeal_finite4 [hPre_finite4 : Cert.Pre_finite4.Facts] (m : (ℓ : Loc Cert.PostAbRefIdeal.nD Cert.PostAbRefIdeal.τ Cert.PostAbRefIdeal.sig) → Buf (Elt Ideal) ℓ) : Prop :=
  ∀ c : Dev Cert.PostAbRefIdeal.nD,
    (Cert.Pre_finite4.fn (F := Ideal) (m ((c.tc : Thread Cert.PostAbRefIdeal.nD Cert.PostAbRefIdeal.τ).loc Cert.PostAbRefIdeal.main_arg0)) (m ((c.tc : Thread Cert.PostAbRefIdeal.nD Cert.PostAbRefIdeal.τ).loc Cert.PostAbRefIdeal.main_arg1)) (m ((c.tc : Thread Cert.PostAbRefIdeal.nD Cert.PostAbRefIdeal.τ).loc Cert.PostAbRefIdeal.main_arg2)) (m ((c.tc : Thread Cert.PostAbRefIdeal.nD Cert.PostAbRefIdeal.τ).loc Cert.PostAbRefIdeal.main_arg3)) (m ((c.tc : Thread Cert.PostAbRefIdeal.nD Cert.PostAbRefIdeal.τ).loc Cert.PostAbRefIdeal.main_arg4)) (m ((c.tc : Thread Cert.PostAbRefIdeal.nD Cert.PostAbRefIdeal.τ).loc Cert.PostAbRefIdeal.main_arg5)) (m ((c.tc : Thread Cert.PostAbRefIdeal.nD Cert.PostAbRefIdeal.τ).loc Cert.PostAbRefIdeal.main_arg6)) (m ((c.tc : Thread Cert.PostAbRefIdeal.nD Cert.PostAbRefIdeal.τ).loc Cert.PostAbRefIdeal.main_arg7)) (m ((c.tc : Thread Cert.PostAbRefIdeal.nD Cert.PostAbRefIdeal.τ).loc Cert.PostAbRefIdeal.main_arg8)) (m ((c.tc : Thread Cert.PostAbRefIdeal.nD Cert.PostAbRefIdeal.τ).loc Cert.PostAbRefIdeal.main_arg9)) (m ((c.tc : Thread Cert.PostAbRefIdeal.nD Cert.PostAbRefIdeal.τ).loc Cert.PostAbRefIdeal.main_arg10)) (m ((c.tc : Thread Cert.PostAbRefIdeal.nD Cert.PostAbRefIdeal.τ).loc Cert.PostAbRefIdeal.main_arg11))) = (fun _ => 1#1)

def Pre_L1In (m : (ℓ : Loc Cert.L1In.nD Cert.L1In.τ Cert.L1In.sig) → Buf (Elt Bits) ℓ) : Prop :=
  True

def Pre_L1InIdeal (m : (ℓ : Loc Cert.L1InIdeal.nD Cert.L1InIdeal.τ Cert.L1InIdeal.sig) → Buf (Elt Ideal) ℓ) : Prop :=
  True

def Pre_L1InIdeal_finite5 [hPre_finite5 : Cert.Pre_finite5.Facts] (m : (ℓ : Loc Cert.L1InIdeal.nD Cert.L1InIdeal.τ Cert.L1InIdeal.sig) → Buf (Elt Ideal) ℓ) : Prop :=
  ∀ c : Dev Cert.L1InIdeal.nD,
    (Cert.Pre_finite5.fn (F := Ideal) (m ((c.tc : Thread Cert.L1InIdeal.nD Cert.L1InIdeal.τ).loc Cert.L1InIdeal.main_arg0)) (m ((c.tc : Thread Cert.L1InIdeal.nD Cert.L1InIdeal.τ).loc Cert.L1InIdeal.main_arg1)) (m ((c.tc : Thread Cert.L1InIdeal.nD Cert.L1InIdeal.τ).loc Cert.L1InIdeal.main_arg2)) (m ((c.tc : Thread Cert.L1InIdeal.nD Cert.L1InIdeal.τ).loc Cert.L1InIdeal.main_arg3))) = (fun _ => 1#1)

def Pre_L1InRefIdeal (m : (ℓ : Loc Cert.L1InRefIdeal.nD Cert.L1InRefIdeal.τ Cert.L1InRefIdeal.sig) → Buf (Elt Ideal) ℓ) : Prop :=
  True

def Pre_L1InRefIdeal_finite5 [hPre_finite5 : Cert.Pre_finite5.Facts] (m : (ℓ : Loc Cert.L1InRefIdeal.nD Cert.L1InRefIdeal.τ Cert.L1InRefIdeal.sig) → Buf (Elt Ideal) ℓ) : Prop :=
  ∀ c : Dev Cert.L1InRefIdeal.nD,
    (Cert.Pre_finite5.fn (F := Ideal) (m ((c.tc : Thread Cert.L1InRefIdeal.nD Cert.L1InRefIdeal.τ).loc Cert.L1InRefIdeal.main_arg0)) (m ((c.tc : Thread Cert.L1InRefIdeal.nD Cert.L1InRefIdeal.τ).loc Cert.L1InRefIdeal.main_arg1)) (m ((c.tc : Thread Cert.L1InRefIdeal.nD Cert.L1InRefIdeal.τ).loc Cert.L1InRefIdeal.main_arg2)) (m ((c.tc : Thread Cert.L1InRefIdeal.nD Cert.L1InRefIdeal.τ).loc Cert.L1InRefIdeal.main_arg3))) = (fun _ => 1#1)

def Pre_L0In (m : (ℓ : Loc Cert.L0In.nD Cert.L0In.τ Cert.L0In.sig) → Buf (Elt Bits) ℓ) : Prop :=
  True

def Pre_L0InIdeal (m : (ℓ : Loc Cert.L0InIdeal.nD Cert.L0InIdeal.τ Cert.L0InIdeal.sig) → Buf (Elt Ideal) ℓ) : Prop :=
  True

def Pre_L0InIdeal_finite6 [hPre_finite6 : Cert.Pre_finite6.Facts] (m : (ℓ : Loc Cert.L0InIdeal.nD Cert.L0InIdeal.τ Cert.L0InIdeal.sig) → Buf (Elt Ideal) ℓ) : Prop :=
  ∀ c : Dev Cert.L0InIdeal.nD,
    (Cert.Pre_finite6.fn (F := Ideal) (m ((c.tc : Thread Cert.L0InIdeal.nD Cert.L0InIdeal.τ).loc Cert.L0InIdeal.main_arg0)) (m ((c.tc : Thread Cert.L0InIdeal.nD Cert.L0InIdeal.τ).loc Cert.L0InIdeal.main_arg1)) (m ((c.tc : Thread Cert.L0InIdeal.nD Cert.L0InIdeal.τ).loc Cert.L0InIdeal.main_arg2)) (m ((c.tc : Thread Cert.L0InIdeal.nD Cert.L0InIdeal.τ).loc Cert.L0InIdeal.main_arg3)) (m ((c.tc : Thread Cert.L0InIdeal.nD Cert.L0InIdeal.τ).loc Cert.L0InIdeal.main_arg4)) (m ((c.tc : Thread Cert.L0InIdeal.nD Cert.L0InIdeal.τ).loc Cert.L0InIdeal.main_arg5))) = (fun _ => 1#1)

def Pre_L0InRefIdeal (m : (ℓ : Loc Cert.L0InRefIdeal.nD Cert.L0InRefIdeal.τ Cert.L0InRefIdeal.sig) → Buf (Elt Ideal) ℓ) : Prop :=
  True

def Pre_L0InRefIdeal_finite6 [hPre_finite6 : Cert.Pre_finite6.Facts] (m : (ℓ : Loc Cert.L0InRefIdeal.nD Cert.L0InRefIdeal.τ Cert.L0InRefIdeal.sig) → Buf (Elt Ideal) ℓ) : Prop :=
  ∀ c : Dev Cert.L0InRefIdeal.nD,
    (Cert.Pre_finite6.fn (F := Ideal) (m ((c.tc : Thread Cert.L0InRefIdeal.nD Cert.L0InRefIdeal.τ).loc Cert.L0InRefIdeal.main_arg0)) (m ((c.tc : Thread Cert.L0InRefIdeal.nD Cert.L0InRefIdeal.τ).loc Cert.L0InRefIdeal.main_arg1)) (m ((c.tc : Thread Cert.L0InRefIdeal.nD Cert.L0InRefIdeal.τ).loc Cert.L0InRefIdeal.main_arg2)) (m ((c.tc : Thread Cert.L0InRefIdeal.nD Cert.L0InRefIdeal.τ).loc Cert.L0InRefIdeal.main_arg3)) (m ((c.tc : Thread Cert.L0InRefIdeal.nD Cert.L0InRefIdeal.τ).loc Cert.L0InRefIdeal.main_arg4)) (m ((c.tc : Thread Cert.L0InRefIdeal.nD Cert.L0InRefIdeal.τ).loc Cert.L0InRefIdeal.main_arg5))) = (fun _ => 1#1)

def Pre_PostS (m : (ℓ : Loc Cert.PostS.nD Cert.PostS.τ Cert.PostS.sig) → Buf (Elt Bits) ℓ) : Prop :=
  True

def Pre_PostSIdeal (m : (ℓ : Loc Cert.PostSIdeal.nD Cert.PostSIdeal.τ Cert.PostSIdeal.sig) → Buf (Elt Ideal) ℓ) : Prop :=
  True

def Pre_PostSIdeal_finite7 [hPre_finite7 : Cert.Pre_finite7.Facts] (m : (ℓ : Loc Cert.PostSIdeal.nD Cert.PostSIdeal.τ Cert.PostSIdeal.sig) → Buf (Elt Ideal) ℓ) : Prop :=
  ∀ c : Dev Cert.PostSIdeal.nD,
    (Cert.Pre_finite7.fn (F := Ideal) (m ((c.tc : Thread Cert.PostSIdeal.nD Cert.PostSIdeal.τ).loc Cert.PostSIdeal.main_arg0)) (m ((c.tc : Thread Cert.PostSIdeal.nD Cert.PostSIdeal.τ).loc Cert.PostSIdeal.main_arg1)) (m ((c.tc : Thread Cert.PostSIdeal.nD Cert.PostSIdeal.τ).loc Cert.PostSIdeal.main_arg2)) (m ((c.tc : Thread Cert.PostSIdeal.nD Cert.PostSIdeal.τ).loc Cert.PostSIdeal.main_arg3)) (m ((c.tc : Thread Cert.PostSIdeal.nD Cert.PostSIdeal.τ).loc Cert.PostSIdeal.main_arg4)) (m ((c.tc : Thread Cert.PostSIdeal.nD Cert.PostSIdeal.τ).loc Cert.PostSIdeal.main_arg5)) (m ((c.tc : Thread Cert.PostSIdeal.nD Cert.PostSIdeal.τ).loc Cert.PostSIdeal.main_arg6)) (m ((c.tc : Thread Cert.PostSIdeal.nD Cert.PostSIdeal.τ).loc Cert.PostSIdeal.main_arg7)) (m ((c.tc : Thread Cert.PostSIdeal.nD Cert.PostSIdeal.τ).loc Cert.PostSIdeal.main_arg8)) (m ((c.tc : Thread Cert.PostSIdeal.nD Cert.PostSIdeal.τ).loc Cert.PostSIdeal.main_arg9)) (m ((c.tc : Thread Cert.PostSIdeal.nD Cert.PostSIdeal.τ).loc Cert.PostSIdeal.main_arg10)) (m ((c.tc : Thread Cert.PostSIdeal.nD Cert.PostSIdeal.τ).loc Cert.PostSIdeal.main_arg11))) = (fun _ => 1#1)

def Pre_PostSRefIdeal (m : (ℓ : Loc Cert.PostSRefIdeal.nD Cert.PostSRefIdeal.τ Cert.PostSRefIdeal.sig) → Buf (Elt Ideal) ℓ) : Prop :=
  True

def Pre_PostSRefIdeal_finite7 [hPre_finite7 : Cert.Pre_finite7.Facts] (m : (ℓ : Loc Cert.PostSRefIdeal.nD Cert.PostSRefIdeal.τ Cert.PostSRefIdeal.sig) → Buf (Elt Ideal) ℓ) : Prop :=
  ∀ c : Dev Cert.PostSRefIdeal.nD,
    (Cert.Pre_finite7.fn (F := Ideal) (m ((c.tc : Thread Cert.PostSRefIdeal.nD Cert.PostSRefIdeal.τ).loc Cert.PostSRefIdeal.main_arg0)) (m ((c.tc : Thread Cert.PostSRefIdeal.nD Cert.PostSRefIdeal.τ).loc Cert.PostSRefIdeal.main_arg1)) (m ((c.tc : Thread Cert.PostSRefIdeal.nD Cert.PostSRefIdeal.τ).loc Cert.PostSRefIdeal.main_arg2)) (m ((c.tc : Thread Cert.PostSRefIdeal.nD Cert.PostSRefIdeal.τ).loc Cert.PostSRefIdeal.main_arg3)) (m ((c.tc : Thread Cert.PostSRefIdeal.nD Cert.PostSRefIdeal.τ).loc Cert.PostSRefIdeal.main_arg4)) (m ((c.tc : Thread Cert.PostSRefIdeal.nD Cert.PostSRefIdeal.τ).loc Cert.PostSRefIdeal.main_arg5)) (m ((c.tc : Thread Cert.PostSRefIdeal.nD Cert.PostSRefIdeal.τ).loc Cert.PostSRefIdeal.main_arg6)) (m ((c.tc : Thread Cert.PostSRefIdeal.nD Cert.PostSRefIdeal.τ).loc Cert.PostSRefIdeal.main_arg7)) (m ((c.tc : Thread Cert.PostSRefIdeal.nD Cert.PostSRefIdeal.τ).loc Cert.PostSRefIdeal.main_arg8)) (m ((c.tc : Thread Cert.PostSRefIdeal.nD Cert.PostSRefIdeal.τ).loc Cert.PostSRefIdeal.main_arg9)) (m ((c.tc : Thread Cert.PostSRefIdeal.nD Cert.PostSRefIdeal.τ).loc Cert.PostSRefIdeal.main_arg10)) (m ((c.tc : Thread Cert.PostSRefIdeal.nD Cert.PostSRefIdeal.τ).loc Cert.PostSRefIdeal.main_arg11))) = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaIdeal_finite8 [hPre_finite8 : Cert.Pre_finite8.Facts] (m : (ℓ : Loc Cert.AdaIdeal.nD Cert.AdaIdeal.τ Cert.AdaIdeal.sig) → Buf (Elt Ideal) ℓ) : Prop :=
  ∀ c : Dev Cert.AdaIdeal.nD,
    (Cert.Pre_finite8.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2))) = (fun _ => 1#1)

def Pre_AdaRefIdeal (m : (ℓ : Loc Cert.AdaRefIdeal.nD Cert.AdaRefIdeal.τ Cert.AdaRefIdeal.sig) → Buf (Elt Ideal) ℓ) : Prop :=
  True

def Pre_AdaRefIdeal_finite8 [hPre_finite8 : Cert.Pre_finite8.Facts] (m : (ℓ : Loc Cert.AdaRefIdeal.nD Cert.AdaRefIdeal.τ Cert.AdaRefIdeal.sig) → Buf (Elt Ideal) ℓ) : Prop :=
  ∀ c : Dev Cert.AdaRefIdeal.nD,
    (Cert.Pre_finite8.fn (F := Ideal) (m ((c.tc : Thread Cert.AdaRefIdeal.nD Cert.AdaRefIdeal.τ).loc Cert.AdaRefIdeal.main_arg0)) (m ((c.tc : Thread Cert.AdaRefIdeal.nD Cert.AdaRefIdeal.τ).loc Cert.AdaRefIdeal.main_arg1)) (m ((c.tc : Thread Cert.AdaRefIdeal.nD Cert.AdaRefIdeal.τ).loc Cert.AdaRefIdeal.main_arg2))) = (fun _ => 1#1)

def Pre_Cast (m : (ℓ : Loc Cert.Cast.nD Cert.Cast.τ Cert.Cast.sig) → Buf (Elt Bits) ℓ) : Prop :=
  True

def Pre_CastIdeal (m : (ℓ : Loc Cert.CastIdeal.nD Cert.CastIdeal.τ Cert.CastIdeal.sig) → Buf (Elt Ideal) ℓ) : Prop :=
  True

def Pre_CastRefIdeal (m : (ℓ : Loc Cert.CastRefIdeal.nD Cert.CastRefIdeal.τ Cert.CastRefIdeal.sig) → Buf (Elt Ideal) ℓ) : Prop :=
  True

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2)
      ∧ r.2.mem ((c.tc : Thread Cert.Ret.nD Cert.Ret.τ).loc Cert.Ret.main_arg3) = m ((c.tc : Thread Cert.Ret.nD Cert.Ret.τ).loc Cert.Ret.main_arg3))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ r.2.sem = fun _ => 0)

def quiescent_RetIdeal_pre_finite [hRetIdeal : Cert.RetIdeal.Facts] [hPre_finite : Cert.Pre_finite.Facts] : Prop :=
  ∀ (m : (ℓ : Loc Cert.RetIdeal.nD Cert.RetIdeal.τ Cert.RetIdeal.sig) → Buf (Elt Ideal) ℓ) (g : Dev Cert.RetIdeal.nD → PrngReg), Pre_RetIdeal_finite m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3))
      ∧ r.2.sem = fun _ => 0)

def quiescent_RetRefIdeal_pre_finite [hRetRefIdeal : Cert.RetRefIdeal.Facts] [hPre_finite : Cert.Pre_finite.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal_finite m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1)
      ∧ r.2.mem ((c.tc : Thread Cert.Att.nD Cert.Att.τ).loc Cert.Att.main_arg2) = m ((c.tc : Thread Cert.Att.nD Cert.Att.τ).loc Cert.Att.main_arg2))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ r.2.sem = fun _ => 0)

def quiescent_AttIdeal_pre_finite2 [hAttIdeal : Cert.AttIdeal.Facts] [hPre_finite2 : Cert.Pre_finite2.Facts] : Prop :=
  ∀ (m : (ℓ : Loc Cert.AttIdeal.nD Cert.AttIdeal.τ Cert.AttIdeal.sig) → Buf (Elt Ideal) ℓ) (g : Dev Cert.AttIdeal.nD → PrngReg), Pre_AttIdeal_finite2 m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2))
      ∧ r.2.sem = fun _ => 0)

def quiescent_AttRefIdeal_pre_finite2 [hAttRefIdeal : Cert.AttRefIdeal.Facts] [hPre_finite2 : Cert.Pre_finite2.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal_finite2 m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2))
      ∧ r.2.sem = fun _ => 0)

def quiescent_PostC [hPostC : Cert.PostC.Facts] : Prop :=
  ∀ (m : (ℓ : Loc Cert.PostC.nD Cert.PostC.τ Cert.PostC.sig) → Buf (Elt Bits) ℓ) (g : Dev Cert.PostC.nD → PrngReg), Pre_PostC m →
    θ_run (Cert.PostC.defs (F := Bits)) (onTc (τ := Cert.PostC.τ) (Cert.PostC.main (F := Bits))) ⟨m, fun _ => 0, g⟩ (fun r => (∀ c : Dev Cert.PostC.nD,
      r.2.mem ((c.tc : Thread Cert.PostC.nD Cert.PostC.τ).loc Cert.PostC.main_arg0) = m ((c.tc : Thread Cert.PostC.nD Cert.PostC.τ).loc Cert.PostC.main_arg0)
      ∧ r.2.mem ((c.tc : Thread Cert.PostC.nD Cert.PostC.τ).loc Cert.PostC.main_arg1) = m ((c.tc : Thread Cert.PostC.nD Cert.PostC.τ).loc Cert.PostC.main_arg1)
      ∧ r.2.mem ((c.tc : Thread Cert.PostC.nD Cert.PostC.τ).loc Cert.PostC.main_arg2) = m ((c.tc : Thread Cert.PostC.nD Cert.PostC.τ).loc Cert.PostC.main_arg2)
      ∧ r.2.mem ((c.tc : Thread Cert.PostC.nD Cert.PostC.τ).loc Cert.PostC.main_arg3) = m ((c.tc : Thread Cert.PostC.nD Cert.PostC.τ).loc Cert.PostC.main_arg3)
      ∧ r.2.mem ((c.tc : Thread Cert.PostC.nD Cert.PostC.τ).loc Cert.PostC.main_arg4) = m ((c.tc : Thread Cert.PostC.nD Cert.PostC.τ).loc Cert.PostC.main_arg4)
      ∧ r.2.mem ((c.tc : Thread Cert.PostC.nD Cert.PostC.τ).loc Cert.PostC.main_arg5) = m ((c.tc : Thread Cert.PostC.nD Cert.PostC.τ).loc Cert.PostC.main_arg5)
      ∧ r.2.mem ((c.tc : Thread Cert.PostC.nD Cert.PostC.τ).loc Cert.PostC.main_arg6) = m ((c.tc : Thread Cert.PostC.nD Cert.PostC.τ).loc Cert.PostC.main_arg6)
      ∧ r.2.mem ((c.tc : Thread Cert.PostC.nD Cert.PostC.τ).loc Cert.PostC.main_arg7) = m ((c.tc : Thread Cert.PostC.nD Cert.PostC.τ).loc Cert.PostC.main_arg7)
      ∧ r.2.mem ((c.tc : Thread Cert.PostC.nD Cert.PostC.τ).loc Cert.PostC.main_arg8) = m ((c.tc : Thread Cert.PostC.nD Cert.PostC.τ).loc Cert.PostC.main_arg8)
      ∧ r.2.mem ((c.tc : Thread Cert.PostC.nD Cert.PostC.τ).loc Cert.PostC.main_arg9) = m ((c.tc : Thread Cert.PostC.nD Cert.PostC.τ).loc Cert.PostC.main_arg9)
      ∧ r.2.mem ((c.tc : Thread Cert.PostC.nD Cert.PostC.τ).loc Cert.PostC.main_arg10) = m ((c.tc : Thread Cert.PostC.nD Cert.PostC.τ).loc Cert.PostC.main_arg10))
      ∧ r.2.sem = fun _ => 0)

def quiescent_PostCIdeal [hPostCIdeal : Cert.PostCIdeal.Facts] : Prop :=
  ∀ (m : (ℓ : Loc Cert.PostCIdeal.nD Cert.PostCIdeal.τ Cert.PostCIdeal.sig) → Buf (Elt Ideal) ℓ) (g : Dev Cert.PostCIdeal.nD → PrngReg), Pre_PostCIdeal m →
    θ_run (Cert.PostCIdeal.defs (F := Ideal)) (onTc (τ := Cert.PostCIdeal.τ) (Cert.PostCIdeal.main (F := Ideal))) ⟨m, fun _ => 0, g⟩ (fun r => (∀ c : Dev Cert.PostCIdeal.nD,
      r.2.mem ((c.tc : Thread Cert.PostCIdeal.nD Cert.PostCIdeal.τ).loc Cert.PostCIdeal.main_arg0) = m ((c.tc : Thread Cert.PostCIdeal.nD Cert.PostCIdeal.τ).loc Cert.PostCIdeal.main_arg0)
      ∧ r.2.mem ((c.tc : Thread Cert.PostCIdeal.nD Cert.PostCIdeal.τ).loc Cert.PostCIdeal.main_arg1) = m ((c.tc : Thread Cert.PostCIdeal.nD Cert.PostCIdeal.τ).loc Cert.PostCIdeal.main_arg1)
      ∧ r.2.mem ((c.tc : Thread Cert.PostCIdeal.nD Cert.PostCIdeal.τ).loc Cert.PostCIdeal.main_arg2) = m ((c.tc : Thread Cert.PostCIdeal.nD Cert.PostCIdeal.τ).loc Cert.PostCIdeal.main_arg2)
      ∧ r.2.mem ((c.tc : Thread Cert.PostCIdeal.nD Cert.PostCIdeal.τ).loc Cert.PostCIdeal.main_arg3) = m ((c.tc : Thread Cert.PostCIdeal.nD Cert.PostCIdeal.τ).loc Cert.PostCIdeal.main_arg3)
      ∧ r.2.mem ((c.tc : Thread Cert.PostCIdeal.nD Cert.PostCIdeal.τ).loc Cert.PostCIdeal.main_arg4) = m ((c.tc : Thread Cert.PostCIdeal.nD Cert.PostCIdeal.τ).loc Cert.PostCIdeal.main_arg4)
      ∧ r.2.mem ((c.tc : Thread Cert.PostCIdeal.nD Cert.PostCIdeal.τ).loc Cert.PostCIdeal.main_arg5) = m ((c.tc : Thread Cert.PostCIdeal.nD Cert.PostCIdeal.τ).loc Cert.PostCIdeal.main_arg5)
      ∧ r.2.mem ((c.tc : Thread Cert.PostCIdeal.nD Cert.PostCIdeal.τ).loc Cert.PostCIdeal.main_arg6) = m ((c.tc : Thread Cert.PostCIdeal.nD Cert.PostCIdeal.τ).loc Cert.PostCIdeal.main_arg6)
      ∧ r.2.mem ((c.tc : Thread Cert.PostCIdeal.nD Cert.PostCIdeal.τ).loc Cert.PostCIdeal.main_arg7) = m ((c.tc : Thread Cert.PostCIdeal.nD Cert.PostCIdeal.τ).loc Cert.PostCIdeal.main_arg7)
      ∧ r.2.mem ((c.tc : Thread Cert.PostCIdeal.nD Cert.PostCIdeal.τ).loc Cert.PostCIdeal.main_arg8) = m ((c.tc : Thread Cert.PostCIdeal.nD Cert.PostCIdeal.τ).loc Cert.PostCIdeal.main_arg8)
      ∧ r.2.mem ((c.tc : Thread Cert.PostCIdeal.nD Cert.PostCIdeal.τ).loc Cert.PostCIdeal.main_arg9) = m ((c.tc : Thread Cert.PostCIdeal.nD Cert.PostCIdeal.τ).loc Cert.PostCIdeal.main_arg9)
      ∧ r.2.mem ((c.tc : Thread Cert.PostCIdeal.nD Cert.PostCIdeal.τ).loc Cert.PostCIdeal.main_arg10) = m ((c.tc : Thread Cert.PostCIdeal.nD Cert.PostCIdeal.τ).loc Cert.PostCIdeal.main_arg10))
      ∧ r.2.sem = fun _ => 0)

def quiescent_PostCIdeal_pre_finite3 [hPostCIdeal : Cert.PostCIdeal.Facts] [hPre_finite3 : Cert.Pre_finite3.Facts] : Prop :=
  ∀ (m : (ℓ : Loc Cert.PostCIdeal.nD Cert.PostCIdeal.τ Cert.PostCIdeal.sig) → Buf (Elt Ideal) ℓ) (g : Dev Cert.PostCIdeal.nD → PrngReg), Pre_PostCIdeal_finite3 m →
    θ_run (Cert.PostCIdeal.defs (F := Ideal)) (onTc (τ := Cert.PostCIdeal.τ) (Cert.PostCIdeal.main (F := Ideal))) ⟨m, fun _ => 0, g⟩ (fun r => (∀ c : Dev Cert.PostCIdeal.nD,
      r.2.mem ((c.tc : Thread Cert.PostCIdeal.nD Cert.PostCIdeal.τ).loc Cert.PostCIdeal.main_arg0) = m ((c.tc : Thread Cert.PostCIdeal.nD Cert.PostCIdeal.τ).loc Cert.PostCIdeal.main_arg0)
      ∧ r.2.mem ((c.tc : Thread Cert.PostCIdeal.nD Cert.PostCIdeal.τ).loc Cert.PostCIdeal.main_arg1) = m ((c.tc : Thread Cert.PostCIdeal.nD Cert.PostCIdeal.τ).loc Cert.PostCIdeal.main_arg1)
      ∧ r.2.mem ((c.tc : Thread Cert.PostCIdeal.nD Cert.PostCIdeal.τ).loc Cert.PostCIdeal.main_arg2) = m ((c.tc : Thread Cert.PostCIdeal.nD Cert.PostCIdeal.τ).loc Cert.PostCIdeal.main_arg2)
      ∧ r.2.mem ((c.tc : Thread Cert.PostCIdeal.nD Cert.PostCIdeal.τ).loc Cert.PostCIdeal.main_arg3) = m ((c.tc : Thread Cert.PostCIdeal.nD Cert.PostCIdeal.τ).loc Cert.PostCIdeal.main_arg3)
      ∧ r.2.mem ((c.tc : Thread Cert.PostCIdeal.nD Cert.PostCIdeal.τ).loc Cert.PostCIdeal.main_arg4) = m ((c.tc : Thread Cert.PostCIdeal.nD Cert.PostCIdeal.τ).loc Cert.PostCIdeal.main_arg4)
      ∧ r.2.mem ((c.tc : Thread Cert.PostCIdeal.nD Cert.PostCIdeal.τ).loc Cert.PostCIdeal.main_arg5) = m ((c.tc : Thread Cert.PostCIdeal.nD Cert.PostCIdeal.τ).loc Cert.PostCIdeal.main_arg5)
      ∧ r.2.mem ((c.tc : Thread Cert.PostCIdeal.nD Cert.PostCIdeal.τ).loc Cert.PostCIdeal.main_arg6) = m ((c.tc : Thread Cert.PostCIdeal.nD Cert.PostCIdeal.τ).loc Cert.PostCIdeal.main_arg6)
      ∧ r.2.mem ((c.tc : Thread Cert.PostCIdeal.nD Cert.PostCIdeal.τ).loc Cert.PostCIdeal.main_arg7) = m ((c.tc : Thread Cert.PostCIdeal.nD Cert.PostCIdeal.τ).loc Cert.PostCIdeal.main_arg7)
      ∧ r.2.mem ((c.tc : Thread Cert.PostCIdeal.nD Cert.PostCIdeal.τ).loc Cert.PostCIdeal.main_arg8) = m ((c.tc : Thread Cert.PostCIdeal.nD Cert.PostCIdeal.τ).loc Cert.PostCIdeal.main_arg8)
      ∧ r.2.mem ((c.tc : Thread Cert.PostCIdeal.nD Cert.PostCIdeal.τ).loc Cert.PostCIdeal.main_arg9) = m ((c.tc : Thread Cert.PostCIdeal.nD Cert.PostCIdeal.τ).loc Cert.PostCIdeal.main_arg9)
      ∧ r.2.mem ((c.tc : Thread Cert.PostCIdeal.nD Cert.PostCIdeal.τ).loc Cert.PostCIdeal.main_arg10) = m ((c.tc : Thread Cert.PostCIdeal.nD Cert.PostCIdeal.τ).loc Cert.PostCIdeal.main_arg10))
      ∧ r.2.sem = fun _ => 0)

def quiescent_PostCRefIdeal [hPostCRefIdeal : Cert.PostCRefIdeal.Facts] : Prop :=
  ∀ (m : (ℓ : Loc Cert.PostCRefIdeal.nD Cert.PostCRefIdeal.τ Cert.PostCRefIdeal.sig) → Buf (Elt Ideal) ℓ) (g : Dev Cert.PostCRefIdeal.nD → PrngReg), Pre_PostCRefIdeal m →
    θ_run (Cert.PostCRefIdeal.defs (F := Ideal)) (onTc (τ := Cert.PostCRefIdeal.τ) (Cert.PostCRefIdeal.main (F := Ideal))) ⟨m, fun _ => 0, g⟩ (fun r => (∀ c : Dev Cert.PostCRefIdeal.nD,
      r.2.mem ((c.tc : Thread Cert.PostCRefIdeal.nD Cert.PostCRefIdeal.τ).loc Cert.PostCRefIdeal.main_arg0) = m ((c.tc : Thread Cert.PostCRefIdeal.nD Cert.PostCRefIdeal.τ).loc Cert.PostCRefIdeal.main_arg0)
      ∧ r.2.mem ((c.tc : Thread Cert.PostCRefIdeal.nD Cert.PostCRefIdeal.τ).loc Cert.PostCRefIdeal.main_arg1) = m ((c.tc : Thread Cert.PostCRefIdeal.nD Cert.PostCRefIdeal.τ).loc Cert.PostCRefIdeal.main_arg1)
      ∧ r.2.mem ((c.tc : Thread Cert.PostCRefIdeal.nD Cert.PostCRefIdeal.τ).loc Cert.PostCRefIdeal.main_arg2) = m ((c.tc : Thread Cert.PostCRefIdeal.nD Cert.PostCRefIdeal.τ).loc Cert.PostCRefIdeal.main_arg2)
      ∧ r.2.mem ((c.tc : Thread Cert.PostCRefIdeal.nD Cert.PostCRefIdeal.τ).loc Cert.PostCRefIdeal.main_arg3) = m ((c.tc : Thread Cert.PostCRefIdeal.nD Cert.PostCRefIdeal.τ).loc Cert.PostCRefIdeal.main_arg3)
      ∧ r.2.mem ((c.tc : Thread Cert.PostCRefIdeal.nD Cert.PostCRefIdeal.τ).loc Cert.PostCRefIdeal.main_arg4) = m ((c.tc : Thread Cert.PostCRefIdeal.nD Cert.PostCRefIdeal.τ).loc Cert.PostCRefIdeal.main_arg4)
      ∧ r.2.mem ((c.tc : Thread Cert.PostCRefIdeal.nD Cert.PostCRefIdeal.τ).loc Cert.PostCRefIdeal.main_arg5) = m ((c.tc : Thread Cert.PostCRefIdeal.nD Cert.PostCRefIdeal.τ).loc Cert.PostCRefIdeal.main_arg5)
      ∧ r.2.mem ((c.tc : Thread Cert.PostCRefIdeal.nD Cert.PostCRefIdeal.τ).loc Cert.PostCRefIdeal.main_arg6) = m ((c.tc : Thread Cert.PostCRefIdeal.nD Cert.PostCRefIdeal.τ).loc Cert.PostCRefIdeal.main_arg6)
      ∧ r.2.mem ((c.tc : Thread Cert.PostCRefIdeal.nD Cert.PostCRefIdeal.τ).loc Cert.PostCRefIdeal.main_arg7) = m ((c.tc : Thread Cert.PostCRefIdeal.nD Cert.PostCRefIdeal.τ).loc Cert.PostCRefIdeal.main_arg7)
      ∧ r.2.mem ((c.tc : Thread Cert.PostCRefIdeal.nD Cert.PostCRefIdeal.τ).loc Cert.PostCRefIdeal.main_arg8) = m ((c.tc : Thread Cert.PostCRefIdeal.nD Cert.PostCRefIdeal.τ).loc Cert.PostCRefIdeal.main_arg8)
      ∧ r.2.mem ((c.tc : Thread Cert.PostCRefIdeal.nD Cert.PostCRefIdeal.τ).loc Cert.PostCRefIdeal.main_arg9) = m ((c.tc : Thread Cert.PostCRefIdeal.nD Cert.PostCRefIdeal.τ).loc Cert.PostCRefIdeal.main_arg9)
      ∧ r.2.mem ((c.tc : Thread Cert.PostCRefIdeal.nD Cert.PostCRefIdeal.τ).loc Cert.PostCRefIdeal.main_arg10) = m ((c.tc : Thread Cert.PostCRefIdeal.nD Cert.PostCRefIdeal.τ).loc Cert.PostCRefIdeal.main_arg10))
      ∧ r.2.sem = fun _ => 0)

def quiescent_PostCRefIdeal_pre_finite3 [hPostCRefIdeal : Cert.PostCRefIdeal.Facts] [hPre_finite3 : Cert.Pre_finite3.Facts] : Prop :=
  ∀ (m : (ℓ : Loc Cert.PostCRefIdeal.nD Cert.PostCRefIdeal.τ Cert.PostCRefIdeal.sig) → Buf (Elt Ideal) ℓ) (g : Dev Cert.PostCRefIdeal.nD → PrngReg), Pre_PostCRefIdeal_finite3 m →
    θ_run (Cert.PostCRefIdeal.defs (F := Ideal)) (onTc (τ := Cert.PostCRefIdeal.τ) (Cert.PostCRefIdeal.main (F := Ideal))) ⟨m, fun _ => 0, g⟩ (fun r => (∀ c : Dev Cert.PostCRefIdeal.nD,
      r.2.mem ((c.tc : Thread Cert.PostCRefIdeal.nD Cert.PostCRefIdeal.τ).loc Cert.PostCRefIdeal.main_arg0) = m ((c.tc : Thread Cert.PostCRefIdeal.nD Cert.PostCRefIdeal.τ).loc Cert.PostCRefIdeal.main_arg0)
      ∧ r.2.mem ((c.tc : Thread Cert.PostCRefIdeal.nD Cert.PostCRefIdeal.τ).loc Cert.PostCRefIdeal.main_arg1) = m ((c.tc : Thread Cert.PostCRefIdeal.nD Cert.PostCRefIdeal.τ).loc Cert.PostCRefIdeal.main_arg1)
      ∧ r.2.mem ((c.tc : Thread Cert.PostCRefIdeal.nD Cert.PostCRefIdeal.τ).loc Cert.PostCRefIdeal.main_arg2) = m ((c.tc : Thread Cert.PostCRefIdeal.nD Cert.PostCRefIdeal.τ).loc Cert.PostCRefIdeal.main_arg2)
      ∧ r.2.mem ((c.tc : Thread Cert.PostCRefIdeal.nD Cert.PostCRefIdeal.τ).loc Cert.PostCRefIdeal.main_arg3) = m ((c.tc : Thread Cert.PostCRefIdeal.nD Cert.PostCRefIdeal.τ).loc Cert.PostCRefIdeal.main_arg3)
      ∧ r.2.mem ((c.tc : Thread Cert.PostCRefIdeal.nD Cert.PostCRefIdeal.τ).loc Cert.PostCRefIdeal.main_arg4) = m ((c.tc : Thread Cert.PostCRefIdeal.nD Cert.PostCRefIdeal.τ).loc Cert.PostCRefIdeal.main_arg4)
      ∧ r.2.mem ((c.tc : Thread Cert.PostCRefIdeal.nD Cert.PostCRefIdeal.τ).loc Cert.PostCRefIdeal.main_arg5) = m ((c.tc : Thread Cert.PostCRefIdeal.nD Cert.PostCRefIdeal.τ).loc Cert.PostCRefIdeal.main_arg5)
      ∧ r.2.mem ((c.tc : Thread Cert.PostCRefIdeal.nD Cert.PostCRefIdeal.τ).loc Cert.PostCRefIdeal.main_arg6) = m ((c.tc : Thread Cert.PostCRefIdeal.nD Cert.PostCRefIdeal.τ).loc Cert.PostCRefIdeal.main_arg6)
      ∧ r.2.mem ((c.tc : Thread Cert.PostCRefIdeal.nD Cert.PostCRefIdeal.τ).loc Cert.PostCRefIdeal.main_arg7) = m ((c.tc : Thread Cert.PostCRefIdeal.nD Cert.PostCRefIdeal.τ).loc Cert.PostCRefIdeal.main_arg7)
      ∧ r.2.mem ((c.tc : Thread Cert.PostCRefIdeal.nD Cert.PostCRefIdeal.τ).loc Cert.PostCRefIdeal.main_arg8) = m ((c.tc : Thread Cert.PostCRefIdeal.nD Cert.PostCRefIdeal.τ).loc Cert.PostCRefIdeal.main_arg8)
      ∧ r.2.mem ((c.tc : Thread Cert.PostCRefIdeal.nD Cert.PostCRefIdeal.τ).loc Cert.PostCRefIdeal.main_arg9) = m ((c.tc : Thread Cert.PostCRefIdeal.nD Cert.PostCRefIdeal.τ).loc Cert.PostCRefIdeal.main_arg9)
      ∧ r.2.mem ((c.tc : Thread Cert.PostCRefIdeal.nD Cert.PostCRefIdeal.τ).loc Cert.PostCRefIdeal.main_arg10) = m ((c.tc : Thread Cert.PostCRefIdeal.nD Cert.PostCRefIdeal.τ).loc Cert.PostCRefIdeal.main_arg10))
      ∧ r.2.sem = fun _ => 0)

def quiescent_PostAb [hPostAb : Cert.PostAb.Facts] : Prop :=
  ∀ (m : (ℓ : Loc Cert.PostAb.nD Cert.PostAb.τ Cert.PostAb.sig) → Buf (Elt Bits) ℓ) (g : Dev Cert.PostAb.nD → PrngReg), Pre_PostAb m →
    θ_run (Cert.PostAb.defs (F := Bits)) (onTc (τ := Cert.PostAb.τ) (Cert.PostAb.main (F := Bits))) ⟨m, fun _ => 0, g⟩ (fun r => (∀ c : Dev Cert.PostAb.nD,
      r.2.mem ((c.tc : Thread Cert.PostAb.nD Cert.PostAb.τ).loc Cert.PostAb.main_arg0) = m ((c.tc : Thread Cert.PostAb.nD Cert.PostAb.τ).loc Cert.PostAb.main_arg0)
      ∧ r.2.mem ((c.tc : Thread Cert.PostAb.nD Cert.PostAb.τ).loc Cert.PostAb.main_arg1) = m ((c.tc : Thread Cert.PostAb.nD Cert.PostAb.τ).loc Cert.PostAb.main_arg1)
      ∧ r.2.mem ((c.tc : Thread Cert.PostAb.nD Cert.PostAb.τ).loc Cert.PostAb.main_arg2) = m ((c.tc : Thread Cert.PostAb.nD Cert.PostAb.τ).loc Cert.PostAb.main_arg2)
      ∧ r.2.mem ((c.tc : Thread Cert.PostAb.nD Cert.PostAb.τ).loc Cert.PostAb.main_arg3) = m ((c.tc : Thread Cert.PostAb.nD Cert.PostAb.τ).loc Cert.PostAb.main_arg3)
      ∧ r.2.mem ((c.tc : Thread Cert.PostAb.nD Cert.PostAb.τ).loc Cert.PostAb.main_arg4) = m ((c.tc : Thread Cert.PostAb.nD Cert.PostAb.τ).loc Cert.PostAb.main_arg4)
      ∧ r.2.mem ((c.tc : Thread Cert.PostAb.nD Cert.PostAb.τ).loc Cert.PostAb.main_arg5) = m ((c.tc : Thread Cert.PostAb.nD Cert.PostAb.τ).loc Cert.PostAb.main_arg5)
      ∧ r.2.mem ((c.tc : Thread Cert.PostAb.nD Cert.PostAb.τ).loc Cert.PostAb.main_arg6) = m ((c.tc : Thread Cert.PostAb.nD Cert.PostAb.τ).loc Cert.PostAb.main_arg6)
      ∧ r.2.mem ((c.tc : Thread Cert.PostAb.nD Cert.PostAb.τ).loc Cert.PostAb.main_arg7) = m ((c.tc : Thread Cert.PostAb.nD Cert.PostAb.τ).loc Cert.PostAb.main_arg7)
      ∧ r.2.mem ((c.tc : Thread Cert.PostAb.nD Cert.PostAb.τ).loc Cert.PostAb.main_arg8) = m ((c.tc : Thread Cert.PostAb.nD Cert.PostAb.τ).loc Cert.PostAb.main_arg8)
      ∧ r.2.mem ((c.tc : Thread Cert.PostAb.nD Cert.PostAb.τ).loc Cert.PostAb.main_arg9) = m ((c.tc : Thread Cert.PostAb.nD Cert.PostAb.τ).loc Cert.PostAb.main_arg9)
      ∧ r.2.mem ((c.tc : Thread Cert.PostAb.nD Cert.PostAb.τ).loc Cert.PostAb.main_arg10) = m ((c.tc : Thread Cert.PostAb.nD Cert.PostAb.τ).loc Cert.PostAb.main_arg10)
      ∧ r.2.mem ((c.tc : Thread Cert.PostAb.nD Cert.PostAb.τ).loc Cert.PostAb.main_arg11) = m ((c.tc : Thread Cert.PostAb.nD Cert.PostAb.τ).loc Cert.PostAb.main_arg11))
      ∧ r.2.sem = fun _ => 0)

def quiescent_PostAbIdeal [hPostAbIdeal : Cert.PostAbIdeal.Facts] : Prop :=
  ∀ (m : (ℓ : Loc Cert.PostAbIdeal.nD Cert.PostAbIdeal.τ Cert.PostAbIdeal.sig) → Buf (Elt Ideal) ℓ) (g : Dev Cert.PostAbIdeal.nD → PrngReg), Pre_PostAbIdeal m →
    θ_run (Cert.PostAbIdeal.defs (F := Ideal)) (onTc (τ := Cert.PostAbIdeal.τ) (Cert.PostAbIdeal.main (F := Ideal))) ⟨m, fun _ => 0, g⟩ (fun r => (∀ c : Dev Cert.PostAbIdeal.nD,
      r.2.mem ((c.tc : Thread Cert.PostAbIdeal.nD Cert.PostAbIdeal.τ).loc Cert.PostAbIdeal.main_arg0) = m ((c.tc : Thread Cert.PostAbIdeal.nD Cert.PostAbIdeal.τ).loc Cert.PostAbIdeal.main_arg0)
      ∧ r.2.mem ((c.tc : Thread Cert.PostAbIdeal.nD Cert.PostAbIdeal.τ).loc Cert.PostAbIdeal.main_arg1) = m ((c.tc : Thread Cert.PostAbIdeal.nD Cert.PostAbIdeal.τ).loc Cert.PostAbIdeal.main_arg1)
      ∧ r.2.mem ((c.tc : Thread Cert.PostAbIdeal.nD Cert.PostAbIdeal.τ).loc Cert.PostAbIdeal.main_arg2) = m ((c.tc : Thread Cert.PostAbIdeal.nD Cert.PostAbIdeal.τ).loc Cert.PostAbIdeal.main_arg2)
      ∧ r.2.mem ((c.tc : Thread Cert.PostAbIdeal.nD Cert.PostAbIdeal.τ).loc Cert.PostAbIdeal.main_arg3) = m ((c.tc : Thread Cert.PostAbIdeal.nD Cert.PostAbIdeal.τ).loc Cert.PostAbIdeal.main_arg3)
      ∧ r.2.mem ((c.tc : Thread Cert.PostAbIdeal.nD Cert.PostAbIdeal.τ).loc Cert.PostAbIdeal.main_arg4) = m ((c.tc : Thread Cert.PostAbIdeal.nD Cert.PostAbIdeal.τ).loc Cert.PostAbIdeal.main_arg4)
      ∧ r.2.mem ((c.tc : Thread Cert.PostAbIdeal.nD Cert.PostAbIdeal.τ).loc Cert.PostAbIdeal.main_arg5) = m ((c.tc : Thread Cert.PostAbIdeal.nD Cert.PostAbIdeal.τ).loc Cert.PostAbIdeal.main_arg5)
      ∧ r.2.mem ((c.tc : Thread Cert.PostAbIdeal.nD Cert.PostAbIdeal.τ).loc Cert.PostAbIdeal.main_arg6) = m ((c.tc : Thread Cert.PostAbIdeal.nD Cert.PostAbIdeal.τ).loc Cert.PostAbIdeal.main_arg6)
      ∧ r.2.mem ((c.tc : Thread Cert.PostAbIdeal.nD Cert.PostAbIdeal.τ).loc Cert.PostAbIdeal.main_arg7) = m ((c.tc : Thread Cert.PostAbIdeal.nD Cert.PostAbIdeal.τ).loc Cert.PostAbIdeal.main_arg7)
      ∧ r.2.mem ((c.tc : Thread Cert.PostAbIdeal.nD Cert.PostAbIdeal.τ).loc Cert.PostAbIdeal.main_arg8) = m ((c.tc : Thread Cert.PostAbIdeal.nD Cert.PostAbIdeal.τ).loc Cert.PostAbIdeal.main_arg8)
      ∧ r.2.mem ((c.tc : Thread Cert.PostAbIdeal.nD Cert.PostAbIdeal.τ).loc Cert.PostAbIdeal.main_arg9) = m ((c.tc : Thread Cert.PostAbIdeal.nD Cert.PostAbIdeal.τ).loc Cert.PostAbIdeal.main_arg9)
      ∧ r.2.mem ((c.tc : Thread Cert.PostAbIdeal.nD Cert.PostAbIdeal.τ).loc Cert.PostAbIdeal.main_arg10) = m ((c.tc : Thread Cert.PostAbIdeal.nD Cert.PostAbIdeal.τ).loc Cert.PostAbIdeal.main_arg10)
      ∧ r.2.mem ((c.tc : Thread Cert.PostAbIdeal.nD Cert.PostAbIdeal.τ).loc Cert.PostAbIdeal.main_arg11) = m ((c.tc : Thread Cert.PostAbIdeal.nD Cert.PostAbIdeal.τ).loc Cert.PostAbIdeal.main_arg11))
      ∧ r.2.sem = fun _ => 0)

def quiescent_PostAbIdeal_pre_finite4 [hPostAbIdeal : Cert.PostAbIdeal.Facts] [hPre_finite4 : Cert.Pre_finite4.Facts] : Prop :=
  ∀ (m : (ℓ : Loc Cert.PostAbIdeal.nD Cert.PostAbIdeal.τ Cert.PostAbIdeal.sig) → Buf (Elt Ideal) ℓ) (g : Dev Cert.PostAbIdeal.nD → PrngReg), Pre_PostAbIdeal_finite4 m →
    θ_run (Cert.PostAbIdeal.defs (F := Ideal)) (onTc (τ := Cert.PostAbIdeal.τ) (Cert.PostAbIdeal.main (F := Ideal))) ⟨m, fun _ => 0, g⟩ (fun r => (∀ c : Dev Cert.PostAbIdeal.nD,
      r.2.mem ((c.tc : Thread Cert.PostAbIdeal.nD Cert.PostAbIdeal.τ).loc Cert.PostAbIdeal.main_arg0) = m ((c.tc : Thread Cert.PostAbIdeal.nD Cert.PostAbIdeal.τ).loc Cert.PostAbIdeal.main_arg0)
      ∧ r.2.mem ((c.tc : Thread Cert.PostAbIdeal.nD Cert.PostAbIdeal.τ).loc Cert.PostAbIdeal.main_arg1) = m ((c.tc : Thread Cert.PostAbIdeal.nD Cert.PostAbIdeal.τ).loc Cert.PostAbIdeal.main_arg1)
      ∧ r.2.mem ((c.tc : Thread Cert.PostAbIdeal.nD Cert.PostAbIdeal.τ).loc Cert.PostAbIdeal.main_arg2) = m ((c.tc : Thread Cert.PostAbIdeal.nD Cert.PostAbIdeal.τ).loc Cert.PostAbIdeal.main_arg2)
      ∧ r.2.mem ((c.tc : Thread Cert.PostAbIdeal.nD Cert.PostAbIdeal.τ).loc Cert.PostAbIdeal.main_arg3) = m ((c.tc : Thread Cert.PostAbIdeal.nD Cert.PostAbIdeal.τ).loc Cert.PostAbIdeal.main_arg3)
      ∧ r.2.mem ((c.tc : Thread Cert.PostAbIdeal.nD Cert.PostAbIdeal.τ).loc Cert.PostAbIdeal.main_arg4) = m ((c.tc : Thread Cert.PostAbIdeal.nD Cert.PostAbIdeal.τ).loc Cert.PostAbIdeal.main_arg4)
      ∧ r.2.mem ((c.tc : Thread Cert.PostAbIdeal.nD Cert.PostAbIdeal.τ).loc Cert.PostAbIdeal.main_arg5) = m ((c.tc : Thread Cert.PostAbIdeal.nD Cert.PostAbIdeal.τ).loc Cert.PostAbIdeal.main_arg5)
      ∧ r.2.mem ((c.tc : Thread Cert.PostAbIdeal.nD Cert.PostAbIdeal.τ).loc Cert.PostAbIdeal.main_arg6) = m ((c.tc : Thread Cert.PostAbIdeal.nD Cert.PostAbIdeal.τ).loc Cert.PostAbIdeal.main_arg6)
      ∧ r.2.mem ((c.tc : Thread Cert.PostAbIdeal.nD Cert.PostAbIdeal.τ).loc Cert.PostAbIdeal.main_arg7) = m ((c.tc : Thread Cert.PostAbIdeal.nD Cert.PostAbIdeal.τ).loc Cert.PostAbIdeal.main_arg7)
      ∧ r.2.mem ((c.tc : Thread Cert.PostAbIdeal.nD Cert.PostAbIdeal.τ).loc Cert.PostAbIdeal.main_arg8) = m ((c.tc : Thread Cert.PostAbIdeal.nD Cert.PostAbIdeal.τ).loc Cert.PostAbIdeal.main_arg8)
      ∧ r.2.mem ((c.tc : Thread Cert.PostAbIdeal.nD Cert.PostAbIdeal.τ).loc Cert.PostAbIdeal.main_arg9) = m ((c.tc : Thread Cert.PostAbIdeal.nD Cert.PostAbIdeal.τ).loc Cert.PostAbIdeal.main_arg9)
      ∧ r.2.mem ((c.tc : Thread Cert.PostAbIdeal.nD Cert.PostAbIdeal.τ).loc Cert.PostAbIdeal.main_arg10) = m ((c.tc : Thread Cert.PostAbIdeal.nD Cert.PostAbIdeal.τ).loc Cert.PostAbIdeal.main_arg10)
      ∧ r.2.mem ((c.tc : Thread Cert.PostAbIdeal.nD Cert.PostAbIdeal.τ).loc Cert.PostAbIdeal.main_arg11) = m ((c.tc : Thread Cert.PostAbIdeal.nD Cert.PostAbIdeal.τ).loc Cert.PostAbIdeal.main_arg11))
      ∧ r.2.sem = fun _ => 0)

def quiescent_PostAbRefIdeal [hPostAbRefIdeal : Cert.PostAbRefIdeal.Facts] : Prop :=
  ∀ (m : (ℓ : Loc Cert.PostAbRefIdeal.nD Cert.PostAbRefIdeal.τ Cert.PostAbRefIdeal.sig) → Buf (Elt Ideal) ℓ) (g : Dev Cert.PostAbRefIdeal.nD → PrngReg), Pre_PostAbRefIdeal m →
    θ_run (Cert.PostAbRefIdeal.defs (F := Ideal)) (onTc (τ := Cert.PostAbRefIdeal.τ) (Cert.PostAbRefIdeal.main (F := Ideal))) ⟨m, fun _ => 0, g⟩ (fun r => (∀ c : Dev Cert.PostAbRefIdeal.nD,
      r.2.mem ((c.tc : Thread Cert.PostAbRefIdeal.nD Cert.PostAbRefIdeal.τ).loc Cert.PostAbRefIdeal.main_arg0) = m ((c.tc : Thread Cert.PostAbRefIdeal.nD Cert.PostAbRefIdeal.τ).loc Cert.PostAbRefIdeal.main_arg0)
      ∧ r.2.mem ((c.tc : Thread Cert.PostAbRefIdeal.nD Cert.PostAbRefIdeal.τ).loc Cert.PostAbRefIdeal.main_arg1) = m ((c.tc : Thread Cert.PostAbRefIdeal.nD Cert.PostAbRefIdeal.τ).loc Cert.PostAbRefIdeal.main_arg1)
      ∧ r.2.mem ((c.tc : Thread Cert.PostAbRefIdeal.nD Cert.PostAbRefIdeal.τ).loc Cert.PostAbRefIdeal.main_arg2) = m ((c.tc : Thread Cert.PostAbRefIdeal.nD Cert.PostAbRefIdeal.τ).loc Cert.PostAbRefIdeal.main_arg2)
      ∧ r.2.mem ((c.tc : Thread Cert.PostAbRefIdeal.nD Cert.PostAbRefIdeal.τ).loc Cert.PostAbRefIdeal.main_arg3) = m ((c.tc : Thread Cert.PostAbRefIdeal.nD Cert.PostAbRefIdeal.τ).loc Cert.PostAbRefIdeal.main_arg3)
      ∧ r.2.mem ((c.tc : Thread Cert.PostAbRefIdeal.nD Cert.PostAbRefIdeal.τ).loc Cert.PostAbRefIdeal.main_arg4) = m ((c.tc : Thread Cert.PostAbRefIdeal.nD Cert.PostAbRefIdeal.τ).loc Cert.PostAbRefIdeal.main_arg4)
      ∧ r.2.mem ((c.tc : Thread Cert.PostAbRefIdeal.nD Cert.PostAbRefIdeal.τ).loc Cert.PostAbRefIdeal.main_arg5) = m ((c.tc : Thread Cert.PostAbRefIdeal.nD Cert.PostAbRefIdeal.τ).loc Cert.PostAbRefIdeal.main_arg5)
      ∧ r.2.mem ((c.tc : Thread Cert.PostAbRefIdeal.nD Cert.PostAbRefIdeal.τ).loc Cert.PostAbRefIdeal.main_arg6) = m ((c.tc : Thread Cert.PostAbRefIdeal.nD Cert.PostAbRefIdeal.τ).loc Cert.PostAbRefIdeal.main_arg6)
      ∧ r.2.mem ((c.tc : Thread Cert.PostAbRefIdeal.nD Cert.PostAbRefIdeal.τ).loc Cert.PostAbRefIdeal.main_arg7) = m ((c.tc : Thread Cert.PostAbRefIdeal.nD Cert.PostAbRefIdeal.τ).loc Cert.PostAbRefIdeal.main_arg7)
      ∧ r.2.mem ((c.tc : Thread Cert.PostAbRefIdeal.nD Cert.PostAbRefIdeal.τ).loc Cert.PostAbRefIdeal.main_arg8) = m ((c.tc : Thread Cert.PostAbRefIdeal.nD Cert.PostAbRefIdeal.τ).loc Cert.PostAbRefIdeal.main_arg8)
      ∧ r.2.mem ((c.tc : Thread Cert.PostAbRefIdeal.nD Cert.PostAbRefIdeal.τ).loc Cert.PostAbRefIdeal.main_arg9) = m ((c.tc : Thread Cert.PostAbRefIdeal.nD Cert.PostAbRefIdeal.τ).loc Cert.PostAbRefIdeal.main_arg9)
      ∧ r.2.mem ((c.tc : Thread Cert.PostAbRefIdeal.nD Cert.PostAbRefIdeal.τ).loc Cert.PostAbRefIdeal.main_arg10) = m ((c.tc : Thread Cert.PostAbRefIdeal.nD Cert.PostAbRefIdeal.τ).loc Cert.PostAbRefIdeal.main_arg10)
      ∧ r.2.mem ((c.tc : Thread Cert.PostAbRefIdeal.nD Cert.PostAbRefIdeal.τ).loc Cert.PostAbRefIdeal.main_arg11) = m ((c.tc : Thread Cert.PostAbRefIdeal.nD Cert.PostAbRefIdeal.τ).loc Cert.PostAbRefIdeal.main_arg11))
      ∧ r.2.sem = fun _ => 0)

def quiescent_PostAbRefIdeal_pre_finite4 [hPostAbRefIdeal : Cert.PostAbRefIdeal.Facts] [hPre_finite4 : Cert.Pre_finite4.Facts] : Prop :=
  ∀ (m : (ℓ : Loc Cert.PostAbRefIdeal.nD Cert.PostAbRefIdeal.τ Cert.PostAbRefIdeal.sig) → Buf (Elt Ideal) ℓ) (g : Dev Cert.PostAbRefIdeal.nD → PrngReg), Pre_PostAbRefIdeal_finite4 m →
    θ_run (Cert.PostAbRefIdeal.defs (F := Ideal)) (onTc (τ := Cert.PostAbRefIdeal.τ) (Cert.PostAbRefIdeal.main (F := Ideal))) ⟨m, fun _ => 0, g⟩ (fun r => (∀ c : Dev Cert.PostAbRefIdeal.nD,
      r.2.mem ((c.tc : Thread Cert.PostAbRefIdeal.nD Cert.PostAbRefIdeal.τ).loc Cert.PostAbRefIdeal.main_arg0) = m ((c.tc : Thread Cert.PostAbRefIdeal.nD Cert.PostAbRefIdeal.τ).loc Cert.PostAbRefIdeal.main_arg0)
      ∧ r.2.mem ((c.tc : Thread Cert.PostAbRefIdeal.nD Cert.PostAbRefIdeal.τ).loc Cert.PostAbRefIdeal.main_arg1) = m ((c.tc : Thread Cert.PostAbRefIdeal.nD Cert.PostAbRefIdeal.τ).loc Cert.PostAbRefIdeal.main_arg1)
      ∧ r.2.mem ((c.tc : Thread Cert.PostAbRefIdeal.nD Cert.PostAbRefIdeal.τ).loc Cert.PostAbRefIdeal.main_arg2) = m ((c.tc : Thread Cert.PostAbRefIdeal.nD Cert.PostAbRefIdeal.τ).loc Cert.PostAbRefIdeal.main_arg2)
      ∧ r.2.mem ((c.tc : Thread Cert.PostAbRefIdeal.nD Cert.PostAbRefIdeal.τ).loc Cert.PostAbRefIdeal.main_arg3) = m ((c.tc : Thread Cert.PostAbRefIdeal.nD Cert.PostAbRefIdeal.τ).loc Cert.PostAbRefIdeal.main_arg3)
      ∧ r.2.mem ((c.tc : Thread Cert.PostAbRefIdeal.nD Cert.PostAbRefIdeal.τ).loc Cert.PostAbRefIdeal.main_arg4) = m ((c.tc : Thread Cert.PostAbRefIdeal.nD Cert.PostAbRefIdeal.τ).loc Cert.PostAbRefIdeal.main_arg4)
      ∧ r.2.mem ((c.tc : Thread Cert.PostAbRefIdeal.nD Cert.PostAbRefIdeal.τ).loc Cert.PostAbRefIdeal.main_arg5) = m ((c.tc : Thread Cert.PostAbRefIdeal.nD Cert.PostAbRefIdeal.τ).loc Cert.PostAbRefIdeal.main_arg5)
      ∧ r.2.mem ((c.tc : Thread Cert.PostAbRefIdeal.nD Cert.PostAbRefIdeal.τ).loc Cert.PostAbRefIdeal.main_arg6) = m ((c.tc : Thread Cert.PostAbRefIdeal.nD Cert.PostAbRefIdeal.τ).loc Cert.PostAbRefIdeal.main_arg6)
      ∧ r.2.mem ((c.tc : Thread Cert.PostAbRefIdeal.nD Cert.PostAbRefIdeal.τ).loc Cert.PostAbRefIdeal.main_arg7) = m ((c.tc : Thread Cert.PostAbRefIdeal.nD Cert.PostAbRefIdeal.τ).loc Cert.PostAbRefIdeal.main_arg7)
      ∧ r.2.mem ((c.tc : Thread Cert.PostAbRefIdeal.nD Cert.PostAbRefIdeal.τ).loc Cert.PostAbRefIdeal.main_arg8) = m ((c.tc : Thread Cert.PostAbRefIdeal.nD Cert.PostAbRefIdeal.τ).loc Cert.PostAbRefIdeal.main_arg8)
      ∧ r.2.mem ((c.tc : Thread Cert.PostAbRefIdeal.nD Cert.PostAbRefIdeal.τ).loc Cert.PostAbRefIdeal.main_arg9) = m ((c.tc : Thread Cert.PostAbRefIdeal.nD Cert.PostAbRefIdeal.τ).loc Cert.PostAbRefIdeal.main_arg9)
      ∧ r.2.mem ((c.tc : Thread Cert.PostAbRefIdeal.nD Cert.PostAbRefIdeal.τ).loc Cert.PostAbRefIdeal.main_arg10) = m ((c.tc : Thread Cert.PostAbRefIdeal.nD Cert.PostAbRefIdeal.τ).loc Cert.PostAbRefIdeal.main_arg10)
      ∧ r.2.mem ((c.tc : Thread Cert.PostAbRefIdeal.nD Cert.PostAbRefIdeal.τ).loc Cert.PostAbRefIdeal.main_arg11) = m ((c.tc : Thread Cert.PostAbRefIdeal.nD Cert.PostAbRefIdeal.τ).loc Cert.PostAbRefIdeal.main_arg11))
      ∧ r.2.sem = fun _ => 0)

def quiescent_L1In [hL1In : Cert.L1In.Facts] : Prop :=
  ∀ (m : (ℓ : Loc Cert.L1In.nD Cert.L1In.τ Cert.L1In.sig) → Buf (Elt Bits) ℓ) (g : Dev Cert.L1In.nD → PrngReg), Pre_L1In m →
    θ_run (Cert.L1In.defs (F := Bits)) (onTc (τ := Cert.L1In.τ) (Cert.L1In.main (F := Bits))) ⟨m, fun _ => 0, g⟩ (fun r => (∀ c : Dev Cert.L1In.nD,
      r.2.mem ((c.tc : Thread Cert.L1In.nD Cert.L1In.τ).loc Cert.L1In.main_arg0) = m ((c.tc : Thread Cert.L1In.nD Cert.L1In.τ).loc Cert.L1In.main_arg0)
      ∧ r.2.mem ((c.tc : Thread Cert.L1In.nD Cert.L1In.τ).loc Cert.L1In.main_arg1) = m ((c.tc : Thread Cert.L1In.nD Cert.L1In.τ).loc Cert.L1In.main_arg1)
      ∧ r.2.mem ((c.tc : Thread Cert.L1In.nD Cert.L1In.τ).loc Cert.L1In.main_arg2) = m ((c.tc : Thread Cert.L1In.nD Cert.L1In.τ).loc Cert.L1In.main_arg2)
      ∧ r.2.mem ((c.tc : Thread Cert.L1In.nD Cert.L1In.τ).loc Cert.L1In.main_arg3) = m ((c.tc : Thread Cert.L1In.nD Cert.L1In.τ).loc Cert.L1In.main_arg3))
      ∧ r.2.sem = fun _ => 0)

def quiescent_L1InIdeal [hL1InIdeal : Cert.L1InIdeal.Facts] : Prop :=
  ∀ (m : (ℓ : Loc Cert.L1InIdeal.nD Cert.L1InIdeal.τ Cert.L1InIdeal.sig) → Buf (Elt Ideal) ℓ) (g : Dev Cert.L1InIdeal.nD → PrngReg), Pre_L1InIdeal m →
    θ_run (Cert.L1InIdeal.defs (F := Ideal)) (onTc (τ := Cert.L1InIdeal.τ) (Cert.L1InIdeal.main (F := Ideal))) ⟨m, fun _ => 0, g⟩ (fun r => (∀ c : Dev Cert.L1InIdeal.nD,
      r.2.mem ((c.tc : Thread Cert.L1InIdeal.nD Cert.L1InIdeal.τ).loc Cert.L1InIdeal.main_arg0) = m ((c.tc : Thread Cert.L1InIdeal.nD Cert.L1InIdeal.τ).loc Cert.L1InIdeal.main_arg0)
      ∧ r.2.mem ((c.tc : Thread Cert.L1InIdeal.nD Cert.L1InIdeal.τ).loc Cert.L1InIdeal.main_arg1) = m ((c.tc : Thread Cert.L1InIdeal.nD Cert.L1InIdeal.τ).loc Cert.L1InIdeal.main_arg1)
      ∧ r.2.mem ((c.tc : Thread Cert.L1InIdeal.nD Cert.L1InIdeal.τ).loc Cert.L1InIdeal.main_arg2) = m ((c.tc : Thread Cert.L1InIdeal.nD Cert.L1InIdeal.τ).loc Cert.L1InIdeal.main_arg2)
      ∧ r.2.mem ((c.tc : Thread Cert.L1InIdeal.nD Cert.L1InIdeal.τ).loc Cert.L1InIdeal.main_arg3) = m ((c.tc : Thread Cert.L1InIdeal.nD Cert.L1InIdeal.τ).loc Cert.L1InIdeal.main_arg3))
      ∧ r.2.sem = fun _ => 0)

def quiescent_L1InIdeal_pre_finite5 [hL1InIdeal : Cert.L1InIdeal.Facts] [hPre_finite5 : Cert.Pre_finite5.Facts] : Prop :=
  ∀ (m : (ℓ : Loc Cert.L1InIdeal.nD Cert.L1InIdeal.τ Cert.L1InIdeal.sig) → Buf (Elt Ideal) ℓ) (g : Dev Cert.L1InIdeal.nD → PrngReg), Pre_L1InIdeal_finite5 m →
    θ_run (Cert.L1InIdeal.defs (F := Ideal)) (onTc (τ := Cert.L1InIdeal.τ) (Cert.L1InIdeal.main (F := Ideal))) ⟨m, fun _ => 0, g⟩ (fun r => (∀ c : Dev Cert.L1InIdeal.nD,
      r.2.mem ((c.tc : Thread Cert.L1InIdeal.nD Cert.L1InIdeal.τ).loc Cert.L1InIdeal.main_arg0) = m ((c.tc : Thread Cert.L1InIdeal.nD Cert.L1InIdeal.τ).loc Cert.L1InIdeal.main_arg0)
      ∧ r.2.mem ((c.tc : Thread Cert.L1InIdeal.nD Cert.L1InIdeal.τ).loc Cert.L1InIdeal.main_arg1) = m ((c.tc : Thread Cert.L1InIdeal.nD Cert.L1InIdeal.τ).loc Cert.L1InIdeal.main_arg1)
      ∧ r.2.mem ((c.tc : Thread Cert.L1InIdeal.nD Cert.L1InIdeal.τ).loc Cert.L1InIdeal.main_arg2) = m ((c.tc : Thread Cert.L1InIdeal.nD Cert.L1InIdeal.τ).loc Cert.L1InIdeal.main_arg2)
      ∧ r.2.mem ((c.tc : Thread Cert.L1InIdeal.nD Cert.L1InIdeal.τ).loc Cert.L1InIdeal.main_arg3) = m ((c.tc : Thread Cert.L1InIdeal.nD Cert.L1InIdeal.τ).loc Cert.L1InIdeal.main_arg3))
      ∧ r.2.sem = fun _ => 0)

def quiescent_L1InRefIdeal [hL1InRefIdeal : Cert.L1InRefIdeal.Facts] : Prop :=
  ∀ (m : (ℓ : Loc Cert.L1InRefIdeal.nD Cert.L1InRefIdeal.τ Cert.L1InRefIdeal.sig) → Buf (Elt Ideal) ℓ) (g : Dev Cert.L1InRefIdeal.nD → PrngReg), Pre_L1InRefIdeal m →
    θ_run (Cert.L1InRefIdeal.defs (F := Ideal)) (onTc (τ := Cert.L1InRefIdeal.τ) (Cert.L1InRefIdeal.main (F := Ideal))) ⟨m, fun _ => 0, g⟩ (fun r => (∀ c : Dev Cert.L1InRefIdeal.nD,
      r.2.mem ((c.tc : Thread Cert.L1InRefIdeal.nD Cert.L1InRefIdeal.τ).loc Cert.L1InRefIdeal.main_arg0) = m ((c.tc : Thread Cert.L1InRefIdeal.nD Cert.L1InRefIdeal.τ).loc Cert.L1InRefIdeal.main_arg0)
      ∧ r.2.mem ((c.tc : Thread Cert.L1InRefIdeal.nD Cert.L1InRefIdeal.τ).loc Cert.L1InRefIdeal.main_arg1) = m ((c.tc : Thread Cert.L1InRefIdeal.nD Cert.L1InRefIdeal.τ).loc Cert.L1InRefIdeal.main_arg1)
      ∧ r.2.mem ((c.tc : Thread Cert.L1InRefIdeal.nD Cert.L1InRefIdeal.τ).loc Cert.L1InRefIdeal.main_arg2) = m ((c.tc : Thread Cert.L1InRefIdeal.nD Cert.L1InRefIdeal.τ).loc Cert.L1InRefIdeal.main_arg2)
      ∧ r.2.mem ((c.tc : Thread Cert.L1InRefIdeal.nD Cert.L1InRefIdeal.τ).loc Cert.L1InRefIdeal.main_arg3) = m ((c.tc : Thread Cert.L1InRefIdeal.nD Cert.L1InRefIdeal.τ).loc Cert.L1InRefIdeal.main_arg3))
      ∧ r.2.sem = fun _ => 0)

def quiescent_L1InRefIdeal_pre_finite5 [hL1InRefIdeal : Cert.L1InRefIdeal.Facts] [hPre_finite5 : Cert.Pre_finite5.Facts] : Prop :=
  ∀ (m : (ℓ : Loc Cert.L1InRefIdeal.nD Cert.L1InRefIdeal.τ Cert.L1InRefIdeal.sig) → Buf (Elt Ideal) ℓ) (g : Dev Cert.L1InRefIdeal.nD → PrngReg), Pre_L1InRefIdeal_finite5 m →
    θ_run (Cert.L1InRefIdeal.defs (F := Ideal)) (onTc (τ := Cert.L1InRefIdeal.τ) (Cert.L1InRefIdeal.main (F := Ideal))) ⟨m, fun _ => 0, g⟩ (fun r => (∀ c : Dev Cert.L1InRefIdeal.nD,
      r.2.mem ((c.tc : Thread Cert.L1InRefIdeal.nD Cert.L1InRefIdeal.τ).loc Cert.L1InRefIdeal.main_arg0) = m ((c.tc : Thread Cert.L1InRefIdeal.nD Cert.L1InRefIdeal.τ).loc Cert.L1InRefIdeal.main_arg0)
      ∧ r.2.mem ((c.tc : Thread Cert.L1InRefIdeal.nD Cert.L1InRefIdeal.τ).loc Cert.L1InRefIdeal.main_arg1) = m ((c.tc : Thread Cert.L1InRefIdeal.nD Cert.L1InRefIdeal.τ).loc Cert.L1InRefIdeal.main_arg1)
      ∧ r.2.mem ((c.tc : Thread Cert.L1InRefIdeal.nD Cert.L1InRefIdeal.τ).loc Cert.L1InRefIdeal.main_arg2) = m ((c.tc : Thread Cert.L1InRefIdeal.nD Cert.L1InRefIdeal.τ).loc Cert.L1InRefIdeal.main_arg2)
      ∧ r.2.mem ((c.tc : Thread Cert.L1InRefIdeal.nD Cert.L1InRefIdeal.τ).loc Cert.L1InRefIdeal.main_arg3) = m ((c.tc : Thread Cert.L1InRefIdeal.nD Cert.L1InRefIdeal.τ).loc Cert.L1InRefIdeal.main_arg3))
      ∧ r.2.sem = fun _ => 0)

def quiescent_L0In [hL0In : Cert.L0In.Facts] : Prop :=
  ∀ (m : (ℓ : Loc Cert.L0In.nD Cert.L0In.τ Cert.L0In.sig) → Buf (Elt Bits) ℓ) (g : Dev Cert.L0In.nD → PrngReg), Pre_L0In m →
    θ_run (Cert.L0In.defs (F := Bits)) (onTc (τ := Cert.L0In.τ) (Cert.L0In.main (F := Bits))) ⟨m, fun _ => 0, g⟩ (fun r => (∀ c : Dev Cert.L0In.nD,
      r.2.mem ((c.tc : Thread Cert.L0In.nD Cert.L0In.τ).loc Cert.L0In.main_arg0) = m ((c.tc : Thread Cert.L0In.nD Cert.L0In.τ).loc Cert.L0In.main_arg0)
      ∧ r.2.mem ((c.tc : Thread Cert.L0In.nD Cert.L0In.τ).loc Cert.L0In.main_arg1) = m ((c.tc : Thread Cert.L0In.nD Cert.L0In.τ).loc Cert.L0In.main_arg1)
      ∧ r.2.mem ((c.tc : Thread Cert.L0In.nD Cert.L0In.τ).loc Cert.L0In.main_arg2) = m ((c.tc : Thread Cert.L0In.nD Cert.L0In.τ).loc Cert.L0In.main_arg2)
      ∧ r.2.mem ((c.tc : Thread Cert.L0In.nD Cert.L0In.τ).loc Cert.L0In.main_arg3) = m ((c.tc : Thread Cert.L0In.nD Cert.L0In.τ).loc Cert.L0In.main_arg3)
      ∧ r.2.mem ((c.tc : Thread Cert.L0In.nD Cert.L0In.τ).loc Cert.L0In.main_arg4) = m ((c.tc : Thread Cert.L0In.nD Cert.L0In.τ).loc Cert.L0In.main_arg4)
      ∧ r.2.mem ((c.tc : Thread Cert.L0In.nD Cert.L0In.τ).loc Cert.L0In.main_arg5) = m ((c.tc : Thread Cert.L0In.nD Cert.L0In.τ).loc Cert.L0In.main_arg5))
      ∧ r.2.sem = fun _ => 0)

def quiescent_L0InIdeal [hL0InIdeal : Cert.L0InIdeal.Facts] : Prop :=
  ∀ (m : (ℓ : Loc Cert.L0InIdeal.nD Cert.L0InIdeal.τ Cert.L0InIdeal.sig) → Buf (Elt Ideal) ℓ) (g : Dev Cert.L0InIdeal.nD → PrngReg), Pre_L0InIdeal m →
    θ_run (Cert.L0InIdeal.defs (F := Ideal)) (onTc (τ := Cert.L0InIdeal.τ) (Cert.L0InIdeal.main (F := Ideal))) ⟨m, fun _ => 0, g⟩ (fun r => (∀ c : Dev Cert.L0InIdeal.nD,
      r.2.mem ((c.tc : Thread Cert.L0InIdeal.nD Cert.L0InIdeal.τ).loc Cert.L0InIdeal.main_arg0) = m ((c.tc : Thread Cert.L0InIdeal.nD Cert.L0InIdeal.τ).loc Cert.L0InIdeal.main_arg0)
      ∧ r.2.mem ((c.tc : Thread Cert.L0InIdeal.nD Cert.L0InIdeal.τ).loc Cert.L0InIdeal.main_arg1) = m ((c.tc : Thread Cert.L0InIdeal.nD Cert.L0InIdeal.τ).loc Cert.L0InIdeal.main_arg1)
      ∧ r.2.mem ((c.tc : Thread Cert.L0InIdeal.nD Cert.L0InIdeal.τ).loc Cert.L0InIdeal.main_arg2) = m ((c.tc : Thread Cert.L0InIdeal.nD Cert.L0InIdeal.τ).loc Cert.L0InIdeal.main_arg2)
      ∧ r.2.mem ((c.tc : Thread Cert.L0InIdeal.nD Cert.L0InIdeal.τ).loc Cert.L0InIdeal.main_arg3) = m ((c.tc : Thread Cert.L0InIdeal.nD Cert.L0InIdeal.τ).loc Cert.L0InIdeal.main_arg3)
      ∧ r.2.mem ((c.tc : Thread Cert.L0InIdeal.nD Cert.L0InIdeal.τ).loc Cert.L0InIdeal.main_arg4) = m ((c.tc : Thread Cert.L0InIdeal.nD Cert.L0InIdeal.τ).loc Cert.L0InIdeal.main_arg4)
      ∧ r.2.mem ((c.tc : Thread Cert.L0InIdeal.nD Cert.L0InIdeal.τ).loc Cert.L0InIdeal.main_arg5) = m ((c.tc : Thread Cert.L0InIdeal.nD Cert.L0InIdeal.τ).loc Cert.L0InIdeal.main_arg5))
      ∧ r.2.sem = fun _ => 0)

def quiescent_L0InIdeal_pre_finite6 [hL0InIdeal : Cert.L0InIdeal.Facts] [hPre_finite6 : Cert.Pre_finite6.Facts] : Prop :=
  ∀ (m : (ℓ : Loc Cert.L0InIdeal.nD Cert.L0InIdeal.τ Cert.L0InIdeal.sig) → Buf (Elt Ideal) ℓ) (g : Dev Cert.L0InIdeal.nD → PrngReg), Pre_L0InIdeal_finite6 m →
    θ_run (Cert.L0InIdeal.defs (F := Ideal)) (onTc (τ := Cert.L0InIdeal.τ) (Cert.L0InIdeal.main (F := Ideal))) ⟨m, fun _ => 0, g⟩ (fun r => (∀ c : Dev Cert.L0InIdeal.nD,
      r.2.mem ((c.tc : Thread Cert.L0InIdeal.nD Cert.L0InIdeal.τ).loc Cert.L0InIdeal.main_arg0) = m ((c.tc : Thread Cert.L0InIdeal.nD Cert.L0InIdeal.τ).loc Cert.L0InIdeal.main_arg0)
      ∧ r.2.mem ((c.tc : Thread Cert.L0InIdeal.nD Cert.L0InIdeal.τ).loc Cert.L0InIdeal.main_arg1) = m ((c.tc : Thread Cert.L0InIdeal.nD Cert.L0InIdeal.τ).loc Cert.L0InIdeal.main_arg1)
      ∧ r.2.mem ((c.tc : Thread Cert.L0InIdeal.nD Cert.L0InIdeal.τ).loc Cert.L0InIdeal.main_arg2) = m ((c.tc : Thread Cert.L0InIdeal.nD Cert.L0InIdeal.τ).loc Cert.L0InIdeal.main_arg2)
      ∧ r.2.mem ((c.tc : Thread Cert.L0InIdeal.nD Cert.L0InIdeal.τ).loc Cert.L0InIdeal.main_arg3) = m ((c.tc : Thread Cert.L0InIdeal.nD Cert.L0InIdeal.τ).loc Cert.L0InIdeal.main_arg3)
      ∧ r.2.mem ((c.tc : Thread Cert.L0InIdeal.nD Cert.L0InIdeal.τ).loc Cert.L0InIdeal.main_arg4) = m ((c.tc : Thread Cert.L0InIdeal.nD Cert.L0InIdeal.τ).loc Cert.L0InIdeal.main_arg4)
      ∧ r.2.mem ((c.tc : Thread Cert.L0InIdeal.nD Cert.L0InIdeal.τ).loc Cert.L0InIdeal.main_arg5) = m ((c.tc : Thread Cert.L0InIdeal.nD Cert.L0InIdeal.τ).loc Cert.L0InIdeal.main_arg5))
      ∧ r.2.sem = fun _ => 0)

def quiescent_L0InRefIdeal [hL0InRefIdeal : Cert.L0InRefIdeal.Facts] : Prop :=
  ∀ (m : (ℓ : Loc Cert.L0InRefIdeal.nD Cert.L0InRefIdeal.τ Cert.L0InRefIdeal.sig) → Buf (Elt Ideal) ℓ) (g : Dev Cert.L0InRefIdeal.nD → PrngReg), Pre_L0InRefIdeal m →
    θ_run (Cert.L0InRefIdeal.defs (F := Ideal)) (onTc (τ := Cert.L0InRefIdeal.τ) (Cert.L0InRefIdeal.main (F := Ideal))) ⟨m, fun _ => 0, g⟩ (fun r => (∀ c : Dev Cert.L0InRefIdeal.nD,
      r.2.mem ((c.tc : Thread Cert.L0InRefIdeal.nD Cert.L0InRefIdeal.τ).loc Cert.L0InRefIdeal.main_arg0) = m ((c.tc : Thread Cert.L0InRefIdeal.nD Cert.L0InRefIdeal.τ).loc Cert.L0InRefIdeal.main_arg0)
      ∧ r.2.mem ((c.tc : Thread Cert.L0InRefIdeal.nD Cert.L0InRefIdeal.τ).loc Cert.L0InRefIdeal.main_arg1) = m ((c.tc : Thread Cert.L0InRefIdeal.nD Cert.L0InRefIdeal.τ).loc Cert.L0InRefIdeal.main_arg1)
      ∧ r.2.mem ((c.tc : Thread Cert.L0InRefIdeal.nD Cert.L0InRefIdeal.τ).loc Cert.L0InRefIdeal.main_arg2) = m ((c.tc : Thread Cert.L0InRefIdeal.nD Cert.L0InRefIdeal.τ).loc Cert.L0InRefIdeal.main_arg2)
      ∧ r.2.mem ((c.tc : Thread Cert.L0InRefIdeal.nD Cert.L0InRefIdeal.τ).loc Cert.L0InRefIdeal.main_arg3) = m ((c.tc : Thread Cert.L0InRefIdeal.nD Cert.L0InRefIdeal.τ).loc Cert.L0InRefIdeal.main_arg3)
      ∧ r.2.mem ((c.tc : Thread Cert.L0InRefIdeal.nD Cert.L0InRefIdeal.τ).loc Cert.L0InRefIdeal.main_arg4) = m ((c.tc : Thread Cert.L0InRefIdeal.nD Cert.L0InRefIdeal.τ).loc Cert.L0InRefIdeal.main_arg4)
      ∧ r.2.mem ((c.tc : Thread Cert.L0InRefIdeal.nD Cert.L0InRefIdeal.τ).loc Cert.L0InRefIdeal.main_arg5) = m ((c.tc : Thread Cert.L0InRefIdeal.nD Cert.L0InRefIdeal.τ).loc Cert.L0InRefIdeal.main_arg5))
      ∧ r.2.sem = fun _ => 0)

def quiescent_L0InRefIdeal_pre_finite6 [hL0InRefIdeal : Cert.L0InRefIdeal.Facts] [hPre_finite6 : Cert.Pre_finite6.Facts] : Prop :=
  ∀ (m : (ℓ : Loc Cert.L0InRefIdeal.nD Cert.L0InRefIdeal.τ Cert.L0InRefIdeal.sig) → Buf (Elt Ideal) ℓ) (g : Dev Cert.L0InRefIdeal.nD → PrngReg), Pre_L0InRefIdeal_finite6 m →
    θ_run (Cert.L0InRefIdeal.defs (F := Ideal)) (onTc (τ := Cert.L0InRefIdeal.τ) (Cert.L0InRefIdeal.main (F := Ideal))) ⟨m, fun _ => 0, g⟩ (fun r => (∀ c : Dev Cert.L0InRefIdeal.nD,
      r.2.mem ((c.tc : Thread Cert.L0InRefIdeal.nD Cert.L0InRefIdeal.τ).loc Cert.L0InRefIdeal.main_arg0) = m ((c.tc : Thread Cert.L0InRefIdeal.nD Cert.L0InRefIdeal.τ).loc Cert.L0InRefIdeal.main_arg0)
      ∧ r.2.mem ((c.tc : Thread Cert.L0InRefIdeal.nD Cert.L0InRefIdeal.τ).loc Cert.L0InRefIdeal.main_arg1) = m ((c.tc : Thread Cert.L0InRefIdeal.nD Cert.L0InRefIdeal.τ).loc Cert.L0InRefIdeal.main_arg1)
      ∧ r.2.mem ((c.tc : Thread Cert.L0InRefIdeal.nD Cert.L0InRefIdeal.τ).loc Cert.L0InRefIdeal.main_arg2) = m ((c.tc : Thread Cert.L0InRefIdeal.nD Cert.L0InRefIdeal.τ).loc Cert.L0InRefIdeal.main_arg2)
      ∧ r.2.mem ((c.tc : Thread Cert.L0InRefIdeal.nD Cert.L0InRefIdeal.τ).loc Cert.L0InRefIdeal.main_arg3) = m ((c.tc : Thread Cert.L0InRefIdeal.nD Cert.L0InRefIdeal.τ).loc Cert.L0InRefIdeal.main_arg3)
      ∧ r.2.mem ((c.tc : Thread Cert.L0InRefIdeal.nD Cert.L0InRefIdeal.τ).loc Cert.L0InRefIdeal.main_arg4) = m ((c.tc : Thread Cert.L0InRefIdeal.nD Cert.L0InRefIdeal.τ).loc Cert.L0InRefIdeal.main_arg4)
      ∧ r.2.mem ((c.tc : Thread Cert.L0InRefIdeal.nD Cert.L0InRefIdeal.τ).loc Cert.L0InRefIdeal.main_arg5) = m ((c.tc : Thread Cert.L0InRefIdeal.nD Cert.L0InRefIdeal.τ).loc Cert.L0InRefIdeal.main_arg5))
      ∧ r.2.sem = fun _ => 0)

def quiescent_PostS [hPostS : Cert.PostS.Facts] : Prop :=
  ∀ (m : (ℓ : Loc Cert.PostS.nD Cert.PostS.τ Cert.PostS.sig) → Buf (Elt Bits) ℓ) (g : Dev Cert.PostS.nD → PrngReg), Pre_PostS m →
    θ_run (Cert.PostS.defs (F := Bits)) (onTc (τ := Cert.PostS.τ) (Cert.PostS.main (F := Bits))) ⟨m, fun _ => 0, g⟩ (fun r => (∀ c : Dev Cert.PostS.nD,
      r.2.mem ((c.tc : Thread Cert.PostS.nD Cert.PostS.τ).loc Cert.PostS.main_arg0) = m ((c.tc : Thread Cert.PostS.nD Cert.PostS.τ).loc Cert.PostS.main_arg0)
      ∧ r.2.mem ((c.tc : Thread Cert.PostS.nD Cert.PostS.τ).loc Cert.PostS.main_arg1) = m ((c.tc : Thread Cert.PostS.nD Cert.PostS.τ).loc Cert.PostS.main_arg1)
      ∧ r.2.mem ((c.tc : Thread Cert.PostS.nD Cert.PostS.τ).loc Cert.PostS.main_arg2) = m ((c.tc : Thread Cert.PostS.nD Cert.PostS.τ).loc Cert.PostS.main_arg2)
      ∧ r.2.mem ((c.tc : Thread Cert.PostS.nD Cert.PostS.τ).loc Cert.PostS.main_arg3) = m ((c.tc : Thread Cert.PostS.nD Cert.PostS.τ).loc Cert.PostS.main_arg3)
      ∧ r.2.mem ((c.tc : Thread Cert.PostS.nD Cert.PostS.τ).loc Cert.PostS.main_arg4) = m ((c.tc : Thread Cert.PostS.nD Cert.PostS.τ).loc Cert.PostS.main_arg4)
      ∧ r.2.mem ((c.tc : Thread Cert.PostS.nD Cert.PostS.τ).loc Cert.PostS.main_arg5) = m ((c.tc : Thread Cert.PostS.nD Cert.PostS.τ).loc Cert.PostS.main_arg5)
      ∧ r.2.mem ((c.tc : Thread Cert.PostS.nD Cert.PostS.τ).loc Cert.PostS.main_arg6) = m ((c.tc : Thread Cert.PostS.nD Cert.PostS.τ).loc Cert.PostS.main_arg6)
      ∧ r.2.mem ((c.tc : Thread Cert.PostS.nD Cert.PostS.τ).loc Cert.PostS.main_arg7) = m ((c.tc : Thread Cert.PostS.nD Cert.PostS.τ).loc Cert.PostS.main_arg7)
      ∧ r.2.mem ((c.tc : Thread Cert.PostS.nD Cert.PostS.τ).loc Cert.PostS.main_arg8) = m ((c.tc : Thread Cert.PostS.nD Cert.PostS.τ).loc Cert.PostS.main_arg8)
      ∧ r.2.mem ((c.tc : Thread Cert.PostS.nD Cert.PostS.τ).loc Cert.PostS.main_arg9) = m ((c.tc : Thread Cert.PostS.nD Cert.PostS.τ).loc Cert.PostS.main_arg9)
      ∧ r.2.mem ((c.tc : Thread Cert.PostS.nD Cert.PostS.τ).loc Cert.PostS.main_arg10) = m ((c.tc : Thread Cert.PostS.nD Cert.PostS.τ).loc Cert.PostS.main_arg10)
      ∧ r.2.mem ((c.tc : Thread Cert.PostS.nD Cert.PostS.τ).loc Cert.PostS.main_arg11) = m ((c.tc : Thread Cert.PostS.nD Cert.PostS.τ).loc Cert.PostS.main_arg11))
      ∧ r.2.sem = fun _ => 0)

def quiescent_PostSIdeal [hPostSIdeal : Cert.PostSIdeal.Facts] : Prop :=
  ∀ (m : (ℓ : Loc Cert.PostSIdeal.nD Cert.PostSIdeal.τ Cert.PostSIdeal.sig) → Buf (Elt Ideal) ℓ) (g : Dev Cert.PostSIdeal.nD → PrngReg), Pre_PostSIdeal m →
    θ_run (Cert.PostSIdeal.defs (F := Ideal)) (onTc (τ := Cert.PostSIdeal.τ) (Cert.PostSIdeal.main (F := Ideal))) ⟨m, fun _ => 0, g⟩ (fun r => (∀ c : Dev Cert.PostSIdeal.nD,
      r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
      ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
      ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
      ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
      ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
      ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
      ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6)
      ∧ r.2.mem ((c.tc : Thread Cert.PostSIdeal.nD Cert.PostSIdeal.τ).loc Cert.PostSIdeal.main_arg7) = m ((c.tc : Thread Cert.PostSIdeal.nD Cert.PostSIdeal.τ).loc Cert.PostSIdeal.main_arg7)
      ∧ r.2.mem ((c.tc : Thread Cert.PostSIdeal.nD Cert.PostSIdeal.τ).loc Cert.PostSIdeal.main_arg8) = m ((c.tc : Thread Cert.PostSIdeal.nD Cert.PostSIdeal.τ).loc Cert.PostSIdeal.main_arg8)
      ∧ r.2.mem ((c.tc : Thread Cert.PostSIdeal.nD Cert.PostSIdeal.τ).loc Cert.PostSIdeal.main_arg9) = m ((c.tc : Thread Cert.PostSIdeal.nD Cert.PostSIdeal.τ).loc Cert.PostSIdeal.main_arg9)
      ∧ r.2.mem ((c.tc : Thread Cert.PostSIdeal.nD Cert.PostSIdeal.τ).loc Cert.PostSIdeal.main_arg10) = m ((c.tc : Thread Cert.PostSIdeal.nD Cert.PostSIdeal.τ).loc Cert.PostSIdeal.main_arg10)
      ∧ r.2.mem ((c.tc : Thread Cert.PostSIdeal.nD Cert.PostSIdeal.τ).loc Cert.PostSIdeal.main_arg11) = m ((c.tc : Thread Cert.PostSIdeal.nD Cert.PostSIdeal.τ).loc Cert.PostSIdeal.main_arg11))
      ∧ r.2.sem = fun _ => 0)

def quiescent_PostSIdeal_pre_finite7 [hPostSIdeal : Cert.PostSIdeal.Facts] [hPre_finite7 : Cert.Pre_finite7.Facts] : Prop :=
  ∀ (m : (ℓ : Loc Cert.PostSIdeal.nD Cert.PostSIdeal.τ Cert.PostSIdeal.sig) → Buf (Elt Ideal) ℓ) (g : Dev Cert.PostSIdeal.nD → PrngReg), Pre_PostSIdeal_finite7 m →
    θ_run (Cert.PostSIdeal.defs (F := Ideal)) (onTc (τ := Cert.PostSIdeal.τ) (Cert.PostSIdeal.main (F := Ideal))) ⟨m, fun _ => 0, g⟩ (fun r => (∀ c : Dev Cert.PostSIdeal.nD,
      r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
      ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
      ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
      ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
      ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
      ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
      ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6)
      ∧ r.2.mem ((c.tc : Thread Cert.PostSIdeal.nD Cert.PostSIdeal.τ).loc Cert.PostSIdeal.main_arg7) = m ((c.tc : Thread Cert.PostSIdeal.nD Cert.PostSIdeal.τ).loc Cert.PostSIdeal.main_arg7)
      ∧ r.2.mem ((c.tc : Thread Cert.PostSIdeal.nD Cert.PostSIdeal.τ).loc Cert.PostSIdeal.main_arg8) = m ((c.tc : Thread Cert.PostSIdeal.nD Cert.PostSIdeal.τ).loc Cert.PostSIdeal.main_arg8)
      ∧ r.2.mem ((c.tc : Thread Cert.PostSIdeal.nD Cert.PostSIdeal.τ).loc Cert.PostSIdeal.main_arg9) = m ((c.tc : Thread Cert.PostSIdeal.nD Cert.PostSIdeal.τ).loc Cert.PostSIdeal.main_arg9)
      ∧ r.2.mem ((c.tc : Thread Cert.PostSIdeal.nD Cert.PostSIdeal.τ).loc Cert.PostSIdeal.main_arg10) = m ((c.tc : Thread Cert.PostSIdeal.nD Cert.PostSIdeal.τ).loc Cert.PostSIdeal.main_arg10)
      ∧ r.2.mem ((c.tc : Thread Cert.PostSIdeal.nD Cert.PostSIdeal.τ).loc Cert.PostSIdeal.main_arg11) = m ((c.tc : Thread Cert.PostSIdeal.nD Cert.PostSIdeal.τ).loc Cert.PostSIdeal.main_arg11))
      ∧ r.2.sem = fun _ => 0)

def quiescent_PostSRefIdeal [hPostSRefIdeal : Cert.PostSRefIdeal.Facts] : Prop :=
  ∀ (m : (ℓ : Loc Cert.PostSRefIdeal.nD Cert.PostSRefIdeal.τ Cert.PostSRefIdeal.sig) → Buf (Elt Ideal) ℓ) (g : Dev Cert.PostSRefIdeal.nD → PrngReg), Pre_PostSRefIdeal m →
    θ_run (Cert.PostSRefIdeal.defs (F := Ideal)) (onTc (τ := Cert.PostSRefIdeal.τ) (Cert.PostSRefIdeal.main (F := Ideal))) ⟨m, fun _ => 0, g⟩ (fun r => (∀ c : Dev Cert.PostSRefIdeal.nD,
      r.2.mem ((c.tc : Thread Cert.PostSRefIdeal.nD Cert.PostSRefIdeal.τ).loc Cert.PostSRefIdeal.main_arg0) = m ((c.tc : Thread Cert.PostSRefIdeal.nD Cert.PostSRefIdeal.τ).loc Cert.PostSRefIdeal.main_arg0)
      ∧ r.2.mem ((c.tc : Thread Cert.PostSRefIdeal.nD Cert.PostSRefIdeal.τ).loc Cert.PostSRefIdeal.main_arg1) = m ((c.tc : Thread Cert.PostSRefIdeal.nD Cert.PostSRefIdeal.τ).loc Cert.PostSRefIdeal.main_arg1)
      ∧ r.2.mem ((c.tc : Thread Cert.PostSRefIdeal.nD Cert.PostSRefIdeal.τ).loc Cert.PostSRefIdeal.main_arg2) = m ((c.tc : Thread Cert.PostSRefIdeal.nD Cert.PostSRefIdeal.τ).loc Cert.PostSRefIdeal.main_arg2)
      ∧ r.2.mem ((c.tc : Thread Cert.PostSRefIdeal.nD Cert.PostSRefIdeal.τ).loc Cert.PostSRefIdeal.main_arg3) = m ((c.tc : Thread Cert.PostSRefIdeal.nD Cert.PostSRefIdeal.τ).loc Cert.PostSRefIdeal.main_arg3)
      ∧ r.2.mem ((c.tc : Thread Cert.PostSRefIdeal.nD Cert.PostSRefIdeal.τ).loc Cert.PostSRefIdeal.main_arg4) = m ((c.tc : Thread Cert.PostSRefIdeal.nD Cert.PostSRefIdeal.τ).loc Cert.PostSRefIdeal.main_arg4)
      ∧ r.2.mem ((c.tc : Thread Cert.PostSRefIdeal.nD Cert.PostSRefIdeal.τ).loc Cert.PostSRefIdeal.main_arg5) = m ((c.tc : Thread Cert.PostSRefIdeal.nD Cert.PostSRefIdeal.τ).loc Cert.PostSRefIdeal.main_arg5)
      ∧ r.2.mem ((c.tc : Thread Cert.PostSRefIdeal.nD Cert.PostSRefIdeal.τ).loc Cert.PostSRefIdeal.main_arg6) = m ((c.tc : Thread Cert.PostSRefIdeal.nD Cert.PostSRefIdeal.τ).loc Cert.PostSRefIdeal.main_arg6)
      ∧ r.2.mem ((c.tc : Thread Cert.PostSRefIdeal.nD Cert.PostSRefIdeal.τ).loc Cert.PostSRefIdeal.main_arg7) = m ((c.tc : Thread Cert.PostSRefIdeal.nD Cert.PostSRefIdeal.τ).loc Cert.PostSRefIdeal.main_arg7)
      ∧ r.2.mem ((c.tc : Thread Cert.PostSRefIdeal.nD Cert.PostSRefIdeal.τ).loc Cert.PostSRefIdeal.main_arg8) = m ((c.tc : Thread Cert.PostSRefIdeal.nD Cert.PostSRefIdeal.τ).loc Cert.PostSRefIdeal.main_arg8)
      ∧ r.2.mem ((c.tc : Thread Cert.PostSRefIdeal.nD Cert.PostSRefIdeal.τ).loc Cert.PostSRefIdeal.main_arg9) = m ((c.tc : Thread Cert.PostSRefIdeal.nD Cert.PostSRefIdeal.τ).loc Cert.PostSRefIdeal.main_arg9)
      ∧ r.2.mem ((c.tc : Thread Cert.PostSRefIdeal.nD Cert.PostSRefIdeal.τ).loc Cert.PostSRefIdeal.main_arg10) = m ((c.tc : Thread Cert.PostSRefIdeal.nD Cert.PostSRefIdeal.τ).loc Cert.PostSRefIdeal.main_arg10)
      ∧ r.2.mem ((c.tc : Thread Cert.PostSRefIdeal.nD Cert.PostSRefIdeal.τ).loc Cert.PostSRefIdeal.main_arg11) = m ((c.tc : Thread Cert.PostSRefIdeal.nD Cert.PostSRefIdeal.τ).loc Cert.PostSRefIdeal.main_arg11))
      ∧ r.2.sem = fun _ => 0)

def quiescent_PostSRefIdeal_pre_finite7 [hPostSRefIdeal : Cert.PostSRefIdeal.Facts] [hPre_finite7 : Cert.Pre_finite7.Facts] : Prop :=
  ∀ (m : (ℓ : Loc Cert.PostSRefIdeal.nD Cert.PostSRefIdeal.τ Cert.PostSRefIdeal.sig) → Buf (Elt Ideal) ℓ) (g : Dev Cert.PostSRefIdeal.nD → PrngReg), Pre_PostSRefIdeal_finite7 m →
    θ_run (Cert.PostSRefIdeal.defs (F := Ideal)) (onTc (τ := Cert.PostSRefIdeal.τ) (Cert.PostSRefIdeal.main (F := Ideal))) ⟨m, fun _ => 0, g⟩ (fun r => (∀ c : Dev Cert.PostSRefIdeal.nD,
      r.2.mem ((c.tc : Thread Cert.PostSRefIdeal.nD Cert.PostSRefIdeal.τ).loc Cert.PostSRefIdeal.main_arg0) = m ((c.tc : Thread Cert.PostSRefIdeal.nD Cert.PostSRefIdeal.τ).loc Cert.PostSRefIdeal.main_arg0)
      ∧ r.2.mem ((c.tc : Thread Cert.PostSRefIdeal.nD Cert.PostSRefIdeal.τ).loc Cert.PostSRefIdeal.main_arg1) = m ((c.tc : Thread Cert.PostSRefIdeal.nD Cert.PostSRefIdeal.τ).loc Cert.PostSRefIdeal.main_arg1)
      ∧ r.2.mem ((c.tc : Thread Cert.PostSRefIdeal.nD Cert.PostSRefIdeal.τ).loc Cert.PostSRefIdeal.main_arg2) = m ((c.tc : Thread Cert.PostSRefIdeal.nD Cert.PostSRefIdeal.τ).loc Cert.PostSRefIdeal.main_arg2)
      ∧ r.2.mem ((c.tc : Thread Cert.PostSRefIdeal.nD Cert.PostSRefIdeal.τ).loc Cert.PostSRefIdeal.main_arg3) = m ((c.tc : Thread Cert.PostSRefIdeal.nD Cert.PostSRefIdeal.τ).loc Cert.PostSRefIdeal.main_arg3)
      ∧ r.2.mem ((c.tc : Thread Cert.PostSRefIdeal.nD Cert.PostSRefIdeal.τ).loc Cert.PostSRefIdeal.main_arg4) = m ((c.tc : Thread Cert.PostSRefIdeal.nD Cert.PostSRefIdeal.τ).loc Cert.PostSRefIdeal.main_arg4)
      ∧ r.2.mem ((c.tc : Thread Cert.PostSRefIdeal.nD Cert.PostSRefIdeal.τ).loc Cert.PostSRefIdeal.main_arg5) = m ((c.tc : Thread Cert.PostSRefIdeal.nD Cert.PostSRefIdeal.τ).loc Cert.PostSRefIdeal.main_arg5)
      ∧ r.2.mem ((c.tc : Thread Cert.PostSRefIdeal.nD Cert.PostSRefIdeal.τ).loc Cert.PostSRefIdeal.main_arg6) = m ((c.tc : Thread Cert.PostSRefIdeal.nD Cert.PostSRefIdeal.τ).loc Cert.PostSRefIdeal.main_arg6)
      ∧ r.2.mem ((c.tc : Thread Cert.PostSRefIdeal.nD Cert.PostSRefIdeal.τ).loc Cert.PostSRefIdeal.main_arg7) = m ((c.tc : Thread Cert.PostSRefIdeal.nD Cert.PostSRefIdeal.τ).loc Cert.PostSRefIdeal.main_arg7)
      ∧ r.2.mem ((c.tc : Thread Cert.PostSRefIdeal.nD Cert.PostSRefIdeal.τ).loc Cert.PostSRefIdeal.main_arg8) = m ((c.tc : Thread Cert.PostSRefIdeal.nD Cert.PostSRefIdeal.τ).loc Cert.PostSRefIdeal.main_arg8)
      ∧ r.2.mem ((c.tc : Thread Cert.PostSRefIdeal.nD Cert.PostSRefIdeal.τ).loc Cert.PostSRefIdeal.main_arg9) = m ((c.tc : Thread Cert.PostSRefIdeal.nD Cert.PostSRefIdeal.τ).loc Cert.PostSRefIdeal.main_arg9)
      ∧ r.2.mem ((c.tc : Thread Cert.PostSRefIdeal.nD Cert.PostSRefIdeal.τ).loc Cert.PostSRefIdeal.main_arg10) = m ((c.tc : Thread Cert.PostSRefIdeal.nD Cert.PostSRefIdeal.τ).loc Cert.PostSRefIdeal.main_arg10)
      ∧ r.2.mem ((c.tc : Thread Cert.PostSRefIdeal.nD Cert.PostSRefIdeal.τ).loc Cert.PostSRefIdeal.main_arg11) = m ((c.tc : Thread Cert.PostSRefIdeal.nD Cert.PostSRefIdeal.τ).loc Cert.PostSRefIdeal.main_arg11))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaIdeal_pre_finite8 [hAdaIdeal : Cert.AdaIdeal.Facts] [hPre_finite8 : Cert.Pre_finite8.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal_finite8 m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_AdaRefIdeal_pre_finite8 [hAdaRefIdeal : Cert.AdaRefIdeal.Facts] [hPre_finite8 : Cert.Pre_finite8.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal_finite8 m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Cast [hCast : Cert.Cast.Facts] : Prop :=
  ∀ (m : (ℓ : Loc Cert.Cast.nD Cert.Cast.τ Cert.Cast.sig) → Buf (Elt Bits) ℓ) (g : Dev Cert.Cast.nD → PrngReg), Pre_Cast m →
    θ_run (Cert.Cast.defs (F := Bits)) (onTc (τ := Cert.Cast.τ) (Cert.Cast.main (F := Bits))) ⟨m, fun _ => 0, g⟩ (fun r => (∀ c : Dev Cert.Cast.nD,
      r.2.mem ((c.tc : Thread Cert.Cast.nD Cert.Cast.τ).loc Cert.Cast.main_arg0) = m ((c.tc : Thread Cert.Cast.nD Cert.Cast.τ).loc Cert.Cast.main_arg0)
      ∧ r.2.mem ((c.tc : Thread Cert.Cast.nD Cert.Cast.τ).loc Cert.Cast.main_arg1) = m ((c.tc : Thread Cert.Cast.nD Cert.Cast.τ).loc Cert.Cast.main_arg1)
      ∧ r.2.mem ((c.tc : Thread Cert.Cast.nD Cert.Cast.τ).loc Cert.Cast.main_arg2) = m ((c.tc : Thread Cert.Cast.nD Cert.Cast.τ).loc Cert.Cast.main_arg2)
      ∧ r.2.mem ((c.tc : Thread Cert.Cast.nD Cert.Cast.τ).loc Cert.Cast.main_arg3) = m ((c.tc : Thread Cert.Cast.nD Cert.Cast.τ).loc Cert.Cast.main_arg3)
      ∧ r.2.mem ((c.tc : Thread Cert.Cast.nD Cert.Cast.τ).loc Cert.Cast.main_arg4) = m ((c.tc : Thread Cert.Cast.nD Cert.Cast.τ).loc Cert.Cast.main_arg4)
      ∧ r.2.mem ((c.tc : Thread Cert.Cast.nD Cert.Cast.τ).loc Cert.Cast.main_arg5) = m ((c.tc : Thread Cert.Cast.nD Cert.Cast.τ).loc Cert.Cast.main_arg5)
      ∧ r.2.mem ((c.tc : Thread Cert.Cast.nD Cert.Cast.τ).loc Cert.Cast.main_arg6) = m ((c.tc : Thread Cert.Cast.nD Cert.Cast.τ).loc Cert.Cast.main_arg6)
      ∧ r.2.mem ((c.tc : Thread Cert.Cast.nD Cert.Cast.τ).loc Cert.Cast.main_arg7) = m ((c.tc : Thread Cert.Cast.nD Cert.Cast.τ).loc Cert.Cast.main_arg7)
      ∧ r.2.mem ((c.tc : Thread Cert.Cast.nD Cert.Cast.τ).loc Cert.Cast.main_arg8) = m ((c.tc : Thread Cert.Cast.nD Cert.Cast.τ).loc Cert.Cast.main_arg8)
      ∧ r.2.mem ((c.tc : Thread Cert.Cast.nD Cert.Cast.τ).loc Cert.Cast.main_arg9) = m ((c.tc : Thread Cert.Cast.nD Cert.Cast.τ).loc Cert.Cast.main_arg9))
      ∧ r.2.sem = fun _ => 0)

def quiescent_CastIdeal [hCastIdeal : Cert.CastIdeal.Facts] : Prop :=
  ∀ (m : (ℓ : Loc Cert.CastIdeal.nD Cert.CastIdeal.τ Cert.CastIdeal.sig) → Buf (Elt Ideal) ℓ) (g : Dev Cert.CastIdeal.nD → PrngReg), Pre_CastIdeal m →
    θ_run (Cert.CastIdeal.defs (F := Ideal)) (onTc (τ := Cert.CastIdeal.τ) (Cert.CastIdeal.main (F := Ideal))) ⟨m, fun _ => 0, g⟩ (fun r => (∀ c : Dev Cert.CastIdeal.nD,
      r.2.mem ((c.tc : Thread Cert.CastIdeal.nD Cert.CastIdeal.τ).loc Cert.CastIdeal.main_arg0) = m ((c.tc : Thread Cert.CastIdeal.nD Cert.CastIdeal.τ).loc Cert.CastIdeal.main_arg0)
      ∧ r.2.mem ((c.tc : Thread Cert.CastIdeal.nD Cert.CastIdeal.τ).loc Cert.CastIdeal.main_arg1) = m ((c.tc : Thread Cert.CastIdeal.nD Cert.CastIdeal.τ).loc Cert.CastIdeal.main_arg1)
      ∧ r.2.mem ((c.tc : Thread Cert.CastIdeal.nD Cert.CastIdeal.τ).loc Cert.CastIdeal.main_arg2) = m ((c.tc : Thread Cert.CastIdeal.nD Cert.CastIdeal.τ).loc Cert.CastIdeal.main_arg2)
      ∧ r.2.mem ((c.tc : Thread Cert.CastIdeal.nD Cert.CastIdeal.τ).loc Cert.CastIdeal.main_arg3) = m ((c.tc : Thread Cert.CastIdeal.nD Cert.CastIdeal.τ).loc Cert.CastIdeal.main_arg3)
      ∧ r.2.mem ((c.tc : Thread Cert.CastIdeal.nD Cert.CastIdeal.τ).loc Cert.CastIdeal.main_arg4) = m ((c.tc : Thread Cert.CastIdeal.nD Cert.CastIdeal.τ).loc Cert.CastIdeal.main_arg4)
      ∧ r.2.mem ((c.tc : Thread Cert.CastIdeal.nD Cert.CastIdeal.τ).loc Cert.CastIdeal.main_arg5) = m ((c.tc : Thread Cert.CastIdeal.nD Cert.CastIdeal.τ).loc Cert.CastIdeal.main_arg5)
      ∧ r.2.mem ((c.tc : Thread Cert.CastIdeal.nD Cert.CastIdeal.τ).loc Cert.CastIdeal.main_arg6) = m ((c.tc : Thread Cert.CastIdeal.nD Cert.CastIdeal.τ).loc Cert.CastIdeal.main_arg6)
      ∧ r.2.mem ((c.tc : Thread Cert.CastIdeal.nD Cert.CastIdeal.τ).loc Cert.CastIdeal.main_arg7) = m ((c.tc : Thread Cert.CastIdeal.nD Cert.CastIdeal.τ).loc Cert.CastIdeal.main_arg7)
      ∧ r.2.mem ((c.tc : Thread Cert.CastIdeal.nD Cert.CastIdeal.τ).loc Cert.CastIdeal.main_arg8) = m ((c.tc : Thread Cert.CastIdeal.nD Cert.CastIdeal.τ).loc Cert.CastIdeal.main_arg8)
      ∧ r.2.mem ((c.tc : Thread Cert.CastIdeal.nD Cert.CastIdeal.τ).loc Cert.CastIdeal.main_arg9) = m ((c.tc : Thread Cert.CastIdeal.nD Cert.CastIdeal.τ).loc Cert.CastIdeal.main_arg9))
      ∧ r.2.sem = fun _ => 0)

def quiescent_CastRefIdeal [hCastRefIdeal : Cert.CastRefIdeal.Facts] : Prop :=
  ∀ (m : (ℓ : Loc Cert.CastRefIdeal.nD Cert.CastRefIdeal.τ Cert.CastRefIdeal.sig) → Buf (Elt Ideal) ℓ) (g : Dev Cert.CastRefIdeal.nD → PrngReg), Pre_CastRefIdeal m →
    θ_run (Cert.CastRefIdeal.defs (F := Ideal)) (onTc (τ := Cert.CastRefIdeal.τ) (Cert.CastRefIdeal.main (F := Ideal))) ⟨m, fun _ => 0, g⟩ (fun r => (∀ c : Dev Cert.CastRefIdeal.nD,
      r.2.mem ((c.tc : Thread Cert.CastRefIdeal.nD Cert.CastRefIdeal.τ).loc Cert.CastRefIdeal.main_arg0) = m ((c.tc : Thread Cert.CastRefIdeal.nD Cert.CastRefIdeal.τ).loc Cert.CastRefIdeal.main_arg0)
      ∧ r.2.mem ((c.tc : Thread Cert.CastRefIdeal.nD Cert.CastRefIdeal.τ).loc Cert.CastRefIdeal.main_arg1) = m ((c.tc : Thread Cert.CastRefIdeal.nD Cert.CastRefIdeal.τ).loc Cert.CastRefIdeal.main_arg1)
      ∧ r.2.mem ((c.tc : Thread Cert.CastRefIdeal.nD Cert.CastRefIdeal.τ).loc Cert.CastRefIdeal.main_arg2) = m ((c.tc : Thread Cert.CastRefIdeal.nD Cert.CastRefIdeal.τ).loc Cert.CastRefIdeal.main_arg2)
      ∧ r.2.mem ((c.tc : Thread Cert.CastRefIdeal.nD Cert.CastRefIdeal.τ).loc Cert.CastRefIdeal.main_arg3) = m ((c.tc : Thread Cert.CastRefIdeal.nD Cert.CastRefIdeal.τ).loc Cert.CastRefIdeal.main_arg3)
      ∧ r.2.mem ((c.tc : Thread Cert.CastRefIdeal.nD Cert.CastRefIdeal.τ).loc Cert.CastRefIdeal.main_arg4) = m ((c.tc : Thread Cert.CastRefIdeal.nD Cert.CastRefIdeal.τ).loc Cert.CastRefIdeal.main_arg4)
      ∧ r.2.mem ((c.tc : Thread Cert.CastRefIdeal.nD Cert.CastRefIdeal.τ).loc Cert.CastRefIdeal.main_arg5) = m ((c.tc : Thread Cert.CastRefIdeal.nD Cert.CastRefIdeal.τ).loc Cert.CastRefIdeal.main_arg5)
      ∧ r.2.mem ((c.tc : Thread Cert.CastRefIdeal.nD Cert.CastRefIdeal.τ).loc Cert.CastRefIdeal.main_arg6) = m ((c.tc : Thread Cert.CastRefIdeal.nD Cert.CastRefIdeal.τ).loc Cert.CastRefIdeal.main_arg6)
      ∧ r.2.mem ((c.tc : Thread Cert.CastRefIdeal.nD Cert.CastRefIdeal.τ).loc Cert.CastRefIdeal.main_arg7) = m ((c.tc : Thread Cert.CastRefIdeal.nD Cert.CastRefIdeal.τ).loc Cert.CastRefIdeal.main_arg7)
      ∧ r.2.mem ((c.tc : Thread Cert.CastRefIdeal.nD Cert.CastRefIdeal.τ).loc Cert.CastRefIdeal.main_arg8) = m ((c.tc : Thread Cert.CastRefIdeal.nD Cert.CastRefIdeal.τ).loc Cert.CastRefIdeal.main_arg8)
      ∧ r.2.mem ((c.tc : Thread Cert.CastRefIdeal.nD Cert.CastRefIdeal.τ).loc Cert.CastRefIdeal.main_arg9) = m ((c.tc : Thread Cert.CastRefIdeal.nD Cert.CastRefIdeal.τ).loc Cert.CastRefIdeal.main_arg9))
      ∧ r.2.sem = fun _ => 0)

def preserves_Ret_RetIdeal : Prop :=
  True

def algebraic_RetIdeal_RetRefIdeal_pre_finite [hRetIdeal : Cert.RetIdeal.Facts] [hRetRefIdeal : Cert.RetRefIdeal.Facts] [hPre_finite : Cert.Pre_finite.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal_finite m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)
      ∧ m' ((c.tc : Thread Cert.RetRefIdeal.nD Cert.RetRefIdeal.τ).loc Cert.RetRefIdeal.main_arg2) = m ((c.tc : Thread Cert.RetIdeal.nD Cert.RetIdeal.τ).loc Cert.RetIdeal.main_arg2)
      ∧ m' ((c.tc : Thread Cert.RetRefIdeal.nD Cert.RetRefIdeal.τ).loc Cert.RetRefIdeal.main_arg3) = m ((c.tc : Thread Cert.RetIdeal.nD Cert.RetIdeal.τ).loc Cert.RetIdeal.main_arg3)) →
    ∃ (v0 : (c : Dev Cert.RetIdeal.nD) → Buf (Elt Ideal) ((c.tc : Thread Cert.RetIdeal.nD Cert.RetIdeal.τ).loc Cert.RetIdeal.main_v1_0)) (v1 : (c : Dev Cert.RetIdeal.nD) → Buf (Elt Ideal) ((c.tc : Thread Cert.RetIdeal.nD Cert.RetIdeal.τ).loc Cert.RetIdeal.main_v1_1)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v1_0) = v0 c
          ∧ r.2.mem ((c.tc : Thread Cert.RetIdeal.nD Cert.RetIdeal.τ).loc Cert.RetIdeal.main_v1_1) = v1 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
          ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
          ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v36) = v0 c
          ∧ r.2.mem ((c.tc : Thread Cert.RetRefIdeal.nD Cert.RetRefIdeal.τ).loc Cert.RetRefIdeal.main_v37) = v1 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1)
          ∧ r.2.mem ((c.tc : Thread Cert.RetRefIdeal.nD Cert.RetRefIdeal.τ).loc Cert.RetRefIdeal.main_arg2) = m' ((c.tc : Thread Cert.RetRefIdeal.nD Cert.RetRefIdeal.τ).loc Cert.RetRefIdeal.main_arg2)
          ∧ r.2.mem ((c.tc : Thread Cert.RetRefIdeal.nD Cert.RetRefIdeal.τ).loc Cert.RetRefIdeal.main_arg3) = m' ((c.tc : Thread Cert.RetRefIdeal.nD Cert.RetRefIdeal.τ).loc Cert.RetRefIdeal.main_arg3))

def preserves_Att_AttIdeal : Prop :=
  True

def algebraic_AttIdeal_AttRefIdeal_pre_finite2 [hAttIdeal : Cert.AttIdeal.Facts] [hAttRefIdeal : Cert.AttRefIdeal.Facts] [hPre_finite2 : Cert.Pre_finite2.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal_finite2 m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)
      ∧ m' ((c.tc : Thread Cert.AttRefIdeal.nD Cert.AttRefIdeal.τ).loc Cert.AttRefIdeal.main_arg2) = m ((c.tc : Thread Cert.AttIdeal.nD Cert.AttIdeal.τ).loc Cert.AttIdeal.main_arg2)) →
    ∃ (v0 : (c : Dev Cert.AttIdeal.nD) → Buf (Elt Ideal) ((c.tc : Thread Cert.AttIdeal.nD Cert.AttIdeal.τ).loc Cert.AttIdeal.main_v9)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v9) = v0 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
          ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v24) = v0 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1)
          ∧ r.2.mem ((c.tc : Thread Cert.AttRefIdeal.nD Cert.AttRefIdeal.τ).loc Cert.AttRefIdeal.main_arg2) = m' ((c.tc : Thread Cert.AttRefIdeal.nD Cert.AttRefIdeal.τ).loc Cert.AttRefIdeal.main_arg2))

def preserves_PostC_PostCIdeal : Prop :=
  True

def algebraic_PostCIdeal_PostCRefIdeal_pre_finite3 [hPostCIdeal : Cert.PostCIdeal.Facts] [hPostCRefIdeal : Cert.PostCRefIdeal.Facts] [hPre_finite3 : Cert.Pre_finite3.Facts] : Prop :=
  ∀ (m : (ℓ : Loc Cert.PostCIdeal.nD Cert.PostCIdeal.τ Cert.PostCIdeal.sig) → Buf (Elt Ideal) ℓ) (g : Dev Cert.PostCIdeal.nD → PrngReg)
    (m' : (ℓ : Loc Cert.PostCRefIdeal.nD Cert.PostCRefIdeal.τ Cert.PostCRefIdeal.sig) → Buf (Elt Ideal) ℓ) (g' : Dev Cert.PostCRefIdeal.nD → PrngReg), Pre_PostCIdeal_finite3 m →
    (∀ c : Dev Cert.PostCIdeal.nD,
      m' ((c.tc : Thread Cert.PostCRefIdeal.nD Cert.PostCRefIdeal.τ).loc Cert.PostCRefIdeal.main_arg0) = m ((c.tc : Thread Cert.PostCIdeal.nD Cert.PostCIdeal.τ).loc Cert.PostCIdeal.main_arg0)
      ∧ m' ((c.tc : Thread Cert.PostCRefIdeal.nD Cert.PostCRefIdeal.τ).loc Cert.PostCRefIdeal.main_arg1) = m ((c.tc : Thread Cert.PostCIdeal.nD Cert.PostCIdeal.τ).loc Cert.PostCIdeal.main_arg1)
      ∧ m' ((c.tc : Thread Cert.PostCRefIdeal.nD Cert.PostCRefIdeal.τ).loc Cert.PostCRefIdeal.main_arg2) = m ((c.tc : Thread Cert.PostCIdeal.nD Cert.PostCIdeal.τ).loc Cert.PostCIdeal.main_arg2)
      ∧ m' ((c.tc : Thread Cert.PostCRefIdeal.nD Cert.PostCRefIdeal.τ).loc Cert.PostCRefIdeal.main_arg3) = m ((c.tc : Thread Cert.PostCIdeal.nD Cert.PostCIdeal.τ).loc Cert.PostCIdeal.main_arg3)
      ∧ m' ((c.tc : Thread Cert.PostCRefIdeal.nD Cert.PostCRefIdeal.τ).loc Cert.PostCRefIdeal.main_arg4) = m ((c.tc : Thread Cert.PostCIdeal.nD Cert.PostCIdeal.τ).loc Cert.PostCIdeal.main_arg4)
      ∧ m' ((c.tc : Thread Cert.PostCRefIdeal.nD Cert.PostCRefIdeal.τ).loc Cert.PostCRefIdeal.main_arg5) = m ((c.tc : Thread Cert.PostCIdeal.nD Cert.PostCIdeal.τ).loc Cert.PostCIdeal.main_arg5)
      ∧ m' ((c.tc : Thread Cert.PostCRefIdeal.nD Cert.PostCRefIdeal.τ).loc Cert.PostCRefIdeal.main_arg6) = m ((c.tc : Thread Cert.PostCIdeal.nD Cert.PostCIdeal.τ).loc Cert.PostCIdeal.main_arg6)
      ∧ m' ((c.tc : Thread Cert.PostCRefIdeal.nD Cert.PostCRefIdeal.τ).loc Cert.PostCRefIdeal.main_arg7) = m ((c.tc : Thread Cert.PostCIdeal.nD Cert.PostCIdeal.τ).loc Cert.PostCIdeal.main_arg7)
      ∧ m' ((c.tc : Thread Cert.PostCRefIdeal.nD Cert.PostCRefIdeal.τ).loc Cert.PostCRefIdeal.main_arg8) = m ((c.tc : Thread Cert.PostCIdeal.nD Cert.PostCIdeal.τ).loc Cert.PostCIdeal.main_arg8)
      ∧ m' ((c.tc : Thread Cert.PostCRefIdeal.nD Cert.PostCRefIdeal.τ).loc Cert.PostCRefIdeal.main_arg9) = m ((c.tc : Thread Cert.PostCIdeal.nD Cert.PostCIdeal.τ).loc Cert.PostCIdeal.main_arg9)
      ∧ m' ((c.tc : Thread Cert.PostCRefIdeal.nD Cert.PostCRefIdeal.τ).loc Cert.PostCRefIdeal.main_arg10) = m ((c.tc : Thread Cert.PostCIdeal.nD Cert.PostCIdeal.τ).loc Cert.PostCIdeal.main_arg10)) →
    ∃ (v0 : (c : Dev Cert.PostCIdeal.nD) → Buf (Elt Ideal) ((c.tc : Thread Cert.PostCIdeal.nD Cert.PostCIdeal.τ).loc Cert.PostCIdeal.main_v3)),
      θ_run (Cert.PostCIdeal.defs (F := Ideal)) (onTc (τ := Cert.PostCIdeal.τ) (Cert.PostCIdeal.main (F := Ideal))) ⟨m, fun _ => 0, g⟩ (fun r => ∀ c : Dev Cert.PostCIdeal.nD,
          r.2.mem ((c.tc : Thread Cert.PostCIdeal.nD Cert.PostCIdeal.τ).loc Cert.PostCIdeal.main_v3) = v0 c
          ∧ r.2.mem ((c.tc : Thread Cert.PostCIdeal.nD Cert.PostCIdeal.τ).loc Cert.PostCIdeal.main_arg0) = m ((c.tc : Thread Cert.PostCIdeal.nD Cert.PostCIdeal.τ).loc Cert.PostCIdeal.main_arg0)
          ∧ r.2.mem ((c.tc : Thread Cert.PostCIdeal.nD Cert.PostCIdeal.τ).loc Cert.PostCIdeal.main_arg1) = m ((c.tc : Thread Cert.PostCIdeal.nD Cert.PostCIdeal.τ).loc Cert.PostCIdeal.main_arg1)
          ∧ r.2.mem ((c.tc : Thread Cert.PostCIdeal.nD Cert.PostCIdeal.τ).loc Cert.PostCIdeal.main_arg2) = m ((c.tc : Thread Cert.PostCIdeal.nD Cert.PostCIdeal.τ).loc Cert.PostCIdeal.main_arg2)
          ∧ r.2.mem ((c.tc : Thread Cert.PostCIdeal.nD Cert.PostCIdeal.τ).loc Cert.PostCIdeal.main_arg3) = m ((c.tc : Thread Cert.PostCIdeal.nD Cert.PostCIdeal.τ).loc Cert.PostCIdeal.main_arg3)
          ∧ r.2.mem ((c.tc : Thread Cert.PostCIdeal.nD Cert.PostCIdeal.τ).loc Cert.PostCIdeal.main_arg4) = m ((c.tc : Thread Cert.PostCIdeal.nD Cert.PostCIdeal.τ).loc Cert.PostCIdeal.main_arg4)
          ∧ r.2.mem ((c.tc : Thread Cert.PostCIdeal.nD Cert.PostCIdeal.τ).loc Cert.PostCIdeal.main_arg5) = m ((c.tc : Thread Cert.PostCIdeal.nD Cert.PostCIdeal.τ).loc Cert.PostCIdeal.main_arg5)
          ∧ r.2.mem ((c.tc : Thread Cert.PostCIdeal.nD Cert.PostCIdeal.τ).loc Cert.PostCIdeal.main_arg6) = m ((c.tc : Thread Cert.PostCIdeal.nD Cert.PostCIdeal.τ).loc Cert.PostCIdeal.main_arg6)
          ∧ r.2.mem ((c.tc : Thread Cert.PostCIdeal.nD Cert.PostCIdeal.τ).loc Cert.PostCIdeal.main_arg7) = m ((c.tc : Thread Cert.PostCIdeal.nD Cert.PostCIdeal.τ).loc Cert.PostCIdeal.main_arg7)
          ∧ r.2.mem ((c.tc : Thread Cert.PostCIdeal.nD Cert.PostCIdeal.τ).loc Cert.PostCIdeal.main_arg8) = m ((c.tc : Thread Cert.PostCIdeal.nD Cert.PostCIdeal.τ).loc Cert.PostCIdeal.main_arg8)
          ∧ r.2.mem ((c.tc : Thread Cert.PostCIdeal.nD Cert.PostCIdeal.τ).loc Cert.PostCIdeal.main_arg9) = m ((c.tc : Thread Cert.PostCIdeal.nD Cert.PostCIdeal.τ).loc Cert.PostCIdeal.main_arg9)
          ∧ r.2.mem ((c.tc : Thread Cert.PostCIdeal.nD Cert.PostCIdeal.τ).loc Cert.PostCIdeal.main_arg10) = m ((c.tc : Thread Cert.PostCIdeal.nD Cert.PostCIdeal.τ).loc Cert.PostCIdeal.main_arg10))
      ∧ θ_run (Cert.PostCRefIdeal.defs (F := Ideal)) (onTc (τ := Cert.PostCRefIdeal.τ) (Cert.PostCRefIdeal.main (F := Ideal))) ⟨m', fun _ => 0, g'⟩ (fun r => ∀ c : Dev Cert.PostCRefIdeal.nD,
          r.2.mem ((c.tc : Thread Cert.PostCRefIdeal.nD Cert.PostCRefIdeal.τ).loc Cert.PostCRefIdeal.main_v73) = v0 c
          ∧ r.2.mem ((c.tc : Thread Cert.PostCRefIdeal.nD Cert.PostCRefIdeal.τ).loc Cert.PostCRefIdeal.main_arg0) = m' ((c.tc : Thread Cert.PostCRefIdeal.nD Cert.PostCRefIdeal.τ).loc Cert.PostCRefIdeal.main_arg0)
          ∧ r.2.mem ((c.tc : Thread Cert.PostCRefIdeal.nD Cert.PostCRefIdeal.τ).loc Cert.PostCRefIdeal.main_arg1) = m' ((c.tc : Thread Cert.PostCRefIdeal.nD Cert.PostCRefIdeal.τ).loc Cert.PostCRefIdeal.main_arg1)
          ∧ r.2.mem ((c.tc : Thread Cert.PostCRefIdeal.nD Cert.PostCRefIdeal.τ).loc Cert.PostCRefIdeal.main_arg2) = m' ((c.tc : Thread Cert.PostCRefIdeal.nD Cert.PostCRefIdeal.τ).loc Cert.PostCRefIdeal.main_arg2)
          ∧ r.2.mem ((c.tc : Thread Cert.PostCRefIdeal.nD Cert.PostCRefIdeal.τ).loc Cert.PostCRefIdeal.main_arg3) = m' ((c.tc : Thread Cert.PostCRefIdeal.nD Cert.PostCRefIdeal.τ).loc Cert.PostCRefIdeal.main_arg3)
          ∧ r.2.mem ((c.tc : Thread Cert.PostCRefIdeal.nD Cert.PostCRefIdeal.τ).loc Cert.PostCRefIdeal.main_arg4) = m' ((c.tc : Thread Cert.PostCRefIdeal.nD Cert.PostCRefIdeal.τ).loc Cert.PostCRefIdeal.main_arg4)
          ∧ r.2.mem ((c.tc : Thread Cert.PostCRefIdeal.nD Cert.PostCRefIdeal.τ).loc Cert.PostCRefIdeal.main_arg5) = m' ((c.tc : Thread Cert.PostCRefIdeal.nD Cert.PostCRefIdeal.τ).loc Cert.PostCRefIdeal.main_arg5)
          ∧ r.2.mem ((c.tc : Thread Cert.PostCRefIdeal.nD Cert.PostCRefIdeal.τ).loc Cert.PostCRefIdeal.main_arg6) = m' ((c.tc : Thread Cert.PostCRefIdeal.nD Cert.PostCRefIdeal.τ).loc Cert.PostCRefIdeal.main_arg6)
          ∧ r.2.mem ((c.tc : Thread Cert.PostCRefIdeal.nD Cert.PostCRefIdeal.τ).loc Cert.PostCRefIdeal.main_arg7) = m' ((c.tc : Thread Cert.PostCRefIdeal.nD Cert.PostCRefIdeal.τ).loc Cert.PostCRefIdeal.main_arg7)
          ∧ r.2.mem ((c.tc : Thread Cert.PostCRefIdeal.nD Cert.PostCRefIdeal.τ).loc Cert.PostCRefIdeal.main_arg8) = m' ((c.tc : Thread Cert.PostCRefIdeal.nD Cert.PostCRefIdeal.τ).loc Cert.PostCRefIdeal.main_arg8)
          ∧ r.2.mem ((c.tc : Thread Cert.PostCRefIdeal.nD Cert.PostCRefIdeal.τ).loc Cert.PostCRefIdeal.main_arg9) = m' ((c.tc : Thread Cert.PostCRefIdeal.nD Cert.PostCRefIdeal.τ).loc Cert.PostCRefIdeal.main_arg9)
          ∧ r.2.mem ((c.tc : Thread Cert.PostCRefIdeal.nD Cert.PostCRefIdeal.τ).loc Cert.PostCRefIdeal.main_arg10) = m' ((c.tc : Thread Cert.PostCRefIdeal.nD Cert.PostCRefIdeal.τ).loc Cert.PostCRefIdeal.main_arg10))

def preserves_PostAb_PostAbIdeal : Prop :=
  True

def algebraic_PostAbIdeal_PostAbRefIdeal_pre_finite4 [hPostAbIdeal : Cert.PostAbIdeal.Facts] [hPostAbRefIdeal : Cert.PostAbRefIdeal.Facts] [hPre_finite4 : Cert.Pre_finite4.Facts] : Prop :=
  ∀ (m : (ℓ : Loc Cert.PostAbIdeal.nD Cert.PostAbIdeal.τ Cert.PostAbIdeal.sig) → Buf (Elt Ideal) ℓ) (g : Dev Cert.PostAbIdeal.nD → PrngReg)
    (m' : (ℓ : Loc Cert.PostAbRefIdeal.nD Cert.PostAbRefIdeal.τ Cert.PostAbRefIdeal.sig) → Buf (Elt Ideal) ℓ) (g' : Dev Cert.PostAbRefIdeal.nD → PrngReg), Pre_PostAbIdeal_finite4 m →
    (∀ c : Dev Cert.PostAbIdeal.nD,
      m' ((c.tc : Thread Cert.PostAbRefIdeal.nD Cert.PostAbRefIdeal.τ).loc Cert.PostAbRefIdeal.main_arg0) = m ((c.tc : Thread Cert.PostAbIdeal.nD Cert.PostAbIdeal.τ).loc Cert.PostAbIdeal.main_arg0)
      ∧ m' ((c.tc : Thread Cert.PostAbRefIdeal.nD Cert.PostAbRefIdeal.τ).loc Cert.PostAbRefIdeal.main_arg1) = m ((c.tc : Thread Cert.PostAbIdeal.nD Cert.PostAbIdeal.τ).loc Cert.PostAbIdeal.main_arg1)
      ∧ m' ((c.tc : Thread Cert.PostAbRefIdeal.nD Cert.PostAbRefIdeal.τ).loc Cert.PostAbRefIdeal.main_arg2) = m ((c.tc : Thread Cert.PostAbIdeal.nD Cert.PostAbIdeal.τ).loc Cert.PostAbIdeal.main_arg2)
      ∧ m' ((c.tc : Thread Cert.PostAbRefIdeal.nD Cert.PostAbRefIdeal.τ).loc Cert.PostAbRefIdeal.main_arg3) = m ((c.tc : Thread Cert.PostAbIdeal.nD Cert.PostAbIdeal.τ).loc Cert.PostAbIdeal.main_arg3)
      ∧ m' ((c.tc : Thread Cert.PostAbRefIdeal.nD Cert.PostAbRefIdeal.τ).loc Cert.PostAbRefIdeal.main_arg4) = m ((c.tc : Thread Cert.PostAbIdeal.nD Cert.PostAbIdeal.τ).loc Cert.PostAbIdeal.main_arg4)
      ∧ m' ((c.tc : Thread Cert.PostAbRefIdeal.nD Cert.PostAbRefIdeal.τ).loc Cert.PostAbRefIdeal.main_arg5) = m ((c.tc : Thread Cert.PostAbIdeal.nD Cert.PostAbIdeal.τ).loc Cert.PostAbIdeal.main_arg5)
      ∧ m' ((c.tc : Thread Cert.PostAbRefIdeal.nD Cert.PostAbRefIdeal.τ).loc Cert.PostAbRefIdeal.main_arg6) = m ((c.tc : Thread Cert.PostAbIdeal.nD Cert.PostAbIdeal.τ).loc Cert.PostAbIdeal.main_arg6)
      ∧ m' ((c.tc : Thread Cert.PostAbRefIdeal.nD Cert.PostAbRefIdeal.τ).loc Cert.PostAbRefIdeal.main_arg7) = m ((c.tc : Thread Cert.PostAbIdeal.nD Cert.PostAbIdeal.τ).loc Cert.PostAbIdeal.main_arg7)
      ∧ m' ((c.tc : Thread Cert.PostAbRefIdeal.nD Cert.PostAbRefIdeal.τ).loc Cert.PostAbRefIdeal.main_arg8) = m ((c.tc : Thread Cert.PostAbIdeal.nD Cert.PostAbIdeal.τ).loc Cert.PostAbIdeal.main_arg8)
      ∧ m' ((c.tc : Thread Cert.PostAbRefIdeal.nD Cert.PostAbRefIdeal.τ).loc Cert.PostAbRefIdeal.main_arg9) = m ((c.tc : Thread Cert.PostAbIdeal.nD Cert.PostAbIdeal.τ).loc Cert.PostAbIdeal.main_arg9)
      ∧ m' ((c.tc : Thread Cert.PostAbRefIdeal.nD Cert.PostAbRefIdeal.τ).loc Cert.PostAbRefIdeal.main_arg10) = m ((c.tc : Thread Cert.PostAbIdeal.nD Cert.PostAbIdeal.τ).loc Cert.PostAbIdeal.main_arg10)
      ∧ m' ((c.tc : Thread Cert.PostAbRefIdeal.nD Cert.PostAbRefIdeal.τ).loc Cert.PostAbRefIdeal.main_arg11) = m ((c.tc : Thread Cert.PostAbIdeal.nD Cert.PostAbIdeal.τ).loc Cert.PostAbIdeal.main_arg11)) →
    ∃ (v0 : (c : Dev Cert.PostAbIdeal.nD) → Buf (Elt Ideal) ((c.tc : Thread Cert.PostAbIdeal.nD Cert.PostAbIdeal.τ).loc Cert.PostAbIdeal.main_v2)),
      θ_run (Cert.PostAbIdeal.defs (F := Ideal)) (onTc (τ := Cert.PostAbIdeal.τ) (Cert.PostAbIdeal.main (F := Ideal))) ⟨m, fun _ => 0, g⟩ (fun r => ∀ c : Dev Cert.PostAbIdeal.nD,
          r.2.mem ((c.tc : Thread Cert.PostAbIdeal.nD Cert.PostAbIdeal.τ).loc Cert.PostAbIdeal.main_v2) = v0 c
          ∧ r.2.mem ((c.tc : Thread Cert.PostAbIdeal.nD Cert.PostAbIdeal.τ).loc Cert.PostAbIdeal.main_arg0) = m ((c.tc : Thread Cert.PostAbIdeal.nD Cert.PostAbIdeal.τ).loc Cert.PostAbIdeal.main_arg0)
          ∧ r.2.mem ((c.tc : Thread Cert.PostAbIdeal.nD Cert.PostAbIdeal.τ).loc Cert.PostAbIdeal.main_arg1) = m ((c.tc : Thread Cert.PostAbIdeal.nD Cert.PostAbIdeal.τ).loc Cert.PostAbIdeal.main_arg1)
          ∧ r.2.mem ((c.tc : Thread Cert.PostAbIdeal.nD Cert.PostAbIdeal.τ).loc Cert.PostAbIdeal.main_arg2) = m ((c.tc : Thread Cert.PostAbIdeal.nD Cert.PostAbIdeal.τ).loc Cert.PostAbIdeal.main_arg2)
          ∧ r.2.mem ((c.tc : Thread Cert.PostAbIdeal.nD Cert.PostAbIdeal.τ).loc Cert.PostAbIdeal.main_arg3) = m ((c.tc : Thread Cert.PostAbIdeal.nD Cert.PostAbIdeal.τ).loc Cert.PostAbIdeal.main_arg3)
          ∧ r.2.mem ((c.tc : Thread Cert.PostAbIdeal.nD Cert.PostAbIdeal.τ).loc Cert.PostAbIdeal.main_arg4) = m ((c.tc : Thread Cert.PostAbIdeal.nD Cert.PostAbIdeal.τ).loc Cert.PostAbIdeal.main_arg4)
          ∧ r.2.mem ((c.tc : Thread Cert.PostAbIdeal.nD Cert.PostAbIdeal.τ).loc Cert.PostAbIdeal.main_arg5) = m ((c.tc : Thread Cert.PostAbIdeal.nD Cert.PostAbIdeal.τ).loc Cert.PostAbIdeal.main_arg5)
          ∧ r.2.mem ((c.tc : Thread Cert.PostAbIdeal.nD Cert.PostAbIdeal.τ).loc Cert.PostAbIdeal.main_arg6) = m ((c.tc : Thread Cert.PostAbIdeal.nD Cert.PostAbIdeal.τ).loc Cert.PostAbIdeal.main_arg6)
          ∧ r.2.mem ((c.tc : Thread Cert.PostAbIdeal.nD Cert.PostAbIdeal.τ).loc Cert.PostAbIdeal.main_arg7) = m ((c.tc : Thread Cert.PostAbIdeal.nD Cert.PostAbIdeal.τ).loc Cert.PostAbIdeal.main_arg7)
          ∧ r.2.mem ((c.tc : Thread Cert.PostAbIdeal.nD Cert.PostAbIdeal.τ).loc Cert.PostAbIdeal.main_arg8) = m ((c.tc : Thread Cert.PostAbIdeal.nD Cert.PostAbIdeal.τ).loc Cert.PostAbIdeal.main_arg8)
          ∧ r.2.mem ((c.tc : Thread Cert.PostAbIdeal.nD Cert.PostAbIdeal.τ).loc Cert.PostAbIdeal.main_arg9) = m ((c.tc : Thread Cert.PostAbIdeal.nD Cert.PostAbIdeal.τ).loc Cert.PostAbIdeal.main_arg9)
          ∧ r.2.mem ((c.tc : Thread Cert.PostAbIdeal.nD Cert.PostAbIdeal.τ).loc Cert.PostAbIdeal.main_arg10) = m ((c.tc : Thread Cert.PostAbIdeal.nD Cert.PostAbIdeal.τ).loc Cert.PostAbIdeal.main_arg10)
          ∧ r.2.mem ((c.tc : Thread Cert.PostAbIdeal.nD Cert.PostAbIdeal.τ).loc Cert.PostAbIdeal.main_arg11) = m ((c.tc : Thread Cert.PostAbIdeal.nD Cert.PostAbIdeal.τ).loc Cert.PostAbIdeal.main_arg11))
      ∧ θ_run (Cert.PostAbRefIdeal.defs (F := Ideal)) (onTc (τ := Cert.PostAbRefIdeal.τ) (Cert.PostAbRefIdeal.main (F := Ideal))) ⟨m', fun _ => 0, g'⟩ (fun r => ∀ c : Dev Cert.PostAbRefIdeal.nD,
          r.2.mem ((c.tc : Thread Cert.PostAbRefIdeal.nD Cert.PostAbRefIdeal.τ).loc Cert.PostAbRefIdeal.main_v62) = v0 c
          ∧ r.2.mem ((c.tc : Thread Cert.PostAbRefIdeal.nD Cert.PostAbRefIdeal.τ).loc Cert.PostAbRefIdeal.main_arg0) = m' ((c.tc : Thread Cert.PostAbRefIdeal.nD Cert.PostAbRefIdeal.τ).loc Cert.PostAbRefIdeal.main_arg0)
          ∧ r.2.mem ((c.tc : Thread Cert.PostAbRefIdeal.nD Cert.PostAbRefIdeal.τ).loc Cert.PostAbRefIdeal.main_arg1) = m' ((c.tc : Thread Cert.PostAbRefIdeal.nD Cert.PostAbRefIdeal.τ).loc Cert.PostAbRefIdeal.main_arg1)
          ∧ r.2.mem ((c.tc : Thread Cert.PostAbRefIdeal.nD Cert.PostAbRefIdeal.τ).loc Cert.PostAbRefIdeal.main_arg2) = m' ((c.tc : Thread Cert.PostAbRefIdeal.nD Cert.PostAbRefIdeal.τ).loc Cert.PostAbRefIdeal.main_arg2)
          ∧ r.2.mem ((c.tc : Thread Cert.PostAbRefIdeal.nD Cert.PostAbRefIdeal.τ).loc Cert.PostAbRefIdeal.main_arg3) = m' ((c.tc : Thread Cert.PostAbRefIdeal.nD Cert.PostAbRefIdeal.τ).loc Cert.PostAbRefIdeal.main_arg3)
          ∧ r.2.mem ((c.tc : Thread Cert.PostAbRefIdeal.nD Cert.PostAbRefIdeal.τ).loc Cert.PostAbRefIdeal.main_arg4) = m' ((c.tc : Thread Cert.PostAbRefIdeal.nD Cert.PostAbRefIdeal.τ).loc Cert.PostAbRefIdeal.main_arg4)
          ∧ r.2.mem ((c.tc : Thread Cert.PostAbRefIdeal.nD Cert.PostAbRefIdeal.τ).loc Cert.PostAbRefIdeal.main_arg5) = m' ((c.tc : Thread Cert.PostAbRefIdeal.nD Cert.PostAbRefIdeal.τ).loc Cert.PostAbRefIdeal.main_arg5)
          ∧ r.2.mem ((c.tc : Thread Cert.PostAbRefIdeal.nD Cert.PostAbRefIdeal.τ).loc Cert.PostAbRefIdeal.main_arg6) = m' ((c.tc : Thread Cert.PostAbRefIdeal.nD Cert.PostAbRefIdeal.τ).loc Cert.PostAbRefIdeal.main_arg6)
          ∧ r.2.mem ((c.tc : Thread Cert.PostAbRefIdeal.nD Cert.PostAbRefIdeal.τ).loc Cert.PostAbRefIdeal.main_arg7) = m' ((c.tc : Thread Cert.PostAbRefIdeal.nD Cert.PostAbRefIdeal.τ).loc Cert.PostAbRefIdeal.main_arg7)
          ∧ r.2.mem ((c.tc : Thread Cert.PostAbRefIdeal.nD Cert.PostAbRefIdeal.τ).loc Cert.PostAbRefIdeal.main_arg8) = m' ((c.tc : Thread Cert.PostAbRefIdeal.nD Cert.PostAbRefIdeal.τ).loc Cert.PostAbRefIdeal.main_arg8)
          ∧ r.2.mem ((c.tc : Thread Cert.PostAbRefIdeal.nD Cert.PostAbRefIdeal.τ).loc Cert.PostAbRefIdeal.main_arg9) = m' ((c.tc : Thread Cert.PostAbRefIdeal.nD Cert.PostAbRefIdeal.τ).loc Cert.PostAbRefIdeal.main_arg9)
          ∧ r.2.mem ((c.tc : Thread Cert.PostAbRefIdeal.nD Cert.PostAbRefIdeal.τ).loc Cert.PostAbRefIdeal.main_arg10) = m' ((c.tc : Thread Cert.PostAbRefIdeal.nD Cert.PostAbRefIdeal.τ).loc Cert.PostAbRefIdeal.main_arg10)
          ∧ r.2.mem ((c.tc : Thread Cert.PostAbRefIdeal.nD Cert.PostAbRefIdeal.τ).loc Cert.PostAbRefIdeal.main_arg11) = m' ((c.tc : Thread Cert.PostAbRefIdeal.nD Cert.PostAbRefIdeal.τ).loc Cert.PostAbRefIdeal.main_arg11))

def preserves_L1In_L1InIdeal : Prop :=
  True

def algebraic_L1InIdeal_L1InRefIdeal_pre_finite5 [hL1InIdeal : Cert.L1InIdeal.Facts] [hL1InRefIdeal : Cert.L1InRefIdeal.Facts] [hPre_finite5 : Cert.Pre_finite5.Facts] : Prop :=
  ∀ (m : (ℓ : Loc Cert.L1InIdeal.nD Cert.L1InIdeal.τ Cert.L1InIdeal.sig) → Buf (Elt Ideal) ℓ) (g : Dev Cert.L1InIdeal.nD → PrngReg)
    (m' : (ℓ : Loc Cert.L1InRefIdeal.nD Cert.L1InRefIdeal.τ Cert.L1InRefIdeal.sig) → Buf (Elt Ideal) ℓ) (g' : Dev Cert.L1InRefIdeal.nD → PrngReg), Pre_L1InIdeal_finite5 m →
    (∀ c : Dev Cert.L1InIdeal.nD,
      m' ((c.tc : Thread Cert.L1InRefIdeal.nD Cert.L1InRefIdeal.τ).loc Cert.L1InRefIdeal.main_arg0) = m ((c.tc : Thread Cert.L1InIdeal.nD Cert.L1InIdeal.τ).loc Cert.L1InIdeal.main_arg0)
      ∧ m' ((c.tc : Thread Cert.L1InRefIdeal.nD Cert.L1InRefIdeal.τ).loc Cert.L1InRefIdeal.main_arg1) = m ((c.tc : Thread Cert.L1InIdeal.nD Cert.L1InIdeal.τ).loc Cert.L1InIdeal.main_arg1)
      ∧ m' ((c.tc : Thread Cert.L1InRefIdeal.nD Cert.L1InRefIdeal.τ).loc Cert.L1InRefIdeal.main_arg2) = m ((c.tc : Thread Cert.L1InIdeal.nD Cert.L1InIdeal.τ).loc Cert.L1InIdeal.main_arg2)
      ∧ m' ((c.tc : Thread Cert.L1InRefIdeal.nD Cert.L1InRefIdeal.τ).loc Cert.L1InRefIdeal.main_arg3) = m ((c.tc : Thread Cert.L1InIdeal.nD Cert.L1InIdeal.τ).loc Cert.L1InIdeal.main_arg3)) →
    ∃ (v0 : (c : Dev Cert.L1InIdeal.nD) → Buf (Elt Ideal) ((c.tc : Thread Cert.L1InIdeal.nD Cert.L1InIdeal.τ).loc Cert.L1InIdeal.main_v1_0)) (v1 : (c : Dev Cert.L1InIdeal.nD) → Buf (Elt Ideal) ((c.tc : Thread Cert.L1InIdeal.nD Cert.L1InIdeal.τ).loc Cert.L1InIdeal.main_v1_1)) (v2 : (c : Dev Cert.L1InIdeal.nD) → Buf (Elt Ideal) ((c.tc : Thread Cert.L1InIdeal.nD Cert.L1InIdeal.τ).loc Cert.L1InIdeal.main_v1_2)) (v3 : (c : Dev Cert.L1InIdeal.nD) → Buf (Elt Ideal) ((c.tc : Thread Cert.L1InIdeal.nD Cert.L1InIdeal.τ).loc Cert.L1InIdeal.main_v1_3)),
      θ_run (Cert.L1InIdeal.defs (F := Ideal)) (onTc (τ := Cert.L1InIdeal.τ) (Cert.L1InIdeal.main (F := Ideal))) ⟨m, fun _ => 0, g⟩ (fun r => ∀ c : Dev Cert.L1InIdeal.nD,
          r.2.mem ((c.tc : Thread Cert.L1InIdeal.nD Cert.L1InIdeal.τ).loc Cert.L1InIdeal.main_v1_0) = v0 c
          ∧ r.2.mem ((c.tc : Thread Cert.L1InIdeal.nD Cert.L1InIdeal.τ).loc Cert.L1InIdeal.main_v1_1) = v1 c
          ∧ r.2.mem ((c.tc : Thread Cert.L1InIdeal.nD Cert.L1InIdeal.τ).loc Cert.L1InIdeal.main_v1_2) = v2 c
          ∧ r.2.mem ((c.tc : Thread Cert.L1InIdeal.nD Cert.L1InIdeal.τ).loc Cert.L1InIdeal.main_v1_3) = v3 c
          ∧ r.2.mem ((c.tc : Thread Cert.L1InIdeal.nD Cert.L1InIdeal.τ).loc Cert.L1InIdeal.main_arg0) = m ((c.tc : Thread Cert.L1InIdeal.nD Cert.L1InIdeal.τ).loc Cert.L1InIdeal.main_arg0)
          ∧ r.2.mem ((c.tc : Thread Cert.L1InIdeal.nD Cert.L1InIdeal.τ).loc Cert.L1InIdeal.main_arg1) = m ((c.tc : Thread Cert.L1InIdeal.nD Cert.L1InIdeal.τ).loc Cert.L1InIdeal.main_arg1)
          ∧ r.2.mem ((c.tc : Thread Cert.L1InIdeal.nD Cert.L1InIdeal.τ).loc Cert.L1InIdeal.main_arg2) = m ((c.tc : Thread Cert.L1InIdeal.nD Cert.L1InIdeal.τ).loc Cert.L1InIdeal.main_arg2)
          ∧ r.2.mem ((c.tc : Thread Cert.L1InIdeal.nD Cert.L1InIdeal.τ).loc Cert.L1InIdeal.main_arg3) = m ((c.tc : Thread Cert.L1InIdeal.nD Cert.L1InIdeal.τ).loc Cert.L1InIdeal.main_arg3))
      ∧ θ_run (Cert.L1InRefIdeal.defs (F := Ideal)) (onTc (τ := Cert.L1InRefIdeal.τ) (Cert.L1InRefIdeal.main (F := Ideal))) ⟨m', fun _ => 0, g'⟩ (fun r => ∀ c : Dev Cert.L1InRefIdeal.nD,
          r.2.mem ((c.tc : Thread Cert.L1InRefIdeal.nD Cert.L1InRefIdeal.τ).loc Cert.L1InRefIdeal.main_v32) = v0 c
          ∧ r.2.mem ((c.tc : Thread Cert.L1InRefIdeal.nD Cert.L1InRefIdeal.τ).loc Cert.L1InRefIdeal.main_v35) = v1 c
          ∧ r.2.mem ((c.tc : Thread Cert.L1InRefIdeal.nD Cert.L1InRefIdeal.τ).loc Cert.L1InRefIdeal.main_v36) = v2 c
          ∧ r.2.mem ((c.tc : Thread Cert.L1InRefIdeal.nD Cert.L1InRefIdeal.τ).loc Cert.L1InRefIdeal.main_v38) = v3 c
          ∧ r.2.mem ((c.tc : Thread Cert.L1InRefIdeal.nD Cert.L1InRefIdeal.τ).loc Cert.L1InRefIdeal.main_arg0) = m' ((c.tc : Thread Cert.L1InRefIdeal.nD Cert.L1InRefIdeal.τ).loc Cert.L1InRefIdeal.main_arg0)
          ∧ r.2.mem ((c.tc : Thread Cert.L1InRefIdeal.nD Cert.L1InRefIdeal.τ).loc Cert.L1InRefIdeal.main_arg1) = m' ((c.tc : Thread Cert.L1InRefIdeal.nD Cert.L1InRefIdeal.τ).loc Cert.L1InRefIdeal.main_arg1)
          ∧ r.2.mem ((c.tc : Thread Cert.L1InRefIdeal.nD Cert.L1InRefIdeal.τ).loc Cert.L1InRefIdeal.main_arg2) = m' ((c.tc : Thread Cert.L1InRefIdeal.nD Cert.L1InRefIdeal.τ).loc Cert.L1InRefIdeal.main_arg2)
          ∧ r.2.mem ((c.tc : Thread Cert.L1InRefIdeal.nD Cert.L1InRefIdeal.τ).loc Cert.L1InRefIdeal.main_arg3) = m' ((c.tc : Thread Cert.L1InRefIdeal.nD Cert.L1InRefIdeal.τ).loc Cert.L1InRefIdeal.main_arg3))

def preserves_L0In_L0InIdeal : Prop :=
  True

def algebraic_L0InIdeal_L0InRefIdeal_pre_finite6 [hL0InIdeal : Cert.L0InIdeal.Facts] [hL0InRefIdeal : Cert.L0InRefIdeal.Facts] [hPre_finite6 : Cert.Pre_finite6.Facts] : Prop :=
  ∀ (m : (ℓ : Loc Cert.L0InIdeal.nD Cert.L0InIdeal.τ Cert.L0InIdeal.sig) → Buf (Elt Ideal) ℓ) (g : Dev Cert.L0InIdeal.nD → PrngReg)
    (m' : (ℓ : Loc Cert.L0InRefIdeal.nD Cert.L0InRefIdeal.τ Cert.L0InRefIdeal.sig) → Buf (Elt Ideal) ℓ) (g' : Dev Cert.L0InRefIdeal.nD → PrngReg), Pre_L0InIdeal_finite6 m →
    (∀ c : Dev Cert.L0InIdeal.nD,
      m' ((c.tc : Thread Cert.L0InRefIdeal.nD Cert.L0InRefIdeal.τ).loc Cert.L0InRefIdeal.main_arg0) = m ((c.tc : Thread Cert.L0InIdeal.nD Cert.L0InIdeal.τ).loc Cert.L0InIdeal.main_arg0)
      ∧ m' ((c.tc : Thread Cert.L0InRefIdeal.nD Cert.L0InRefIdeal.τ).loc Cert.L0InRefIdeal.main_arg1) = m ((c.tc : Thread Cert.L0InIdeal.nD Cert.L0InIdeal.τ).loc Cert.L0InIdeal.main_arg1)
      ∧ m' ((c.tc : Thread Cert.L0InRefIdeal.nD Cert.L0InRefIdeal.τ).loc Cert.L0InRefIdeal.main_arg2) = m ((c.tc : Thread Cert.L0InIdeal.nD Cert.L0InIdeal.τ).loc Cert.L0InIdeal.main_arg2)
      ∧ m' ((c.tc : Thread Cert.L0InRefIdeal.nD Cert.L0InRefIdeal.τ).loc Cert.L0InRefIdeal.main_arg3) = m ((c.tc : Thread Cert.L0InIdeal.nD Cert.L0InIdeal.τ).loc Cert.L0InIdeal.main_arg3)
      ∧ m' ((c.tc : Thread Cert.L0InRefIdeal.nD Cert.L0InRefIdeal.τ).loc Cert.L0InRefIdeal.main_arg4) = m ((c.tc : Thread Cert.L0InIdeal.nD Cert.L0InIdeal.τ).loc Cert.L0InIdeal.main_arg4)
      ∧ m' ((c.tc : Thread Cert.L0InRefIdeal.nD Cert.L0InRefIdeal.τ).loc Cert.L0InRefIdeal.main_arg5) = m ((c.tc : Thread Cert.L0InIdeal.nD Cert.L0InIdeal.τ).loc Cert.L0InIdeal.main_arg5)) →
    ∃ (v0 : (c : Dev Cert.L0InIdeal.nD) → Buf (Elt Ideal) ((c.tc : Thread Cert.L0InIdeal.nD Cert.L0InIdeal.τ).loc Cert.L0InIdeal.main_v27_0)) (v1 : (c : Dev Cert.L0InIdeal.nD) → Buf (Elt Ideal) ((c.tc : Thread Cert.L0InIdeal.nD Cert.L0InIdeal.τ).loc Cert.L0InIdeal.main_v27_1)) (v2 : (c : Dev Cert.L0InIdeal.nD) → Buf (Elt Ideal) ((c.tc : Thread Cert.L0InIdeal.nD Cert.L0InIdeal.τ).loc Cert.L0InIdeal.main_v27_2)) (v3 : (c : Dev Cert.L0InIdeal.nD) → Buf (Elt Ideal) ((c.tc : Thread Cert.L0InIdeal.nD Cert.L0InIdeal.τ).loc Cert.L0InIdeal.main_v27_3)) (v4 : (c : Dev Cert.L0InIdeal.nD) → Buf (Elt Ideal) ((c.tc : Thread Cert.L0InIdeal.nD Cert.L0InIdeal.τ).loc Cert.L0InIdeal.main_v27_4)) (v5 : (c : Dev Cert.L0InIdeal.nD) → Buf (Elt Ideal) ((c.tc : Thread Cert.L0InIdeal.nD Cert.L0InIdeal.τ).loc Cert.L0InIdeal.main_v27_5)) (v6 : (c : Dev Cert.L0InIdeal.nD) → Buf (Elt Ideal) ((c.tc : Thread Cert.L0InIdeal.nD Cert.L0InIdeal.τ).loc Cert.L0InIdeal.main_v27_6)) (v7 : (c : Dev Cert.L0InIdeal.nD) → Buf (Elt Ideal) ((c.tc : Thread Cert.L0InIdeal.nD Cert.L0InIdeal.τ).loc Cert.L0InIdeal.main_v27_7)),
      θ_run (Cert.L0InIdeal.defs (F := Ideal)) (onTc (τ := Cert.L0InIdeal.τ) (Cert.L0InIdeal.main (F := Ideal))) ⟨m, fun _ => 0, g⟩ (fun r => ∀ c : Dev Cert.L0InIdeal.nD,
          r.2.mem ((c.tc : Thread Cert.L0InIdeal.nD Cert.L0InIdeal.τ).loc Cert.L0InIdeal.main_v27_0) = v0 c
          ∧ r.2.mem ((c.tc : Thread Cert.L0InIdeal.nD Cert.L0InIdeal.τ).loc Cert.L0InIdeal.main_v27_1) = v1 c
          ∧ r.2.mem ((c.tc : Thread Cert.L0InIdeal.nD Cert.L0InIdeal.τ).loc Cert.L0InIdeal.main_v27_2) = v2 c
          ∧ r.2.mem ((c.tc : Thread Cert.L0InIdeal.nD Cert.L0InIdeal.τ).loc Cert.L0InIdeal.main_v27_3) = v3 c
          ∧ r.2.mem ((c.tc : Thread Cert.L0InIdeal.nD Cert.L0InIdeal.τ).loc Cert.L0InIdeal.main_v27_4) = v4 c
          ∧ r.2.mem ((c.tc : Thread Cert.L0InIdeal.nD Cert.L0InIdeal.τ).loc Cert.L0InIdeal.main_v27_5) = v5 c
          ∧ r.2.mem ((c.tc : Thread Cert.L0InIdeal.nD Cert.L0InIdeal.τ).loc Cert.L0InIdeal.main_v27_6) = v6 c
          ∧ r.2.mem ((c.tc : Thread Cert.L0InIdeal.nD Cert.L0InIdeal.τ).loc Cert.L0InIdeal.main_v27_7) = v7 c
          ∧ r.2.mem ((c.tc : Thread Cert.L0InIdeal.nD Cert.L0InIdeal.τ).loc Cert.L0InIdeal.main_arg0) = m ((c.tc : Thread Cert.L0InIdeal.nD Cert.L0InIdeal.τ).loc Cert.L0InIdeal.main_arg0)
          ∧ r.2.mem ((c.tc : Thread Cert.L0InIdeal.nD Cert.L0InIdeal.τ).loc Cert.L0InIdeal.main_arg1) = m ((c.tc : Thread Cert.L0InIdeal.nD Cert.L0InIdeal.τ).loc Cert.L0InIdeal.main_arg1)
          ∧ r.2.mem ((c.tc : Thread Cert.L0InIdeal.nD Cert.L0InIdeal.τ).loc Cert.L0InIdeal.main_arg2) = m ((c.tc : Thread Cert.L0InIdeal.nD Cert.L0InIdeal.τ).loc Cert.L0InIdeal.main_arg2)
          ∧ r.2.mem ((c.tc : Thread Cert.L0InIdeal.nD Cert.L0InIdeal.τ).loc Cert.L0InIdeal.main_arg3) = m ((c.tc : Thread Cert.L0InIdeal.nD Cert.L0InIdeal.τ).loc Cert.L0InIdeal.main_arg3)
          ∧ r.2.mem ((c.tc : Thread Cert.L0InIdeal.nD Cert.L0InIdeal.τ).loc Cert.L0InIdeal.main_arg4) = m ((c.tc : Thread Cert.L0InIdeal.nD Cert.L0InIdeal.τ).loc Cert.L0InIdeal.main_arg4)
          ∧ r.2.mem ((c.tc : Thread Cert.L0InIdeal.nD Cert.L0InIdeal.τ).loc Cert.L0InIdeal.main_arg5) = m ((c.tc : Thread Cert.L0InIdeal.nD Cert.L0InIdeal.τ).loc Cert.L0InIdeal.main_arg5))
      ∧ θ_run (Cert.L0InRefIdeal.defs (F := Ideal)) (onTc (τ := Cert.L0InRefIdeal.τ) (Cert.L0InRefIdeal.main (F := Ideal))) ⟨m', fun _ => 0, g'⟩ (fun r => ∀ c : Dev Cert.L0InRefIdeal.nD,
          r.2.mem ((c.tc : Thread Cert.L0InRefIdeal.nD Cert.L0InRefIdeal.τ).loc Cert.L0InRefIdeal.main_v69) = v0 c
          ∧ r.2.mem ((c.tc : Thread Cert.L0InRefIdeal.nD Cert.L0InRefIdeal.τ).loc Cert.L0InRefIdeal.main_v71) = v1 c
          ∧ r.2.mem ((c.tc : Thread Cert.L0InRefIdeal.nD Cert.L0InRefIdeal.τ).loc Cert.L0InRefIdeal.main_v74) = v2 c
          ∧ r.2.mem ((c.tc : Thread Cert.L0InRefIdeal.nD Cert.L0InRefIdeal.τ).loc Cert.L0InRefIdeal.main_v75) = v3 c
          ∧ r.2.mem ((c.tc : Thread Cert.L0InRefIdeal.nD Cert.L0InRefIdeal.τ).loc Cert.L0InRefIdeal.main_v32) = v4 c
          ∧ r.2.mem ((c.tc : Thread Cert.L0InRefIdeal.nD Cert.L0InRefIdeal.τ).loc Cert.L0InRefIdeal.main_v33) = v5 c
          ∧ r.2.mem ((c.tc : Thread Cert.L0InRefIdeal.nD Cert.L0InRefIdeal.τ).loc Cert.L0InRefIdeal.main_v77) = v6 c
          ∧ r.2.mem ((c.tc : Thread Cert.L0InRefIdeal.nD Cert.L0InRefIdeal.τ).loc Cert.L0InRefIdeal.main_v79) = v7 c
          ∧ r.2.mem ((c.tc : Thread Cert.L0InRefIdeal.nD Cert.L0InRefIdeal.τ).loc Cert.L0InRefIdeal.main_arg0) = m' ((c.tc : Thread Cert.L0InRefIdeal.nD Cert.L0InRefIdeal.τ).loc Cert.L0InRefIdeal.main_arg0)
          ∧ r.2.mem ((c.tc : Thread Cert.L0InRefIdeal.nD Cert.L0InRefIdeal.τ).loc Cert.L0InRefIdeal.main_arg1) = m' ((c.tc : Thread Cert.L0InRefIdeal.nD Cert.L0InRefIdeal.τ).loc Cert.L0InRefIdeal.main_arg1)
          ∧ r.2.mem ((c.tc : Thread Cert.L0InRefIdeal.nD Cert.L0InRefIdeal.τ).loc Cert.L0InRefIdeal.main_arg2) = m' ((c.tc : Thread Cert.L0InRefIdeal.nD Cert.L0InRefIdeal.τ).loc Cert.L0InRefIdeal.main_arg2)
          ∧ r.2.mem ((c.tc : Thread Cert.L0InRefIdeal.nD Cert.L0InRefIdeal.τ).loc Cert.L0InRefIdeal.main_arg3) = m' ((c.tc : Thread Cert.L0InRefIdeal.nD Cert.L0InRefIdeal.τ).loc Cert.L0InRefIdeal.main_arg3)
          ∧ r.2.mem ((c.tc : Thread Cert.L0InRefIdeal.nD Cert.L0InRefIdeal.τ).loc Cert.L0InRefIdeal.main_arg4) = m' ((c.tc : Thread Cert.L0InRefIdeal.nD Cert.L0InRefIdeal.τ).loc Cert.L0InRefIdeal.main_arg4)
          ∧ r.2.mem ((c.tc : Thread Cert.L0InRefIdeal.nD Cert.L0InRefIdeal.τ).loc Cert.L0InRefIdeal.main_arg5) = m' ((c.tc : Thread Cert.L0InRefIdeal.nD Cert.L0InRefIdeal.τ).loc Cert.L0InRefIdeal.main_arg5))

def preserves_PostS_PostSIdeal : Prop :=
  True

def algebraic_PostSIdeal_PostSRefIdeal_pre_finite7 [hPostSIdeal : Cert.PostSIdeal.Facts] [hPostSRefIdeal : Cert.PostSRefIdeal.Facts] [hPre_finite7 : Cert.Pre_finite7.Facts] : Prop :=
  ∀ (m : (ℓ : Loc Cert.PostSIdeal.nD Cert.PostSIdeal.τ Cert.PostSIdeal.sig) → Buf (Elt Ideal) ℓ) (g : Dev Cert.PostSIdeal.nD → PrngReg)
    (m' : (ℓ : Loc Cert.PostSRefIdeal.nD Cert.PostSRefIdeal.τ Cert.PostSRefIdeal.sig) → Buf (Elt Ideal) ℓ) (g' : Dev Cert.PostSRefIdeal.nD → PrngReg), Pre_PostSIdeal_finite7 m →
    (∀ c : Dev Cert.PostSIdeal.nD,
      m' ((c.tc : Thread Cert.PostSRefIdeal.nD Cert.PostSRefIdeal.τ).loc Cert.PostSRefIdeal.main_arg0) = m ((c.tc : Thread Cert.PostSIdeal.nD Cert.PostSIdeal.τ).loc Cert.PostSIdeal.main_arg0)
      ∧ m' ((c.tc : Thread Cert.PostSRefIdeal.nD Cert.PostSRefIdeal.τ).loc Cert.PostSRefIdeal.main_arg1) = m ((c.tc : Thread Cert.PostSIdeal.nD Cert.PostSIdeal.τ).loc Cert.PostSIdeal.main_arg1)
      ∧ m' ((c.tc : Thread Cert.PostSRefIdeal.nD Cert.PostSRefIdeal.τ).loc Cert.PostSRefIdeal.main_arg2) = m ((c.tc : Thread Cert.PostSIdeal.nD Cert.PostSIdeal.τ).loc Cert.PostSIdeal.main_arg2)
      ∧ m' ((c.tc : Thread Cert.PostSRefIdeal.nD Cert.PostSRefIdeal.τ).loc Cert.PostSRefIdeal.main_arg3) = m ((c.tc : Thread Cert.PostSIdeal.nD Cert.PostSIdeal.τ).loc Cert.PostSIdeal.main_arg3)
      ∧ m' ((c.tc : Thread Cert.PostSRefIdeal.nD Cert.PostSRefIdeal.τ).loc Cert.PostSRefIdeal.main_arg4) = m ((c.tc : Thread Cert.PostSIdeal.nD Cert.PostSIdeal.τ).loc Cert.PostSIdeal.main_arg4)
      ∧ m' ((c.tc : Thread Cert.PostSRefIdeal.nD Cert.PostSRefIdeal.τ).loc Cert.PostSRefIdeal.main_arg5) = m ((c.tc : Thread Cert.PostSIdeal.nD Cert.PostSIdeal.τ).loc Cert.PostSIdeal.main_arg5)
      ∧ m' ((c.tc : Thread Cert.PostSRefIdeal.nD Cert.PostSRefIdeal.τ).loc Cert.PostSRefIdeal.main_arg6) = m ((c.tc : Thread Cert.PostSIdeal.nD Cert.PostSIdeal.τ).loc Cert.PostSIdeal.main_arg6)
      ∧ m' ((c.tc : Thread Cert.PostSRefIdeal.nD Cert.PostSRefIdeal.τ).loc Cert.PostSRefIdeal.main_arg7) = m ((c.tc : Thread Cert.PostSIdeal.nD Cert.PostSIdeal.τ).loc Cert.PostSIdeal.main_arg7)
      ∧ m' ((c.tc : Thread Cert.PostSRefIdeal.nD Cert.PostSRefIdeal.τ).loc Cert.PostSRefIdeal.main_arg8) = m ((c.tc : Thread Cert.PostSIdeal.nD Cert.PostSIdeal.τ).loc Cert.PostSIdeal.main_arg8)
      ∧ m' ((c.tc : Thread Cert.PostSRefIdeal.nD Cert.PostSRefIdeal.τ).loc Cert.PostSRefIdeal.main_arg9) = m ((c.tc : Thread Cert.PostSIdeal.nD Cert.PostSIdeal.τ).loc Cert.PostSIdeal.main_arg9)
      ∧ m' ((c.tc : Thread Cert.PostSRefIdeal.nD Cert.PostSRefIdeal.τ).loc Cert.PostSRefIdeal.main_arg10) = m ((c.tc : Thread Cert.PostSIdeal.nD Cert.PostSIdeal.τ).loc Cert.PostSIdeal.main_arg10)
      ∧ m' ((c.tc : Thread Cert.PostSRefIdeal.nD Cert.PostSRefIdeal.τ).loc Cert.PostSRefIdeal.main_arg11) = m ((c.tc : Thread Cert.PostSIdeal.nD Cert.PostSIdeal.τ).loc Cert.PostSIdeal.main_arg11)) →
    ∃ (v0 : (c : Dev Cert.PostSIdeal.nD) → Buf (Elt Ideal) ((c.tc : Thread Cert.PostSIdeal.nD Cert.PostSIdeal.τ).loc Cert.PostSIdeal.main_v3)),
      θ_run (Cert.PostSIdeal.defs (F := Ideal)) (onTc (τ := Cert.PostSIdeal.τ) (Cert.PostSIdeal.main (F := Ideal))) ⟨m, fun _ => 0, g⟩ (fun r => ∀ c : Dev Cert.PostSIdeal.nD,
          r.2.mem ((c.tc : Thread Cert.PostSIdeal.nD Cert.PostSIdeal.τ).loc Cert.PostSIdeal.main_v3) = v0 c
          ∧ r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
          ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
          ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
          ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
          ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
          ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
          ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6)
          ∧ r.2.mem ((c.tc : Thread Cert.PostSIdeal.nD Cert.PostSIdeal.τ).loc Cert.PostSIdeal.main_arg7) = m ((c.tc : Thread Cert.PostSIdeal.nD Cert.PostSIdeal.τ).loc Cert.PostSIdeal.main_arg7)
          ∧ r.2.mem ((c.tc : Thread Cert.PostSIdeal.nD Cert.PostSIdeal.τ).loc Cert.PostSIdeal.main_arg8) = m ((c.tc : Thread Cert.PostSIdeal.nD Cert.PostSIdeal.τ).loc Cert.PostSIdeal.main_arg8)
          ∧ r.2.mem ((c.tc : Thread Cert.PostSIdeal.nD Cert.PostSIdeal.τ).loc Cert.PostSIdeal.main_arg9) = m ((c.tc : Thread Cert.PostSIdeal.nD Cert.PostSIdeal.τ).loc Cert.PostSIdeal.main_arg9)
          ∧ r.2.mem ((c.tc : Thread Cert.PostSIdeal.nD Cert.PostSIdeal.τ).loc Cert.PostSIdeal.main_arg10) = m ((c.tc : Thread Cert.PostSIdeal.nD Cert.PostSIdeal.τ).loc Cert.PostSIdeal.main_arg10)
          ∧ r.2.mem ((c.tc : Thread Cert.PostSIdeal.nD Cert.PostSIdeal.τ).loc Cert.PostSIdeal.main_arg11) = m ((c.tc : Thread Cert.PostSIdeal.nD Cert.PostSIdeal.τ).loc Cert.PostSIdeal.main_arg11))
      ∧ θ_run (Cert.PostSRefIdeal.defs (F := Ideal)) (onTc (τ := Cert.PostSRefIdeal.τ) (Cert.PostSRefIdeal.main (F := Ideal))) ⟨m', fun _ => 0, g'⟩ (fun r => ∀ c : Dev Cert.PostSRefIdeal.nD,
          r.2.mem ((c.tc : Thread Cert.PostSRefIdeal.nD Cert.PostSRefIdeal.τ).loc Cert.PostSRefIdeal.main_v72) = v0 c
          ∧ r.2.mem ((c.tc : Thread Cert.PostSRefIdeal.nD Cert.PostSRefIdeal.τ).loc Cert.PostSRefIdeal.main_arg0) = m' ((c.tc : Thread Cert.PostSRefIdeal.nD Cert.PostSRefIdeal.τ).loc Cert.PostSRefIdeal.main_arg0)
          ∧ r.2.mem ((c.tc : Thread Cert.PostSRefIdeal.nD Cert.PostSRefIdeal.τ).loc Cert.PostSRefIdeal.main_arg1) = m' ((c.tc : Thread Cert.PostSRefIdeal.nD Cert.PostSRefIdeal.τ).loc Cert.PostSRefIdeal.main_arg1)
          ∧ r.2.mem ((c.tc : Thread Cert.PostSRefIdeal.nD Cert.PostSRefIdeal.τ).loc Cert.PostSRefIdeal.main_arg2) = m' ((c.tc : Thread Cert.PostSRefIdeal.nD Cert.PostSRefIdeal.τ).loc Cert.PostSRefIdeal.main_arg2)
          ∧ r.2.mem ((c.tc : Thread Cert.PostSRefIdeal.nD Cert.PostSRefIdeal.τ).loc Cert.PostSRefIdeal.main_arg3) = m' ((c.tc : Thread Cert.PostSRefIdeal.nD Cert.PostSRefIdeal.τ).loc Cert.PostSRefIdeal.main_arg3)
          ∧ r.2.mem ((c.tc : Thread Cert.PostSRefIdeal.nD Cert.PostSRefIdeal.τ).loc Cert.PostSRefIdeal.main_arg4) = m' ((c.tc : Thread Cert.PostSRefIdeal.nD Cert.PostSRefIdeal.τ).loc Cert.PostSRefIdeal.main_arg4)
          ∧ r.2.mem ((c.tc : Thread Cert.PostSRefIdeal.nD Cert.PostSRefIdeal.τ).loc Cert.PostSRefIdeal.main_arg5) = m' ((c.tc : Thread Cert.PostSRefIdeal.nD Cert.PostSRefIdeal.τ).loc Cert.PostSRefIdeal.main_arg5)
          ∧ r.2.mem ((c.tc : Thread Cert.PostSRefIdeal.nD Cert.PostSRefIdeal.τ).loc Cert.PostSRefIdeal.main_arg6) = m' ((c.tc : Thread Cert.PostSRefIdeal.nD Cert.PostSRefIdeal.τ).loc Cert.PostSRefIdeal.main_arg6)
          ∧ r.2.mem ((c.tc : Thread Cert.PostSRefIdeal.nD Cert.PostSRefIdeal.τ).loc Cert.PostSRefIdeal.main_arg7) = m' ((c.tc : Thread Cert.PostSRefIdeal.nD Cert.PostSRefIdeal.τ).loc Cert.PostSRefIdeal.main_arg7)
          ∧ r.2.mem ((c.tc : Thread Cert.PostSRefIdeal.nD Cert.PostSRefIdeal.τ).loc Cert.PostSRefIdeal.main_arg8) = m' ((c.tc : Thread Cert.PostSRefIdeal.nD Cert.PostSRefIdeal.τ).loc Cert.PostSRefIdeal.main_arg8)
          ∧ r.2.mem ((c.tc : Thread Cert.PostSRefIdeal.nD Cert.PostSRefIdeal.τ).loc Cert.PostSRefIdeal.main_arg9) = m' ((c.tc : Thread Cert.PostSRefIdeal.nD Cert.PostSRefIdeal.τ).loc Cert.PostSRefIdeal.main_arg9)
          ∧ r.2.mem ((c.tc : Thread Cert.PostSRefIdeal.nD Cert.PostSRefIdeal.τ).loc Cert.PostSRefIdeal.main_arg10) = m' ((c.tc : Thread Cert.PostSRefIdeal.nD Cert.PostSRefIdeal.τ).loc Cert.PostSRefIdeal.main_arg10)
          ∧ r.2.mem ((c.tc : Thread Cert.PostSRefIdeal.nD Cert.PostSRefIdeal.τ).loc Cert.PostSRefIdeal.main_arg11) = m' ((c.tc : Thread Cert.PostSRefIdeal.nD Cert.PostSRefIdeal.τ).loc Cert.PostSRefIdeal.main_arg11))

def preserves_Ada_AdaIdeal : Prop :=
  True

def algebraic_AdaIdeal_AdaRefIdeal_pre_finite8 [hAdaIdeal : Cert.AdaIdeal.Facts] [hAdaRefIdeal : Cert.AdaRefIdeal.Facts] [hPre_finite8 : Cert.Pre_finite8.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal_finite8 m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v4) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Cast_CastIdeal : Prop :=
  True

def algebraic_CastIdeal_CastRefIdeal [hCastIdeal : Cert.CastIdeal.Facts] [hCastRefIdeal : Cert.CastRefIdeal.Facts] : Prop :=
  ∀ (m : (ℓ : Loc Cert.CastIdeal.nD Cert.CastIdeal.τ Cert.CastIdeal.sig) → Buf (Elt Ideal) ℓ) (g : Dev Cert.CastIdeal.nD → PrngReg)
    (m' : (ℓ : Loc Cert.CastRefIdeal.nD Cert.CastRefIdeal.τ Cert.CastRefIdeal.sig) → Buf (Elt Ideal) ℓ) (g' : Dev Cert.CastRefIdeal.nD → PrngReg), Pre_CastIdeal m →
    (∀ c : Dev Cert.CastIdeal.nD,
      m' ((c.tc : Thread Cert.CastRefIdeal.nD Cert.CastRefIdeal.τ).loc Cert.CastRefIdeal.main_arg0) = m ((c.tc : Thread Cert.CastIdeal.nD Cert.CastIdeal.τ).loc Cert.CastIdeal.main_arg0)
      ∧ m' ((c.tc : Thread Cert.CastRefIdeal.nD Cert.CastRefIdeal.τ).loc Cert.CastRefIdeal.main_arg1) = m ((c.tc : Thread Cert.CastIdeal.nD Cert.CastIdeal.τ).loc Cert.CastIdeal.main_arg1)
      ∧ m' ((c.tc : Thread Cert.CastRefIdeal.nD Cert.CastRefIdeal.τ).loc Cert.CastRefIdeal.main_arg2) = m ((c.tc : Thread Cert.CastIdeal.nD Cert.CastIdeal.τ).loc Cert.CastIdeal.main_arg2)
      ∧ m' ((c.tc : Thread Cert.CastRefIdeal.nD Cert.CastRefIdeal.τ).loc Cert.CastRefIdeal.main_arg3) = m ((c.tc : Thread Cert.CastIdeal.nD Cert.CastIdeal.τ).loc Cert.CastIdeal.main_arg3)
      ∧ m' ((c.tc : Thread Cert.CastRefIdeal.nD Cert.CastRefIdeal.τ).loc Cert.CastRefIdeal.main_arg4) = m ((c.tc : Thread Cert.CastIdeal.nD Cert.CastIdeal.τ).loc Cert.CastIdeal.main_arg4)
      ∧ m' ((c.tc : Thread Cert.CastRefIdeal.nD Cert.CastRefIdeal.τ).loc Cert.CastRefIdeal.main_arg5) = m ((c.tc : Thread Cert.CastIdeal.nD Cert.CastIdeal.τ).loc Cert.CastIdeal.main_arg5)
      ∧ m' ((c.tc : Thread Cert.CastRefIdeal.nD Cert.CastRefIdeal.τ).loc Cert.CastRefIdeal.main_arg6) = m ((c.tc : Thread Cert.CastIdeal.nD Cert.CastIdeal.τ).loc Cert.CastIdeal.main_arg6)
      ∧ m' ((c.tc : Thread Cert.CastRefIdeal.nD Cert.CastRefIdeal.τ).loc Cert.CastRefIdeal.main_arg7) = m ((c.tc : Thread Cert.CastIdeal.nD Cert.CastIdeal.τ).loc Cert.CastIdeal.main_arg7)
      ∧ m' ((c.tc : Thread Cert.CastRefIdeal.nD Cert.CastRefIdeal.τ).loc Cert.CastRefIdeal.main_arg8) = m ((c.tc : Thread Cert.CastIdeal.nD Cert.CastIdeal.τ).loc Cert.CastIdeal.main_arg8)
      ∧ m' ((c.tc : Thread Cert.CastRefIdeal.nD Cert.CastRefIdeal.τ).loc Cert.CastRefIdeal.main_arg9) = m ((c.tc : Thread Cert.CastIdeal.nD Cert.CastIdeal.τ).loc Cert.CastIdeal.main_arg9)) →
    ∃ (v0 : (c : Dev Cert.CastIdeal.nD) → Buf (Elt Ideal) ((c.tc : Thread Cert.CastIdeal.nD Cert.CastIdeal.τ).loc Cert.CastIdeal.main_v0_0)) (v1 : (c : Dev Cert.CastIdeal.nD) → Buf (Elt Ideal) ((c.tc : Thread Cert.CastIdeal.nD Cert.CastIdeal.τ).loc Cert.CastIdeal.main_v0_1)) (v2 : (c : Dev Cert.CastIdeal.nD) → Buf (Elt Ideal) ((c.tc : Thread Cert.CastIdeal.nD Cert.CastIdeal.τ).loc Cert.CastIdeal.main_v0_2)) (v3 : (c : Dev Cert.CastIdeal.nD) → Buf (Elt Ideal) ((c.tc : Thread Cert.CastIdeal.nD Cert.CastIdeal.τ).loc Cert.CastIdeal.main_v0_3)) (v4 : (c : Dev Cert.CastIdeal.nD) → Buf (Elt Ideal) ((c.tc : Thread Cert.CastIdeal.nD Cert.CastIdeal.τ).loc Cert.CastIdeal.main_v0_4)) (v5 : (c : Dev Cert.CastIdeal.nD) → Buf (Elt Ideal) ((c.tc : Thread Cert.CastIdeal.nD Cert.CastIdeal.τ).loc Cert.CastIdeal.main_v0_5)) (v6 : (c : Dev Cert.CastIdeal.nD) → Buf (Elt Ideal) ((c.tc : Thread Cert.CastIdeal.nD Cert.CastIdeal.τ).loc Cert.CastIdeal.main_v0_6)) (v7 : (c : Dev Cert.CastIdeal.nD) → Buf (Elt Ideal) ((c.tc : Thread Cert.CastIdeal.nD Cert.CastIdeal.τ).loc Cert.CastIdeal.main_v0_7)) (v8 : (c : Dev Cert.CastIdeal.nD) → Buf (Elt Ideal) ((c.tc : Thread Cert.CastIdeal.nD Cert.CastIdeal.τ).loc Cert.CastIdeal.main_v0_8)) (v9 : (c : Dev Cert.CastIdeal.nD) → Buf (Elt Ideal) ((c.tc : Thread Cert.CastIdeal.nD Cert.CastIdeal.τ).loc Cert.CastIdeal.main_v0_9)),
      θ_run (Cert.CastIdeal.defs (F := Ideal)) (onTc (τ := Cert.CastIdeal.τ) (Cert.CastIdeal.main (F := Ideal))) ⟨m, fun _ => 0, g⟩ (fun r => ∀ c : Dev Cert.CastIdeal.nD,
          r.2.mem ((c.tc : Thread Cert.CastIdeal.nD Cert.CastIdeal.τ).loc Cert.CastIdeal.main_v0_0) = v0 c
          ∧ r.2.mem ((c.tc : Thread Cert.CastIdeal.nD Cert.CastIdeal.τ).loc Cert.CastIdeal.main_v0_1) = v1 c
          ∧ r.2.mem ((c.tc : Thread Cert.CastIdeal.nD Cert.CastIdeal.τ).loc Cert.CastIdeal.main_v0_2) = v2 c
          ∧ r.2.mem ((c.tc : Thread Cert.CastIdeal.nD Cert.CastIdeal.τ).loc Cert.CastIdeal.main_v0_3) = v3 c
          ∧ r.2.mem ((c.tc : Thread Cert.CastIdeal.nD Cert.CastIdeal.τ).loc Cert.CastIdeal.main_v0_4) = v4 c
          ∧ r.2.mem ((c.tc : Thread Cert.CastIdeal.nD Cert.CastIdeal.τ).loc Cert.CastIdeal.main_v0_5) = v5 c
          ∧ r.2.mem ((c.tc : Thread Cert.CastIdeal.nD Cert.CastIdeal.τ).loc Cert.CastIdeal.main_v0_6) = v6 c
          ∧ r.2.mem ((c.tc : Thread Cert.CastIdeal.nD Cert.CastIdeal.τ).loc Cert.CastIdeal.main_v0_7) = v7 c
          ∧ r.2.mem ((c.tc : Thread Cert.CastIdeal.nD Cert.CastIdeal.τ).loc Cert.CastIdeal.main_v0_8) = v8 c
          ∧ r.2.mem ((c.tc : Thread Cert.CastIdeal.nD Cert.CastIdeal.τ).loc Cert.CastIdeal.main_v0_9) = v9 c
          ∧ r.2.mem ((c.tc : Thread Cert.CastIdeal.nD Cert.CastIdeal.τ).loc Cert.CastIdeal.main_arg0) = m ((c.tc : Thread Cert.CastIdeal.nD Cert.CastIdeal.τ).loc Cert.CastIdeal.main_arg0)
          ∧ r.2.mem ((c.tc : Thread Cert.CastIdeal.nD Cert.CastIdeal.τ).loc Cert.CastIdeal.main_arg1) = m ((c.tc : Thread Cert.CastIdeal.nD Cert.CastIdeal.τ).loc Cert.CastIdeal.main_arg1)
          ∧ r.2.mem ((c.tc : Thread Cert.CastIdeal.nD Cert.CastIdeal.τ).loc Cert.CastIdeal.main_arg2) = m ((c.tc : Thread Cert.CastIdeal.nD Cert.CastIdeal.τ).loc Cert.CastIdeal.main_arg2)
          ∧ r.2.mem ((c.tc : Thread Cert.CastIdeal.nD Cert.CastIdeal.τ).loc Cert.CastIdeal.main_arg3) = m ((c.tc : Thread Cert.CastIdeal.nD Cert.CastIdeal.τ).loc Cert.CastIdeal.main_arg3)
          ∧ r.2.mem ((c.tc : Thread Cert.CastIdeal.nD Cert.CastIdeal.τ).loc Cert.CastIdeal.main_arg4) = m ((c.tc : Thread Cert.CastIdeal.nD Cert.CastIdeal.τ).loc Cert.CastIdeal.main_arg4)
          ∧ r.2.mem ((c.tc : Thread Cert.CastIdeal.nD Cert.CastIdeal.τ).loc Cert.CastIdeal.main_arg5) = m ((c.tc : Thread Cert.CastIdeal.nD Cert.CastIdeal.τ).loc Cert.CastIdeal.main_arg5)
          ∧ r.2.mem ((c.tc : Thread Cert.CastIdeal.nD Cert.CastIdeal.τ).loc Cert.CastIdeal.main_arg6) = m ((c.tc : Thread Cert.CastIdeal.nD Cert.CastIdeal.τ).loc Cert.CastIdeal.main_arg6)
          ∧ r.2.mem ((c.tc : Thread Cert.CastIdeal.nD Cert.CastIdeal.τ).loc Cert.CastIdeal.main_arg7) = m ((c.tc : Thread Cert.CastIdeal.nD Cert.CastIdeal.τ).loc Cert.CastIdeal.main_arg7)
          ∧ r.2.mem ((c.tc : Thread Cert.CastIdeal.nD Cert.CastIdeal.τ).loc Cert.CastIdeal.main_arg8) = m ((c.tc : Thread Cert.CastIdeal.nD Cert.CastIdeal.τ).loc Cert.CastIdeal.main_arg8)
          ∧ r.2.mem ((c.tc : Thread Cert.CastIdeal.nD Cert.CastIdeal.τ).loc Cert.CastIdeal.main_arg9) = m ((c.tc : Thread Cert.CastIdeal.nD Cert.CastIdeal.τ).loc Cert.CastIdeal.main_arg9))
      ∧ θ_run (Cert.CastRefIdeal.defs (F := Ideal)) (onTc (τ := Cert.CastRefIdeal.τ) (Cert.CastRefIdeal.main (F := Ideal))) ⟨m', fun _ => 0, g'⟩ (fun r => ∀ c : Dev Cert.CastRefIdeal.nD,
          r.2.mem ((c.tc : Thread Cert.CastRefIdeal.nD Cert.CastRefIdeal.τ).loc Cert.CastRefIdeal.main_v1) = v0 c
          ∧ r.2.mem ((c.tc : Thread Cert.CastRefIdeal.nD Cert.CastRefIdeal.τ).loc Cert.CastRefIdeal.main_v2) = v1 c
          ∧ r.2.mem ((c.tc : Thread Cert.CastRefIdeal.nD Cert.CastRefIdeal.τ).loc Cert.CastRefIdeal.main_v3) = v2 c
          ∧ r.2.mem ((c.tc : Thread Cert.CastRefIdeal.nD Cert.CastRefIdeal.τ).loc Cert.CastRefIdeal.main_v4) = v3 c
          ∧ r.2.mem ((c.tc : Thread Cert.CastRefIdeal.nD Cert.CastRefIdeal.τ).loc Cert.CastRefIdeal.main_v5) = v4 c
          ∧ r.2.mem ((c.tc : Thread Cert.CastRefIdeal.nD Cert.CastRefIdeal.τ).loc Cert.CastRefIdeal.main_v6) = v5 c
          ∧ r.2.mem ((c.tc : Thread Cert.CastRefIdeal.nD Cert.CastRefIdeal.τ).loc Cert.CastRefIdeal.main_v7) = v6 c
          ∧ r.2.mem ((c.tc : Thread Cert.CastRefIdeal.nD Cert.CastRefIdeal.τ).loc Cert.CastRefIdeal.main_v8) = v7 c
          ∧ r.2.mem ((c.tc : Thread Cert.CastRefIdeal.nD Cert.CastRefIdeal.τ).loc Cert.CastRefIdeal.main_v9) = v8 c
          ∧ r.2.mem ((c.tc : Thread Cert.CastRefIdeal.nD Cert.CastRefIdeal.τ).loc Cert.CastRefIdeal.main_v10) = v9 c
          ∧ r.2.mem ((c.tc : Thread Cert.CastRefIdeal.nD Cert.CastRefIdeal.τ).loc Cert.CastRefIdeal.main_arg0) = m' ((c.tc : Thread Cert.CastRefIdeal.nD Cert.CastRefIdeal.τ).loc Cert.CastRefIdeal.main_arg0)
          ∧ r.2.mem ((c.tc : Thread Cert.CastRefIdeal.nD Cert.CastRefIdeal.τ).loc Cert.CastRefIdeal.main_arg1) = m' ((c.tc : Thread Cert.CastRefIdeal.nD Cert.CastRefIdeal.τ).loc Cert.CastRefIdeal.main_arg1)
          ∧ r.2.mem ((c.tc : Thread Cert.CastRefIdeal.nD Cert.CastRefIdeal.τ).loc Cert.CastRefIdeal.main_arg2) = m' ((c.tc : Thread Cert.CastRefIdeal.nD Cert.CastRefIdeal.τ).loc Cert.CastRefIdeal.main_arg2)
          ∧ r.2.mem ((c.tc : Thread Cert.CastRefIdeal.nD Cert.CastRefIdeal.τ).loc Cert.CastRefIdeal.main_arg3) = m' ((c.tc : Thread Cert.CastRefIdeal.nD Cert.CastRefIdeal.τ).loc Cert.CastRefIdeal.main_arg3)
          ∧ r.2.mem ((c.tc : Thread Cert.CastRefIdeal.nD Cert.CastRefIdeal.τ).loc Cert.CastRefIdeal.main_arg4) = m' ((c.tc : Thread Cert.CastRefIdeal.nD Cert.CastRefIdeal.τ).loc Cert.CastRefIdeal.main_arg4)
          ∧ r.2.mem ((c.tc : Thread Cert.CastRefIdeal.nD Cert.CastRefIdeal.τ).loc Cert.CastRefIdeal.main_arg5) = m' ((c.tc : Thread Cert.CastRefIdeal.nD Cert.CastRefIdeal.τ).loc Cert.CastRefIdeal.main_arg5)
          ∧ r.2.mem ((c.tc : Thread Cert.CastRefIdeal.nD Cert.CastRefIdeal.τ).loc Cert.CastRefIdeal.main_arg6) = m' ((c.tc : Thread Cert.CastRefIdeal.nD Cert.CastRefIdeal.τ).loc Cert.CastRefIdeal.main_arg6)
          ∧ r.2.mem ((c.tc : Thread Cert.CastRefIdeal.nD Cert.CastRefIdeal.τ).loc Cert.CastRefIdeal.main_arg7) = m' ((c.tc : Thread Cert.CastRefIdeal.nD Cert.CastRefIdeal.τ).loc Cert.CastRefIdeal.main_arg7)
          ∧ r.2.mem ((c.tc : Thread Cert.CastRefIdeal.nD Cert.CastRefIdeal.τ).loc Cert.CastRefIdeal.main_arg8) = m' ((c.tc : Thread Cert.CastRefIdeal.nD Cert.CastRefIdeal.τ).loc Cert.CastRefIdeal.main_arg8)
          ∧ r.2.mem ((c.tc : Thread Cert.CastRefIdeal.nD Cert.CastRefIdeal.τ).loc Cert.CastRefIdeal.main_arg9) = m' ((c.tc : Thread Cert.CastRefIdeal.nD Cert.CastRefIdeal.τ).loc Cert.CastRefIdeal.main_arg9))

def Claim : Prop :=
  ∃ (hRet : Cert.Ret.Facts) (hRetIdeal : Cert.RetIdeal.Facts) (hRetRefIdeal : Cert.RetRefIdeal.Facts) (hAtt : Cert.Att.Facts) (hAttIdeal : Cert.AttIdeal.Facts) (hAttRefIdeal : Cert.AttRefIdeal.Facts) (hPostC : Cert.PostC.Facts) (hPostCIdeal : Cert.PostCIdeal.Facts) (hPostCRefIdeal : Cert.PostCRefIdeal.Facts) (hPostAb : Cert.PostAb.Facts) (hPostAbIdeal : Cert.PostAbIdeal.Facts) (hPostAbRefIdeal : Cert.PostAbRefIdeal.Facts) (hL1In : Cert.L1In.Facts) (hL1InIdeal : Cert.L1InIdeal.Facts) (hL1InRefIdeal : Cert.L1InRefIdeal.Facts) (hL0In : Cert.L0In.Facts) (hL0InIdeal : Cert.L0InIdeal.Facts) (hL0InRefIdeal : Cert.L0InRefIdeal.Facts) (hPostS : Cert.PostS.Facts) (hPostSIdeal : Cert.PostSIdeal.Facts) (hPostSRefIdeal : Cert.PostSRefIdeal.Facts) (hAda : Cert.Ada.Facts) (hAdaIdeal : Cert.AdaIdeal.Facts) (hAdaRefIdeal : Cert.AdaRefIdeal.Facts) (hCast : Cert.Cast.Facts) (hCastIdeal : Cert.CastIdeal.Facts) (hCastRefIdeal : Cert.CastRefIdeal.Facts) (hPre_finite : Cert.Pre_finite.Facts) (hPre_finite2 : Cert.Pre_finite2.Facts) (hPre_finite3 : Cert.Pre_finite3.Facts) (hPre_finite4 : Cert.Pre_finite4.Facts) (hPre_finite5 : Cert.Pre_finite5.Facts) (hPre_finite6 : Cert.Pre_finite6.Facts) (hPre_finite7 : Cert.Pre_finite7.Facts) (hPre_finite8 : Cert.Pre_finite8.Facts),
    quiescent_Ret (hRet := hRet)
    ∧ quiescent_RetIdeal (hRetIdeal := hRetIdeal)
    ∧ quiescent_RetIdeal_pre_finite (hRetIdeal := hRetIdeal) (hPre_finite := hPre_finite)
    ∧ quiescent_RetRefIdeal (hRetRefIdeal := hRetRefIdeal)
    ∧ quiescent_RetRefIdeal_pre_finite (hRetRefIdeal := hRetRefIdeal) (hPre_finite := hPre_finite)
    ∧ quiescent_Att (hAtt := hAtt)
    ∧ quiescent_AttIdeal (hAttIdeal := hAttIdeal)
    ∧ quiescent_AttIdeal_pre_finite2 (hAttIdeal := hAttIdeal) (hPre_finite2 := hPre_finite2)
    ∧ quiescent_AttRefIdeal (hAttRefIdeal := hAttRefIdeal)
    ∧ quiescent_AttRefIdeal_pre_finite2 (hAttRefIdeal := hAttRefIdeal) (hPre_finite2 := hPre_finite2)
    ∧ quiescent_PostC (hPostC := hPostC)
    ∧ quiescent_PostCIdeal (hPostCIdeal := hPostCIdeal)
    ∧ quiescent_PostCIdeal_pre_finite3 (hPostCIdeal := hPostCIdeal) (hPre_finite3 := hPre_finite3)
    ∧ quiescent_PostCRefIdeal (hPostCRefIdeal := hPostCRefIdeal)
    ∧ quiescent_PostCRefIdeal_pre_finite3 (hPostCRefIdeal := hPostCRefIdeal) (hPre_finite3 := hPre_finite3)
    ∧ quiescent_PostAb (hPostAb := hPostAb)
    ∧ quiescent_PostAbIdeal (hPostAbIdeal := hPostAbIdeal)
    ∧ quiescent_PostAbIdeal_pre_finite4 (hPostAbIdeal := hPostAbIdeal) (hPre_finite4 := hPre_finite4)
    ∧ quiescent_PostAbRefIdeal (hPostAbRefIdeal := hPostAbRefIdeal)
    ∧ quiescent_PostAbRefIdeal_pre_finite4 (hPostAbRefIdeal := hPostAbRefIdeal) (hPre_finite4 := hPre_finite4)
    ∧ quiescent_L1In (hL1In := hL1In)
    ∧ quiescent_L1InIdeal (hL1InIdeal := hL1InIdeal)
    ∧ quiescent_L1InIdeal_pre_finite5 (hL1InIdeal := hL1InIdeal) (hPre_finite5 := hPre_finite5)
    ∧ quiescent_L1InRefIdeal (hL1InRefIdeal := hL1InRefIdeal)
    ∧ quiescent_L1InRefIdeal_pre_finite5 (hL1InRefIdeal := hL1InRefIdeal) (hPre_finite5 := hPre_finite5)
    ∧ quiescent_L0In (hL0In := hL0In)
    ∧ quiescent_L0InIdeal (hL0InIdeal := hL0InIdeal)
    ∧ quiescent_L0InIdeal_pre_finite6 (hL0InIdeal := hL0InIdeal) (hPre_finite6 := hPre_finite6)
    ∧ quiescent_L0InRefIdeal (hL0InRefIdeal := hL0InRefIdeal)
    ∧ quiescent_L0InRefIdeal_pre_finite6 (hL0InRefIdeal := hL0InRefIdeal) (hPre_finite6 := hPre_finite6)
    ∧ quiescent_PostS (hPostS := hPostS)
    ∧ quiescent_PostSIdeal (hPostSIdeal := hPostSIdeal)
    ∧ quiescent_PostSIdeal_pre_finite7 (hPostSIdeal := hPostSIdeal) (hPre_finite7 := hPre_finite7)
    ∧ quiescent_PostSRefIdeal (hPostSRefIdeal := hPostSRefIdeal)
    ∧ quiescent_PostSRefIdeal_pre_finite7 (hPostSRefIdeal := hPostSRefIdeal) (hPre_finite7 := hPre_finite7)
    ∧ quiescent_Ada (hAda := hAda)
    ∧ quiescent_AdaIdeal (hAdaIdeal := hAdaIdeal)
    ∧ quiescent_AdaIdeal_pre_finite8 (hAdaIdeal := hAdaIdeal) (hPre_finite8 := hPre_finite8)
    ∧ quiescent_AdaRefIdeal (hAdaRefIdeal := hAdaRefIdeal)
    ∧ quiescent_AdaRefIdeal_pre_finite8 (hAdaRefIdeal := hAdaRefIdeal) (hPre_finite8 := hPre_finite8)
    ∧ quiescent_Cast (hCast := hCast)
    ∧ quiescent_CastIdeal (hCastIdeal := hCastIdeal)
    ∧ quiescent_CastRefIdeal (hCastRefIdeal := hCastRefIdeal)
    ∧ preserves_Ret_RetIdeal
    ∧ algebraic_RetIdeal_RetRefIdeal_pre_finite (hRetIdeal := hRetIdeal) (hRetRefIdeal := hRetRefIdeal) (hPre_finite := hPre_finite)
    ∧ preserves_Att_AttIdeal
    ∧ algebraic_AttIdeal_AttRefIdeal_pre_finite2 (hAttIdeal := hAttIdeal) (hAttRefIdeal := hAttRefIdeal) (hPre_finite2 := hPre_finite2)
    ∧ preserves_PostC_PostCIdeal
    ∧ algebraic_PostCIdeal_PostCRefIdeal_pre_finite3 (hPostCIdeal := hPostCIdeal) (hPostCRefIdeal := hPostCRefIdeal) (hPre_finite3 := hPre_finite3)
    ∧ preserves_PostAb_PostAbIdeal
    ∧ algebraic_PostAbIdeal_PostAbRefIdeal_pre_finite4 (hPostAbIdeal := hPostAbIdeal) (hPostAbRefIdeal := hPostAbRefIdeal) (hPre_finite4 := hPre_finite4)
    ∧ preserves_L1In_L1InIdeal
    ∧ algebraic_L1InIdeal_L1InRefIdeal_pre_finite5 (hL1InIdeal := hL1InIdeal) (hL1InRefIdeal := hL1InRefIdeal) (hPre_finite5 := hPre_finite5)
    ∧ preserves_L0In_L0InIdeal
    ∧ algebraic_L0InIdeal_L0InRefIdeal_pre_finite6 (hL0InIdeal := hL0InIdeal) (hL0InRefIdeal := hL0InRefIdeal) (hPre_finite6 := hPre_finite6)
    ∧ preserves_PostS_PostSIdeal
    ∧ algebraic_PostSIdeal_PostSRefIdeal_pre_finite7 (hPostSIdeal := hPostSIdeal) (hPostSRefIdeal := hPostSRefIdeal) (hPre_finite7 := hPre_finite7)
    ∧ preserves_Ada_AdaIdeal
    ∧ algebraic_AdaIdeal_AdaRefIdeal_pre_finite8 (hAdaIdeal := hAdaIdeal) (hAdaRefIdeal := hAdaRefIdeal) (hPre_finite8 := hPre_finite8)
    ∧ preserves_Cast_CastIdeal
    ∧ algebraic_CastIdeal_CastRefIdeal (hCastIdeal := hCastIdeal) (hCastRefIdeal := hCastRefIdeal)
-- ==== Pre_finite.lean ====
abbrev S2x4 : Shape := ⟨2, ![2, 4]⟩
abbrev S8192x1024 : Shape := ⟨2, ![8192, 1024]⟩
abbrev S8192x2048 : Shape := ⟨2, ![8192, 2048]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S2x4 .f32) (main_arg1 : FVec F S8192x1024 .bf16) (main_arg2 : FVec F S8192x1024 .bf16) (main_arg3 : FVec F S8192x2048 .bf16) : IVec S_ 1 :=
  let main_v0 : FVec F S8192x1024 .f32 := (extf .f32 · bitsLt_bf16_f32) main_arg1
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x1024 .f32 := (extf .f32 · bitsLt_bf16_f32) main_arg2
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : IVec S_ 1 := andi main_v4 main_v9
  let main_v11 : FVec F S8192x2048 .f32 := (extf .f32 · bitsLt_bf16_f32) main_arg3
  let main_v12 : FVec F S8192x2048 .f32 := Host.absf main_v11
  let main_cst_2 : FVec F S_ .f32 := constant S_ .f32 0x7F800000#32
  let main_v13 : FVec F S8192x2048 .f32 := broadcastInDim S8192x2048 ![] bcast_S_S8192x2048 main_cst_2
  let main_v14 : IVec S8192x2048 1 := cmpf .olt main_v12 main_v13
  let main_c_3 : IVec S_ 1 := constantI S_ 1 1#1
  let main_v15 : IVec S_ 1 := (fun x v => Host.reduce IntOp.andi x v reducesTo_S8192x2048_S_d0_1 h_S_) main_v14 main_c_3
  let main_v16 : IVec S_ 1 := andi main_v10 main_v15
  main_v16
-- ==== Pre_finite2.lean ====
abbrev S32x256x512 : Shape := ⟨3, ![32, 256, 512]⟩
abbrev S2x8192x64 : Shape := ⟨3, ![2, 8192, 64]⟩
abbrev S_ : Shape := ⟨0, ![]⟩

class Facts : Prop where
  bitsLt_bf16_f32 : FTy.bits .bf16 < FTy.bits .f32
  bcast_S_S32x256x512 : S_.BroadcastsInDim S32x256x512 (![] : Fin 0 → Fin S32x256x512.rank)
  reducesTo_S32x256x512_S_d0_1_2 : S32x256x512.ReducesTo [0, 1, 2] S_
  h_S_ : 0 < S_.numel
  bcast_S_S2x8192x64 : S_.BroadcastsInDim S2x8192x64 (![] : Fin 0 → Fin S2x8192x64.rank)
  reducesTo_S2x8192x64_S_d0_1_2 : S2x8192x64.ReducesTo [0, 1, 2] S_

variable [Facts]

def fn {F : FTy → Type} [FloatOps F] (main_arg0 : FVec F S32x256x512 .bf16) (main_arg1 : FVec F S2x8192x64 .bf16) (main_arg2 : FVec F S2x8192x64 .bf16) : IVec S_ 1 :=
  let main_v0 : FVec F S32x256x512 .f32 := (extf .f32 · bitsLt_bf16_f32) main_arg0
  let main_v1 : FVec F S32x256x512 .f32 := Host.absf main_v0
  let main_cst : FVec F S_ .f32 := constant S_ .f32 0x7F800000#32
  let main_v2 : FVec F S32x256x512 .f32 := broadcastInDim S32x256x512 ![] bcast_S_S32x256x512 main_cst
  let main_v3 : IVec S32x256x512 1 := cmpf .olt main_v1 main_v2
  let main_c : IVec S_ 1 := constantI S_ 1 1#1
  let main_v4 : IVec S_ 1 := (fun x v => Host.reduce IntOp.andi x v reducesTo_S32x256x512_S_d0_1_2 h_S_) main_v3 main_c
  let main_v5 : FVec F S2x8192x64 .f32 := (extf .f32 · bitsLt_bf16_f32) main_arg1
  let main_v6 : FVec F S2x8192x64 .f32 := Host.absf main_v5
  let main_cst_0 : FVec F S_ .f32 := constant S_ .f32 0x7F800000#32
  let main_v7 : FVec F S2x8192x64 .f32 := broadcastInDim S2x8192x64 ![] bcast_S_S2x8192x64 main_cst_0
  let main_v8 : IVec S2x8192x64 1 := cmpf .olt main_v6 main_v7
  let main_c_1 : IVec S_ 1 := constantI S_ 1 1#1
  let main_v9 : IVec S_ 1 := (fun x v => Host.reduce IntOp.andi x v reducesTo_S2x8192x64_S_d0_1_2 h_S_) main_v8 main_c_1
  let main_v10 : IVec S_ 1 := andi main_v4 main_v9
  main_v10
-- ==== Pre_finite3.lean ====
abbrev S8192x1024 : Shape := ⟨2, ![8192, 1024]⟩
abbrev S1x1x6144 : Shape := ⟨3, ![1, 1, 6144]⟩
abbrev S1024 : Shape := ⟨1, ![1024]⟩
abbrev S2048x1024 : Shape := ⟨2, ![2048, 1024]⟩
abbrev S1024x2816 : Shape := ⟨2, ![1024, 2816]⟩
abbrev S2816x1024 : Shape := ⟨2, ![2816, 1024]⟩
abbrev S8192x2048 : Shape := ⟨2, ![8192, 2048]⟩
abbrev S2048 : Shape := ⟨1, ![2048]⟩
abbrev S_ : Shape := ⟨0, ![]⟩

class Facts : Prop where
  bcast_S_S1x1x6144 : S_.BroadcastsInDim S1x1x6144 (![] : Fin 0 → Fin S1x1x6144.rank)
  reducesTo_S1x1x6144_S_d0_1_2 : S1x1x6144.ReducesTo [0, 1, 2] S_
  h_S_ : 0 < S_.numel
  bcast_S_S1024 : S_.BroadcastsInDim S1024 (![] : Fin 0 → Fin S1024.rank)
  reducesTo_S1024_S_d0 : S1024.ReducesTo [0] S_
  bitsLt_bf16_f32 : FTy.bits .bf16 < FTy.bits .f32
  bcast_S_S1024x2816 : S_.BroadcastsInDim S1024x2816 (![] : Fin 0 → Fin S1024x2816.rank)
  reducesTo_S1024x2816_S_d0_1 : S1024x2816.ReducesTo [0, 1] S_

variable [Facts]

def fn {F : FTy → Type} [FloatOps F] (main_arg0 : FVec F S8192x1024 .f32) (main_arg1 : FVec F S1x1x6144 .f32) (main_arg2 : FVec F S1024 .f32) (main_arg3 : FVec F S2048x1024 .bf16) (main_arg4 : FVec F S1024x2816 .bf16) (main_arg5 : FVec F S1024x2816 .bf16) (main_arg6 : FVec F S2816x1024 .bf16) (main_arg7 : FVec F S1024 .f32) (main_arg8 : FVec F S8192x2048 .bf16) (main_arg9 : FVec F S8192x2048 .bf16) (main_arg10 : FVec F S2048 .f32) : IVec S_ 1 :=
  let main_v0 : FVec F S1x1x6144 .f32 := Host.absf main_arg1
  let main_cst : FVec F S_ .f32 := constant S_ .f32 0x7F800000#32
  let main_v1 : FVec F S1x1x6144 .f32 := broadcastInDim S1x1x6144 ![] bcast_S_S1x1x6144 main_cst
  let main_v2 : IVec S1x1x6144 1 := cmpf .olt main_v0 main_v1
  let main_c : IVec S_ 1 := constantI S_ 1 1#1
  let main_v3 : IVec S_ 1 := (fun x v => Host.reduce IntOp.andi x v reducesTo_S1x1x6144_S_d0_1_2 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := (extf .f32 · bitsLt_bf16_f32) main_arg4
  let main_v10 : FVec F S1024x2816 .f32 := Host.absf main_v9
  let main_cst_2 : FVec F S_ .f32 := constant S_ .f32 0x7F800000#32
  let main_v11 : FVec F S1024x2816 .f32 := broadcastInDim S1024x2816 ![] bcast_S_S1024x2816 main_cst_2
  let main_v12 : IVec S1024x2816 1 := cmpf .olt main_v10 main_v11
  let main_c_3 : IVec S_ 1 := constantI S_ 1 1#1
  let main_v13 : IVec S_ 1 := (fun x v => Host.reduce IntOp.andi x v reducesTo_S1024x2816_S_d0_1 h_S_) main_v12 main_c_3
  let main_v14 : IVec S_ 1 := andi main_v8 main_v13
  main_v14
-- ==== Pre_finite4.lean ====
abbrev S8192x1024 : Shape := ⟨2, ![8192, 1024]⟩
abbrev S1x1x6144 : Shape := ⟨3, ![1, 1, 6144]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S8192x512 : Shape := ⟨2, ![8192, 512]⟩
abbrev S512 : Shape := ⟨1, ![512]⟩
abbrev S_ : Shape := ⟨0, ![]⟩

class Facts : Prop where
  bcast_S_S1x1x6144 : S_.BroadcastsInDim S1x1x6144 (![] : Fin 0 → Fin S1x1x6144.rank)
  reducesTo_S1x1x6144_S_d0_1_2 : S1x1x6144.ReducesTo [0, 1, 2] S_
  h_S_ : 0 < S_.numel
  bcast_S_S1024 : S_.BroadcastsInDim S1024 (![] : Fin 0 → Fin S1024.rank)
  reducesTo_S1024_S_d0 : S1024.ReducesTo [0] S_
  bitsLt_bf16_f32 : FTy.bits .bf16 < FTy.bits .f32
  bcast_S_S1024x2816 : S_.BroadcastsInDim S1024x2816 (![] : Fin 0 → Fin S1024x2816.rank)
  reducesTo_S1024x2816_S_d0_1 : S1024x2816.ReducesTo [0, 1] S_
  bcast_S_S8192x512 : S_.BroadcastsInDim S8192x512 (![] : Fin 0 → Fin S8192x512.rank)
  reducesTo_S8192x512_S_d0_1 : S8192x512.ReducesTo [0, 1] S_

variable [Facts]

def fn_part1 {F : FTy → Type} [FloatOps F] (main_v14 : IVec S_ 1) (main_v16 : FVec F S8192x512 .f32) (main_cst_4 : FVec F S_ .f32) : IVec S_ 1 :=
  let main_v17 : FVec F S8192x512 .f32 := broadcastInDim S8192x512 ![] bcast_S_S8192x512 main_cst_4
  let main_v18 : IVec S8192x512 1 := cmpf .olt main_v16 main_v17
  let main_c_5 : IVec S_ 1 := constantI S_ 1 1#1
  let main_v19 : IVec S_ 1 := (fun x v => Host.reduce IntOp.andi x v reducesTo_S8192x512_S_d0_1 h_S_) main_v18 main_c_5
  let main_v20 : IVec S_ 1 := andi main_v14 main_v19
  main_v20

def fn {F : FTy → Type} [FloatOps F] (main_arg0 : FVec F S8192x1024 .f32) (main_arg1 : FVec F S1x1x6144 .f32) (main_arg2 : FVec F S1024 .f32) (main_arg3 : FVec F S1024x1024 .bf16) (main_arg4 : FVec F S1024x2816 .bf16) (main_arg5 : FVec F S1024x2816 .bf16) (main_arg6 : FVec F S2816x1024 .bf16) (main_arg7 : FVec F S8192x512 .bf16) (main_arg8 : FVec F S8192x512 .bf16) (main_arg9 : FVec F S8192x512 .bf16) (main_arg10 : FVec F S8192x512 .bf16) (main_arg11 : FVec F S512 .f32) : IVec S_ 1 :=
  let main_v0 : FVec F S1x1x6144 .f32 := Host.absf main_arg1
  let main_cst : FVec F S_ .f32 := constant S_ .f32 0x7F800000#32
  let main_v1 : FVec F S1x1x6144 .f32 := broadcastInDim S1x1x6144 ![] bcast_S_S1x1x6144 main_cst
  let main_v2 : IVec S1x1x6144 1 := cmpf .olt main_v0 main_v1
  let main_c : IVec S_ 1 := constantI S_ 1 1#1
  let main_v3 : IVec S_ 1 := (fun x v => Host.reduce IntOp.andi x v reducesTo_S1x1x6144_S_d0_1_2 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := (extf .f32 · bitsLt_bf16_f32) main_arg4
  let main_v10 : FVec F S1024x2816 .f32 := Host.absf main_v9
  let main_cst_2 : FVec F S_ .f32 := constant S_ .f32 0x7F800000#32
  let main_v11 : FVec F S1024x2816 .f32 := broadcastInDim S1024x2816 ![] bcast_S_S1024x2816 main_cst_2
  let main_v12 : IVec S1024x2816 1 := cmpf .olt main_v10 main_v11
  let main_c_3 : IVec S_ 1 := constantI S_ 1 1#1
  let main_v13 : IVec S_ 1 := (fun x v => Host.reduce IntOp.andi x v reducesTo_S1024x2816_S_d0_1 h_S_) main_v12 main_c_3
  let main_v14 : IVec S_ 1 := andi main_v8 main_v13
  let main_v15 : FVec F S8192x512 .f32 := (extf .f32 · bitsLt_bf16_f32) main_arg10
  let main_v16 : FVec F S8192x512 .f32 := Host.absf main_v15
  let main_cst_4 : FVec F S_ .f32 := constant S_ .f32 0x7F800000#32
  fn_part1 (F := F) main_v14 main_v16 main_cst_4
-- ==== Pre_finite5.lean ====
abbrev S8192x1024 : Shape := ⟨2, ![8192, 1024]⟩
abbrev S1x1x6144 : Shape := ⟨3, ![1, 1, 6144]⟩
abbrev S1024 : Shape := ⟨1, ![1024]⟩
abbrev S1024x6144 : Shape := ⟨2, ![1024, 6144]⟩
abbrev S_ : Shape := ⟨0, ![]⟩

class Facts : Prop where
  bcast_S_S1x1x6144 : S_.BroadcastsInDim S1x1x6144 (![] : Fin 0 → Fin S1x1x6144.rank)
  reducesTo_S1x1x6144_S_d0_1_2 : S1x1x6144.ReducesTo [0, 1, 2] S_
  h_S_ : 0 < S_.numel
  bcast_S_S1024 : S_.BroadcastsInDim S1024 (![] : Fin 0 → Fin S1024.rank)
  reducesTo_S1024_S_d0 : S1024.ReducesTo [0] S_
  bitsLt_bf16_f32 : FTy.bits .bf16 < FTy.bits .f32
  bcast_S_S1024x6144 : S_.BroadcastsInDim S1024x6144 (![] : Fin 0 → Fin S1024x6144.rank)
  reducesTo_S1024x6144_S_d0_1 : S1024x6144.ReducesTo [0, 1] S_

variable [Facts]

def fn {F : FTy → Type} [FloatOps F] (main_arg0 : FVec F S8192x1024 .f32) (main_arg1 : FVec F S1x1x6144 .f32) (main_arg2 : FVec F S1024 .f32) (main_arg3 : FVec F S1024x6144 .bf16) : IVec S_ 1 :=
  let main_v0 : FVec F S1x1x6144 .f32 := Host.absf main_arg1
  let main_cst : FVec F S_ .f32 := constant S_ .f32 0x7F800000#32
  let main_v1 : FVec F S1x1x6144 .f32 := broadcastInDim S1x1x6144 ![] bcast_S_S1x1x6144 main_cst
  let main_v2 : IVec S1x1x6144 1 := cmpf .olt main_v0 main_v1
  let main_c : IVec S_ 1 := constantI S_ 1 1#1
  let main_v3 : IVec S_ 1 := (fun x v => Host.reduce IntOp.andi x v reducesTo_S1x1x6144_S_d0_1_2 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x6144 .f32 := (extf .f32 · bitsLt_bf16_f32) main_arg3
  let main_v10 : FVec F S1024x6144 .f32 := Host.absf main_v9
  let main_cst_2 : FVec F S_ .f32 := constant S_ .f32 0x7F800000#32
  let main_v11 : FVec F S1024x6144 .f32 := broadcastInDim S1024x6144 ![] bcast_S_S1024x6144 main_cst_2
  let main_v12 : IVec S1024x6144 1 := cmpf .olt main_v10 main_v11
  let main_c_3 : IVec S_ 1 := constantI S_ 1 1#1
  let main_v13 : IVec S_ 1 := (fun x v => Host.reduce IntOp.andi x v reducesTo_S1024x6144_S_d0_1 h_S_) main_v12 main_c_3
  let main_v14 : IVec S_ 1 := andi main_v8 main_v13
  main_v14
-- ==== Pre_finite6.lean ====
abbrev S8192x1024 : Shape := ⟨2, ![8192, 1024]⟩
abbrev S1x1x6144 : Shape := ⟨3, ![1, 1, 6144]⟩
abbrev S1024 : Shape := ⟨1, ![1024]⟩
abbrev S1024x2176 : Shape := ⟨2, ![1024, 2176]⟩
abbrev S64 : Shape := ⟨1, ![64]⟩
abbrev S_ : Shape := ⟨0, ![]⟩

class Facts : Prop where
  bcast_S_S1x1x6144 : S_.BroadcastsInDim S1x1x6144 (![] : Fin 0 → Fin S1x1x6144.rank)
  reducesTo_S1x1x6144_S_d0_1_2 : S1x1x6144.ReducesTo [0, 1, 2] S_
  h_S_ : 0 < S_.numel
  bcast_S_S1024 : S_.BroadcastsInDim S1024 (![] : Fin 0 → Fin S1024.rank)
  reducesTo_S1024_S_d0 : S1024.ReducesTo [0] S_
  bitsLt_bf16_f32 : FTy.bits .bf16 < FTy.bits .f32
  bcast_S_S1024x2176 : S_.BroadcastsInDim S1024x2176 (![] : Fin 0 → Fin S1024x2176.rank)
  reducesTo_S1024x2176_S_d0_1 : S1024x2176.ReducesTo [0, 1] S_

variable [Facts]

def fn {F : FTy → Type} [FloatOps F] (main_arg0 : FVec F S8192x1024 .f32) (main_arg1 : FVec F S1x1x6144 .f32) (main_arg2 : FVec F S1024 .f32) (main_arg3 : FVec F S1024x2176 .bf16) (main_arg4 : FVec F S64 .f32) (main_arg5 : FVec F S64 .f32) : IVec S_ 1 :=
  let main_v0 : FVec F S1x1x6144 .f32 := Host.absf main_arg1
  let main_cst : FVec F S_ .f32 := constant S_ .f32 0x7F800000#32
  let main_v1 : FVec F S1x1x6144 .f32 := broadcastInDim S1x1x6144 ![] bcast_S_S1x1x6144 main_cst
  let main_v2 : IVec S1x1x6144 1 := cmpf .olt main_v0 main_v1
  let main_c : IVec S_ 1 := constantI S_ 1 1#1
  let main_v3 : IVec S_ 1 := (fun x v => Host.reduce IntOp.andi x v reducesTo_S1x1x6144_S_d0_1_2 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2176 .f32 := (extf .f32 · bitsLt_bf16_f32) main_arg3
  let main_v10 : FVec F S1024x2176 .f32 := Host.absf main_v9
  let main_cst_2 : FVec F S_ .f32 := constant S_ .f32 0x7F800000#32
  let main_v11 : FVec F S1024x2176 .f32 := broadcastInDim S1024x2176 ![] bcast_S_S1024x2176 main_cst_2
  let main_v12 : IVec S1024x2176 1 := cmpf .olt main_v10 main_v11
  let main_c_3 : IVec S_ 1 := constantI S_ 1 1#1
  let main_v13 : IVec S_ 1 := (fun x v => Host.reduce IntOp.andi x v reducesTo_S1024x2176_S_d0_1 h_S_) main_v12 main_c_3
  let main_v14 : IVec S_ 1 := andi main_v8 main_v13
  main_v14
-- ==== Pre_finite7.lean ====
abbrev S8192x1024 : Shape := ⟨2, ![8192, 1024]⟩
abbrev S2x1x6144 : Shape := ⟨3, ![2, 1, 6144]⟩
abbrev S1024 : Shape := ⟨1, ![1024]⟩
abbrev S2048x1024 : Shape := ⟨2, ![2048, 1024]⟩
abbrev S1024x2816 : Shape := ⟨2, ![1024, 2816]⟩
abbrev S2816x1024 : Shape := ⟨2, ![2816, 1024]⟩
abbrev S8192x2048 : Shape := ⟨2, ![8192, 2048]⟩
abbrev S2048 : Shape := ⟨1, ![2048]⟩
abbrev S_ : Shape := ⟨0, ![]⟩

class Facts : Prop where
  bcast_S_S2x1x6144 : S_.BroadcastsInDim S2x1x6144 (![] : Fin 0 → Fin S2x1x6144.rank)
  reducesTo_S2x1x6144_S_d0_1_2 : S2x1x6144.ReducesTo [0, 1, 2] S_
  h_S_ : 0 < S_.numel
  bcast_S_S1024 : S_.BroadcastsInDim S1024 (![] : Fin 0 → Fin S1024.rank)
  reducesTo_S1024_S_d0 : S1024.ReducesTo [0] S_
  bitsLt_bf16_f32 : FTy.bits .bf16 < FTy.bits .f32
  bcast_S_S1024x2816 : S_.BroadcastsInDim S1024x2816 (![] : Fin 0 → Fin S1024x2816.rank)
  reducesTo_S1024x2816_S_d0_1 : S1024x2816.ReducesTo [0, 1] S_

variable [Facts]

def fn {F : FTy → Type} [FloatOps F] (main_arg0 : FVec F S8192x1024 .f32) (main_arg1 : FVec F S2x1x6144 .f32) (main_arg2 : FVec F S1024 .f32) (main_arg3 : FVec F S2048x1024 .bf16) (main_arg4 : FVec F S1024x2816 .bf16) (main_arg5 : FVec F S1024x2816 .bf16) (main_arg6 : FVec F S2816x1024 .bf16) (main_arg7 : FVec F S1024 .f32) (main_arg8 : FVec F S8192x2048 .bf16) (main_arg9 : FVec F S8192x2048 .bf16) (main_arg10 : FVec F S8192x2048 .bf16) (main_arg11 : FVec F S2048 .f32) : IVec S_ 1 :=
  let main_v0 : FVec F S2x1x6144 .f32 := Host.absf main_arg1
  let main_cst : FVec F S_ .f32 := constant S_ .f32 0x7F800000#32
  let main_v1 : FVec F S2x1x6144 .f32 := broadcastInDim S2x1x6144 ![] bcast_S_S2x1x6144 main_cst
  let main_v2 : IVec S2x1x6144 1 := cmpf .olt main_v0 main_v1
  let main_c : IVec S_ 1 := constantI S_ 1 1#1
  let main_v3 : IVec S_ 1 := (fun x v => Host.reduce IntOp.andi x v reducesTo_S2x1x6144_S_d0_1_2 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := (extf .f32 · bitsLt_bf16_f32) main_arg4
  let main_v10 : FVec F S1024x2816 .f32 := Host.absf main_v9
  let main_cst_2 : FVec F S_ .f32 := constant S_ .f32 0x7F800000#32
  let main_v11 : FVec F S1024x2816 .f32 := broadcastInDim S1024x2816 ![] bcast_S_S1024x2816 main_cst_2
  let main_v12 : IVec S1024x2816 1 := cmpf .olt main_v10 main_v11
  let main_c_3 : IVec S_ 1 := constantI S_ 1 1#1
  let main_v13 : IVec S_ 1 := (fun x v => Host.reduce IntOp.andi x v reducesTo_S1024x2816_S_d0_1 h_S_) main_v12 main_c_3
  let main_v14 : IVec S_ 1 := andi main_v8 main_v13
  main_v14
-- ==== Pre_finite8.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel

variable [Facts]

def fn {F : FTy → Type} [FloatOps F] (main_arg0 : FVec F S8x1024 .f32) (main_arg1 : FVec F S1024x6144 .f32) (main_arg2 : FVec F S6144 .f32) : IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  main_v3
-- ==== Ret.lean ====
abbrev S2x4 : Shape := ⟨2, ![2, 4]⟩
abbrev S8192x1024 : Shape := ⟨2, ![8192, 1024]⟩
abbrev S8192x2048 : Shape := ⟨2, ![8192, 2048]⟩
abbrev S_ : Shape := ⟨0, ![]⟩
abbrev S8x128 : Shape := ⟨2, ![8, 128]⟩
abbrev S32x2x4x256x512 : Shape := ⟨5, ![32, 2, 4, 256, 512]⟩
abbrev S256x1024 : Shape := ⟨2, ![256, 1024]⟩
abbrev S256x2048 : Shape := ⟨2, ![256, 2048]⟩
abbrev S1x2x4x256x512 : Shape := ⟨5, ![1, 2, 4, 256, 512]⟩
abbrev S4x256x256 : Shape := ⟨3, ![4, 256, 256]⟩
abbrev S4x4x256x128 : Shape := ⟨4, ![4, 4, 256, 128]⟩
abbrev S4x256x512 : Shape := ⟨3, ![4, 256, 512]⟩
abbrev S256x256 : Shape := ⟨2, ![256, 256]⟩
abbrev S256x128 : Shape := ⟨2, ![256, 128]⟩
abbrev S1x1 : Shape := ⟨2, ![1, 1]⟩
abbrev S1x256x256 : Shape := ⟨3, ![1, 256, 256]⟩
abbrev S1x1x256x128 : Shape := ⟨4, ![1, 1, 256, 128]⟩
abbrev S256x512 : Shape := ⟨2, ![256, 512]⟩
abbrev S1x1x1x256x512 : Shape := ⟨5, ![1, 1, 1, 256, 512]⟩

abbrev nBuf : Space → Nat
  | .hbm => 9
  | .vmem => 15
  | .smem => 0
  | _ => 0

abbrev bufTy : (tb : Table) → Fin (tcTables nBuf tb) → BufTy
  | .hbm, ⟨0, _⟩ => ⟨S2x4, .f32⟩
  | .hbm, ⟨1, _⟩ => ⟨S8192x1024, .bf16⟩
  | .hbm, ⟨2, _⟩ => ⟨S8192x1024, .bf16⟩
  | .hbm, ⟨3, _⟩ => ⟨S8192x2048, .bf16⟩
  | .hbm, ⟨4, _⟩ => ⟨S_, .i32⟩
  | .hbm, ⟨5, _⟩ => ⟨S_, .f32⟩
  | .hbm, ⟨6, _⟩ => ⟨S8x128, .f32⟩
  | .hbm, ⟨7, _⟩ => ⟨S8192x2048, .bf16⟩
  | .hbm, ⟨8, _⟩ => ⟨S32x2x4x256x512, .f32⟩
  | .local _ .vmem, ⟨0, _⟩ => ⟨S8x128, .f32⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S1x2x4x256x512, .f32⟩
  | .local _ .vmem, ⟨10, _⟩ => ⟨S1x2x4x256x512, .f32⟩
  | .local _ .vmem, ⟨11, _⟩ => ⟨S4x256x256, .f32⟩
  | .local _ .vmem, ⟨12, _⟩ => ⟨S4x4x256x128, .f32⟩
  | .local _ .vmem, ⟨13, _⟩ => ⟨S4x256x512, .f32⟩
  | .local _ .vmem, ⟨14, _⟩ => ⟨S4x256x512, .f32⟩
  | _, _ => ⟨S2x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x4x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RetRefIdeal.lean ====
abbrev S2x4 : Shape := ⟨2, ![2, 4]⟩
abbrev S8192x1024 : Shape := ⟨2, ![8192, 1024]⟩
abbrev S8192x2048 : Shape := ⟨2, ![8192, 2048]⟩
abbrev S32x256x4x256 : Shape := ⟨4, ![32, 256, 4, 256]⟩
abbrev S32x256x4x512 : Shape := ⟨4, ![32, 256, 4, 512]⟩
abbrev S2x1x4x1x1 : Shape := ⟨5, ![2, 1, 4, 1, 1]⟩
abbrev S_ : Shape := ⟨0, ![]⟩
abbrev S2x32x4x256x512 : Shape := ⟨5, ![2, 32, 4, 256, 512]⟩
abbrev S1x32x256x4x256 : Shape := ⟨5, ![1, 32, 256, 4, 256]⟩
abbrev S2x32x256x4x256 : Shape := ⟨5, ![2, 32, 256, 4, 256]⟩
abbrev S256x2x32x4x256 : Shape := ⟨5, ![256, 2, 32, 4, 256]⟩
abbrev S1x32x256x4x512 : Shape := ⟨5, ![1, 32, 256, 4, 512]⟩
abbrev S2x32x256x4x512 : Shape := ⟨5, ![2, 32, 256, 4, 512]⟩
abbrev S256x2x32x4x512 : Shape := ⟨5, ![256, 2, 32, 4, 512]⟩
abbrev S1x2x32x4x256 : Shape := ⟨5, ![1, 2, 32, 4, 256]⟩
abbrev S2x32x4x256 : Shape := ⟨4, ![2, 32, 4, 256]⟩
abbrev S1x2x32x4x512 : Shape := ⟨5, ![1, 2, 32, 4, 512]⟩
abbrev S2x32x4x512 : Shape := ⟨4, ![2, 32, 4, 512]⟩
abbrev S2x32x4x256x1 : Shape := ⟨5, ![2, 32, 4, 256, 1]⟩
abbrev S2x32x4x1x512 : Shape := ⟨5, ![2, 32, 4, 1, 512]⟩
abbrev S32x2x4x256x512 : Shape := ⟨5, ![32, 2, 4, 256, 512]⟩

abbrev nBuf : Space → Nat
  | .hbm => 88
  | .vmem => 0
  | .smem => 0
  | _ => 0

abbrev bufTy : (tb : Table) → Fin (tcTables nBuf tb) → BufTy
  | .hbm, ⟨0, _⟩ => ⟨S2x4, .f32⟩
  | .hbm, ⟨1, _⟩ => ⟨S8192x1024, .bf16⟩
  | .hbm, ⟨2, _⟩ => ⟨S8192x1024, .bf16⟩
  | .hbm, ⟨3, _⟩ => ⟨S8192x2048, .bf16⟩
  | .hbm, ⟨4, _⟩ => ⟨S8192x1024, .f32⟩
  | .hbm, ⟨5, _⟩ => ⟨S32x256x4x256, .f32⟩
  | .hbm, ⟨6, _⟩ => ⟨S8192x1024, .f32⟩
  | .hbm, ⟨7, _⟩ => ⟨S32x256x4x256, .f32⟩
  | .hbm, ⟨8, _⟩ => ⟨S8192x2048, .f32⟩
  | .hbm, ⟨9, _⟩ => ⟨S32x256x4x512, .f32⟩
  | .hbm, ⟨10, _⟩ => ⟨S2x4, .f32⟩
  | .hbm, ⟨11, _⟩ => ⟨S2x4, .f32⟩
  | .hbm, ⟨12, _⟩ => ⟨S2x4, .f32⟩
  | .hbm, ⟨13, _⟩ => ⟨S2x1x4x1x1, .f32⟩
  | .hbm, ⟨14, _⟩ => ⟨S_, .f32⟩
  | .hbm, ⟨15, _⟩ => ⟨S2x32x4x256x512, .f32⟩
  | .hbm, ⟨16, _⟩ => ⟨S32x256x4x256, .f32⟩
  | .hbm, ⟨17, _⟩ => ⟨S1x32x256x4x256, .f32⟩
  | .hbm, ⟨18, _⟩ => ⟨S1x32x256x4x256, .f32⟩
  | .hbm, ⟨19, _⟩ => ⟨S2x32x256x4x256, .f32⟩
  | .hbm, ⟨20, _⟩ => ⟨S256x2x32x4x256, .f32⟩
  | .hbm, ⟨21, _⟩ => ⟨S32x256x4x256, .f32⟩
  | .hbm, ⟨22, _⟩ => ⟨S1x32x256x4x256, .f32⟩
  | .hbm, ⟨23, _⟩ => ⟨S1x32x256x4x256, .f32⟩
  | .hbm, ⟨24, _⟩ => ⟨S2x32x256x4x256, .f32⟩
  | .hbm, ⟨25, _⟩ => ⟨S256x2x32x4x256, .f32⟩
  | .hbm, ⟨26, _⟩ => ⟨S32x256x4x512, .f32⟩
  | .hbm, ⟨27, _⟩ => ⟨S1x32x256x4x512, .f32⟩
  | .hbm, ⟨28, _⟩ => ⟨S1x32x256x4x512, .f32⟩
  | .hbm, ⟨29, _⟩ => ⟨S2x32x256x4x512, .f32⟩
  | .hbm, ⟨30, _⟩ => ⟨S256x2x32x4x512, .f32⟩
  | .hbm, ⟨31, _⟩ => ⟨S_, .f32⟩
  | .hbm, ⟨32, _⟩ => ⟨S256x2x32x4x512, .f32⟩
  | .hbm, ⟨33, _⟩ => ⟨S_, .i32⟩
  | .hbm, ⟨34, _⟩ => ⟨S256x2x32x4x256, .f32⟩
  | .hbm, ⟨35, _⟩ => ⟨S256x2x32x4x256, .f32⟩
  | .hbm, ⟨36, _⟩ => ⟨S256x2x32x4x512, .f32⟩
  | .hbm, ⟨37, _⟩ => ⟨S2x1x4x1x1, .f32⟩
  | .hbm, ⟨38, _⟩ => ⟨S_, .i32⟩
  | .hbm, ⟨39, _⟩ => ⟨S2x32x4x256x512, .f32⟩
  | .hbm, ⟨40, _⟩ => ⟨S256x2x32x4x512, .f32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1x2x32x4x256, .f32⟩
  | .hbm, ⟨48, _⟩ => ⟨S2x32x4x256, .f32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x2x32x4x256, .f32⟩
  | .hbm, ⟨54, _⟩ => ⟨S2x32x4x256, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S1x2x32x4x512, .f32⟩
  | .hbm, ⟨60, _⟩ => ⟨S2x32x4x512, .f32⟩
  | .hbm, ⟨61, _⟩ => ⟨S2x32x4x256x512, .f32⟩
  | .hbm, ⟨62, _⟩ => ⟨S2x32x4x256x512, .f32⟩
  | .hbm, ⟨63, _⟩ => ⟨S2x32x4x256x1, .f32⟩
  | .hbm, ⟨64, _⟩ => ⟨S2x32x4x1x512, .f32⟩
  | .hbm, ⟨65, _⟩ => ⟨S2x32x4x256x512, .f32⟩
  | .hbm, ⟨66, _⟩ => ⟨S2x32x4x256x512, .f32⟩
  | .hbm, ⟨67, _⟩ => ⟨S2x32x4x256x512, .f32⟩
  | .hbm, ⟨68, _⟩ => ⟨S2x32x4x256x512, .f32⟩
  | .hbm, ⟨69, _⟩ => ⟨S2x32x4x512, .f32⟩
  | .hbm, ⟨70, _⟩ => ⟨S1x2x32x4x512, .f32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S256x2x32x4x512, .f32⟩
  | .hbm, ⟨76, _⟩ => ⟨S_, .i32⟩
  | .hbm, ⟨77, _⟩ => ⟨S_, .i32⟩
  | .hbm, ⟨78, _⟩ => ⟨S2x32x256x4x512, .f32⟩
  | .hbm, ⟨79, _⟩ => ⟨S1x32x256x4x512, .f32⟩
  | .hbm, ⟨80, _⟩ => ⟨S32x256x4x512, .f32⟩
  | .hbm, ⟨81, _⟩ => ⟨S1x32x256x4x512, .f32⟩
  | .hbm, ⟨82, _⟩ => ⟨S32x256x4x512, .f32⟩
  | .hbm, ⟨83, _⟩ => ⟨S32x256x4x512, .f32⟩
  | .hbm, ⟨84, _⟩ => ⟨S32x256x4x512, .f32⟩
  | .hbm, ⟨85, _⟩ => ⟨S8192x2048, .f32⟩
  | .hbm, ⟨86, _⟩ => ⟨S8192x2048, .bf16⟩
  | .hbm, ⟨87, _⟩ => ⟨S32x2x4x256x512, .f32⟩
  | _, _ => ⟨S2x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_v26 : Ref sig .tc := ⟨.hbm, 32, rfl⟩
abbrev main_c : Ref sig .tc := ⟨.hbm, 33, rfl⟩
abbrev main_v27_0 : Ref sig .tc := ⟨.hbm, 34, rfl⟩
abbrev main_v27_1 : Ref sig .tc := ⟨.hbm, 35, rfl⟩
abbrev main_v27_2 : Ref sig .tc := ⟨.hbm, 36, rfl⟩
abbrev main_v27_3 : Ref sig .tc := ⟨.hbm, 37, rfl⟩
abbrev main_v27_4 : Ref sig .tc := ⟨.hbm, 38, rfl⟩
abbrev main_v27_5 : Ref sig .tc := ⟨.hbm, 39, rfl⟩
abbrev main_v27_6 : Ref sig .tc := ⟨.hbm, 40, rfl⟩
abbrev main_while0c_c_7 : Ref sig .tc := ⟨.hbm, 41, rfl⟩
abbrev main_while0c_v38 : Ref sig .tc := ⟨.hbm, 42, rfl⟩
abbrev main_while0b_call3_c : Ref sig .tc := ⟨.hbm, 43, rfl⟩
abbrev main_while0b_call3_c_0 : Ref sig .tc := ⟨.hbm, 44, rfl⟩
abbrev main_while0b_call3_c_1 : Ref sig .tc := ⟨.hbm, 45, rfl⟩
abbrev main_while0b_call3_c_2 : Ref sig .tc := ⟨.hbm, 46, rfl⟩
abbrev main_while0b_call3_v0 : Ref sig .tc := ⟨.hbm, 47, rfl⟩
abbrev main_while0b_v38 : Ref sig .tc := ⟨.hbm, 48, rfl⟩
abbrev main_while0b_call4_c : Ref sig .tc := ⟨.hbm, 49, rfl⟩
abbrev main_while0b_call4_c_0 : Ref sig .tc := ⟨.hbm, 50, rfl⟩
abbrev main_while0b_call4_c_1 : Ref sig .tc := ⟨.hbm, 51, rfl⟩
abbrev main_while0b_call4_c_2 : Ref sig .tc := ⟨.hbm, 52, rfl⟩
abbrev main_while0b_call4_v0 : Ref sig .tc := ⟨.hbm, 53, rfl⟩
abbrev main_while0b_v39 : Ref sig .tc := ⟨.hbm, 54, rfl⟩
abbrev main_while0b_call5_c : Ref sig .tc := ⟨.hbm, 55, rfl⟩
abbrev main_while0b_call5_c_0 : Ref sig .tc := ⟨.hbm, 56, rfl⟩
abbrev main_while0b_call5_c_1 : Ref sig .tc := ⟨.hbm, 57, rfl⟩
abbrev main_while0b_call5_c_2 : Ref sig .tc := ⟨.hbm, 58, rfl⟩
abbrev main_while0b_call5_v0 : Ref sig .tc := ⟨.hbm, 59, rfl⟩
abbrev main_while0b_v40 : Ref sig .tc := ⟨.hbm, 60, rfl⟩
abbrev main_while0b_v41 : Ref sig .tc := ⟨.hbm, 61, rfl⟩
abbrev main_while0b_v42 : Ref sig .tc := ⟨.hbm, 62, rfl⟩
abbrev main_while0b_v43 : Ref sig .tc := ⟨.hbm, 63, rfl⟩
abbrev main_while0b_v44 : Ref sig .tc := ⟨.hbm, 64, rfl⟩
abbrev main_while0b_v45 : Ref sig .tc := ⟨.hbm, 65, rfl⟩
abbrev main_while0b_v46 : Ref sig .tc := ⟨.hbm, 66, rfl⟩
abbrev main_while0b_v47 : Ref sig .tc := ⟨.hbm, 67, rfl⟩
abbrev main_while0b_v48 : Ref sig .tc := ⟨.hbm, 68, rfl⟩
abbrev main_while0b_v49 : Ref sig .tc := ⟨.hbm, 69, rfl⟩
abbrev main_while0b_call6_v0 : Ref sig .tc := ⟨.hbm, 70, rfl⟩
abbrev main_while0b_call6_c : Ref sig .tc := ⟨.hbm, 71, rfl⟩
abbrev main_while0b_call6_c_0 : Ref sig .tc := ⟨.hbm, 72, rfl⟩
abbrev main_while0b_call6_c_1 : Ref sig .tc := ⟨.hbm, 73, rfl⟩
abbrev main_while0b_call6_c_2 : Ref sig .tc := ⟨.hbm, 74, rfl⟩
abbrev main_while0b_v50 : Ref sig .tc := ⟨.hbm, 75, rfl⟩
abbrev main_while0b_c_7 : Ref sig .tc := ⟨.hbm, 76, rfl⟩
abbrev main_while0b_v51 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩

abbrev nD : Nat := 1
abbrev τ : Topo := Topo.v7x

variable {F : FTy → Type} [FloatOps F]

abbrev main_while0_count : Scf.Loop 32 := ⟨0#32, 256#32, 1#32⟩
-- ==== Att.lean ====
abbrev S32x256x512 : Shape := ⟨3, ![32, 256, 512]⟩
abbrev S2x8192x64 : Shape := ⟨3, ![2, 8192, 64]⟩
abbrev S_ : Shape := ⟨0, ![]⟩
abbrev S1 : Shape := ⟨1, ![1]⟩
abbrev S2x8192 : Shape := ⟨2, ![2, 8192]⟩
abbrev S2x8192x128 : Shape := ⟨3, ![2, 8192, 128]⟩
abbrev S1x256x512 : Shape := ⟨3, ![1, 256, 512]⟩
abbrev S2x256x64 : Shape := ⟨3, ![2, 256, 64]⟩
abbrev S2x256x128 : Shape := ⟨3, ![2, 256, 128]⟩
abbrev S4x1x512x256 : Shape := ⟨4, ![4, 1, 512, 256]⟩
abbrev S4x512x128 : Shape := ⟨3, ![4, 512, 128]⟩
abbrev S1x128x256 : Shape := ⟨3, ![1, 128, 256]⟩
abbrev S128x256 : Shape := ⟨2, ![128, 256]⟩
abbrev S128x64 : Shape := ⟨2, ![128, 64]⟩
abbrev S512x64 : Shape := ⟨2, ![512, 64]⟩
abbrev S1x256x64 : Shape := ⟨3, ![1, 256, 64]⟩
abbrev S256x64 : Shape := ⟨2, ![256, 64]⟩
abbrev S512x256 : Shape := ⟨2, ![512, 256]⟩
abbrev S1x1x512x256 : Shape := ⟨4, ![1, 1, 512, 256]⟩
abbrev S1x512x256 : Shape := ⟨3, ![1, 512, 256]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩
abbrev S1x256x128 : Shape := ⟨3, ![1, 256, 128]⟩
abbrev S256x128 : Shape := ⟨2, ![256, 128]⟩

abbrev nBuf : Space → Nat
  | .hbm => 17
  | .vmem => 10
  | .smem => 0
  | _ => 0

abbrev bufTy : (tb : Table) → Fin (tcTables nBuf tb) → BufTy
  | .hbm, ⟨0, _⟩ => ⟨S32x256x512, .bf16⟩
  | .hbm, ⟨1, _⟩ => ⟨S2x8192x64, .bf16⟩
  | .hbm, ⟨2, _⟩ => ⟨S2x8192x64, .bf16⟩
  | .hbm, ⟨3, _⟩ => ⟨S32x256x512, .f32⟩
  | .hbm, ⟨4, _⟩ => ⟨S_, .f32⟩
  | .hbm, ⟨5, _⟩ => ⟨S32x256x512, .f32⟩
  | .hbm, ⟨6, _⟩ => ⟨S32x256x512, .f32⟩
  | .hbm, ⟨7, _⟩ => ⟨S32x256x512, .bf16⟩
  | .hbm, ⟨8, _⟩ => ⟨S_, .bf16⟩
  | .hbm, ⟨9, _⟩ => ⟨S2x8192x64, .bf16⟩
  | .hbm, ⟨10, _⟩ => ⟨S_, .i32⟩
  | .hbm, ⟨11, _⟩ => ⟨S1, .i32⟩
  | .hbm, ⟨12, _⟩ => ⟨S_, .bf16⟩
  | .hbm, ⟨13, _⟩ => ⟨S2x8192, .bf16⟩
  | .hbm, ⟨14, _⟩ => ⟨S2x8192x64, .bf16⟩
  | .hbm, ⟨15, _⟩ => ⟨S2x8192x128, .bf16⟩
  | .hbm, ⟨16, _⟩ => ⟨S32x256x512, .bf16⟩
  | .local _ .vmem, ⟨0, _⟩ => ⟨S1x256x512, .bf16⟩
  | .local _ .vmem, ⟨1, _⟩ => ⟨S1x256x512, .bf16⟩
  | .local _ .vmem, ⟨2, _⟩ => ⟨S2x256x64, .bf16⟩
  | .local _ .vmem, ⟨3, _⟩ => ⟨S2x256x64, .bf16⟩
  | .local _ .vmem, ⟨4, _⟩ => ⟨S2x256x128, .bf16⟩
  | .local _ .vmem, ⟨5, _⟩ => ⟨S2x256x128, .bf16⟩
  | .local _ .vmem, ⟨6, _⟩ => ⟨S1x256x512, .bf16⟩
  | .local _ .vmem, ⟨7, _⟩ => ⟨S1x256x512, .bf16⟩
  | .local _ .vmem, ⟨8, _⟩ => ⟨S4x1x512x256, .f32⟩
  | .local _ .vmem, ⟨9, _⟩ => ⟨S4x512x128, .f32⟩
  | _, _ => ⟨S32x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttRefIdeal.lean ====
abbrev S32x256x512 : Shape := ⟨3, ![32, 256, 512]⟩
abbrev S2x8192x64 : Shape := ⟨3, ![2, 8192, 64]⟩
abbrev S32x256x2x4x64 : Shape := ⟨5, ![32, 256, 2, 4, 64]⟩
abbrev S2x32x256x64 : Shape := ⟨4, ![2, 32, 256, 64]⟩
abbrev S32x2x256x256x4 : Shape := ⟨5, ![32, 2, 256, 256, 4]⟩
abbrev S32x2x4x256x256 : Shape := ⟨5, ![32, 2, 4, 256, 256]⟩
abbrev S_ : Shape := ⟨0, ![]⟩
abbrev S32x2x4x256 : Shape := ⟨4, ![32, 2, 4, 256]⟩
abbrev S32x2x4x256x1 : Shape := ⟨5, ![32, 2, 4, 256, 1]⟩
abbrev S32x2x64x4x256 : Shape := ⟨5, ![32, 2, 64, 4, 256]⟩

abbrev nBuf : Space → Nat
  | .hbm => 32
  | .vmem => 0
  | .smem => 0
  | _ => 0

abbrev bufTy : (tb : Table) → Fin (tcTables nBuf tb) → BufTy
  | .hbm, ⟨0, _⟩ => ⟨S32x256x512, .bf16⟩
  | .hbm, ⟨1, _⟩ => ⟨S2x8192x64, .bf16⟩
  | .hbm, ⟨2, _⟩ => ⟨S2x8192x64, .bf16⟩
  | .hbm, ⟨3, _⟩ => ⟨S32x256x512, .f32⟩
  | .hbm, ⟨4, _⟩ => ⟨S32x256x2x4x64, .f32⟩
  | .hbm, ⟨5, _⟩ => ⟨S2x8192x64, .f32⟩
  | .hbm, ⟨6, _⟩ => ⟨S2x32x256x64, .f32⟩
  | .hbm, ⟨7, _⟩ => ⟨S2x8192x64, .f32⟩
  | .hbm, ⟨8, _⟩ => ⟨S2x32x256x64, .f32⟩
  | .hbm, ⟨9, _⟩ => ⟨S32x2x256x256x4, .f32⟩
  | .hbm, ⟨10, _⟩ => ⟨S32x2x4x256x256, .f32⟩
  | .hbm, ⟨11, _⟩ => ⟨S_, .f32⟩
  | .hbm, ⟨12, _⟩ => ⟨S32x2x4x256x256, .f32⟩
  | .hbm, ⟨13, _⟩ => ⟨S32x2x4x256x256, .f32⟩
  | .hbm, ⟨14, _⟩ => ⟨S_, .f32⟩
  | .hbm, ⟨15, _⟩ => ⟨S32x2x4x256, .f32⟩
  | .hbm, ⟨16, _⟩ => ⟨S_, .f32⟩
  | .hbm, ⟨17, _⟩ => ⟨S32x2x4x256, .f32⟩
  | .hbm, ⟨18, _⟩ => ⟨S32x2x4x256, .f32⟩
  | .hbm, ⟨19, _⟩ => ⟨S32x2x4x256x1, .f32⟩
  | .hbm, ⟨20, _⟩ => ⟨S32x2x4x256x256, .f32⟩
  | .hbm, ⟨21, _⟩ => ⟨S32x2x4x256x256, .f32⟩
  | .hbm, ⟨22, _⟩ => ⟨S32x2x4x256x256, .f32⟩
  | .hbm, ⟨23, _⟩ => ⟨S_, .f32⟩
  | .hbm, ⟨24, _⟩ => ⟨S32x2x4x256, .f32⟩
  | .hbm, ⟨25, _⟩ => ⟨S32x2x4x256x1, .f32⟩
  | .hbm, ⟨26, _⟩ => ⟨S32x2x4x256x256, .f32⟩
  | .hbm, ⟨27, _⟩ => ⟨S32x2x4x256x256, .f32⟩
  | .hbm, ⟨28, _⟩ => ⟨S32x2x64x4x256, .f32⟩
  | .hbm, ⟨29, _⟩ => ⟨S32x256x2x4x64, .f32⟩
  | .hbm, ⟨30, _⟩ => ⟨S32x256x512, .f32⟩
  | .hbm, ⟨31, _⟩ => ⟨S32x256x512, .bf16⟩
  | _, _ => ⟨S32x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== PostC.lean ====
abbrev S8192x1024 : Shape := ⟨2, ![8192, 1024]⟩
abbrev S1x1x6144 : Shape := ⟨3, ![1, 1, 6144]⟩
abbrev S1024 : Shape := ⟨1, ![1024]⟩
abbrev S2048x1024 : Shape := ⟨2, ![2048, 1024]⟩
abbrev S1024x2816 : Shape := ⟨2, ![1024, 2816]⟩
abbrev S2816x1024 : Shape := ⟨2, ![2816, 1024]⟩
abbrev S8192x2048 : Shape := ⟨2, ![8192, 2048]⟩
abbrev S2048 : Shape := ⟨1, ![2048]⟩
abbrev S1x1024 : Shape := ⟨2, ![1, 1024]⟩
abbrev S1x2048 : Shape := ⟨2, ![1, 2048]⟩
abbrev S512x1024 : Shape := ⟨2, ![512, 1024]⟩
abbrev S1x1x1024 : Shape := ⟨3, ![1, 1, 1024]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S512x2816 : Shape := ⟨2, ![512, 2816]⟩

abbrev nBuf : Space → Nat
  | .hbm => 15
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1x1x6144, .f32⟩
  | .hbm, ⟨2, _⟩ => ⟨S1024, .f32⟩
  | .hbm, ⟨3, _⟩ => ⟨S2048x1024, .bf16⟩
  | .hbm, ⟨4, _⟩ => ⟨S1024x2816, .bf16⟩
  | .hbm, ⟨5, _⟩ => ⟨S1024x2816, .bf16⟩
  | .hbm, ⟨6, _⟩ => ⟨S2816x1024, .bf16⟩
  | .hbm, ⟨7, _⟩ => ⟨S1024, .f32⟩
  | .hbm, ⟨8, _⟩ => ⟨S8192x2048, .bf16⟩
  | .hbm, ⟨9, _⟩ => ⟨S8192x2048, .bf16⟩
  | .hbm, ⟨10, _⟩ => ⟨S2048, .f32⟩
  | .hbm, ⟨11, _⟩ => ⟨S1x1024, .f32⟩
  | .hbm, ⟨12, _⟩ => ⟨S1x2048, .f32⟩
  | .hbm, ⟨13, _⟩ => ⟨S1x1024, .f32⟩
  | .hbm, ⟨14, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S2048x1024, .bf16⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S1x2048, .f32⟩
  | .local _ .vmem, ⟨21, _⟩ => ⟨S512x1024, .f32⟩
  | .local _ .vmem, ⟨22, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c2_i32 : BitVec 32 := 2#32
  let c0_i32_5 : BitVec 32 := 0#32
  ![v17.toNat, c0_i32_4.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c3_i32 : BitVec 32 := 3#32
  let c0_i32_5 : BitVec 32 := 0#32
  ![v17.toNat, c0_i32_4.toNat, c3_i32.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c4_i32 : BitVec 32 := 4#32
  let c0_i32_5 : BitVec 32 := 0#32
  ![v17.toNat, c0_i32_4.toNat, c4_i32.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c5_i32 : BitVec 32 := 5#32
  let c0_i32_5 : BitVec 32 := 0#32
  ![v17.toNat, c0_i32_4.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== PostCRefIdeal.lean ====
abbrev S8192x1024 : Shape := ⟨2, ![8192, 1024]⟩
abbrev S1x1x6144 : Shape := ⟨3, ![1, 1, 6144]⟩
abbrev S1024 : Shape := ⟨1, ![1024]⟩
abbrev S2048x1024 : Shape := ⟨2, ![2048, 1024]⟩
abbrev S1024x2816 : Shape := ⟨2, ![1024, 2816]⟩
abbrev S2816x1024 : Shape := ⟨2, ![2816, 1024]⟩
abbrev S8192x2048 : Shape := ⟨2, ![8192, 2048]⟩
abbrev S2048 : Shape := ⟨1, ![2048]⟩
abbrev S8192x4x512 : Shape := ⟨3, ![8192, 4, 512]⟩
abbrev S4x512 : Shape := ⟨2, ![4, 512]⟩
abbrev S_ : Shape := ⟨0, ![]⟩
abbrev S8192x4 : Shape := ⟨2, ![8192, 4]⟩
abbrev S8192x4x1 : Shape := ⟨3, ![8192, 4, 1]⟩
abbrev S1x4x512 : Shape := ⟨3, ![1, 4, 512]⟩
abbrev S1x6144 : Shape := ⟨2, ![1, 6144]⟩
abbrev S1x1024 : Shape := ⟨2, ![1, 1024]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 103
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1x6144, .f32⟩
  | .hbm, ⟨2, _⟩ => ⟨S1024, .f32⟩
  | .hbm, ⟨3, _⟩ => ⟨S2048x1024, .bf16⟩
  | .hbm, ⟨4, _⟩ => ⟨S1024x2816, .bf16⟩
  | .hbm, ⟨5, _⟩ => ⟨S1024x2816, .bf16⟩
  | .hbm, ⟨6, _⟩ => ⟨S2816x1024, .bf16⟩
  | .hbm, ⟨7, _⟩ => ⟨S1024, .f32⟩
  | .hbm, ⟨8, _⟩ => ⟨S8192x2048, .bf16⟩
  | .hbm, ⟨9, _⟩ => ⟨S8192x2048, .bf16⟩
  | .hbm, ⟨10, _⟩ => ⟨S2048, .f32⟩
  | .hbm, ⟨11, _⟩ => ⟨S8192x2048, .f32⟩
  | .hbm, ⟨12, _⟩ => ⟨S8192x4x512, .f32⟩
  | .hbm, ⟨13, _⟩ => ⟨S4x512, .f32⟩
  | .hbm, ⟨14, _⟩ => ⟨S8192x4x512, .f32⟩
  | .hbm, ⟨15, _⟩ => ⟨S_, .f32⟩
  | .hbm, ⟨16, _⟩ => ⟨S8192x4, .f32⟩
  | .hbm, ⟨17, _⟩ => ⟨S8192x4x1, .f32⟩
  | .hbm, ⟨18, _⟩ => ⟨S_, .f32⟩
  | .hbm, ⟨19, _⟩ => ⟨S8192x4x1, .f32⟩
  | .hbm, ⟨20, _⟩ => ⟨S8192x4x1, .f32⟩
  | .hbm, ⟨21, _⟩ => ⟨S_, .f32⟩
  | .hbm, ⟨22, _⟩ => ⟨S8192x4x1, .f32⟩
  | .hbm, ⟨23, _⟩ => ⟨S8192x4x1, .f32⟩
  | .hbm, ⟨24, _⟩ => ⟨S8192x4x1, .f32⟩
  | .hbm, ⟨25, _⟩ => ⟨S8192x4x512, .f32⟩
  | .hbm, ⟨26, _⟩ => ⟨S8192x4x512, .f32⟩
  | .hbm, ⟨27, _⟩ => ⟨S1x4x512, .f32⟩
  | .hbm, ⟨28, _⟩ => ⟨S8192x4x512, .f32⟩
  | .hbm, ⟨29, _⟩ => ⟨S8192x4x512, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S2048x1024, .f32⟩
  | .hbm, ⟨34, _⟩ => ⟨S8192x1024, .f32⟩
  | .hbm, ⟨35, _⟩ => ⟨S1x6144, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1x1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S1024x2816, .f32⟩
  | .hbm, ⟨69, _⟩ => ⟨S8192x2816, .f32⟩
  | .hbm, ⟨70, _⟩ => ⟨S8192x2816, .f32⟩
  | .hbm, ⟨71, _⟩ => ⟨S8192x2816, .f32⟩
  | .hbm, ⟨72, _⟩ => ⟨S_, .f32⟩
  | .hbm, ⟨73, _⟩ => ⟨S8192x2816, .f32⟩
  | .hbm, ⟨74, _⟩ => ⟨S8192x2816, .f32⟩
  | .hbm, ⟨75, _⟩ => ⟨S_, .f32⟩
  | .hbm, ⟨76, _⟩ => ⟨S8192x2816, .f32⟩
  | .hbm, ⟨77, _⟩ => ⟨S8192x2816, .f32⟩
  | .hbm, ⟨78, _⟩ => ⟨S8192x2816, .f32⟩
  | .hbm, ⟨79, _⟩ => ⟨S1024x2816, .f32⟩
  | .hbm, ⟨80, _⟩ => ⟨S8192x2816, .f32⟩
  | .hbm, ⟨81, _⟩ => ⟨S8192x2816, .f32⟩
  | .hbm, ⟨82, _⟩ => ⟨S2816x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S8192x1, .f32⟩
  | .hbm, ⟨98, _⟩ => ⟨S8192x1024, .f32⟩
  | .hbm, ⟨99, _⟩ => ⟨S8192x1024, .f32⟩
  | .hbm, ⟨100, _⟩ => ⟨S1x1024, .f32⟩
  | .hbm, ⟨101, _⟩ => ⟨S8192x1024, .f32⟩
  | .hbm, ⟨102, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_6 : Ref sig .tc := ⟨.hbm, 88, rfl⟩
abbrev main_v62 : Ref sig .tc := ⟨.hbm, 89, rfl⟩
abbrev main_v63 : Ref sig .tc := ⟨.hbm, 90, rfl⟩
abbrev main_cst_7 : Ref sig .tc := ⟨.hbm, 91, rfl⟩
abbrev main_v64 : Ref sig .tc := ⟨.hbm, 92, rfl⟩
abbrev main_v65 : Ref sig .tc := ⟨.hbm, 93, rfl⟩
abbrev main_cst_8 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩

abbrev nD : Nat := 1
abbrev τ : Topo := Topo.v7x

variable {F : FTy → Type} [FloatOps F]
-- ==== PostAb.lean ====
abbrev S8192x1024 : Shape := ⟨2, ![8192, 1024]⟩
abbrev S1x1x6144 : Shape := ⟨3, ![1, 1, 6144]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S8192x512 : Shape := ⟨2, ![8192, 512]⟩
abbrev S512 : Shape := ⟨1, ![512]⟩
abbrev S1x1024 : Shape := ⟨2, ![1, 1024]⟩
abbrev S1x512 : Shape := ⟨2, ![1, 512]⟩
abbrev S512x1024 : Shape := ⟨2, ![512, 1024]⟩
abbrev S1x1x1024 : Shape := ⟨3, ![1, 1, 1024]⟩
abbrev S512x512 : Shape := ⟨2, ![512, 512]⟩
abbrev S512x1 : Shape := ⟨2, ![512, 1]⟩
abbrev S512x2816 : Shape := ⟨2, ![512, 2816]⟩

abbrev nBuf : Space → Nat
  | .hbm => 15
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S1x1x6144, .f32⟩
  | .hbm, ⟨2, _⟩ => ⟨S1024, .f32⟩
  | .hbm, ⟨3, _⟩ => ⟨S1024x1024, .bf16⟩
  | .hbm, ⟨4, _⟩ => ⟨S1024x2816, .bf16⟩
  | .hbm, ⟨5, _⟩ => ⟨S1024x2816, .bf16⟩
  | .hbm, ⟨6, _⟩ => ⟨S2816x1024, .bf16⟩
  | .hbm, ⟨7, _⟩ => ⟨S8192x512, .bf16⟩
  | .hbm, ⟨8, _⟩ => ⟨S8192x512, .bf16⟩
  | .hbm, ⟨9, _⟩ => ⟨S8192x512, .bf16⟩
  | .hbm, ⟨10, _⟩ => ⟨S8192x512, .bf16⟩
  | .hbm, ⟨11, _⟩ => ⟨S512, .f32⟩
  | .hbm, ⟨12, _⟩ => ⟨S1x1024, .f32⟩
  | .hbm, ⟨13, _⟩ => ⟨S1x512, .f32⟩
  | .hbm, ⟨14, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1024x1024, .bf16⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S1x512, .f32⟩
  | .local _ .vmem, ⟨24, _⟩ => ⟨S512x1024, .f32⟩
  | .local _ .vmem, ⟨25, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c2_i32 : BitVec 32 := 2#32
  let c0_i32_5 : BitVec 32 := 0#32
  ![v17.toNat, c0_i32_4.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c3_i32 : BitVec 32 := 3#32
  let c0_i32_5 : BitVec 32 := 0#32
  ![v17.toNat, c0_i32_4.toNat, c3_i32.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c4_i32 : BitVec 32 := 4#32
  let c0_i32_5 : BitVec 32 := 0#32
  ![v17.toNat, c0_i32_4.toNat, c4_i32.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c5_i32 : BitVec 32 := 5#32
  let c0_i32_5 : BitVec 32 := 0#32
  ![v17.toNat, c0_i32_4.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== PostAbRefIdeal.lean ====
abbrev S8192x1024 : Shape := ⟨2, ![8192, 1024]⟩
abbrev S1x1x6144 : Shape := ⟨3, ![1, 1, 6144]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S8192x512 : Shape := ⟨2, ![8192, 512]⟩
abbrev S512 : Shape := ⟨1, ![512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S1x6144 : Shape := ⟨2, ![1, 6144]⟩
abbrev S1x1024 : Shape := ⟨2, ![1, 1024]⟩
abbrev S8192x2816 : Shape := ⟨2, ![8192, 2816]⟩

abbrev nBuf : Space → Nat
  | .hbm => 98
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1x6144, .f32⟩
  | .hbm, ⟨2, _⟩ => ⟨S1024, .f32⟩
  | .hbm, ⟨3, _⟩ => ⟨S1024x1024, .bf16⟩
  | .hbm, ⟨4, _⟩ => ⟨S1024x2816, .bf16⟩
  | .hbm, ⟨5, _⟩ => ⟨S1024x2816, .bf16⟩
  | .hbm, ⟨6, _⟩ => ⟨S2816x1024, .bf16⟩
  | .hbm, ⟨7, _⟩ => ⟨S8192x512, .bf16⟩
  | .hbm, ⟨8, _⟩ => ⟨S8192x512, .bf16⟩
  | .hbm, ⟨9, _⟩ => ⟨S8192x512, .bf16⟩
  | .hbm, ⟨10, _⟩ => ⟨S8192x512, .bf16⟩
  | .hbm, ⟨11, _⟩ => ⟨S512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S_, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x512, .f32⟩
  | .hbm, ⟨38, _⟩ => ⟨S8192x512, .f32⟩
  | .hbm, ⟨39, _⟩ => ⟨S1x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x1024, .f32⟩
  | .hbm, ⟨44, _⟩ => ⟨S1024x1024, .f32⟩
  | .hbm, ⟨45, _⟩ => ⟨S8192x1024, .f32⟩
  | .hbm, ⟨46, _⟩ => ⟨S1x6144, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S1x1024, .f32⟩
  | .hbm, ⟨70, _⟩ => ⟨S8192x1024, .f32⟩
  | .hbm, ⟨71, _⟩ => ⟨S8192x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S1024x2816, .f32⟩
  | .hbm, ⟨80, _⟩ => ⟨S8192x2816, .f32⟩
  | .hbm, ⟨81, _⟩ => ⟨S8192x2816, .f32⟩
  | .hbm, ⟨82, _⟩ => ⟨S8192x2816, .f32⟩
  | .hbm, ⟨83, _⟩ => ⟨S_, .f32⟩
  | .hbm, ⟨84, _⟩ => ⟨S8192x2816, .f32⟩
  | .hbm, ⟨85, _⟩ => ⟨S8192x2816, .f32⟩
  | .hbm, ⟨86, _⟩ => ⟨S_, .f32⟩
  | .hbm, ⟨87, _⟩ => ⟨S8192x2816, .f32⟩
  | .hbm, ⟨88, _⟩ => ⟨S8192x2816, .f32⟩
  | .hbm, ⟨89, _⟩ => ⟨S8192x2816, .f32⟩
  | .hbm, ⟨90, _⟩ => ⟨S1024x2816, .f32⟩
  | .hbm, ⟨91, _⟩ => ⟨S8192x2816, .f32⟩
  | .hbm, ⟨92, _⟩ => ⟨S8192x2816, .f32⟩
  | .hbm, ⟨93, _⟩ => ⟨S2816x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_cst_0 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_2 : Ref sig .tc := ⟨.hbm, 57, rfl⟩
abbrev main_v34 : Ref sig .tc := ⟨.hbm, 58, rfl⟩
abbrev main_v35 : Ref sig .tc := ⟨.hbm, 59, rfl⟩
abbrev main_cst_3 : Ref sig .tc := ⟨.hbm, 60, rfl⟩
abbrev main_v36 : Ref sig .tc := ⟨.hbm, 61, rfl⟩
abbrev main_v37 : Ref sig .tc := ⟨.hbm, 62, rfl⟩
abbrev main_cst_4 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_5 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_call1_v5 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩

abbrev nD : Nat := 1
abbrev τ : Topo := Topo.v7x

variable {F : FTy → Type} [FloatOps F]
-- ==== L1In.lean ====
abbrev S8192x1024 : Shape := ⟨2, ![8192, 1024]⟩
abbrev S1x1x6144 : Shape := ⟨3, ![1, 1, 6144]⟩
abbrev S1024 : Shape := ⟨1, ![1024]⟩
abbrev S1024x6144 : Shape := ⟨2, ![1024, 6144]⟩
abbrev S1x1024 : Shape := ⟨2, ![1, 1024]⟩
abbrev S8192x2048 : Shape := ⟨2, ![8192, 2048]⟩
abbrev S512x1024 : Shape := ⟨2, ![512, 1024]⟩
abbrev S1x1x1024 : Shape := ⟨3, ![1, 1, 1024]⟩
abbrev S512x2048 : Shape := ⟨2, ![512, 2048]⟩
abbrev S512 : Shape := ⟨1, ![512]⟩
abbrev S512x1 : Shape := ⟨2, ![512, 1]⟩
abbrev S1024x1024 : Shape := ⟨2, ![1024, 1024]⟩
abbrev S1024x2048 : Shape := ⟨2, ![1024, 2048]⟩

abbrev nBuf : Space → Nat
  | .hbm => 9
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1x6144, .f32⟩
  | .hbm, ⟨2, _⟩ => ⟨S1024, .f32⟩
  | .hbm, ⟨3, _⟩ => ⟨S1024x6144, .bf16⟩
  | .hbm, ⟨4, _⟩ => ⟨S1x1024, .f32⟩
  | .hbm, ⟨5, _⟩ => ⟨S8192x1024, .bf16⟩
  | .hbm, ⟨6, _⟩ => ⟨S8192x1024, .bf16⟩
  | .hbm, ⟨7, _⟩ => ⟨S8192x2048, .bf16⟩
  | .hbm, ⟨8, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x6144, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c1_i32_5 : BitVec 32 := 1#32
  let c0_i32_6 : BitVec 32 := 0#32
  ![v17.toNat, c0_i32_4.toNat, c1_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== L1InRefIdeal.lean ====
abbrev S8192x1024 : Shape := ⟨2, ![8192, 1024]⟩
abbrev S1x1x6144 : Shape := ⟨3, ![1, 1, 6144]⟩
abbrev S1024 : Shape := ⟨1, ![1024]⟩
abbrev S1024x6144 : Shape := ⟨2, ![1024, 6144]⟩
abbrev S1x6144 : Shape := ⟨2, ![1, 6144]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x6144 : Shape := ⟨2, ![8192, 6144]⟩
abbrev S8192x2048 : Shape := ⟨2, ![8192, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1x6144, .f32⟩
  | .hbm, ⟨2, _⟩ => ⟨S1024, .f32⟩
  | .hbm, ⟨3, _⟩ => ⟨S1024x6144, .bf16⟩
  | .hbm, ⟨4, _⟩ => ⟨S1x6144, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S1024x6144, .f32⟩
  | .hbm, ⟨35, _⟩ => ⟨S8192x6144, .f32⟩
  | .hbm, ⟨36, _⟩ => ⟨S8192x1024, .f32⟩
  | .hbm, ⟨37, _⟩ => ⟨S8192x1024, .f32⟩
  | .hbm, ⟨38, _⟩ => ⟨S8192x2048, .f32⟩
  | .hbm, ⟨39, _⟩ => ⟨S8192x2048, .f32⟩
  | .hbm, ⟨40, _⟩ => ⟨S8192x1024, .bf16⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .bf16⟩
  | .hbm, ⟨45, _⟩ => ⟨S8192x2048, .bf16⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== L0In.lean ====
abbrev S8192x1024 : Shape := ⟨2, ![8192, 1024]⟩
abbrev S1x1x6144 : Shape := ⟨3, ![1, 1, 6144]⟩
abbrev S1024 : Shape := ⟨1, ![1024]⟩
abbrev S1024x2176 : Shape := ⟨2, ![1024, 2176]⟩
abbrev S64 : Shape := ⟨1, ![64]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S_ : Shape := ⟨0, ![]⟩
abbrev S512x1 : Shape := ⟨2, ![512, 1]⟩
abbrev S512x512 : Shape := ⟨2, ![512, 512]⟩
abbrev S128x1 : Shape := ⟨2, ![128, 1]⟩
abbrev S128x128 : Shape := ⟨2, ![128, 128]⟩
abbrev S8192x512 : Shape := ⟨2, ![8192, 512]⟩
abbrev S2x8192x64 : Shape := ⟨3, ![2, 8192, 64]⟩
abbrev S2x8192x128 : Shape := ⟨3, ![2, 8192, 128]⟩
abbrev S8192x768 : Shape := ⟨2, ![8192, 768]⟩
abbrev S8192x128 : Shape := ⟨2, ![8192, 128]⟩
abbrev S32x2x64x256 : Shape := ⟨4, ![32, 2, 64, 256]⟩
abbrev S512x1024 : Shape := ⟨2, ![512, 1024]⟩
abbrev S1x1x1024 : Shape := ⟨3, ![1, 1, 1024]⟩
abbrev S2x512x64 : Shape := ⟨3, ![2, 512, 64]⟩
abbrev S2x512x128 : Shape := ⟨3, ![2, 512, 128]⟩
abbrev S512x768 : Shape := ⟨2, ![512, 768]⟩
abbrev S512x128 : Shape := ⟨2, ![512, 128]⟩
abbrev S2x2x64x256 : Shape := ⟨4, ![2, 2, 64, 256]⟩
abbrev S512x2176 : Shape := ⟨2, ![512, 2176]⟩
abbrev S256x128 : Shape := ⟨2, ![256, 128]⟩
abbrev S128x256 : Shape := ⟨2, ![128, 256]⟩
abbrev S64x256 : Shape := ⟨2, ![64, 256]⟩
abbrev S1x1x64x256 : Shape := ⟨4, ![1, 1, 64, 256]⟩
abbrev S512x64 : Shape := ⟨2, ![512, 64]⟩
abbrev S1x512x64 : Shape := ⟨3, ![1, 512, 64]⟩
abbrev S1x512x128 : Shape := ⟨3, ![1, 512, 128]⟩

abbrev nBuf : Space → Nat
  | .hbm => 83
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S1x1x6144, .f32⟩
  | .hbm, ⟨2, _⟩ => ⟨S1024, .f32⟩
  | .hbm, ⟨3, _⟩ => ⟨S1024x2176, .bf16⟩
  | .hbm, ⟨4, _⟩ => ⟨S64, .f32⟩
  | .hbm, ⟨5, _⟩ => ⟨S64, .f32⟩
  | .hbm, ⟨6, _⟩ => ⟨S1x1024, .f32⟩
  | .hbm, ⟨7, _⟩ => ⟨S1x64, .f32⟩
  | .hbm, ⟨8, _⟩ => ⟨S8x64, .f32⟩
  | .hbm, ⟨9, _⟩ => ⟨S512, .f32⟩
  | .hbm, ⟨10, _⟩ => ⟨S1x512, .f32⟩
  | .hbm, ⟨11, _⟩ => ⟨S1x64, .f32⟩
  | .hbm, ⟨12, _⟩ => ⟨S2x64, .f32⟩
  | .hbm, ⟨13, _⟩ => ⟨S128, .f32⟩
  | .hbm, ⟨14, _⟩ => ⟨S1x128, .f32⟩
  | .hbm, ⟨15, _⟩ => ⟨S512, .i32⟩
  | .hbm, ⟨16, _⟩ => ⟨S_, .i32⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S512, .i32⟩
  | .hbm, ⟨25, _⟩ => ⟨S512, .i32⟩
  | .hbm, ⟨26, _⟩ => ⟨S_, .i32⟩
  | .hbm, ⟨27, _⟩ => ⟨S512, .i32⟩
  | .hbm, ⟨28, _⟩ => ⟨S512, .i1⟩
  | .hbm, ⟨29, _⟩ => ⟨S512, .i1⟩
  | .hbm, ⟨30, _⟩ => ⟨S_, .i32⟩
  | .hbm, ⟨31, _⟩ => ⟨S512, .i32⟩
  | .hbm, ⟨32, _⟩ => ⟨S512, .i32⟩
  | .hbm, ⟨33, _⟩ => ⟨S512, .i32⟩
  | .hbm, ⟨34, _⟩ => ⟨S512x1, .i32⟩
  | .hbm, ⟨35, _⟩ => ⟨S1x512, .i32⟩
  | .hbm, ⟨36, _⟩ => ⟨S512x512, .i32⟩
  | .hbm, ⟨37, _⟩ => ⟨S512x512, .i32⟩
  | .hbm, ⟨38, _⟩ => ⟨S512x512, .i1⟩
  | .hbm, ⟨39, _⟩ => ⟨S_, .f32⟩
  | .hbm, ⟨40, _⟩ => ⟨S_, .f32⟩
  | .hbm, ⟨41, _⟩ => ⟨S512x512, .f32⟩
  | .hbm, ⟨42, _⟩ => ⟨S512x512, .f32⟩
  | .hbm, ⟨43, _⟩ => ⟨S512x512, .f32⟩
  | .hbm, ⟨44, _⟩ => ⟨S512x512, .bf16⟩
  | .hbm, ⟨45, _⟩ => ⟨S128, .i32⟩
  | .hbm, ⟨46, _⟩ => ⟨S_, .i32⟩
  | .hbm, ⟨47, _⟩ => ⟨S_, .i32⟩
  | .hbm, ⟨48, _⟩ => ⟨S128, .i32⟩
  | .hbm, ⟨49, _⟩ => ⟨S128, .i32⟩
  | .hbm, ⟨50, _⟩ => ⟨S128, .i32⟩
  | .hbm, ⟨51, _⟩ => ⟨S_, .i32⟩
  | .hbm, ⟨52, _⟩ => ⟨S128, .i32⟩
  | .hbm, ⟨53, _⟩ => ⟨S128, .i1⟩
  | .hbm, ⟨54, _⟩ => ⟨S128, .i32⟩
  | .hbm, ⟨55, _⟩ => ⟨S128, .i32⟩
  | .hbm, ⟨56, _⟩ => ⟨S_, .i32⟩
  | .hbm, ⟨57, _⟩ => ⟨S128, .i32⟩
  | .hbm, ⟨58, _⟩ => ⟨S128, .i1⟩
  | .hbm, ⟨59, _⟩ => ⟨S128, .i1⟩
  | .hbm, ⟨60, _⟩ => ⟨S_, .i32⟩
  | .hbm, ⟨61, _⟩ => ⟨S128, .i32⟩
  | .hbm, ⟨62, _⟩ => ⟨S128, .i32⟩
  | .hbm, ⟨63, _⟩ => ⟨S128, .i32⟩
  | .hbm, ⟨64, _⟩ => ⟨S128x1, .i32⟩
  | .hbm, ⟨65, _⟩ => ⟨S1x128, .i32⟩
  | .hbm, ⟨66, _⟩ => ⟨S128x128, .i32⟩
  | .hbm, ⟨67, _⟩ => ⟨S128x128, .i32⟩
  | .hbm, ⟨68, _⟩ => ⟨S128x128, .i1⟩
  | .hbm, ⟨69, _⟩ => ⟨S_, .f32⟩
  | .hbm, ⟨70, _⟩ => ⟨S_, .f32⟩
  | .hbm, ⟨71, _⟩ => ⟨S128x128, .f32⟩
  | .hbm, ⟨72, _⟩ => ⟨S128x128, .f32⟩
  | .hbm, ⟨73, _⟩ => ⟨S128x128, .f32⟩
  | .hbm, ⟨74, _⟩ => ⟨S128x128, .bf16⟩
  | .hbm, ⟨75, _⟩ => ⟨S8192x512, .bf16⟩
  | .hbm, ⟨76, _⟩ => ⟨S2x8192x64, .bf16⟩
  | .hbm, ⟨77, _⟩ => ⟨S2x8192x128, .bf16⟩
  | .hbm, ⟨78, _⟩ => ⟨S8192x512, .bf16⟩
  | .hbm, ⟨79, _⟩ => ⟨S8192x768, .f32⟩
  | .hbm, ⟨80, _⟩ => ⟨S8192x128, .f32⟩
  | .hbm, ⟨81, _⟩ => ⟨S32x2x64x256, .f32⟩
  | .hbm, ⟨82, _⟩ => ⟨S32x2x64x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2176, .bf16⟩
  | .local _ .vmem, ⟨8, _⟩ => ⟨S1x512, .f32⟩
  | .local _ .vmem, ⟨9, _⟩ => ⟨S1x128, .f32⟩
  | .local _ .vmem, ⟨10, _⟩ => ⟨S512x512, .bf16⟩
  | .local _ .vmem, ⟨11, _⟩ => ⟨S128x128, .bf16⟩
  | .local _ .vmem, ⟨12, _⟩ => ⟨S512x512, .bf16⟩
  | .local _ .vmem, ⟨13, _⟩ => ⟨S512x512, .bf16⟩
  | .local _ .vmem, ⟨14, _⟩ => ⟨S2x512x64, .bf16⟩
  | .local _ .vmem, ⟨15, _⟩ => ⟨S2x512x64, .bf16⟩
  | .local _ .vmem, ⟨16, _⟩ => ⟨S2x512x128, .bf16⟩
  | .local _ .vmem, ⟨17, _⟩ => ⟨S2x512x128, .bf16⟩
  | .local _ .vmem, ⟨18, _⟩ => ⟨S512x512, .bf16⟩
  | .local _ .vmem, ⟨19, _⟩ => ⟨S512x512, .bf16⟩
  | .local _ .vmem, ⟨20, _⟩ => ⟨S512x768, .f32⟩
  | .local _ .vmem, ⟨21, _⟩ => ⟨S512x768, .f32⟩
  | .local _ .vmem, ⟨22, _⟩ => ⟨S512x128, .f32⟩
  | .local _ .vmem, ⟨23, _⟩ => ⟨S512x128, .f32⟩
  | .local _ .vmem, ⟨24, _⟩ => ⟨S2x2x64x256, .f32⟩
  | .local _ .vmem, ⟨25, _⟩ => ⟨S2x2x64x256, .f32⟩
  | .local _ .vmem, ⟨26, _⟩ => ⟨S2x2x64x256, .f32⟩
  | .local _ .vmem, ⟨27, _⟩ => ⟨S2x2x64x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_1 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_c : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_0 : Ref sig .tc := ⟨.hbm, 60, rfl⟩
abbrev main_call2_v12 : Ref sig .tc := ⟨.hbm, 61, rfl⟩
abbrev main_call2_v13 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_cst_2 : Ref sig .tc := ⟨.hbm, 69, rfl⟩
abbrev main_cst_3 : Ref sig .tc := ⟨.hbm, 70, rfl⟩
abbrev main_call3_v0 : Ref sig .tc := ⟨.hbm, 71, rfl⟩
abbrev main_call3_v1 : Ref sig .tc := ⟨.hbm, 72, rfl⟩
abbrev main_v25 : Ref sig .tc := ⟨.hbm, 73, rfl⟩
abbrev main_v26 : Ref sig .tc := ⟨.hbm, 74, rfl⟩
abbrev main_v27_0 : Ref sig .tc := ⟨.hbm, 75, rfl⟩
abbrev main_v27_1 : Ref sig .tc := ⟨.hbm, 76, rfl⟩
abbrev main_v27_2 : Ref sig .tc := ⟨.hbm, 77, rfl⟩
abbrev main_v27_3 : Ref sig .tc := ⟨.hbm, 78, rfl⟩
abbrev main_v27_4 : Ref sig .tc := ⟨.hbm, 79, rfl⟩
abbrev main_v27_5 : Ref sig .tc := ⟨.hbm, 80, rfl⟩
abbrev main_v27_6 : Ref sig .tc := ⟨.hbm, 81, rfl⟩
abbrev main_v27_7 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c1_i32_5 : BitVec 32 := 1#32
  let c0_i32_6 : BitVec 32 := 0#32
  ![v17.toNat, c0_i32_4.toNat, c1_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2176 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x2x64x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x2x64x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== L0InRefIdeal.lean ====
abbrev S8192x1024 : Shape := ⟨2, ![8192, 1024]⟩
abbrev S1x1x6144 : Shape := ⟨3, ![1, 1, 6144]⟩
abbrev S1024 : Shape := ⟨1, ![1024]⟩
abbrev S1024x2176 : Shape := ⟨2, ![1024, 2176]⟩
abbrev S64 : Shape := ⟨1, ![64]⟩
abbrev S1x6144 : Shape := ⟨2, ![1, 6144]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x2176 : Shape := ⟨2, ![8192, 2176]⟩
abbrev S8192x512 : Shape := ⟨2, ![8192, 512]⟩
abbrev S8192x128 : Shape := ⟨2, ![8192, 128]⟩
abbrev S8192x768 : Shape := ⟨2, ![8192, 768]⟩
abbrev S8192x8x64 : Shape := ⟨3, ![8192, 8, 64]⟩
abbrev S8192x8 : Shape := ⟨2, ![8192, 8]⟩
abbrev S8192x8x1 : Shape := ⟨3, ![8192, 8, 1]⟩
abbrev S1x1x64 : Shape := ⟨3, ![1, 1, 64]⟩
abbrev S8192x2x64 : Shape := ⟨3, ![8192, 2, 64]⟩
abbrev S8192x2 : Shape := ⟨2, ![8192, 2]⟩
abbrev S8192x2x1 : Shape := ⟨3, ![8192, 2, 1]⟩
abbrev S2x8192x1 : Shape := ⟨3, ![2, 8192, 1]⟩
abbrev S2x8192x63 : Shape := ⟨3, ![2, 8192, 63]⟩
abbrev S2x8192x64 : Shape := ⟨3, ![2, 8192, 64]⟩
abbrev S2x8192x128 : Shape := ⟨3, ![2, 8192, 128]⟩
abbrev S32x256x2x64 : Shape := ⟨4, ![32, 256, 2, 64]⟩
abbrev S32x2x64x256 : Shape := ⟨4, ![32, 2, 64, 256]⟩

abbrev nBuf : Space → Nat
  | .hbm => 99
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1x6144, .f32⟩
  | .hbm, ⟨2, _⟩ => ⟨S1024, .f32⟩
  | .hbm, ⟨3, _⟩ => ⟨S1024x2176, .bf16⟩
  | .hbm, ⟨4, _⟩ => ⟨S64, .f32⟩
  | .hbm, ⟨5, _⟩ => ⟨S64, .f32⟩
  | .hbm, ⟨6, _⟩ => ⟨S1x6144, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S1024x2176, .f32⟩
  | .hbm, ⟨37, _⟩ => ⟨S8192x2176, .f32⟩
  | .hbm, ⟨38, _⟩ => ⟨S8192x512, .f32⟩
  | .hbm, ⟨39, _⟩ => ⟨S8192x128, .f32⟩
  | .hbm, ⟨40, _⟩ => ⟨S8192x128, .f32⟩
  | .hbm, ⟨41, _⟩ => ⟨S8192x512, .f32⟩
  | .hbm, ⟨42, _⟩ => ⟨S8192x768, .f32⟩
  | .hbm, ⟨43, _⟩ => ⟨S8192x128, .f32⟩
  | .hbm, ⟨44, _⟩ => ⟨S8192x8x64, .f32⟩
  | .hbm, ⟨45, _⟩ => ⟨S8192x8x64, .f32⟩
  | .hbm, ⟨46, _⟩ => ⟨S_, .f32⟩
  | .hbm, ⟨47, _⟩ => ⟨S8192x8, .f32⟩
  | .hbm, ⟨48, _⟩ => ⟨S8192x8x1, .f32⟩
  | .hbm, ⟨49, _⟩ => ⟨S_, .f32⟩
  | .hbm, ⟨50, _⟩ => ⟨S8192x8x1, .f32⟩
  | .hbm, ⟨51, _⟩ => ⟨S8192x8x1, .f32⟩
  | .hbm, ⟨52, _⟩ => ⟨S_, .f32⟩
  | .hbm, ⟨53, _⟩ => ⟨S8192x8x1, .f32⟩
  | .hbm, ⟨54, _⟩ => ⟨S8192x8x1, .f32⟩
  | .hbm, ⟨55, _⟩ => ⟨S8192x8x1, .f32⟩
  | .hbm, ⟨56, _⟩ => ⟨S8192x8x64, .f32⟩
  | .hbm, ⟨57, _⟩ => ⟨S8192x8x64, .f32⟩
  | .hbm, ⟨58, _⟩ => ⟨S1x1x64, .f32⟩
  | .hbm, ⟨59, _⟩ => ⟨S8192x8x64, .f32⟩
  | .hbm, ⟨60, _⟩ => ⟨S8192x8x64, .f32⟩
  | .hbm, ⟨61, _⟩ => ⟨S_, .f32⟩
  | .hbm, ⟨62, _⟩ => ⟨S8192x8x64, .f32⟩
  | .hbm, ⟨63, _⟩ => ⟨S8192x8x64, .f32⟩
  | .hbm, ⟨64, _⟩ => ⟨S8192x2x64, .f32⟩
  | .hbm, ⟨65, _⟩ => ⟨S8192x2x64, .f32⟩
  | .hbm, ⟨66, _⟩ => ⟨S_, .f32⟩
  | .hbm, ⟨67, _⟩ => ⟨S8192x2, .f32⟩
  | .hbm, ⟨68, _⟩ => ⟨S8192x2x1, .f32⟩
  | .hbm, ⟨69, _⟩ => ⟨S_, .f32⟩
  | .hbm, ⟨70, _⟩ => ⟨S8192x2x1, .f32⟩
  | .hbm, ⟨71, _⟩ => ⟨S8192x2x1, .f32⟩
  | .hbm, ⟨72, _⟩ => ⟨S_, .f32⟩
  | .hbm, ⟨73, _⟩ => ⟨S8192x2x1, .f32⟩
  | .hbm, ⟨74, _⟩ => ⟨S8192x2x1, .f32⟩
  | .hbm, ⟨75, _⟩ => ⟨S8192x2x1, .f32⟩
  | .hbm, ⟨76, _⟩ => ⟨S8192x2x64, .f32⟩
  | .hbm, ⟨77, _⟩ => ⟨S8192x2x64, .f32⟩
  | .hbm, ⟨78, _⟩ => ⟨S1x1x64, .f32⟩
  | .hbm, ⟨79, _⟩ => ⟨S8192x2x64, .f32⟩
  | .hbm, ⟨80, _⟩ => ⟨S8192x2x64, .f32⟩
  | .hbm, ⟨81, _⟩ => ⟨S8192x2x64, .f32⟩
  | .hbm, ⟨82, _⟩ => ⟨S_, .f32⟩
  | .hbm, ⟨83, _⟩ => ⟨S2x8192x1, .f32⟩
  | .hbm, ⟨84, _⟩ => ⟨S_, .f32⟩
  | .hbm, ⟨85, _⟩ => ⟨S2x8192x63, .f32⟩
  | .hbm, ⟨86, _⟩ => ⟨S2x8192x64, .f32⟩
  | .hbm, ⟨87, _⟩ => ⟨S8192x512, .f32⟩
  | .hbm, ⟨88, _⟩ => ⟨S8192x512, .bf16⟩
  | .hbm, ⟨89, _⟩ => ⟨S2x8192x64, .f32⟩
  | .hbm, ⟨90, _⟩ => ⟨S2x8192x64, .bf16⟩
  | .hbm, ⟨91, _⟩ => ⟨S2x8192x64, .f32⟩
  | .hbm, ⟨92, _⟩ => ⟨S2x8192x128, .f32⟩
  | .hbm, ⟨93, _⟩ => ⟨S2x8192x128, .bf16⟩
  | .hbm, ⟨94, _⟩ => ⟨S8192x512, .bf16⟩
  | .hbm, ⟨95, _⟩ => ⟨S32x256x2x64, .f32⟩
  | .hbm, ⟨96, _⟩ => ⟨S32x2x64x256, .f32⟩
  | .hbm, ⟨97, _⟩ => ⟨S32x256x2x64, .f32⟩
  | .hbm, ⟨98, _⟩ => ⟨S32x2x64x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_v65 : Ref sig .tc := ⟨.hbm, 83, rfl⟩
abbrev main_cst_11 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩

abbrev nD : Nat := 1
abbrev τ : Topo := Topo.v7x

variable {F : FTy → Type} [FloatOps F]
-- ==== PostS.lean ====
abbrev S8192x1024 : Shape := ⟨2, ![8192, 1024]⟩
abbrev S2x1x6144 : Shape := ⟨3, ![2, 1, 6144]⟩
abbrev S1024 : Shape := ⟨1, ![1024]⟩
abbrev S2048x1024 : Shape := ⟨2, ![2048, 1024]⟩
abbrev S1024x2816 : Shape := ⟨2, ![1024, 2816]⟩
abbrev S2816x1024 : Shape := ⟨2, ![2816, 1024]⟩
abbrev S8192x2048 : Shape := ⟨2, ![8192, 2048]⟩
abbrev S2048 : Shape := ⟨1, ![2048]⟩
abbrev S1x1024 : Shape := ⟨2, ![1, 1024]⟩
abbrev S1x2048 : Shape := ⟨2, ![1, 2048]⟩
abbrev S512x1024 : Shape := ⟨2, ![512, 1024]⟩
abbrev S1x1x1024 : Shape := ⟨3, ![1, 1, 1024]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S512x2816 : Shape := ⟨2, ![512, 2816]⟩

abbrev nBuf : Space → Nat
  | .hbm => 16
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S2x1x6144, .f32⟩
  | .hbm, ⟨2, _⟩ => ⟨S1024, .f32⟩
  | .hbm, ⟨3, _⟩ => ⟨S2048x1024, .bf16⟩
  | .hbm, ⟨4, _⟩ => ⟨S1024x2816, .bf16⟩
  | .hbm, ⟨5, _⟩ => ⟨S1024x2816, .bf16⟩
  | .hbm, ⟨6, _⟩ => ⟨S2816x1024, .bf16⟩
  | .hbm, ⟨7, _⟩ => ⟨S1024, .f32⟩
  | .hbm, ⟨8, _⟩ => ⟨S8192x2048, .bf16⟩
  | .hbm, ⟨9, _⟩ => ⟨S8192x2048, .bf16⟩
  | .hbm, ⟨10, _⟩ => ⟨S8192x2048, .bf16⟩
  | .hbm, ⟨11, _⟩ => ⟨S2048, .f32⟩
  | .hbm, ⟨12, _⟩ => ⟨S1x1024, .f32⟩
  | .hbm, ⟨13, _⟩ => ⟨S1x2048, .f32⟩
  | .hbm, ⟨14, _⟩ => ⟨S1x1024, .f32⟩
  | .hbm, ⟨15, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S2048x1024, .bf16⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S512x2048, .bf16⟩
  | .local _ .vmem, ⟨21, _⟩ => ⟨S512x2048, .bf16⟩
  | .local _ .vmem, ⟨22, _⟩ => ⟨S1x2048, .f32⟩
  | .local _ .vmem, ⟨23, _⟩ => ⟨S512x1024, .f32⟩
  | .local _ .vmem, ⟨24, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c2_i32 : BitVec 32 := 2#32
  let c0_i32_5 : BitVec 32 := 0#32
  ![v17.toNat, c0_i32_4.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c3_i32 : BitVec 32 := 3#32
  let c0_i32_5 : BitVec 32 := 0#32
  ![v17.toNat, c0_i32_4.toNat, c3_i32.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c4_i32 : BitVec 32 := 4#32
  let c0_i32_5 : BitVec 32 := 0#32
  ![v17.toNat, c0_i32_4.toNat, c4_i32.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c5_i32 : BitVec 32 := 5#32
  let c0_i32_5 : BitVec 32 := 0#32
  ![v17.toNat, c0_i32_4.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== PostSRefIdeal.lean ====
abbrev S8192x1024 : Shape := ⟨2, ![8192, 1024]⟩
abbrev S2x1x6144 : Shape := ⟨3, ![2, 1, 6144]⟩
abbrev S1024 : Shape := ⟨1, ![1024]⟩
abbrev S2048x1024 : Shape := ⟨2, ![2048, 1024]⟩
abbrev S1024x2816 : Shape := ⟨2, ![1024, 2816]⟩
abbrev S2816x1024 : Shape := ⟨2, ![2816, 1024]⟩
abbrev S8192x2048 : Shape := ⟨2, ![8192, 2048]⟩
abbrev S2048 : Shape := ⟨1, ![2048]⟩
abbrev S8192x4x512 : Shape := ⟨3, ![8192, 4, 512]⟩
abbrev S4x512 : Shape := ⟨2, ![4, 512]⟩
abbrev S_ : Shape := ⟨0, ![]⟩
abbrev S8192x4 : Shape := ⟨2, ![8192, 4]⟩
abbrev S8192x4x1 : Shape := ⟨3, ![8192, 4, 1]⟩
abbrev S1x4x512 : Shape := ⟨3, ![1, 4, 512]⟩
abbrev S2x4096x6144 : Shape := ⟨3, ![2, 4096, 6144]⟩
abbrev S8192x6144 : Shape := ⟨2, ![8192, 6144]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 103
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1x6144, .f32⟩
  | .hbm, ⟨2, _⟩ => ⟨S1024, .f32⟩
  | .hbm, ⟨3, _⟩ => ⟨S2048x1024, .bf16⟩
  | .hbm, ⟨4, _⟩ => ⟨S1024x2816, .bf16⟩
  | .hbm, ⟨5, _⟩ => ⟨S1024x2816, .bf16⟩
  | .hbm, ⟨6, _⟩ => ⟨S2816x1024, .bf16⟩
  | .hbm, ⟨7, _⟩ => ⟨S1024, .f32⟩
  | .hbm, ⟨8, _⟩ => ⟨S8192x2048, .bf16⟩
  | .hbm, ⟨9, _⟩ => ⟨S8192x2048, .bf16⟩
  | .hbm, ⟨10, _⟩ => ⟨S8192x2048, .bf16⟩
  | .hbm, ⟨11, _⟩ => ⟨S2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x4x512, .f32⟩
  | .hbm, ⟨16, _⟩ => ⟨S4x512, .f32⟩
  | .hbm, ⟨17, _⟩ => ⟨S8192x4x512, .f32⟩
  | .hbm, ⟨18, _⟩ => ⟨S_, .f32⟩
  | .hbm, ⟨19, _⟩ => ⟨S8192x4, .f32⟩
  | .hbm, ⟨20, _⟩ => ⟨S8192x4x1, .f32⟩
  | .hbm, ⟨21, _⟩ => ⟨S_, .f32⟩
  | .hbm, ⟨22, _⟩ => ⟨S8192x4x1, .f32⟩
  | .hbm, ⟨23, _⟩ => ⟨S8192x4x1, .f32⟩
  | .hbm, ⟨24, _⟩ => ⟨S_, .f32⟩
  | .hbm, ⟨25, _⟩ => ⟨S8192x4x1, .f32⟩
  | .hbm, ⟨26, _⟩ => ⟨S8192x4x1, .f32⟩
  | .hbm, ⟨27, _⟩ => ⟨S8192x4x1, .f32⟩
  | .hbm, ⟨28, _⟩ => ⟨S8192x4x512, .f32⟩
  | .hbm, ⟨29, _⟩ => ⟨S8192x4x512, .f32⟩
  | .hbm, ⟨30, _⟩ => ⟨S1x4x512, .f32⟩
  | .hbm, ⟨31, _⟩ => ⟨S8192x4x512, .f32⟩
  | .hbm, ⟨32, _⟩ => ⟨S8192x4x512, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S2048x1024, .f32⟩
  | .hbm, ⟨37, _⟩ => ⟨S8192x1024, .f32⟩
  | .hbm, ⟨38, _⟩ => ⟨S2x4096x6144, .f32⟩
  | .hbm, ⟨39, _⟩ => ⟨S8192x6144, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S1024x2816, .f32⟩
  | .hbm, ⟨70, _⟩ => ⟨S8192x2816, .f32⟩
  | .hbm, ⟨71, _⟩ => ⟨S8192x2816, .f32⟩
  | .hbm, ⟨72, _⟩ => ⟨S8192x2816, .f32⟩
  | .hbm, ⟨73, _⟩ => ⟨S_, .f32⟩
  | .hbm, ⟨74, _⟩ => ⟨S8192x2816, .f32⟩
  | .hbm, ⟨75, _⟩ => ⟨S8192x2816, .f32⟩
  | .hbm, ⟨76, _⟩ => ⟨S_, .f32⟩
  | .hbm, ⟨77, _⟩ => ⟨S8192x2816, .f32⟩
  | .hbm, ⟨78, _⟩ => ⟨S8192x2816, .f32⟩
  | .hbm, ⟨79, _⟩ => ⟨S8192x2816, .f32⟩
  | .hbm, ⟨80, _⟩ => ⟨S1024x2816, .f32⟩
  | .hbm, ⟨81, _⟩ => ⟨S8192x2816, .f32⟩
  | .hbm, ⟨82, _⟩ => ⟨S8192x2816, .f32⟩
  | .hbm, ⟨83, _⟩ => ⟨S2816x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S8192x1, .f32⟩
  | .hbm, ⟨98, _⟩ => ⟨S8192x1024, .f32⟩
  | .hbm, ⟨99, _⟩ => ⟨S8192x1024, .f32⟩
  | .hbm, ⟨100, _⟩ => ⟨S1x1024, .f32⟩
  | .hbm, ⟨101, _⟩ => ⟨S8192x1024, .f32⟩
  | .hbm, ⟨102, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_2 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_5 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_call0_v5 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_6 : Ref sig .tc := ⟨.hbm, 88, rfl⟩
abbrev main_v61 : Ref sig .tc := ⟨.hbm, 89, rfl⟩
abbrev main_v62 : Ref sig .tc := ⟨.hbm, 90, rfl⟩
abbrev main_cst_7 : Ref sig .tc := ⟨.hbm, 91, rfl⟩
abbrev main_v63 : Ref sig .tc := ⟨.hbm, 92, rfl⟩
abbrev main_v64 : Ref sig .tc := ⟨.hbm, 93, rfl⟩
abbrev main_cst_8 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩

abbrev nD : Nat := 1
abbrev τ : Topo := Topo.v7x

variable {F : FTy → Type} [FloatOps F]
-- ==== Ada.lean ====
abbrev S8x1024 : Shape := ⟨2, ![8, 1024]⟩
abbrev S1024x6144 : Shape := ⟨2, ![1024, 6144]⟩
abbrev S6144 : Shape := ⟨1, ![6144]⟩
abbrev S1x6144 : Shape := ⟨2, ![1, 6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S8x6144, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Cast.lean ====
abbrev S1024x2064 : Shape := ⟨2, ![1024, 2064]⟩
abbrev S1024x1024 : Shape := ⟨2, ![1024, 1024]⟩
abbrev S1024x2816 : Shape := ⟨2, ![1024, 2816]⟩
abbrev S2816x1024 : Shape := ⟨2, ![2816, 1024]⟩
abbrev S1024x6144 : Shape := ⟨2, ![1024, 6144]⟩
abbrev S2048x1024 : Shape := ⟨2, ![2048, 1024]⟩
abbrev S1024x2176 : Shape := ⟨2, ![1024, 2176]⟩
abbrev S64x2064 : Shape := ⟨2, ![64, 2064]⟩
abbrev S64x1024 : Shape := ⟨2, ![64, 1024]⟩
abbrev S64x2816 : Shape := ⟨2, ![64, 2816]⟩
abbrev S176x1024 : Shape := ⟨2, ![176, 1024]⟩
abbrev S64x6144 : Shape := ⟨2, ![64, 6144]⟩
abbrev S128x1024 : Shape := ⟨2, ![128, 1024]⟩
abbrev S64x2176 : Shape := ⟨2, ![64, 2176]⟩
abbrev S64x112 : Shape := ⟨2, ![64, 112]⟩

abbrev nBuf : Space → Nat
  | .hbm => 20
  | .vmem => 40
  | .smem => 0
  | _ => 0

abbrev bufTy : (tb : Table) → Fin (tcTables nBuf tb) → BufTy
  | .hbm, ⟨0, _⟩ => ⟨S1024x2064, .f32⟩
  | .hbm, ⟨1, _⟩ => ⟨S1024x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x6144, .f32⟩
  | .hbm, ⟨6, _⟩ => ⟨S2048x1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024x2176, .bf16⟩
  | .hbm, ⟨11, _⟩ => ⟨S1024x1024, .bf16⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S1024x6144, .bf16⟩
  | .hbm, ⟨16, _⟩ => ⟨S2048x1024, .bf16⟩
  | .hbm, ⟨17, _⟩ => ⟨S1024x2816, .bf16⟩
  | .hbm, ⟨18, _⟩ => ⟨S1024x2816, .bf16⟩
  | .hbm, ⟨19, _⟩ => ⟨S2816x1024, .bf16⟩
  | .local _ .vmem, ⟨0, _⟩ => ⟨S64x2064, .f32⟩
  | .local _ .vmem, ⟨1, _⟩ => ⟨S64x2064, .f32⟩
  | .local _ .vmem, ⟨2, _⟩ => ⟨S64x1024, .f32⟩
  | .local _ .vmem, ⟨3, _⟩ => ⟨S64x1024, .f32⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S64x2816, .f32⟩
  | .local _ .vmem, ⟨8, _⟩ => ⟨S176x1024, .f32⟩
  | .local _ .vmem, ⟨9, _⟩ => ⟨S176x1024, .f32⟩
  | .local _ .vmem, ⟨10, _⟩ => ⟨S64x6144, .f32⟩
  | .local _ .vmem, ⟨11, _⟩ => ⟨S64x6144, .f32⟩
  | .local _ .vmem, ⟨12, _⟩ => ⟨S128x1024, .f32⟩
  | .local _ .vmem, ⟨13, _⟩ => ⟨S128x1024, .f32⟩
  | .local _ .vmem, ⟨14, _⟩ => ⟨S64x2816, .f32⟩
  | .local _ .vmem, ⟨15, _⟩ => ⟨S64x2816, .f32⟩
  | .local _ .vmem, ⟨16, _⟩ => ⟨S64x2816, .f32⟩
  | .local _ .vmem, ⟨17, _⟩ => ⟨S64x2816, .f32⟩
  | .local _ .vmem, ⟨18, _⟩ => ⟨S176x1024, .f32⟩
  | .local _ .vmem, ⟨19, _⟩ => ⟨S176x1024, .f32⟩
  | .local _ .vmem, ⟨20, _⟩ => ⟨S64x2176, .bf16⟩
  | .local _ .vmem, ⟨21, _⟩ => ⟨S64x2176, .bf16⟩
  | .local _ .vmem, ⟨22, _⟩ => ⟨S64x1024, .bf16⟩
  | .local _ .vmem, ⟨23, _⟩ => ⟨S64x1024, .bf16⟩
  | .local _ .vmem, ⟨24, _⟩ => ⟨S64x2816, .bf16⟩
  | .local _ .vmem, ⟨25, _⟩ => ⟨S64x2816, .bf16⟩
  | .local _ .vmem, ⟨26, _⟩ => ⟨S64x2816, .bf16⟩
  | .local _ .vmem, ⟨27, _⟩ => ⟨S64x2816, .bf16⟩
  | .local _ .vmem, ⟨28, _⟩ => ⟨S176x1024, .bf16⟩
  | .local _ .vmem, ⟨29, _⟩ => ⟨S176x1024, .bf16⟩
  | .local _ .vmem, ⟨30, _⟩ => ⟨S64x6144, .bf16⟩
  | .local _ .vmem, ⟨31, _⟩ => ⟨S64x6144, .bf16⟩
  | .local _ .vmem, ⟨32, _⟩ => ⟨S128x1024, .bf16⟩
  | .local _ .vmem, ⟨33, _⟩ => ⟨S128x1024, .bf16⟩
  | .local _ .vmem, ⟨34, _⟩ => ⟨S64x2816, .bf16⟩
  | .local _ .vmem, ⟨35, _⟩ => ⟨S64x2816, .bf16⟩
  | .local _ .vmem, ⟨36, _⟩ => ⟨S64x2816, .bf16⟩
  | .local _ .vmem, ⟨37, _⟩ => ⟨S64x2816, .bf16⟩
  | .local _ .vmem, ⟨38, _⟩ => ⟨S176x1024, .bf16⟩
  | .local _ .vmem, ⟨39, _⟩ => ⟨S176x1024, .bf16⟩
  | _, _ => ⟨S1024x2064, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2064 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x2176 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S176x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x6144 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x2816 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x2816 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S176x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== CastRefIdeal.lean ====
abbrev S1024x2064 : Shape := ⟨2, ![1024, 2064]⟩
abbrev S1024x1024 : Shape := ⟨2, ![1024, 1024]⟩
abbrev S1024x2816 : Shape := ⟨2, ![1024, 2816]⟩
abbrev S2816x1024 : Shape := ⟨2, ![2816, 1024]⟩
abbrev S1024x6144 : Shape := ⟨2, ![1024, 6144]⟩
abbrev S2048x1024 : Shape := ⟨2, ![2048, 1024]⟩
abbrev S_ : Shape := ⟨0, ![]⟩
abbrev S1024x2176 : Shape := ⟨2, ![1024, 2176]⟩

abbrev nBuf : Space → Nat
  | .hbm => 23
  | .vmem => 0
  | .smem => 0
  | _ => 0

abbrev bufTy : (tb : Table) → Fin (tcTables nBuf tb) → BufTy
  | .hbm, ⟨0, _⟩ => ⟨S1024x2064, .f32⟩
  | .hbm, ⟨1, _⟩ => ⟨S1024x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x6144, .f32⟩
  | .hbm, ⟨6, _⟩ => ⟨S2048x1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S_, .i32⟩
  | .hbm, ⟨11, _⟩ => ⟨S_, .f32⟩
  | .hbm, ⟨12, _⟩ => ⟨S1024x2176, .f32⟩
  | .hbm, ⟨13, _⟩ => ⟨S1024x2176, .bf16⟩
  | .hbm, ⟨14, _⟩ => ⟨S1024x1024, .bf16⟩
  | .hbm, ⟨15, _⟩ => ⟨S1024x2816, .bf16⟩
  | .hbm, ⟨16, _⟩ => ⟨S1024x2816, .bf16⟩
  | .hbm, ⟨17, _⟩ => ⟨S2816x1024, .bf16⟩
  | .hbm, ⟨18, _⟩ => ⟨S1024x6144, .bf16⟩
  | .hbm, ⟨19, _⟩ => ⟨S2048x1024, .bf16⟩
  | .hbm, ⟨20, _⟩ => ⟨S1024x2816, .bf16⟩
  | .hbm, ⟨21, _⟩ => ⟨S1024x2816, .bf16⟩
  | .hbm, ⟨22, _⟩ => ⟨S2816x1024, .bf16⟩
  | _, _ => ⟨S1024x2064, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.AttTile.lean ====
module

public import proofs.«01_k».proof.Proof.Gen.AttIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.AttTile

open Cert.AttIdeal Cert.AttIdeal.Gen

/-- A sum over 256 indices is the sum over the first half and the sum over the second. -/
theorem sum_split (f : Fin 256 → EReal) :
    ∑ j, f j = (∑ x : Fin 128, f ⟨x.val, by omega⟩) + ∑ x : Fin 128, f ⟨128 + x.val, by omega⟩ :=
  Fin.sum_univ_add (a := 128) (b := 128) f

/-- The scores of one group of heads: row `128 h + r` is head `h` at token `r`. -/
theorem scores_at (q : Vec Ideal S1x128x256 .bf16) (k : Vec Ideal S256x64 .bf16) (h : Fin 4) (r : Fin 128) (j : Fin 256) :
    k0_pay2 q k (ix2 (⟨128 * h.val + r.val, by omega⟩ : Fin 512) j)
      = ∑ e : Fin 64, q (ix3 0 r (⟨64 * h.val + e.val, by omega⟩ : Fin 256)) * k (ix2 j e) := by
  obtain ⟨n, hn⟩ := h; interval_cases n <;> pointwise [k0_pay2]
  all_goals
    refine Finset.sum_congr rfl fun x _ => congrArg (· * k (ix2 j x)) ?_
    have e1 : 128 + r.val - 128 = r.val := by omega
    have e2 : 256 + r.val - 128 - 128 = r.val := by omega
    have e3 : 384 + r.val - 128 - 128 - 128 = r.val := by omega
    split_ifs <;> first | omega | simp only [e1, e2, e3]

theorem neg_inf : Ideal.ofBits FTy.f32 0xFF800000#32 = ⊥ := by
  simp [Ideal.ofBits, Ideal.ieee]

/-- The row maxima, copied to every lane. -/
theorem rmax_at (s : FVec Ideal S512x256 .f32) (i : Fin 512) (l : Fin 128) :
    k0_pay11 s (ix3 0 i l)
      = Finset.univ.fold max (⊥ : EReal) fun l : Fin 128 => max (s (ix2 i (⟨l.val, by omega⟩ : Fin 256))) (s (ix2 i (⟨128 + l.val, by omega⟩ : Fin 256))) := by
  pointwise [k0_pay11]
  rw [neg_inf]

theorem vals_at (mx : Vec Ideal S1x512x128 .f32) (sc : Vec Ideal S1x512x256 .f32) (v : Vec Ideal S256x128 .bf16) (M : Fin 512 → EReal)
    (hM : ∀ i l, mx (ix3 0 i l) = M i) (h : Fin 4) (r : Fin 128) (d : Fin 64) :
    k0_pay18 mx sc v (ix3 0 r (⟨64 * h.val + d.val, by omega⟩ : Fin 256))
      = Ideal.div (∑ j : Fin 256, Ideal.exp (sc (ix3 0 (⟨128 * h.val + r.val, by omega⟩ : Fin 512) j) - M ⟨128 * h.val + r.val, by omega⟩) * v (ix2 j (⟨d.val, by omega⟩ : Fin 128)))
         (∑ j : Fin 256, Ideal.exp (sc (ix3 0 (⟨128 * h.val + r.val, by omega⟩ : Fin 512) j) - M ⟨128 * h.val + r.val, by omega⟩) * v (ix2 j 64)) := by
  rw [sum_split, sum_split]
  obtain ⟨n, hn⟩ := h; interval_cases n <;> pointwise [k0_pay18, hM]
  all_goals
    have e1 : 64 + d.val - 64 = d.val := by omega
    have e2 : 128 + d.val - 64 - 64 = d.val := by omega
    have e3 : 192 + d.val - 64 - 64 - 64 = d.val := by omega
    split_ifs <;> first | omega | simp only [e1, e2, e3]

/-- One query against 256 keys, the row maximum taken over the two halves of the keys at once, the sum of the weights carried by a column `o` of the values. -/
def attn (q : Fin 64 → EReal) (k : Fin 256 → Fin 64 → EReal) (v o : Fin 256 → EReal) : EReal :=
  Ideal.div
    (∑ j : Fin 256, Ideal.exp ((∑ e : Fin 64, q e * k j e) - Finset.univ.fold max (⊥ : EReal) fun l : Fin 128 =>
      max (∑ e : Fin 64, q e * k ⟨l.val, by omega⟩ e) (∑ e : Fin 64, q e * k ⟨128 + l.val, by omega⟩ e)) * v j)
    (∑ j : Fin 256, Ideal.exp ((∑ e : Fin 64, q e * k j e) - Finset.univ.fold max (⊥ : EReal) fun l : Fin 128 =>
      max (∑ e : Fin 64, q e * k ⟨l.val, by omega⟩ e) (∑ e : Fin 64, q e * k ⟨128 + l.val, by omega⟩ e)) * o j)

theorem attn_congr {q q' : Fin 64 → EReal} {k k' : Fin 256 → Fin 64 → EReal} {v v' o o' : Fin 256 → EReal}
    (hq : ∀ e, q e = q' e) (hk : ∀ j e, k j e = k' j e) (hv : ∀ j, v j = v' j) (ho : ∀ j, o j = o' j) : attn q k v o = attn q' k' v' o' := by
  obtain rfl : q = q' := funext hq
  obtain rfl : k = k' := funext fun j => funext (hk j)
  obtain rfl : v = v' := funext hv
  obtain rfl : o = o' := funext ho
  rfl

/-- What one store of the kernel puts: four heads of 128 tokens. -/
def tile (q : Vec Ideal S1x128x256 .bf16) (k : Vec Ideal S256x64 .bf16) (v : Vec Ideal S256x128 .bf16) : FVec Ideal S1x128x256 .bf16 :=
  k0_pay18 (k0_pay11 (k0_pay2 q k)) (k0_pay10 (k0_pay2 q k)) v

theorem shaped_at (s : FVec Ideal S512x256 .f32) (i : Fin 512) (j : Fin 256) : k0_pay10 s (ix3 0 i j) = s (ix2 i j) := by
  pointwise [k0_pay10]

theorem tile_value (q : Vec Ideal S1x128x256 .bf16) (k : Vec Ideal S256x64 .bf16) (v : Vec Ideal S256x128 .bf16) (h : Fin 4) (r : Fin 128) (d : Fin 64) :
    tile q k v (ix3 0 r (⟨64 * h.val + d.val, by omega⟩ : Fin 256))
      = attn (fun e => q (ix3 0 r (⟨64 * h.val + e.val, by omega⟩ : Fin 256))) (fun j e => k (ix2 j e))
        (fun j => v (ix2 j (⟨d.val, by omega⟩ : Fin 128))) (fun j => v (ix2 j 64)) := by
  unfold tile
  rw [vals_at _ _ v _ (fun i l => rmax_at (k0_pay2 q k) i l) h r d]
  simp only [shaped_at, scores_at]
  rfl

end Cert.AttTile

end
-- ==== Proof.AttBlock.lean ====
module

public import proofs.«01_k».proof.Proof.AttTile
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.AttBlock

open Cert.AttIdeal Cert.AttIdeal.Gen Cert.AttTile

section slots

variable {Val : EltTy → Type} {sig : RefSig} {κ : Kind} {sp : Space} {e : EltTy}

/-- A load behind a store elsewhere reads the earlier stores. -/
theorem slot_skip [∀ e, Nonempty (Val e)] {s s' : Shape} (v : View sig κ sp s e) (p : View.Piece Val s e) (L : List (View.Piece Val s e)) (lr : LoadRect s') (B : LoadRect s)
    (hR : lr.shape.numel = B.shape.numel) (h : LoadRect.disj p.1 B = true) :
    LoadRect.valAlong hR (v.readCov (p :: L) B) = LoadRect.valAlong hR (v.readCov L B) :=
  congrArg (LoadRect.valAlong hR) (View.readCov_skip v p.1 p.2 L B h)

/-- A load through a slot whose newest store was through the same slot reads that store. -/
theorem slot_hit [∀ e, Nonempty (Val e)] {s s' : Shape} (v : View sig κ sp s e) (r : Rect s') (P : Rect s) (hR : P.shape.numel = r.shape.numel)
    (w : r.shape.Idx → Val e) (L : List (View.Piece Val s e)) (hR' : r.toLoadRect.shape.numel = P.toLoadRect.shape.numel) :
    LoadRect.valAlong hR' (v.readCov (⟨P, Rect.payAlong hR w⟩ :: L) P.toLoadRect) = w := by
  funext x
  refine (congrFun (View.readCov_cons_toLoadRect v P (Rect.payAlong hR w) L) _).trans ?_
  exact congrArg w ((Shape.reshapeEquiv_reshapeEquiv (s := r.shape) (s' := P.shape) (s'' := r.shape) hR hR' x).trans (Shape.reshapeEquiv_self _ x))

/-- A load of a tile with its leading unit axis dropped, element by element. -/
theorem tile_at {n : ℕ} {d : Fin n → ℕ} {dd : Fin (n + 1) → ℕ} (v : View sig κ sp ⟨n + 1, dd⟩ e) (g) (r₀ : Rect ⟨n + 1, dd⟩) (lr : LoadRect ⟨n, d⟩)
    (h0 : r₀.size 0 = 1) (hs : ∀ i : Fin n, r₀.size i.succ = d i) (h₀ : ∀ a, r₀.stride a = 1)
    (hR : lr.shape.numel = (r₀.withinL (lr.consLift r₀.size h0 hs) h₀).shape.numel) (x : lr.shape.Idx) (z : (⟨n + 1, dd⟩ : Shape).Idx)
    (hz0 : (z 0).val = r₀.off 0) (hz : ∀ i : Fin n, (z i.succ).val = r₀.off i.succ + (lr.off i + lr.stride i * (x i).val)) :
    LoadRect.valAlong hR (v.readAt Val (r₀.withinL (lr.consLift r₀.size h0 hs) h₀) g) x = v.read Val g z := by
  show v.read Val g ((r₀.withinL (lr.consLift r₀.size h0 hs) h₀).idx (Shape.reshapeEquiv hR x)) = _
  congr 1
  have hx : Shape.reshapeEquiv hR x = Fin.cons ⟨0, Nat.one_pos⟩ x := Shape.reshapeEquiv_cons_one (d := lr.size) _ _
  rw [hx]
  funext a
  refine Fin.ext ?_
  rw [LoadRect.idx_apply]
  refine Fin.cases ?_ (fun i => ?_) a
  · rw [hz0]; rfl
  · rw [hz i]; simp only [Rect.withinL, LoadRect.consLift, Fin.cons_succ, Nat.add_assoc]; rfl

end slots

variable (m : (ℓ : Loc nD τ sig) → Buf (Elt Ideal) ℓ)

theorem idx_val : ∀ t : Fin cfg0.N, win0_0.index t = ![t.val, 0, 0]
    ∧ win0_1.index t = ![0, t.val, 0]
    ∧ win0_2.index t = ![0, t.val, 0]
    ∧ win0_3.index t = ![t.val, 0, 0] :=
  (by decide +kernel : ∀ t : Fin grid0.N, _)

/-- The block the kernel leaves, from its three input blocks. -/
def blockVal (X0 : Vec Ideal S1x256x512 .bf16) (X1 : Vec Ideal S2x256x64 .bf16) (X2 : Vec Ideal S2x256x128 .bf16) (y : S1x256x512.Idx) : EReal :=
  attn (fun e => X0 (ix3 0 (y 1) (⟨64 * ((y 2).val / 64) + e.val, by have : (y 2).val < 512 := (y 2).isLt; omega⟩ : Fin 512)))
    (fun j e => X1 (ix3 (⟨(y 2).val / 256, by have : (y 2).val < 512 := (y 2).isLt; omega⟩ : Fin 2) j e))
    (fun j => X2 (ix3 (⟨(y 2).val / 256, by have : (y 2).val < 512 := (y 2).isLt; omega⟩ : Fin 2) j (⟨(y 2).val % 64, by omega⟩ : Fin 128)))
    (fun j => X2 (ix3 (⟨(y 2).val / 256, by have : (y 2).val < 512 := (y 2).isLt; omega⟩ : Fin 2) j 64))

theorem piece (X0 : Vec Ideal S1x256x512 .bf16) (X1 : Vec Ideal S2x256x64 .bf16) (X2 : Vec Ideal S2x256x128 .bf16)
    (q : Vec Ideal S1x128x256 .bf16) (k : Vec Ideal S256x64 .bf16) (v : Vec Ideal S256x128 .bf16) (a g : ℕ) (hg : g < 2)
    (x : S1x128x256.Idx) (y : S1x256x512.Idx) (h1 : (y 1).val = a + (x 1).val) (h2 : (y 2).val = 256 * g + (x 2).val)
    (hq : ∀ (z : S1x128x256.Idx) (z' : S1x256x512.Idx), (z' 1).val = a + (z 1).val → (z' 2).val = 256 * g + (z 2).val → q z = X0 z')
    (hk : ∀ (j : Fin 256) (e : Fin 64), k (ix2 j e) = X1 (ix3 (⟨g, hg⟩ : Fin 2) j e))
    (hv : ∀ (j : Fin 256) (e : Fin 128), v (ix2 j e) = X2 (ix3 (⟨g, hg⟩ : Fin 2) j e)) :
    tile q k v x = blockVal X0 X1 X2 y := by
  have b1 : (x 1).val < 128 := (x 1).isLt
  have b2 : (x 2).val < 256 := (x 2).isLt
  have b0 : (x 0).val < 1 := (x 0).isLt
  have hx : x = ix3 (0 : Fin 1) (⟨(x 1).val, b1⟩ : Fin 128) (⟨64 * ((x 2).val / 64) + (x 2).val % 64, by omega⟩ : Fin 256) := by
    funext a
    refine Fin.ext ?_
    match a with
    | ⟨0, _⟩ => show (x 0).val = 0; omega
    | ⟨1, _⟩ => rfl
    | ⟨2, _⟩ => show (x 2).val = 64 * ((x 2).val / 64) + (x 2).val % 64; omega
  refine (congrArg (tile q k v) hx).trans ?_
  refine (tile_value q k v (⟨(x 2).val / 64, by omega⟩ : Fin 4) (⟨(x 1).val, b1⟩ : Fin 128) (⟨(x 2).val % 64, by omega⟩ : Fin 64)).trans ?_
  have eg : (y 2).val / 256 = g := by omega
  unfold blockVal
  congr 1
  · funext e
    refine hq _ _ h1 ?_
    show 64 * ((y 2).val / 64) + e.val = 256 * g + (64 * ((x 2).val / 64) + e.val)
    omega
  · funext j e
    rw [hk]; congr 2; exact Fin.ext eg.symm
  · funext j
    rw [hv]; congr 2
    · exact Fin.ext eg.symm
    · refine Fin.ext ?_
      show (x 2).val % 64 = (y 2).val % 64
      omega
  · funext j
    rw [hv]; congr 2; exact Fin.ext eg.symm

/-- A slice of the query block, element by element. -/
theorem qtile_at (X : Vec Ideal S1x256x512 .bf16) (a b : ℕ) (inb) (z : S1x128x256.Idx) (z' : S1x256x512.Idx) (h1 : (z' 1).val = a + (z 1).val) (h2 : (z' 2).val = b + (z 2).val) :
    View.ld X (Rect.unit (s := S1x256x512) ![0, a, b] ![1, 128, 256] inb) z = X z' := by
  have b0 : (z 0).val < 1 := (z 0).isLt
  have b0' : (z' 0).val < 1 := (z' 0).isLt
  refine congrArg X (funext fun i => Fin.ext ?_)
  match i with
  | ⟨0, _⟩ => show 0 + 1 * (z 0).val = (z' 0).val; omega
  | ⟨1, _⟩ => show a + 1 * (z 1).val = (z' 1).val; omega
  | ⟨2, _⟩ => show b + 1 * (z 2).val = (z' 2).val; omega

/-- A tile of the keys, element by element. -/
theorem ktile_at (M : Memref AttIdeal.sig .tc .vmem S2x256x64 .bf16) (h : M.IsWhole) (X : Vec Ideal S2x256x64 .bf16) (g : ℕ) (hg : g < 2) (inb) (inb') (h0) (hs) (h₀) (hR)
    (j : Fin 256) (e : Fin 64) :
    LoadRect.valAlong (lr := (Rect.unit (s := S256x64) ![0, 0] ![256, 64] inb').toLoadRect) hR (View.readAt (Elt Ideal) M.view ((Rect.unit (s := S2x256x64) ![g, 0, 0] ![1, 256, 64] inb).withinL
      ((Rect.unit (s := S256x64) ![0, 0] ![256, 64] inb').toLoadRect.consLift ![1, 256, 64] h0 hs) h₀) (h.unread X)) (ix2 j e)
      = X (ix3 (⟨g, hg⟩ : Fin 2) j e) := by
  refine (tile_at M.view _ (Rect.unit (s := S2x256x64) ![g, 0, 0] ![1, 256, 64] inb) (Rect.unit (s := S256x64) ![0, 0] ![256, 64] inb').toLoadRect h0 hs h₀ hR (ix2 j e)
    (ix3 (⟨g, hg⟩ : Fin 2) j e) rfl ?_).trans (congrFun (h.read_unread X) _)
  intro i
  match i with
  | ⟨0, _⟩ => show j.val = 0 + (0 + 1 * j.val); omega
  | ⟨1, _⟩ => show e.val = 0 + (0 + 1 * e.val); omega

/-- A tile of the values, element by element. -/
theorem vtile_at (M : Memref AttIdeal.sig .tc .vmem S2x256x128 .bf16) (h : M.IsWhole) (X : Vec Ideal S2x256x128 .bf16) (g : ℕ) (hg : g < 2) (inb) (inb') (h0) (hs) (h₀) (hR)
    (j : Fin 256) (e : Fin 128) :
    LoadRect.valAlong (lr := (Rect.unit (s := S256x128) ![0, 0] ![256, 128] inb').toLoadRect) hR (View.readAt (Elt Ideal) M.view ((Rect.unit (s := S2x256x128) ![g, 0, 0] ![1, 256, 128] inb).withinL
      ((Rect.unit (s := S256x128) ![0, 0] ![256, 128] inb').toLoadRect.consLift ![1, 256, 128] h0 hs) h₀) (h.unread X)) (ix2 j e)
      = X (ix3 (⟨g, hg⟩ : Fin 2) j e) := by
  refine (tile_at M.view _ (Rect.unit (s := S2x256x128) ![g, 0, 0] ![1, 256, 128] inb) (Rect.unit (s := S256x128) ![0, 0] ![256, 128] inb').toLoadRect h0 hs h₀ hR (ix2 j e)
    (ix3 (⟨g, hg⟩ : Fin 2) j e) rfl ?_).trans (congrFun (h.read_unread X) _)
  intro i
  match i with
  | ⟨0, _⟩ => show j.val = 0 + (0 + 1 * j.val); omega
  | ⟨1, _⟩ => show e.val = 0 + (0 + 1 * e.val); omega

theorem block_value (c : Dev nD) (t : Fin cfg0.N) (y : S1x256x512.Idx) :
   (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t)) y
     = blockVal (iblk m c 0 t) (iblk m c 1 t) (iblk m c 2 t) y := by
  frame_out
  canon_tiles x h
  case piece0 =>
    simp (disch := decide) only [↓View.readCov_skip, View.readCov_cons_toLoadRect]
    refine (congrFun (congrArg₂ k0_pay1 (congrArg (k0_pay21 _) ((slot_hit _ _ _ _ _ _ _))) rfl) x).trans ?_
    refine piece (iblk m c 0 t) (iblk m c 1 t) (iblk m c 2 t) _ _ _ 128 1 (by decide) x y (by omega) (by omega) ?_ ?_ ?_
    · intro z z' e1 e2; exact qtile_at _ _ _ _ z z' e1 e2
    · intro j e; exact ktile_at _ (hs0_1 t) _ 1 (by decide) _ _ _ _ _ _ j e
    · intro j e; exact vtile_at _ (hs0_2 t) _ 1 (by decide) _ _ _ _ _ _ j e
  case piece1 =>
    simp (disch := decide) only [↓View.readCov_skip, View.readCov_cons_toLoadRect]
    refine (congrFun (congrArg₂ (k0_pay20 _) ((slot_skip _ _ _ _ _ _ rfl).trans (slot_hit _ _ _ _ _ _ _)) rfl) x).trans ?_
    refine piece (iblk m c 0 t) (iblk m c 1 t) (iblk m c 2 t) _ _ _ 0 1 (by decide) x y (by omega) (by omega) ?_ ?_ ?_
    · intro z z' e1 e2; exact qtile_at _ _ _ _ z z' e1 e2
    · intro j e; exact ktile_at _ (hs0_1 t) _ 1 (by decide) _ _ _ _ _ _ j e
    · intro j e; exact vtile_at _ (hs0_2 t) _ 1 (by decide) _ _ _ _ _ _ j e
  case piece2 =>
    simp (disch := decide) only [↓View.readCov_skip, View.readCov_cons_toLoadRect]
    refine (congrFun (congrArg₂ (k0_pay18 _) ((slot_skip _ _ _ _ _ _ rfl).trans ((slot_skip _ _ _ _ _ _ rfl).trans (slot_hit _ _ _ _ _ _ _))) rfl) x).trans ?_
    refine piece (iblk m c 0 t) (iblk m c 1 t) (iblk m c 2 t) _ _ _ 128 0 (by decide) x y (by omega) (by omega) ?_ ?_ ?_
    · intro z z' e1 e2; exact qtile_at _ _ _ _ z z' e1 e2
    · intro j e; exact ktile_at _ (hs0_1 t) _ 0 (by decide) _ _ _ _ _ _ j e
    · intro j e; exact vtile_at _ (hs0_2 t) _ 0 (by decide) _ _ _ _ _ _ j e
  case piece3 =>
    simp (disch := decide) only [↓View.readCov_skip, View.readCov_cons_toLoadRect]
    refine (congrFun (congrArg k0_pay17 (congrArg₂ (k0_pay16 _) ((slot_skip _ _ _ _ _ _ rfl).trans ((slot_skip _ _ _ _ _ _ rfl).trans ((slot_skip _ _ _ _ _ _ rfl).trans (slot_hit _ _ _ _ _ _ _)))) rfl)) x).trans ?_
    refine piece (iblk m c 0 t) (iblk m c 1 t) (iblk m c 2 t) _ _ _ 0 0 (by decide) x y (by omega) (by omega) ?_ ?_ ?_
    · intro z z' e1 e2; exact qtile_at _ _ _ _ z z' e1 e2
    · intro j e; exact ktile_at _ (hs0_1 t) _ 0 (by decide) _ _ _ _ _ _ j e
    · intro j e; exact vtile_at _ (hs0_2 t) _ 0 (by decide) _ _ _ _ _ _ j e

end Cert.AttBlock

end
-- ==== Proof.AttArray.lean ====
module

public import proofs.«01_k».proof.Proof.AttBlock
public import Idealize.ShloMosaic.Lib.Routing.OpsSet
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.AttArray

open Cert.AttIdeal Cert.AttIdeal.Gen Cert.AttTile Cert.AttBlock Idealize.ShloMosaic.Routing

variable (m : (ℓ : Loc nD τ sig) → Buf (Elt Ideal) ℓ)

theorem eighth : Ideal.ofBits FTy.f32 0x3E000000#32 = ((1 / 8 : ℝ) : EReal) := by
  simp [Ideal.ofBits, Ideal.ieee, -EReal.coe_mul]; norm_num

theorem one_bf16 : Ideal.ofBits FTy.bf16 0x3F80#16 = 1 := by
  simp [Ideal.ofBits, Ideal.ieee, -EReal.coe_mul]; norm_num

/-- The column of ones lands in the first of the extra lanes. -/
theorem lands (g : Fin 2) (t : Fin 8192) (idx : IVec S1 32) (h : ∀ i, idx i = 0#32) :
    scatter_S2x8192x64_S1_S2x8192_01_2_2_0.resultIdx? (ix2 g t) idx = some (ix3 g t 0) := by
  rw [resultIdx?_eq_some]
  have h0 : scatter_S2x8192x64_S1_S2x8192_01_2_2_0.start (ix2 g t) idx 0 + scatter_S2x8192x64_S1_S2x8192_01_2_2_0.window (ix2 g t) 0 = (g.val : ℤ) := by
    unfold ScatterDims.start ScatterDims.window
    rw [dif_neg (by decide), dif_pos (by decide), Int.zero_add]; rfl
  have h1 : scatter_S2x8192x64_S1_S2x8192_01_2_2_0.start (ix2 g t) idx 1 + scatter_S2x8192x64_S1_S2x8192_01_2_2_0.window (ix2 g t) 1 = (t.val : ℤ) := by
    unfold ScatterDims.start ScatterDims.window
    rw [dif_neg (by decide), dif_pos (by decide), Int.zero_add]; rfl
  have h2 : scatter_S2x8192x64_S1_S2x8192_01_2_2_0.start (ix2 g t) idx 2 + scatter_S2x8192x64_S1_S2x8192_01_2_2_0.window (ix2 g t) 2 = 0 := by
    unfold ScatterDims.start ScatterDims.window
    rw [dif_pos (by decide), dif_neg (by decide), h]; rfl
  intro a
  match a with
  | ⟨0, _⟩ => exact h0
  | ⟨1, _⟩ => exact h1
  | ⟨2, _⟩ => exact h2

/-- The queries as launched. -/
def X0 (c : Dev nD) : S32x256x512.Idx → EReal := m ((c : Thread nD τ).loc main_arg0)
/-- The keys as launched. -/
def X1 (c : Dev nD) : S2x8192x64.Idx → EReal := m ((c : Thread nD τ).loc main_arg1)
/-- The values as launched. -/
def X2 (c : Dev nD) : S2x8192x64.Idx → EReal := m ((c : Thread nD τ).loc main_arg2)

theorem scaled (c : Dev nD) (b : Fin 32) (i : Fin 256) (l : Fin 512) :
    (V m c main_v3 : Vec Ideal S32x256x512 .bf16) (ix3 b i l) = X0 m c (ix3 b i l) * ((1 / 8 : ℝ) : EReal) := by
  entry_read
  pointwise
  rw [eighth]; rfl

/-- The values with the column of ones beside them. -/
def wide (v : Vec Ideal S2x8192x64 .bf16) : Vec Ideal S2x8192x128 .bf16 :=
  concatenate S2x8192x128 2 [⟨S2x8192x64, v⟩, ⟨S2x8192x64,
   Host.scatter scatter_S2x8192x64_S1_S2x8192_01_2_2_0 (fun _ b => b)
     (broadcastInDim S2x8192x64 ![] bcast_S_S2x8192x64 (constant (F := Ideal) S_ .bf16 0x0000#16) : Vec Ideal S2x8192x64 .bf16) (broadcastInDim S1 ![] bcast_S_S1 (constantI S_ 32 0#32))
     (broadcastInDim S2x8192 ![] bcast_S_S2x8192 (constant (F := Ideal) S_ .bf16 0x3F80#16) : Vec Ideal S2x8192 .bf16)⟩] concatenates_S2x8192x64_S2x8192x64_S2x8192x128_d2

theorem V_v8 (c : Dev nD) : V m c main_v8 = wide (X2 m c) := by
  unfold V; after_results; try rfl

theorem concat_lo (a b : Vec Ideal S2x8192x64 .bf16) (g : Fin 2) (t : Fin 8192) (d : Fin 64) :
    concatenate S2x8192x128 2 [⟨S2x8192x64, a⟩, ⟨S2x8192x64, b⟩] concatenates_S2x8192x64_S2x8192x64_S2x8192x128_d2 (ix3 g t (⟨d.val, by omega⟩ : Fin 128)) = a (ix3 g t d) := by
  pointwise
theorem concat_hi (a b : Vec Ideal S2x8192x64 .bf16) (g : Fin 2) (t : Fin 8192) :
    concatenate S2x8192x128 2 [⟨S2x8192x64, a⟩, ⟨S2x8192x64, b⟩] concatenates_S2x8192x64_S2x8192x64_S2x8192x128_d2 (ix3 g t (64 : Fin 128)) = b (ix3 g t 0) := by
  pointwise

theorem lane (v : Vec Ideal S2x8192x64 .bf16) (g : Fin 2) (t : Fin 8192) (d : Fin 64) : wide v (ix3 g t (⟨d.val, by omega⟩ : Fin 128)) = v (ix3 g t d) :=
  concat_lo _ _ g t d

theorem ones (v : Vec Ideal S2x8192x64 .bf16) (g : Fin 2) (t : Fin 8192) : wide v (ix3 g t (64 : Fin 128)) = (1 : EReal) := by
  refine (concat_hi _ _ g t).trans ?_
  exact scatter_set_hit _ _ _ _ _ _ (fun k _ => by pointwise) (ix2 g t) (lands g t _ fun i => rfl)

theorem final (c : Dev nD) : (dats m 0 c).arrAt 3 cfg0.N = (fun y : S32x256x512.Idx => attn
    (fun e => (V m c main_v3 : Vec Ideal S32x256x512 .bf16) (ix3 (y 0) (y 1) (⟨64 * ((y 2).val / 64) + e.val, by have : (y 2).val < 512 := (y 2).isLt; omega⟩ : Fin 512)))
    (fun j e => (m ((c : Thread nD τ).loc main_arg1) : Vec Ideal S2x8192x64 .bf16) (ix3 (⟨(y 2).val / 256, by have : (y 2).val < 512 := (y 2).isLt; omega⟩ : Fin 2)
      (⟨256 * (y 0).val + j.val, by have : (y 0).val < 32 := (y 0).isLt; omega⟩ : Fin 8192) e))
    (fun j => (V m c main_v8 : Vec Ideal S2x8192x128 .bf16) (ix3 (⟨(y 2).val / 256, by have : (y 2).val < 512 := (y 2).isLt; omega⟩ : Fin 2)
      (⟨256 * (y 0).val + j.val, by have : (y 0).val < 32 := (y 0).isLt; omega⟩ : Fin 8192) (⟨(y 2).val % 64, by omega⟩ : Fin 128)))
    (fun j => (V m c main_v8 : Vec Ideal S2x8192x128 .bf16) (ix3 (⟨(y 2).val / 256, by have : (y 2).val < 512 := (y 2).isLt; omega⟩ : Fin 2)
      (⟨256 * (y 0).val + j.val, by have : (y 0).val < 32 := (y 0).isLt; omega⟩ : Fin 8192) 64)) : S32x256x512.Idx → EReal) := by
  refine (dats m 0 c).arrAt_eq_of_covers 3 _ (by decide +kernel) fun t hf y => ?_
  blk_simp
  rw [after0_3]
  unfold outsAt0
  refine (block_value m c t y).trans ?_
  obtain ⟨w0, w1, w2, w3⟩ := idx_val t
  have e30 : win0_3.index t 0 = t.val := by rw [w3]; rfl
  have e32 : win0_3.index t 2 = 0 := by rw [w3]; rfl
  unfold blockVal
  refine attn_congr (fun e => ?_) (fun j e => ?_) (fun j => ?_) (fun j => ?_)
  · blk_simp [iblk]
    generalize V m c main_v3 = W
    blk_ext [w0, w3]
  · blk_ext [iblk, V, w1, w3]
  · blk_simp [iblk]
    generalize V m c main_v8 = W
    blk_ext [w2, w3]
  · blk_simp [iblk]
    generalize V m c main_v8 = W
    blk_ext [w2, w3]

end Cert.AttArray

end
-- ==== Proof.AttEq.lean ====
/- The equation of the attention: one division of the weighted sum by the weights' sum, against the softmax's division of every weight. -/
module

public import proofs.«01_k».proof.Proof.AttTile

@[expose] public section

set_option maxRecDepth 16384

noncomputable section

open Idealize.ShloMosaic
open scoped BigOperators

namespace Cert.AttEq

open Cert.AttTile

theorem coe_sum {ι : Type} (s : Finset ι) (f : ι → ℝ) : ((∑ i ∈ s, f i : ℝ) : EReal) = ∑ i ∈ s, (f i : EReal) := by
  classical
  induction s using Finset.induction_on with
  | empty => rfl
  | insert a s h ih => rw [Finset.sum_insert h, Finset.sum_insert h, EReal.coe_add, ih]

/-- A non-negative real factor goes into a sum of extended reals. -/
theorem sum_mul_coe {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s h ih =>
    rw [Finset.sum_insert h, Finset.sum_insert h, ← ih]
    exact EReal.right_distrib_of_nonneg_of_ne_top (EReal.coe_nonneg.2 hc) (EReal.coe_ne_top c) _ _

/-- The maximum over pairs, one of each half, is the maximum over all. -/
theorem fold_halves (f : Fin 256 → EReal) :
    (Finset.univ.fold max (⊥ : EReal) fun l : Fin 128 => max (f ⟨l.val, by omega⟩) (f ⟨128 + l.val, by omega⟩)) = Finset.univ.fold max (⊥ : EReal) f := by
  change Finset.univ.sup (fun l : Fin 128 => max (f ⟨l.val, by omega⟩) (f ⟨128 + l.val, by omega⟩)) = Finset.univ.sup f
  refine le_antisymm (Finset.sup_le fun l _ => max_le (Finset.le_sup (Finset.mem_univ _)) (Finset.le_sup (Finset.mem_univ _))) (Finset.sup_le fun j _ => ?_)
  by_cases hj : j.val < 128
  · exact (le_max_left (f j) _).trans (Finset.le_sup (f := fun l : Fin 128 => max (f ⟨l.val, by omega⟩) (f ⟨128 + l.val, by omega⟩)) (Finset.mem_univ (⟨j.val, hj⟩ : Fin 128)))
  · have e : f j = f ⟨128 + (j.val - 128), by omega⟩ := congrArg f (Fin.ext (by show j.val = 128 + (j.val - 128); omega))
    rw [e]
    exact (le_max_right _ _).trans (Finset.le_sup (f := fun l : Fin 128 => max (f ⟨l.val, by omega⟩) (f ⟨128 + l.val, by omega⟩)) (Finset.mem_univ (⟨j.val - 128, by omega⟩ : Fin 128)))

/-- The maximum of finitely many reals is a real. -/
theorem fold_real (s : Fin 256 → ℝ) : ∃ M : ℝ, (Finset.univ.fold max (⊥ : EReal) fun j => (s j : EReal)) = (M : EReal) := by
  obtain ⟨j, _, h⟩ := Finset.exists_mem_eq_sup Finset.univ ⟨(0 : Fin 256), Finset.mem_univ _⟩ (fun j => (s j : EReal))
  exact ⟨s j, h⟩

/-- The softmax attention of one query, as the reference computes it. -/
def softmaxAttn (q : Fin 64 → EReal) (k : Fin 256 → Fin 64 → EReal) (v : Fin 256 → EReal) : EReal :=
  ∑ j, v j * Ideal.div
    (Ideal.exp ((∑ e, k j e * q e) * ((1 / 8 : ℝ) : EReal) - max ⊥ (Finset.univ.fold max (⊥ : EReal) fun l => (∑ e, k l e * q e) * ((1 / 8 : ℝ) : EReal))))
    (0 + ∑ t, Ideal.exp ((∑ e, k t e * q e) * ((1 / 8 : ℝ) : EReal) - max ⊥ (Finset.univ.fold max (⊥ : EReal) fun l => (∑ e, k l e * q e) * ((1 / 8 : ℝ) : EReal))))

theorem attn_eq (q : Fin 64 → ℝ) (k : Fin 256 → Fin 64 → ℝ) (v : Fin 256 → EReal) :
    attn (fun e => (q e : EReal) * ((1 / 8 : ℝ) : EReal)) (fun j e => (k j e : EReal)) v (fun _ => 1)
      = softmaxAttn (fun e => (q e : EReal)) (fun j e => (k j e : EReal)) v := by
  have h1 : ∀ j, (∑ e : Fin 64, (q e : EReal) * ((1 / 8 : ℝ) : EReal) * (k j e : EReal)) = (((∑ e, k j e * q e) * (1 / 8) : ℝ) : EReal) := fun j => by
    simp only [← EReal.coe_mul, ← coe_sum]
    rw [Finset.sum_mul]
    refine congrArg _ (Finset.sum_congr rfl fun e _ => by ring)
  have h2 : ∀ j, (∑ e : Fin 64, (k j e : EReal) * (q e : EReal)) * ((1 / 8 : ℝ) : EReal) = (((∑ e, k j e * q e) * (1 / 8) : ℝ) : EReal) := fun j => by
    simp only [← EReal.coe_mul, ← coe_sum]
  unfold attn softmaxAttn
  simp only [h1, h2]
  rw [fold_halves (fun j => (((∑ e, k j e * q e) * (1 / 8) : ℝ) : EReal))]
  obtain ⟨M, hM⟩ := fold_real fun j => (∑ e, k j e * q e) * (1 / 8)
  rw [hM, max_eq_right bot_le]
  simp only [← EReal.coe_sub, Ideal.exp_coe, mul_one, zero_add, ← coe_sum]
  set p : Fin 256 → ℝ := fun j => Real.exp ((∑ e, k j e * q e) * (1 / 8) - M) with hp
  have hZ : 0 < ∑ j, p j := Finset.sum_pos (fun j _ => Real.exp_pos _) ⟨0, Finset.mem_univ _⟩
  rw [Ideal.div_coe hZ.ne', sum_mul_coe _ _ _ (by positivity)]
  refine Finset.sum_congr rfl fun j _ => ?_
  rw [Ideal.div_coe hZ.ne', mul_comm _ (v j), mul_assoc]

end Cert.AttEq

end
-- ==== Proof.AttRef.lean ====
module

public import proofs.«01_k».proof.Proof.Gen.AttRefIdeal.Read
public import proofs.«01_k».proof.Proof.AttEq
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.AttRefVal

open Cert.AttRefIdeal Cert.AttRefIdeal.Gen Cert.AttRefIdeal.Read Cert.AttEq Cert.AttTile

theorem eighth : Ideal.ofBits FTy.f32 0x3E000000#32 = ((1 / 8 : ℝ) : EReal) := by
  simp [Ideal.ofBits, Ideal.ieee, -EReal.coe_mul]; norm_num

theorem query (x0 : S32x256x512.Idx → EReal) (b : Fin 32) (i : Fin 256) (g : Fin 2) (h : Fin 4) (e : Fin 64) :
    val_main_v1 (F := Ideal) x0 (ix5 b i g h e) = x0 (ix3 b i (⟨(g.val * 4 + h.val) * 64 + e.val, by omega⟩ : Fin 512)) := by
  rw [val_main_v1_apply]
  refine congrArg x0 (funext fun a => Fin.ext ?_)
  have h1 := b.isLt; have h2 := i.isLt; have h3 := g.isLt; have h4 := h.isLt; have h5 := e.isLt
  match a with
  | ⟨0, _⟩ => show ((((b.val * 256 + i.val) * 2 + g.val) * 4 + h.val) * 64 + e.val) / 131072 = b.val; omega
  | ⟨1, _⟩ => show ((((b.val * 256 + i.val) * 2 + g.val) * 4 + h.val) * 64 + e.val) / 512 % 256 = i.val; omega
  | ⟨2, _⟩ => show ((((b.val * 256 + i.val) * 2 + g.val) * 4 + h.val) * 64 + e.val) % 512 = (g.val * 4 + h.val) * 64 + e.val; omega

theorem key (x1 : S2x8192x64.Idx → EReal) (g : Fin 2) (b : Fin 32) (j : Fin 256) (e : Fin 64) :
    val_main_v3 (F := Ideal) x1 (ix4 g b j e) = x1 (ix3 g (⟨256 * b.val + j.val, by omega⟩ : Fin 8192) e) := by
  rw [val_main_v3_apply]
  refine congrArg x1 (funext fun a => Fin.ext ?_)
  have h1 := b.isLt; have h2 := j.isLt; have h3 := g.isLt; have h5 := e.isLt
  match a with
  | ⟨0, _⟩ => show (((g.val * 32 + b.val) * 256 + j.val) * 64 + e.val) / 524288 = g.val; omega
  | ⟨1, _⟩ => show (((g.val * 32 + b.val) * 256 + j.val) * 64 + e.val) / 64 % 8192 = 256 * b.val + j.val; omega
  | ⟨2, _⟩ => show (((g.val * 32 + b.val) * 256 + j.val) * 64 + e.val) % 64 = e.val; omega

theorem value (x2 : S2x8192x64.Idx → EReal) (g : Fin 2) (b : Fin 32) (j : Fin 256) (e : Fin 64) :
    val_main_v5 (F := Ideal) x2 (ix4 g b j e) = x2 (ix3 g (⟨256 * b.val + j.val, by omega⟩ : Fin 8192) e) :=
  key x2 g b j e

variable (x0 : S32x256x512.Idx → EReal) (x1 x2 : S2x8192x64.Idx → EReal)

/-- One scaled score. -/
def sc (b : Fin 32) (g : Fin 2) (h : Fin 4) (i j : Fin 256) : EReal :=
  (∑ e : Fin 64, x1 (ix3 g (⟨256 * b.val + j.val, by omega⟩ : Fin 8192) e) * x0 (ix3 b i (⟨(g.val * 4 + h.val) * 64 + e.val, by omega⟩ : Fin 512))) * ((1 / 8 : ℝ) : EReal)

theorem score (b : Fin 32) (g : Fin 2) (h : Fin 4) (i j : Fin 256) :
    val_main_v9 (F := Ideal) x0 x1 (ix5 b g h i j) = sc x0 x1 b g h i j := by
  rw [val_main_v9_apply, val_main_v7_apply, val_main_v6_apply, val_main_v8_apply, val_main_cst_apply]
  change _ * Ideal.ofBits FTy.f32 0x3E000000#32 = _
  rw [eighth]
  unfold sc
  refine congrArg (· * _) (Finset.sum_congr rfl fun e _ => ?_)
  rw [← key x1 g b j e, ← query x0 b i g h e]
  refine congrArg₂ (· * ·) (congrArg _ (funext fun a => ?_)) (congrArg _ (funext fun a => ?_))
  · match a with | ⟨0, _⟩ => rfl | ⟨1, _⟩ => rfl | ⟨2, _⟩ => rfl | ⟨3, _⟩ => rfl
  · match a with | ⟨0, _⟩ => rfl | ⟨1, _⟩ => rfl | ⟨2, _⟩ => rfl | ⟨3, _⟩ => rfl | ⟨4, _⟩ => rfl

/-- The row maximum. -/
theorem rowMax (b : Fin 32) (g : Fin 2) (h : Fin 4) (i : Fin 256) :
    val_main_v10 (F := Ideal) x0 x1 (ix4 b g h i) = Finset.univ.fold max (⊥ : EReal) fun j : Fin 256 => sc x0 x1 b g h i j := by
  simp only [← score]
  unfold val_main_v10
  generalize val_main_v9 (F := Ideal) x0 x1 = w
  pointwise [val_main_cst_0]
  rw [neg_inf]

theorem shifted (b : Fin 32) (g : Fin 2) (h : Fin 4) (i j : Fin 256) :
    val_main_v16 (F := Ideal) x0 x1 (ix5 b g h i j)
      = Ideal.exp (sc x0 x1 b g h i j - max ⊥ (Finset.univ.fold max (⊥ : EReal) fun l : Fin 256 => sc x0 x1 b g h i l)) := by
  rw [val_main_v16_apply, val_main_v15_apply, val_main_v14_apply, val_main_v13_apply, val_main_v12_apply, val_main_v11_apply, val_main_cst_1_apply, ← score, ← rowMax, ← neg_inf]
  refine congrArg (fun w => Ideal.exp (_ - max _ (val_main_v10 (F := Ideal) x0 x1 w))) (funext fun a => ?_)
  match a with | ⟨0, _⟩ => rfl | ⟨1, _⟩ => rfl | ⟨2, _⟩ => rfl | ⟨3, _⟩ => rfl

theorem weight (b : Fin 32) (g : Fin 2) (h : Fin 4) (i j : Fin 256) :
    val_main_v20 (F := Ideal) x0 x1 (ix5 b g h i j)
      = Ideal.div (Ideal.exp (sc x0 x1 b g h i j - max ⊥ (Finset.univ.fold max (⊥ : EReal) fun l : Fin 256 => sc x0 x1 b g h i l)))
        (0 + ∑ t : Fin 256, Ideal.exp (sc x0 x1 b g h i t - max ⊥ (Finset.univ.fold max (⊥ : EReal) fun l : Fin 256 => sc x0 x1 b g h i l))) := by
  rw [val_main_v20_apply, val_main_v19_apply, val_main_v18_apply, val_main_v17_apply, val_main_cst_2_apply]
  simp only [← shifted]
  have z : FloatOps.ofBits (F := Ideal) .f32 0x00000000#32 = (0 : EReal) := by
    show Ideal.ofBits FTy.f32 0x00000000#32 = 0
    simp [Ideal.ofBits, Ideal.ieee]
  rw [z]
  refine congrArg (fun w => Ideal.div _ ((0 : EReal) + w)) (Finset.sum_congr rfl fun t _ => congrArg _ (funext fun a => ?_))
  match a with | ⟨0, _⟩ => rfl | ⟨1, _⟩ => rfl | ⟨2, _⟩ => rfl | ⟨3, _⟩ => rfl | ⟨4, _⟩ => rfl

/-- The reference's result at batch `b`, token `i`, lane `l`: head `l / 64`, whose keys are those of group `l / 256`. -/
theorem result (b : Fin 32) (i : Fin 256) (l : Fin 512) :
    val_main_v24 (F := Ideal) x0 x1 x2 (ix3 b i l)
      = softmaxAttn (fun e => x0 (ix3 b i (⟨64 * (l.val / 64) + e.val, by omega⟩ : Fin 512)))
        (fun j e => x1 (ix3 (⟨l.val / 256, by omega⟩ : Fin 2) (⟨256 * b.val + j.val, by omega⟩ : Fin 8192) e))
        (fun j => x2 (ix3 (⟨l.val / 256, by omega⟩ : Fin 2) (⟨256 * b.val + j.val, by omega⟩ : Fin 8192) (⟨l.val % 64, by omega⟩ : Fin 64))) := by
  have h1 := b.isLt; have h2 := i.isLt; have h3 := l.isLt
  have hq : ∀ e : Fin 64, (⟨(l.val / 256 * 4 + l.val / 64 % 4) * 64 + e.val, by omega⟩ : Fin 512) = ⟨64 * (l.val / 64) + e.val, by omega⟩ := fun e => Fin.ext (by show (l.val / 256 * 4 + l.val / 64 % 4) * 64 + e.val = 64 * (l.val / 64) + e.val; omega)
  rw [val_main_v24_apply, val_main_v23_apply, val_main_v22_apply, val_main_v21_apply]
  unfold softmaxAttn
  refine Finset.sum_congr rfl fun j _ => ?_
  have hw := weight x0 x1 b (⟨l.val / 256, by omega⟩ : Fin 2) (⟨l.val / 64 % 4, by omega⟩ : Fin 4) i j
  simp only [sc, hq] at hw
  beta_reduce
  rw [← hw, ← value x2 (⟨l.val / 256, by omega⟩ : Fin 2) b j (⟨l.val % 64, by omega⟩ : Fin 64)]
  refine congrArg₂ (· * ·) (congrArg _ (funext fun a => Fin.ext ?_)) (congrArg _ (funext fun a => Fin.ext ?_))
  · match a with
    | ⟨0, _⟩ => show ((b.val * 256 + i.val) * 512 + l.val) / 256 % 2 = l.val / 256; omega
    | ⟨1, _⟩ => show ((b.val * 256 + i.val) * 512 + l.val) / 131072 = b.val; omega
    | ⟨2, _⟩ => rfl
    | ⟨3, _⟩ => show ((b.val * 256 + i.val) * 512 + l.val) % 64 = l.val % 64; omega
  · match a with
    | ⟨0, _⟩ => show ((b.val * 256 + i.val) * 512 + l.val) / 131072 = b.val; omega
    | ⟨1, _⟩ => show ((b.val * 256 + i.val) * 512 + l.val) / 256 % 2 = l.val / 256; omega
    | ⟨2, _⟩ => show ((b.val * 256 + i.val) * 512 + l.val) / 64 % 4 = l.val / 64 % 4; omega
    | ⟨3, _⟩ => show ((b.val * 256 + i.val) * 512 + l.val) / 512 % 256 = i.val; omega
    | ⟨4, _⟩ => rfl

end Cert.AttRefVal

end
-- ==== Proof.Finite.lean ====
/- What the preconditions say: an array whose elements all have an absolute value below +∞ is an array of reals. -/
module

public import proofs.«01_k».proof.Defs
public import proofs.«01_k».proof.Proof.Gen.Pre_finite
public import proofs.«01_k».proof.Proof.Gen.Pre_finite2
public import proofs.«01_k».proof.Proof.Gen.Pre_finite3
public import proofs.«01_k».proof.Proof.Gen.Pre_finite4
public import proofs.«01_k».proof.Proof.Gen.Pre_finite5
public import proofs.«01_k».proof.Proof.Gen.Pre_finite6
public import proofs.«01_k».proof.Proof.Gen.Pre_finite7
public import proofs.«01_k».proof.Proof.Gen.Pre_finite8
public import Idealize.ShloMosaic.Lib.ReduceAll
public import Idealize.ShloMosaic.PureOps.Ideal.Laws

@[expose] public section

noncomputable section

open Idealize.ShloMosaic Idealize.SL.Sem

namespace Cert.Finite

theorem inf_word : Ideal.ofBits FTy.f32 0x7F800000#32 = ⊤ := by simp [Ideal.ofBits, Ideal.ieee]

/-- An absolute value below +∞ is a real's. -/
theorem real_of_lt (x : EReal) (h : Ideal.cmp .olt (max x (-x)) (Ideal.ofBits FTy.f32 0x7F800000#32) = 1#1) : ∃ r : ℝ, x = r := by
  rw [inf_word] at h
  have h' : max x (-x) < ⊤ := by
    by_contra hn
    simp [Ideal.cmp, hn] at h
  induction x using EReal.rec with
  | bot => simp at h'
  | top => simp at h'
  | coe r => exact ⟨r, rfl⟩

instance : Subsingleton (Shape.Idx ⟨0, ![]⟩) := ⟨fun a b => funext fun i => i.elim0⟩

theorem q_real (x0 : Vec Ideal ⟨3, ![32, 256, 512]⟩ .bf16) (x1 x2 : Vec Ideal ⟨3, ![2, 8192, 64]⟩ .bf16)
    (h : Cert.Pre_finite2.fn (F := Ideal) x0 x1 x2 = fun _ => 1#1) : (∀ i, ∃ r : ℝ, (x0 i : EReal) = r) ∧ ∀ i, ∃ r : ℝ, (x1 i : EReal) = r := by
  have h0 := congrFun h (fun a => a.elim0)
  obtain ⟨a, b⟩ := IntOp.andi_eq_one.1 h0
  exact ⟨fun i => real_of_lt _ (Host.reduce_andi_all _ _ _ _ _ a i), fun i => real_of_lt _ (Host.reduce_andi_all _ _ _ _ _ b i)⟩

theorem ret_real (x0 : Vec Ideal ⟨2, ![2, 4]⟩ .f32) (x1 x2 : Vec Ideal ⟨2, ![8192, 1024]⟩ .bf16) (x3 : Vec Ideal ⟨2, ![8192, 2048]⟩ .bf16)
    (h : Cert.Pre_finite.fn (F := Ideal) x0 x1 x2 x3 = fun _ => 1#1) :
    (∀ i, ∃ r : ℝ, (x1 i : EReal) = r) ∧ (∀ i, ∃ r : ℝ, (x2 i : EReal) = r) ∧ ∀ i, ∃ r : ℝ, (x3 i : EReal) = r := by
  have h0 := congrFun h (fun a => a.elim0)
  obtain ⟨ab, d⟩ := IntOp.andi_eq_one.1 h0
  obtain ⟨a, b⟩ := IntOp.andi_eq_one.1 ab
  exact ⟨fun i => real_of_lt _ (Host.reduce_andi_all _ _ _ _ _ a i), fun i => real_of_lt _ (Host.reduce_andi_all _ _ _ _ _ b i), fun i => real_of_lt _ (Host.reduce_andi_all _ _ _ _ _ d i)⟩

theorem l1_real (x0 : Vec Ideal ⟨2, ![8192, 1024]⟩ .f32) (x1 : Vec Ideal ⟨3, ![1, 1, 6144]⟩ .f32) (x2 : Vec Ideal ⟨1, ![1024]⟩ .f32) (x3 : Vec Ideal ⟨2, ![1024, 6144]⟩ .bf16)
    (h : Cert.Pre_finite5.fn (F := Ideal) x0 x1 x2 x3 = fun _ => 1#1) :
    (∀ i, ∃ r : ℝ, (x1 i : EReal) = r) ∧ (∀ i, ∃ r : ℝ, (x2 i : EReal) = r) ∧ ∀ i, ∃ r : ℝ, (x3 i : EReal) = r := by
  have h0 := congrFun h (fun a => a.elim0)
  obtain ⟨ab, c⟩ := IntOp.andi_eq_one.1 h0
  obtain ⟨a, b⟩ := IntOp.andi_eq_one.1 ab
  exact ⟨fun i => real_of_lt _ (Host.reduce_andi_all _ _ _ _ _ a i), fun i => real_of_lt _ (Host.reduce_andi_all _ _ _ _ _ b i),
    fun i => real_of_lt _ (Host.reduce_andi_all _ _ _ _ _ c i)⟩

theorem l0_real (x0 : Vec Ideal ⟨2, ![8192, 1024]⟩ .f32) (x1 : Vec Ideal ⟨3, ![1, 1, 6144]⟩ .f32) (x2 : Vec Ideal ⟨1, ![1024]⟩ .f32) (x3 : Vec Ideal ⟨2, ![1024, 2176]⟩ .bf16) (x4 x5 : Vec Ideal ⟨1, ![64]⟩ .f32)
    (h : Cert.Pre_finite6.fn (F := Ideal) x0 x1 x2 x3 x4 x5 = fun _ => 1#1) :
    (∀ i, ∃ r : ℝ, (x1 i : EReal) = r) ∧ (∀ i, ∃ r : ℝ, (x2 i : EReal) = r) ∧ ∀ i, ∃ r : ℝ, (x3 i : EReal) = r := by
  have h0 := congrFun h (fun a => a.elim0)
  obtain ⟨ab, c⟩ := IntOp.andi_eq_one.1 h0
  obtain ⟨a, b⟩ := IntOp.andi_eq_one.1 ab
  exact ⟨fun i => real_of_lt _ (Host.reduce_andi_all _ _ _ _ _ a i), fun i => real_of_lt _ (Host.reduce_andi_all _ _ _ _ _ b i),
    fun i => real_of_lt _ (Host.reduce_andi_all _ _ _ _ _ c i)⟩

theorem post_c_real (x0 : Vec Ideal ⟨2, ![8192, 1024]⟩ .f32) (x1 : Vec Ideal ⟨3, ![1, 1, 6144]⟩ .f32) (x2 : Vec Ideal ⟨1, ![1024]⟩ .f32) (x3 : Vec Ideal ⟨2, ![2048, 1024]⟩ .bf16) (x4 : Vec Ideal ⟨2, ![1024, 2816]⟩ .bf16) (x5 : Vec Ideal ⟨2, ![1024, 2816]⟩ .bf16) (x6 : Vec Ideal ⟨2, ![2816, 1024]⟩ .bf16) (x7 : Vec Ideal ⟨1, ![1024]⟩ .f32) (x8 : Vec Ideal ⟨2, ![8192, 2048]⟩ .bf16) (x9 : Vec Ideal ⟨2, ![8192, 2048]⟩ .bf16) (x10 : Vec Ideal ⟨1, ![2048]⟩ .f32)
    (h : Cert.Pre_finite3.fn (F := Ideal) x0 x1 x2 x3 x4 x5 x6 x7 x8 x9 x10 = fun _ => 1#1) :
    (∀ i, ∃ r : ℝ, (x1 i : EReal) = r) ∧ (∀ i, ∃ r : ℝ, (x2 i : EReal) = r) ∧ (∀ i, ∃ r : ℝ, (x4 i : EReal) = r) := by
  have h0 := congrFun h (fun a => a.elim0)
  obtain ⟨h1, a2⟩ := IntOp.andi_eq_one.1 h0
  obtain ⟨h2, a1⟩ := IntOp.andi_eq_one.1 h1
  exact ⟨fun i => real_of_lt _ (Host.reduce_andi_all _ _ _ _ _ h2 i), fun i => real_of_lt _ (Host.reduce_andi_all _ _ _ _ _ a1 i), fun i => real_of_lt _ (Host.reduce_andi_all _ _ _ _ _ a2 i)⟩

theorem post_s_real (x0 : Vec Ideal ⟨2, ![8192, 1024]⟩ .f32) (x1 : Vec Ideal ⟨3, ![2, 1, 6144]⟩ .f32) (x2 : Vec Ideal ⟨1, ![1024]⟩ .f32) (x3 : Vec Ideal ⟨2, ![2048, 1024]⟩ .bf16) (x4 : Vec Ideal ⟨2, ![1024, 2816]⟩ .bf16) (x5 : Vec Ideal ⟨2, ![1024, 2816]⟩ .bf16) (x6 : Vec Ideal ⟨2, ![2816, 1024]⟩ .bf16) (x7 : Vec Ideal ⟨1, ![1024]⟩ .f32) (x8 : Vec Ideal ⟨2, ![8192, 2048]⟩ .bf16) (x9 : Vec Ideal ⟨2, ![8192, 2048]⟩ .bf16) (x10 : Vec Ideal ⟨2, ![8192, 2048]⟩ .bf16) (x11 : Vec Ideal ⟨1, ![2048]⟩ .f32)
    (h : Cert.Pre_finite7.fn (F := Ideal) x0 x1 x2 x3 x4 x5 x6 x7 x8 x9 x10 x11 = fun _ => 1#1) :
    (∀ i, ∃ r : ℝ, (x1 i : EReal) = r) ∧ (∀ i, ∃ r : ℝ, (x2 i : EReal) = r) ∧ (∀ i, ∃ r : ℝ, (x4 i : EReal) = r) := by
  have h0 := congrFun h (fun a => a.elim0)
  obtain ⟨h1, a2⟩ := IntOp.andi_eq_one.1 h0
  obtain ⟨h2, a1⟩ := IntOp.andi_eq_one.1 h1
  exact ⟨fun i => real_of_lt _ (Host.reduce_andi_all _ _ _ _ _ h2 i), fun i => real_of_lt _ (Host.reduce_andi_all _ _ _ _ _ a1 i), fun i => real_of_lt _ (Host.reduce_andi_all _ _ _ _ _ a2 i)⟩

theorem post_ab_real (x0 : Vec Ideal ⟨2, ![8192, 1024]⟩ .f32) (x1 : Vec Ideal ⟨3, ![1, 1, 6144]⟩ .f32) (x2 : Vec Ideal ⟨1, ![1024]⟩ .f32) (x3 : Vec Ideal ⟨2, ![1024, 1024]⟩ .bf16) (x4 : Vec Ideal ⟨2, ![1024, 2816]⟩ .bf16) (x5 : Vec Ideal ⟨2, ![1024, 2816]⟩ .bf16) (x6 : Vec Ideal ⟨2, ![2816, 1024]⟩ .bf16) (x7 : Vec Ideal ⟨2, ![8192, 512]⟩ .bf16) (x8 : Vec Ideal ⟨2, ![8192, 512]⟩ .bf16) (x9 : Vec Ideal ⟨2, ![8192, 512]⟩ .bf16) (x10 : Vec Ideal ⟨2, ![8192, 512]⟩ .bf16) (x11 : Vec Ideal ⟨1, ![512]⟩ .f32)
    (h : Cert.Pre_finite4.fn (F := Ideal) x0 x1 x2 x3 x4 x5 x6 x7 x8 x9 x10 x11 = fun _ => 1#1) :
    (∀ i, ∃ r : ℝ, (x1 i : EReal) = r) ∧ (∀ i, ∃ r : ℝ, (x2 i : EReal) = r) ∧ (∀ i, ∃ r : ℝ, (x4 i : EReal) = r) ∧ (∀ i, ∃ r : ℝ, (x10 i : EReal) = r) := by
  have h0 := congrFun h (fun a => a.elim0)
  obtain ⟨h1, a3⟩ := IntOp.andi_eq_one.1 h0
  obtain ⟨h2, a2⟩ := IntOp.andi_eq_one.1 h1
  obtain ⟨h3, a1⟩ := IntOp.andi_eq_one.1 h2
  exact ⟨fun i => real_of_lt _ (Host.reduce_andi_all _ _ _ _ _ h3 i), fun i => real_of_lt _ (Host.reduce_andi_all _ _ _ _ _ a1 i), fun i => real_of_lt _ (Host.reduce_andi_all _ _ _ _ _ a2 i), fun i => real_of_lt _ (Host.reduce_andi_all _ _ _ _ _ a3 i)⟩

theorem ada_real (x0 : Vec Ideal ⟨2, ![8, 1024]⟩ .f32) (x1 : Vec Ideal ⟨2, ![1024, 6144]⟩ .f32) (x2 : Vec Ideal ⟨1, ![6144]⟩ .f32)
    (h : Cert.Pre_finite8.fn (F := Ideal) x0 x1 x2 = fun _ => 1#1) : ∀ i, ∃ r : ℝ, (x0 i : EReal) = r := by
  have h0 := congrFun h (fun a => a.elim0)
  exact fun i => real_of_lt _ (Host.reduce_andi_all _ _ _ _ _ h0 i)

end Cert.Finite

end
-- ==== Proof.AttClaim.lean ====
/- The attention: the kernel's array is the softmax attention that the reference computes. -/
module

public import proofs.«01_k».proof.Defs
public import proofs.«01_k».proof.Proof.AttArray
public import proofs.«01_k».proof.Proof.AttRef
public import proofs.«01_k».proof.Proof.AttEq
public import proofs.«01_k».proof.Proof.Finite

@[expose] public section

set_option maxRecDepth 16384

noncomputable section

open Idealize.ShloMosaic Idealize.ShloMosaic.TcCoe Idealize.SL.Sem
open scoped BigOperators

namespace Cert.AttClaim

open Cert.AttTile Cert.AttEq Cert.AttArray

section Kernel
open Cert.AttIdeal Cert.AttIdeal.Gen

variable (m : (ℓ : Loc nD τ sig) → Buf (Elt Ideal) ℓ)

/-- The kernel's array is the softmax attention of its arguments, where queries and keys are real. -/
theorem array_eq (c : Dev nD) (hq : ∀ i, ∃ r : ℝ, X0 m c i = r) (hk : ∀ i, ∃ r : ℝ, X1 m c i = r) :
    (dats m 0 c).arrAt 3 cfg0.N = Cert.AttRefIdeal.Read.val_main_v24 (F := Ideal) (X0 m c) (X1 m c) (X2 m c) := by
  rw [final]
  funext y
  obtain ⟨b, i, l, rfl⟩ : ∃ (b : Fin 32) (i : Fin 256) (l : Fin 512), y = ix3 b i l :=
    ⟨y 0, y 1, y 2, funext fun a => match a with | ⟨0, _⟩ => rfl | ⟨1, _⟩ => rfl | ⟨2, _⟩ => rfl⟩
  refine Eq.trans ?_ (Cert.AttRefVal.result (X0 m c) (X1 m c) (X2 m c) b i l).symm
  choose q hq using hq
  choose k hk using hk
  have hb : b.val < 32 := b.isLt
  have hl : l.val < 512 := l.isLt
  refine (attn_congr (fun e => ?_) (fun j e => ?_) (fun j => ?_) (fun j => ?_)).trans ((attn_eq
    (fun e => q (ix3 b i (⟨64 * (l.val / 64) + e.val, by omega⟩ : Fin 512)))
    (fun j e => k (ix3 (⟨l.val / 256, by omega⟩ : Fin 2) (⟨256 * b.val + j.val, by omega⟩ : Fin 8192) e))
    (fun j => X2 m c (ix3 (⟨l.val / 256, by omega⟩ : Fin 2) (⟨256 * b.val + j.val, by omega⟩ : Fin 8192) (⟨l.val % 64, by omega⟩ : Fin 64)))).trans ?_)
  · exact (scaled m c b i _).trans (congrArg (· * _) (hq _))
  · exact hk _
  · rw [V_v8]; exact lane (X2 m c) _ _ (⟨l.val % 64, by omega⟩ : Fin 64)
  · rw [V_v8]; exact ones (X2 m c) _ _
  · simp only [← hq, ← hk]

end Kernel

theorem claim : Cert.algebraic_AttIdeal_AttRefIdeal_pre_finite2 := by
  intro m g m' g' hpre hagree
  refine ⟨fun c => Cert.AttRefIdeal.Read.val_main_v24 (F := Ideal) (X0 m c) (X1 m c) (X2 m c), ?_, ?_⟩
  · refine (θ_run _ _ _).mono (fun r h c => ?_) (Cert.AttIdeal.Value.run_blocks m g)
    obtain ⟨h1, h2, h3, h4⟩ := h c
    obtain ⟨hq, hk⟩ := Cert.Finite.q_real _ _ _ (hpre c)
    exact ⟨h1.trans (array_eq m c hq hk), h2, h3, h4⟩
  · refine (θ_run _ _ _).mono (fun r h c => ?_) (Cert.AttRefIdeal.Value.run m' g')
    obtain ⟨h1, h2, h3, h4⟩ := h c
    refine ⟨h1.trans ((Cert.AttRefIdeal.Read.val_main_v24_eq _ _ _).trans ?_), h2, h3, h4⟩
    obtain ⟨a0, a1, a2⟩ := hagree c
    exact congr (congr (congrArg _ a0) a1) a2

end Cert.AttClaim

end
-- ==== Proof.RetTile.lean ====
module

public import proofs.«01_k».proof.Proof.Gen.RetIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.RetTile

open Cert.RetIdeal Cert.RetIdeal.Gen

/-- The distance of two tokens, as the kernel's table has it. -/
theorem dist_at (i j : Fin 256) : (k0_pay3 (F := Ideal) (ix2 i j) : EReal) = (((i.val : ℝ) - (j.val : ℝ) : ℝ) : EReal) := by
  pointwise [k0_pay3]
  have h : ∀ i j : Fin 256, (IntOp.subi (BitVec.ofNat 32 i.val) (BitVec.ofNat 32 j.val)).toInt = (i.val : ℤ) - j.val := by
    decide +kernel
  show (((IntOp.subi (BitVec.ofNat 32 i.val) (BitVec.ofNat 32 j.val)).toInt : ℝ) : EReal) = _
  rw [h]
  push_cast
  rfl

/-- The place of a token, as the kernel's table has it. -/
theorem row_at (i : Fin 256) (l : Fin 128) : (k0_pay4 (F := Ideal) (ix2 i l) : EReal) = ((i.val : ℝ) : EReal) := by
  pointwise [k0_pay4]
  have h : ∀ i : Fin 256, (BitVec.ofNat 32 i.val).toInt = (i.val : ℤ) := by decide +kernel
  show (((BitVec.ofNat 32 i.val).toInt : ℝ) : EReal) = _
  rw [h]
  push_cast
  rfl

/-- The decay between tokens `i` and `j`: forward where `j` comes first, backward where `i` does, both on the diagonal. -/
def decE (g0 g1 : EReal) (i j : Fin 256) : EReal :=
  (if 0 ≤ (k0_pay3 (F := Ideal) (ix2 i j) : EReal) then Ideal.exp (g0 * max (k0_pay3 (F := Ideal) (ix2 i j) : EReal) 0) else 0)
    + (if (k0_pay3 (F := Ideal) (ix2 i j) : EReal) ≤ 0 then Ideal.exp (g1 * max (0 - (k0_pay3 (F := Ideal) (ix2 i j) : EReal)) 0) else 0)

section tables

variable (D : Vec Ideal S8x128 .f32)

/-- The logarithm of a head's decay, in one direction. -/
def lg (d : Fin 8) (h : Fin 128) : EReal := 0 - Ideal.exp (D (ix2 d h))

theorem decay0 (i j : Fin 256) : k0_pay7 (F := Ideal) (k0_pay44 D) (ix3 0 i j) = decE (lg D 0 0) (lg D 1 0) i j := by
  pointwise [k0_pay7, k0_pay5, k0_pay6, k0_pay44]
  rfl
theorem decay1 (i j : Fin 256) : k0_pay19 (F := Ideal) (k0_pay15 (k0_pay44 D) k0_pay3) (k0_pay16 (k0_pay3 (F := Ideal))) (k0_pay17 (k0_pay3 (F := Ideal))) (k0_pay18 (k0_pay44 D)) (ix3 0 i j)
    = decE (lg D 0 1) (lg D 1 1) i j := by
  pointwise [k0_pay19, k0_pay15, k0_pay16, k0_pay17, k0_pay18, k0_pay13, k0_pay14, k0_pay44]
  rfl
theorem decay2 (i j : Fin 256) : k0_pay27 (F := Ideal) (k0_pay44 D) k0_pay3 (ix3 0 i j) = decE (lg D 0 2) (lg D 1 2) i j := by
  pointwise [k0_pay27, k0_pay25, k0_pay26, k0_pay44]
  rfl
theorem decay3 (i j : Fin 256) : k0_pay39 (F := Ideal) (k0_pay35 (k0_pay44 D) k0_pay3) (k0_pay36 (k0_pay3 (F := Ideal))) (k0_pay37 (k0_pay3 (F := Ideal))) (k0_pay38 (k0_pay44 D)) (ix3 0 i j)
    = decE (lg D 0 3) (lg D 1 3) i j := by
  pointwise [k0_pay39, k0_pay35, k0_pay36, k0_pay37, k0_pay38, k0_pay33, k0_pay34, k0_pay44]
  rfl

/-- The decay of token `i` to the end, and to the start. -/
def toEnd (g : EReal) (i : Fin 256) : EReal := Ideal.exp (g * (((255 : ℝ) - (i.val : ℝ) : ℝ) : EReal))
def toStart (g : EReal) (i : Fin 256) : EReal := Ideal.exp (g * ((i.val : ℝ) : EReal))

theorem w255 : Ideal.ofBits FTy.f32 0x437F0000#32 = ((255 : ℝ) : EReal) := by
  simp [Ideal.ofBits, Ideal.ieee, -EReal.coe_mul]; norm_num

theorem end0 (i : Fin 256) (l : Fin 128) : k0_pay10 (F := Ideal) (k0_pay5 (k0_pay44 D)) k0_pay9 (ix4 0 0 i l) = toEnd (lg D 0 0) i := by
  pointwise [k0_pay10, k0_pay5, k0_pay44, k0_pay9, row_at, w255]
  rfl
theorem end1 (i : Fin 256) (l : Fin 128) : k0_pay21 (F := Ideal) k0_pay4 (k0_pay13 (k0_pay44 D)) (ix4 0 0 i l) = toEnd (lg D 0 1) i := by
  pointwise [k0_pay21, k0_pay13, k0_pay44, row_at, w255]
  rfl
theorem end2 (i : Fin 256) (l : Fin 128) : k0_pay30 (F := Ideal) (k0_pay25 (k0_pay44 D)) (k0_pay29 k0_pay4) (ix4 0 0 i l) = toEnd (lg D 0 2) i := by
  pointwise [k0_pay30, k0_pay25, k0_pay29, k0_pay44, row_at, w255]
  rfl
theorem end3 (i : Fin 256) (l : Fin 128) : k0_pay41 (F := Ideal) k0_pay4 (k0_pay33 (k0_pay44 D)) (ix4 0 0 i l) = toEnd (lg D 0 3) i := by
  pointwise [k0_pay41, k0_pay33, k0_pay44, row_at, w255]
  rfl

theorem start0 (i : Fin 256) (l : Fin 128) : k0_pay12 (F := Ideal) k0_pay4 (k0_pay6 (k0_pay44 D)) (ix4 0 0 i l) = toStart (lg D 1 0) i := by
  pointwise [k0_pay12, k0_pay6, k0_pay44, row_at]
  rfl
theorem start1 (i : Fin 256) (l : Fin 128) : k0_pay24 (F := Ideal) (k0_pay23 k0_pay4 (k0_pay14 (k0_pay44 D))) (ix4 0 0 i l) = toStart (lg D 1 1) i := by
  pointwise [k0_pay24, k0_pay23, k0_pay14, k0_pay44, row_at]
  rfl
theorem start2 (i : Fin 256) (l : Fin 128) : k0_pay32 (F := Ideal) k0_pay4 (k0_pay26 (k0_pay44 D)) (ix4 0 0 i l) = toStart (lg D 1 2) i := by
  pointwise [k0_pay32, k0_pay26, k0_pay44, row_at]
  rfl
theorem start3 (i : Fin 256) (l : Fin 128) : k0_pay45 (F := Ideal) (k0_pay43 k0_pay4 (k0_pay34 (k0_pay44 D))) (ix4 0 0 i l) = toStart (lg D 1 3) i := by
  pointwise [k0_pay45, k0_pay43, k0_pay34, k0_pay44, row_at]
  rfl

end tables

/-- One head of the output of a block: scores, decays, values. -/
def out (q k : Vec Ideal S256x256 .bf16) (v : Vec Ideal S256x512 .bf16) (w : Fin 256 → Fin 256 → EReal) (i : Fin 256) (e : Fin 512) : EReal :=
  ∑ j : Fin 256, (∑ d : Fin 256, q (ix2 i d) * k (ix2 j d)) * w i j * v (ix2 j e)

/-- One head's state after a block: decayed keys against values. -/
def state (k : Vec Ideal S256x256 .bf16) (v : Vec Ideal S256x512 .bf16) (w : Fin 256 → EReal) (d : Fin 256) (e : Fin 512) : EReal :=
  ∑ j : Fin 256, k (ix2 j d) * w j * v (ix2 j e)

section blocks

variable (q k : Vec Ideal S256x256 .bf16) (v : Vec Ideal S256x512 .bf16) (T : Vec Ideal S1x256x256 .f32) (R : Vec Ideal S1x1x256x128 .f32)
variable (w : Fin 256 → Fin 256 → EReal) (r : Fin 256 → EReal)

theorem out0 (hT : ∀ i j, T (ix3 0 i j) = w i j) (i : Fin 256) (e : Fin 512) : k0_pay47 q k v T (ix2 i e) = out q k v w i e := by
  pointwise [k0_pay47, hT]; rfl
theorem out1 (hT : ∀ i j, T (ix3 0 i j) = w i j) (i : Fin 256) (e : Fin 512) : k0_pay53 (k0_pay50 q k v T) (ix2 i e) = out q k v w i e := by
  pointwise [k0_pay53, k0_pay50, hT]; rfl
theorem out2 (hT : ∀ i j, T (ix3 0 i j) = w i j) (i : Fin 256) (e : Fin 512) : k0_pay57 v (k0_pay56 q k) T (ix2 i e) = out q k v w i e := by
  pointwise [k0_pay57, k0_pay56, hT]; rfl
theorem out3 (hT : ∀ i j, T (ix3 0 i j) = w i j) (i : Fin 256) (e : Fin 512) : k0_pay61 q k v T (ix2 i e) = out q k v w i e := by
  pointwise [k0_pay61, hT]; rfl

theorem fwd0 (hR : ∀ i l, R (ix4 0 0 i l) = r i) (d : Fin 256) (e : Fin 512) : k0_pay48 (k0_pay46 k v R) (ix5 0 0 0 d e) = state k v r d e := by
  pointwise [k0_pay48, k0_pay46, hR]; simp only [dite_eq_ite, ite_self]; rfl
theorem fwd1 (hR : ∀ i l, R (ix4 0 0 i l) = r i) (d : Fin 256) (e : Fin 512) : k0_pay54 v (k0_pay51 R) (k0_pay52 k) (ix5 0 0 0 d e) = state k v r d e := by
  pointwise [k0_pay54, k0_pay51, k0_pay52, hR]; simp only [dite_eq_ite, ite_self]; rfl
theorem fwd2 (hR : ∀ i l, R (ix4 0 0 i l) = r i) (d : Fin 256) (e : Fin 512) : k0_pay58 k v R (ix5 0 0 0 d e) = state k v r d e := by
  pointwise [k0_pay58, hR]; simp only [dite_eq_ite, ite_self]; rfl
theorem fwd3 (hR : ∀ i l, R (ix4 0 0 i l) = r i) (d : Fin 256) (e : Fin 512) : k0_pay1 (k0_pay60 k v R) (ix5 0 0 0 d e) = state k v r d e := by
  pointwise [k0_pay1, k0_pay60, hR]; simp only [dite_eq_ite, ite_self]; rfl
theorem bwd0 (hR : ∀ i l, R (ix4 0 0 i l) = r i) (d : Fin 256) (e : Fin 512) : k0_pay49 k v R (ix5 0 0 0 d e) = state k v r d e := by
  pointwise [k0_pay49, hR]; simp only [dite_eq_ite, ite_self]; rfl
theorem bwd1 (hR : ∀ i l, R (ix4 0 0 i l) = r i) (d : Fin 256) (e : Fin 512) : k0_pay55 k v R (ix5 0 0 0 d e) = state k v r d e := by
  pointwise [k0_pay55, hR]; simp only [dite_eq_ite, ite_self]; rfl
theorem bwd2 (hR : ∀ i l, R (ix4 0 0 i l) = r i) (d : Fin 256) (e : Fin 512) : k0_pay59 k v R (ix5 0 0 0 d e) = state k v r d e := by
  pointwise [k0_pay59, hR]; simp only [dite_eq_ite, ite_self]; rfl
theorem bwd3 (hR : ∀ i l, R (ix4 0 0 i l) = r i) (d : Fin 256) (e : Fin 512) : k0_pay2 (k0_pay62 k v R) (ix5 0 0 0 d e) = state k v r d e := by
  pointwise [k0_pay2, k0_pay62, hR]; simp only [dite_eq_ite, ite_self]; rfl

end blocks

end Cert.RetTile

end
-- ==== Proof.RetBlock.lean ====
module

public import proofs.«01_k».proof.Proof.RetTile
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.RetBlock

open Cert.RetIdeal Cert.RetIdeal.Gen Cert.RetTile

variable (m : (ℓ : Loc nD τ sig) → Buf (Elt Ideal) ℓ)

theorem idx_val : ∀ t : Fin cfg0.N, win0_0.index t = ![0, 0]
    ∧ win0_1.index t = ![t.val, 0]
    ∧ win0_2.index t = ![t.val, 0]
    ∧ win0_3.index t = ![t.val, 0]
    ∧ win0_4.index t = ![t.val, 0]
    ∧ win0_5.index t = ![t.val, 0, 0, 0, 0] :=
  (by decide +kernel : ∀ t : Fin grid0.N, _)

/-- Every point sees the whole of the padded decays. -/
theorem decays (c : Dev nD) (t : Fin cfg0.N) : (iblk m c 0 t : Vec Ideal S8x128 .f32) = (V m c main_v0 : Vec Ideal S8x128 .f32) := by
  funext y
  obtain ⟨w0, _⟩ := idx_val t
  blk_simp [iblk]
  generalize V m c main_v0 = W
  blk_ext [w0]

/-- The lane of the padded decays that holds a head. -/
def lane (h : Fin 4) : Fin 128 := ⟨h.val, by omega⟩

/-- The decays between the tokens of a block, for one head. -/
def dec (D : Vec Ideal S8x128 .f32) (h : Fin 4) (i j : Fin 256) : EReal := decE (lg D 0 (lane h)) (lg D 1 (lane h)) i j
/-- The decays of a block's tokens to its end, or to its start, for one head. -/
def row (D : Vec Ideal S8x128 .f32) (z : Fin 2) (h : Fin 4) (i : Fin 256) : EReal :=
  if z.val = 0 then toEnd (lg D 0 (lane h)) i else toStart (lg D 1 (lane h)) i

/-- What a block leaves of the output. -/
def yBlk (D : Vec Ideal S8x128 .f32) (Q K : Vec Ideal S256x1024 .bf16) (W : Vec Ideal S256x2048 .bf16) (i : Fin 256) (h : Fin 4) (e : Fin 512) : EReal :=
  ∑ j : Fin 256, (∑ d : Fin 256, Q (ix2 i (⟨256 * h.val + d.val, by omega⟩ : Fin 1024)) * K (ix2 j (⟨256 * h.val + d.val, by omega⟩ : Fin 1024)))
    * dec D h i j * W (ix2 j (⟨512 * h.val + e.val, by omega⟩ : Fin 2048))

/-- What a block leaves of the states. -/
def sBlk (D : Vec Ideal S8x128 .f32) (K : Vec Ideal S256x1024 .bf16) (W : Vec Ideal S256x2048 .bf16) (z : Fin 2) (h : Fin 4) (d : Fin 256) (e : Fin 512) : EReal :=
  ∑ j : Fin 256, K (ix2 j (⟨256 * h.val + d.val, by omega⟩ : Fin 1024)) * row D z h j * W (ix2 j (⟨512 * h.val + e.val, by omega⟩ : Fin 2048))

theorem ld_key (X : Vec Ideal S256x1024 .bf16) (h : Fin 4) (o : ℕ) (ho : o = 256 * h.val) (inb) (i d : Fin 256) :
    View.ld X (Rect.unit (s := S256x1024) ![0, o] ![256, 256] inb) (ix2 i d) = X (ix2 i (⟨256 * h.val + d.val, by omega⟩ : Fin 1024)) := by
  refine congrArg X (funext fun a => Fin.ext ?_)
  match a with
  | ⟨0, _⟩ => show 0 + 1 * i.val = i.val; omega
  | ⟨1, _⟩ => show o + 1 * d.val = 256 * h.val + d.val; omega

theorem ld_val (X : Vec Ideal S256x2048 .bf16) (h : Fin 4) (o : ℕ) (ho : o = 512 * h.val) (inb) (i : Fin 256) (e : Fin 512) :
    View.ld X (Rect.unit (s := S256x2048) ![0, o] ![256, 512] inb) (ix2 i e) = X (ix2 i (⟨512 * h.val + e.val, by omega⟩ : Fin 2048)) := by
  refine congrArg X (funext fun a => Fin.ext ?_)
  match a with
  | ⟨0, _⟩ => show 0 + 1 * i.val = i.val; omega
  | ⟨1, _⟩ => show o + 1 * e.val = 512 * h.val + e.val; omega

theorem ld_tab (X : Vec Ideal S4x256x256 .f32) (h : Fin 4) (o : ℕ) (ho : o = h.val) (inb) (i j : Fin 256) :
    View.ld X (Rect.unit (s := S4x256x256) ![o, 0, 0] ![1, 256, 256] inb) (ix3 0 i j) = X (ix3 h i j) := by
  refine congrArg X (funext fun a => Fin.ext ?_)
  match a with
  | ⟨0, _⟩ => show o + 1 * 0 = h.val; omega
  | ⟨1, _⟩ => show 0 + 1 * i.val = i.val; omega
  | ⟨2, _⟩ => show 0 + 1 * j.val = j.val; omega

theorem ld_row (X : Vec Ideal S4x4x256x128 .f32) (h s : Fin 4) (o p : ℕ) (ho : o = h.val) (hp : p = s.val) (inb) (i : Fin 256) (l : Fin 128) :
    View.ld X (Rect.unit (s := S4x4x256x128) ![o, p, 0, 0] ![1, 1, 256, 128] inb) (ix4 0 0 i l) = X (ix4 h s i l) := by
  refine congrArg X (funext fun a => Fin.ext ?_)
  match a with
  | ⟨0, _⟩ => show o + 1 * 0 = h.val; omega
  | ⟨1, _⟩ => show p + 1 * 0 = s.val; omega
  | ⟨2, _⟩ => show 0 + 1 * i.val = i.val; omega
  | ⟨3, _⟩ => show 0 + 1 * l.val = l.val; omega

theorem out_eq (D : Vec Ideal S8x128 .f32) (Q K : Vec Ideal S256x1024 .bf16) (W : Vec Ideal S256x2048 .bf16) (h : Fin 4)
    (q k : Vec Ideal S256x256 .bf16) (v : Vec Ideal S256x512 .bf16)
    (hq : ∀ i d, q (ix2 i d) = Q (ix2 i (⟨256 * h.val + d.val, by omega⟩ : Fin 1024))) (hk : ∀ i d, k (ix2 i d) = K (ix2 i (⟨256 * h.val + d.val, by omega⟩ : Fin 1024)))
    (hv : ∀ i e, v (ix2 i e) = W (ix2 i (⟨512 * h.val + e.val, by omega⟩ : Fin 2048))) (i : Fin 256) (e : Fin 512) :
    out q k v (dec D h) i e = yBlk D Q K W i h e := by
  unfold out yBlk
  simp only [hq, hk, hv]

theorem state_eq (D : Vec Ideal S8x128 .f32) (K : Vec Ideal S256x1024 .bf16) (W : Vec Ideal S256x2048 .bf16) (z : Fin 2) (h : Fin 4)
    (k : Vec Ideal S256x256 .bf16) (v : Vec Ideal S256x512 .bf16)
    (hk : ∀ i d, k (ix2 i d) = K (ix2 i (⟨256 * h.val + d.val, by omega⟩ : Fin 1024)))
    (hv : ∀ i e, v (ix2 i e) = W (ix2 i (⟨512 * h.val + e.val, by omega⟩ : Fin 2048))) (d : Fin 256) (e : Fin 512) :
    state k v (row D z h) d e = sBlk D K W z h d e := by
  unfold state sBlk
  simp only [hk, hv]

/-- The first point fills the decay table. -/
theorem table_first (c : Dev nD) (t : Fin cfg0.N) (hf : t.val % 32 = 0) (h : Fin 4) (i j : Fin 256) :
    (outsAt0 m c t.val t.isLt).2.2.1 (ix3 h i j) = dec (V m c main_v0) h i j := by
  rw [outsAt0_A m c t hf]
  dsimp only
  rw [← decays m c t]
  generalize hy : (ix3 h i j : S4x256x256.Idx) = y
  have e0 : (y 0).val = h.val := by rw [← hy]; rfl
  have e1 : (y 1).val = i.val := by rw [← hy]; rfl
  have e2 : (y 2).val = j.val := by rw [← hy]; rfl
  clear hy
  frame_out
  canon_tiles x h
  case piece0 =>
    obtain rfl : h = 3 := Fin.ext (by show _ = 3; omega)
    obtain rfl : x = ix3 0 i j := funext fun a => Fin.ext (match a with
      | ⟨0, _⟩ => by show (x 0).val = 0; omega
      | ⟨1, _⟩ => by show (x 1).val = i.val; omega
      | ⟨2, _⟩ => by show (x 2).val = j.val; omega)
    exact decay3 _ i j
  case piece1 =>
    obtain rfl : h = 2 := Fin.ext (by show _ = 2; omega)
    obtain rfl : x = ix3 0 i j := funext fun a => Fin.ext (match a with
      | ⟨0, _⟩ => by show (x 0).val = 0; omega
      | ⟨1, _⟩ => by show (x 1).val = i.val; omega
      | ⟨2, _⟩ => by show (x 2).val = j.val; omega)
    exact decay2 _ i j
  case piece2 =>
    obtain rfl : h = 1 := Fin.ext (by show _ = 1; omega)
    obtain rfl : x = ix3 0 i j := funext fun a => Fin.ext (match a with
      | ⟨0, _⟩ => by show (x 0).val = 0; omega
      | ⟨1, _⟩ => by show (x 1).val = i.val; omega
      | ⟨2, _⟩ => by show (x 2).val = j.val; omega)
    exact decay1 _ i j
  case piece3 =>
    obtain rfl : h = 0 := Fin.ext (by show _ = 0; omega)
    obtain rfl : x = ix3 0 i j := funext fun a => Fin.ext (match a with
      | ⟨0, _⟩ => by show (x 0).val = 0; omega
      | ⟨1, _⟩ => by show (x 1).val = i.val; omega
      | ⟨2, _⟩ => by show (x 2).val = j.val; omega)
    exact decay0 _ i j

/-- The first point fills the rows. -/
theorem rows_first (c : Dev nD) (t : Fin cfg0.N) (hf : t.val % 32 = 0) (z : Fin 2) (h : Fin 4) (i : Fin 256) (l : Fin 128) :
    (outsAt0 m c t.val t.isLt).2.2.2 (ix4 h (⟨1 + 2 * z.val, by omega⟩ : Fin 4) i l) = row (V m c main_v0) z h i := by
  rw [outsAt0_A m c t hf]
  dsimp only
  rw [← decays m c t]
  generalize hy : (ix4 h (⟨1 + 2 * z.val, by omega⟩ : Fin 4) i l : S4x4x256x128.Idx) = y
  have e0 : (y 0).val = h.val := by rw [← hy]; rfl
  have e1 : (y 1).val = 1 + 2 * z.val := by rw [← hy]; rfl
  have e2 : (y 2).val = i.val := by rw [← hy]; rfl
  have e3 : (y 3).val = l.val := by rw [← hy]; rfl
  clear hy
  frame_out
  canon_tiles x h
  case piece0 =>
    obtain rfl : h = 3 := Fin.ext (by show _ = 3; omega)
    obtain rfl : z = 1 := Fin.ext (by show _ = 1; omega)
    obtain rfl : x = ix4 0 0 i l := funext fun a => Fin.ext (match a with
      | ⟨0, _⟩ => by show (x 0).val = 0; omega
      | ⟨1, _⟩ => by show (x 1).val = 0; omega
      | ⟨2, _⟩ => by show (x 2).val = i.val; omega
      | ⟨3, _⟩ => by show (x 3).val = l.val; omega)
    exact start3 _ i l
  case piece1 => omega
  case piece2 =>
    obtain rfl : h = 3 := Fin.ext (by show _ = 3; omega)
    obtain rfl : z = 0 := Fin.ext (by show _ = 0; omega)
    obtain rfl : x = ix4 0 0 i l := funext fun a => Fin.ext (match a with
      | ⟨0, _⟩ => by show (x 0).val = 0; omega
      | ⟨1, _⟩ => by show (x 1).val = 0; omega
      | ⟨2, _⟩ => by show (x 2).val = i.val; omega
      | ⟨3, _⟩ => by show (x 3).val = l.val; omega)
    exact end3 _ i l
  case piece3 => omega
  case piece4 =>
    obtain rfl : h = 2 := Fin.ext (by show _ = 2; omega)
    obtain rfl : z = 1 := Fin.ext (by show _ = 1; omega)
    obtain rfl : x = ix4 0 0 i l := funext fun a => Fin.ext (match a with
      | ⟨0, _⟩ => by show (x 0).val = 0; omega
      | ⟨1, _⟩ => by show (x 1).val = 0; omega
      | ⟨2, _⟩ => by show (x 2).val = i.val; omega
      | ⟨3, _⟩ => by show (x 3).val = l.val; omega)
    exact start2 _ i l
  case piece5 => omega
  case piece6 =>
    obtain rfl : h = 2 := Fin.ext (by show _ = 2; omega)
    obtain rfl : z = 0 := Fin.ext (by show _ = 0; omega)
    obtain rfl : x = ix4 0 0 i l := funext fun a => Fin.ext (match a with
      | ⟨0, _⟩ => by show (x 0).val = 0; omega
      | ⟨1, _⟩ => by show (x 1).val = 0; omega
      | ⟨2, _⟩ => by show (x 2).val = i.val; omega
      | ⟨3, _⟩ => by show (x 3).val = l.val; omega)
    exact end2 _ i l
  case piece7 => omega
  case piece8 =>
    obtain rfl : h = 1 := Fin.ext (by show _ = 1; omega)
    obtain rfl : z = 1 := Fin.ext (by show _ = 1; omega)
    obtain rfl : x = ix4 0 0 i l := funext fun a => Fin.ext (match a with
      | ⟨0, _⟩ => by show (x 0).val = 0; omega
      | ⟨1, _⟩ => by show (x 1).val = 0; omega
      | ⟨2, _⟩ => by show (x 2).val = i.val; omega
      | ⟨3, _⟩ => by show (x 3).val = l.val; omega)
    exact start1 _ i l
  case piece9 => omega
  case piece10 =>
    obtain rfl : h = 1 := Fin.ext (by show _ = 1; omega)
    obtain rfl : z = 0 := Fin.ext (by show _ = 0; omega)
    obtain rfl : x = ix4 0 0 i l := funext fun a => Fin.ext (match a with
      | ⟨0, _⟩ => by show (x 0).val = 0; omega
      | ⟨1, _⟩ => by show (x 1).val = 0; omega
      | ⟨2, _⟩ => by show (x 2).val = i.val; omega
      | ⟨3, _⟩ => by show (x 3).val = l.val; omega)
    exact end1 _ i l
  case piece11 => omega
  case piece12 =>
    obtain rfl : h = 0 := Fin.ext (by show _ = 0; omega)
    obtain rfl : z = 1 := Fin.ext (by show _ = 1; omega)
    obtain rfl : x = ix4 0 0 i l := funext fun a => Fin.ext (match a with
      | ⟨0, _⟩ => by show (x 0).val = 0; omega
      | ⟨1, _⟩ => by show (x 1).val = 0; omega
      | ⟨2, _⟩ => by show (x 2).val = i.val; omega
      | ⟨3, _⟩ => by show (x 3).val = l.val; omega)
    exact start0 _ i l
  case piece13 => omega
  case piece14 =>
    obtain rfl : h = 0 := Fin.ext (by show _ = 0; omega)
    obtain rfl : z = 0 := Fin.ext (by show _ = 0; omega)
    obtain rfl : x = ix4 0 0 i l := funext fun a => Fin.ext (match a with
      | ⟨0, _⟩ => by show (x 0).val = 0; omega
      | ⟨1, _⟩ => by show (x 1).val = 0; omega
      | ⟨2, _⟩ => by show (x 2).val = i.val; omega
      | ⟨3, _⟩ => by show (x 3).val = l.val; omega)
    exact end0 _ i l
  case piece15 => omega

/-- The tables, at every point. -/
theorem tables (c : Dev nD) : ∀ (n : ℕ) (hn : n < cfg0.N),
    (∀ (h : Fin 4) (i j : Fin 256), (outsAt0 m c n hn).2.2.1 (ix3 h i j) = dec (V m c main_v0) h i j)
    ∧ ∀ (z : Fin 2) (h : Fin 4) (i : Fin 256) (l : Fin 128), (outsAt0 m c n hn).2.2.2 (ix4 h (⟨1 + 2 * z.val, by omega⟩ : Fin 4) i l) = row (V m c main_v0) z h i
  | 0, hn => ⟨table_first m c ⟨0, hn⟩ rfl, rows_first m c ⟨0, hn⟩ rfl⟩
  | n + 1, hn => by
    by_cases hf : (n + 1) % 32 = 0
    · exact ⟨table_first m c ⟨n + 1, hn⟩ hf, rows_first m c ⟨n + 1, hn⟩ hf⟩
    · have := outsAt0_B m c ⟨n + 1, hn⟩ hf
      dsimp only at this
      rw [this]
      exact tables c n (Nat.lt_of_succ_lt hn)

/-- The output block of the first point. -/
theorem out_first (c : Dev nD) (t : Fin cfg0.N) (hf : t.val % 32 = 0) (i : Fin 256) (h : Fin 4) (e : Fin 512) :
    (outsAt0 m c t.val t.isLt).1 (ix2 i (⟨512 * h.val + e.val, by omega⟩ : Fin 2048))
      = yBlk (V m c main_v0) (iblk m c 1 t) (iblk m c 2 t) (iblk m c 3 t) i h e := by
  rw [outsAt0_A m c t hf]
  dsimp only
  rw [← decays m c t]
  generalize hy : (ix2 i (⟨512 * h.val + e.val, by omega⟩ : Fin 2048) : S256x2048.Idx) = y
  have e0 : (y 0).val = i.val := by rw [← hy]; rfl
  have e1 : (y 1).val = 512 * h.val + e.val := by rw [← hy]; rfl
  clear hy
  frame_out
  canon_tiles x h
  case piece0 =>
    obtain rfl : h = 3 := Fin.ext (by show _ = 3; omega)
    obtain rfl : x = ix2 i e := funext fun a => Fin.ext (match a with
      | ⟨0, _⟩ => by show (x 0).val = i.val; omega
      | ⟨1, _⟩ => by show (x 1).val = e.val; have : (((3 : Fin 4)).val) = 3 := rfl; omega)
    simp (disch := decide) only [↓View.readCov_skip, View.readCov_cons_toLoadRect]
    refine (out3 _ _ _ _ (dec (iblk m c 0 t) 3) (fun i j => ?_) i e).trans ?_
    · exact decay3 _ i j
    · exact out_eq _ _ _ _ 3 _ _ _ (ld_key _ 3 768 rfl _) (ld_key _ 3 768 rfl _) (ld_val _ 3 1536 rfl _) i e
  case piece1 =>
    obtain rfl : h = 2 := Fin.ext (by show _ = 2; omega)
    obtain rfl : x = ix2 i e := funext fun a => Fin.ext (match a with
      | ⟨0, _⟩ => by show (x 0).val = i.val; omega
      | ⟨1, _⟩ => by show (x 1).val = e.val; have : (((2 : Fin 4)).val) = 2 := rfl; omega)
    simp (disch := decide) only [↓View.readCov_skip, View.readCov_cons_toLoadRect]
    refine (out2 _ _ _ _ (dec (iblk m c 0 t) 2) (fun i j => ?_) i e).trans ?_
    · exact decay2 _ i j
    · exact out_eq _ _ _ _ 2 _ _ _ (ld_key _ 2 512 rfl _) (ld_key _ 2 512 rfl _) (ld_val _ 2 1024 rfl _) i e
  case piece2 =>
    obtain rfl : h = 1 := Fin.ext (by show _ = 1; omega)
    obtain rfl : x = ix2 i e := funext fun a => Fin.ext (match a with
      | ⟨0, _⟩ => by show (x 0).val = i.val; omega
      | ⟨1, _⟩ => by show (x 1).val = e.val; have : (((1 : Fin 4)).val) = 1 := rfl; omega)
    simp (disch := decide) only [↓View.readCov_skip, View.readCov_cons_toLoadRect]
    refine (out1 _ _ _ _ (dec (iblk m c 0 t) 1) (fun i j => ?_) i e).trans ?_
    · exact decay1 _ i j
    · exact out_eq _ _ _ _ 1 _ _ _ (ld_key _ 1 256 rfl _) (ld_key _ 1 256 rfl _) (ld_val _ 1 512 rfl _) i e
  case piece3 =>
    obtain rfl : h = 0 := Fin.ext (by show _ = 0; omega)
    obtain rfl : x = ix2 i e := funext fun a => Fin.ext (match a with
      | ⟨0, _⟩ => by show (x 0).val = i.val; omega
      | ⟨1, _⟩ => by show (x 1).val = e.val; have : (((0 : Fin 4)).val) = 0 := rfl; omega)
    simp (disch := decide) only [↓View.readCov_skip, View.readCov_cons_toLoadRect]
    refine (out0 _ _ _ _ (dec (iblk m c 0 t) 0) (fun i j => ?_) i e).trans ?_
    · exact decay0 _ i j
    · exact out_eq _ _ _ _ 0 _ _ _ (ld_key _ 0 0 rfl _) (ld_key _ 0 0 rfl _) (ld_val _ 0 0 rfl _) i e

/-- The output block of a later point. -/
theorem out_later (c : Dev nD) (t : Fin cfg0.N) (hf : ¬t.val % 32 = 0) (i : Fin 256) (h : Fin 4) (e : Fin 512) :
    (outsAt0 m c t.val t.isLt).1 (ix2 i (⟨512 * h.val + e.val, by omega⟩ : Fin 2048))
      = yBlk (V m c main_v0) (iblk m c 1 t) (iblk m c 2 t) (iblk m c 3 t) i h e := by
  rw [outsAt0_B m c t hf]
  dsimp only
  generalize hy : (ix2 i (⟨512 * h.val + e.val, by omega⟩ : Fin 2048) : S256x2048.Idx) = y
  have e0 : (y 0).val = i.val := by rw [← hy]; rfl
  have e1 : (y 1).val = 512 * h.val + e.val := by rw [← hy]; rfl
  clear hy
  frame_out
  canon_tiles x h
  case piece0 =>
    obtain rfl : h = 3 := Fin.ext (by show _ = 3; omega)
    obtain rfl : x = ix2 i e := funext fun a => Fin.ext (match a with
      | ⟨0, _⟩ => by show (x 0).val = i.val; omega
      | ⟨1, _⟩ => by show (x 1).val = e.val; have : (((3 : Fin 4)).val) = 3 := rfl; omega)
    refine (out3 _ _ _ _ (dec (V m c main_v0) 3) (fun i j => ?_) i e).trans ?_
    · exact (ld_tab _ 3 3 rfl _ i j).trans ((congrFun (Memref.IsWhole.read_unread _ _) _).trans ((tables m c _ _).1 3 i j))
    · exact out_eq _ _ _ _ 3 _ _ _ (ld_key _ 3 768 rfl _) (ld_key _ 3 768 rfl _) (ld_val _ 3 1536 rfl _) i e
  case piece1 =>
    obtain rfl : h = 2 := Fin.ext (by show _ = 2; omega)
    obtain rfl : x = ix2 i e := funext fun a => Fin.ext (match a with
      | ⟨0, _⟩ => by show (x 0).val = i.val; omega
      | ⟨1, _⟩ => by show (x 1).val = e.val; have : (((2 : Fin 4)).val) = 2 := rfl; omega)
    refine (out2 _ _ _ _ (dec (V m c main_v0) 2) (fun i j => ?_) i e).trans ?_
    · exact (ld_tab _ 2 2 rfl _ i j).trans ((congrFun (Memref.IsWhole.read_unread _ _) _).trans ((tables m c _ _).1 2 i j))
    · exact out_eq _ _ _ _ 2 _ _ _ (ld_key _ 2 512 rfl _) (ld_key _ 2 512 rfl _) (ld_val _ 2 1024 rfl _) i e
  case piece2 =>
    obtain rfl : h = 1 := Fin.ext (by show _ = 1; omega)
    obtain rfl : x = ix2 i e := funext fun a => Fin.ext (match a with
      | ⟨0, _⟩ => by show (x 0).val = i.val; omega
      | ⟨1, _⟩ => by show (x 1).val = e.val; have : (((1 : Fin 4)).val) = 1 := rfl; omega)
    refine (out1 _ _ _ _ (dec (V m c main_v0) 1) (fun i j => ?_) i e).trans ?_
    · exact (ld_tab _ 1 1 rfl _ i j).trans ((congrFun (Memref.IsWhole.read_unread _ _) _).trans ((tables m c _ _).1 1 i j))
    · exact out_eq _ _ _ _ 1 _ _ _ (ld_key _ 1 256 rfl _) (ld_key _ 1 256 rfl _) (ld_val _ 1 512 rfl _) i e
  case piece3 =>
    obtain rfl : h = 0 := Fin.ext (by show _ = 0; omega)
    obtain rfl : x = ix2 i e := funext fun a => Fin.ext (match a with
      | ⟨0, _⟩ => by show (x 0).val = i.val; omega
      | ⟨1, _⟩ => by show (x 1).val = e.val; have : (((0 : Fin 4)).val) = 0 := rfl; omega)
    refine (out0 _ _ _ _ (dec (V m c main_v0) 0) (fun i j => ?_) i e).trans ?_
    · exact (ld_tab _ 0 0 rfl _ i j).trans ((congrFun (Memref.IsWhole.read_unread _ _) _).trans ((tables m c _ _).1 0 i j))
    · exact out_eq _ _ _ _ 0 _ _ _ (ld_key _ 0 0 rfl _) (ld_key _ 0 0 rfl _) (ld_val _ 0 0 rfl _) i e

/-- The states of the first point. -/
theorem state_first (c : Dev nD) (t : Fin cfg0.N) (hf : t.val % 32 = 0) (z : Fin 2) (h : Fin 4) (d : Fin 256) (e : Fin 512) :
    (outsAt0 m c t.val t.isLt).2.1 (ix5 0 z h d e) = sBlk (V m c main_v0) (iblk m c 2 t) (iblk m c 3 t) z h d e := by
  rw [outsAt0_A m c t hf]
  dsimp only
  rw [← decays m c t]
  generalize hy : (ix5 0 z h d e : S1x2x4x256x512.Idx) = y
  have e0 : (y 0).val = 0 := by rw [← hy]; rfl
  have e1 : (y 1).val = z.val := by rw [← hy]; rfl
  have e2 : (y 2).val = h.val := by rw [← hy]; rfl
  have e3 : (y 3).val = d.val := by rw [← hy]; rfl
  have e4 : (y 4).val = e.val := by rw [← hy]; rfl
  clear hy
  frame_out
  canon_tiles x h
  case piece0 =>
    obtain rfl : h = 3 := Fin.ext (by show _ = 3; omega)
    obtain rfl : z = 1 := Fin.ext (by show _ = 1; omega)
    obtain rfl : x = ix5 0 0 0 d e := funext fun a => Fin.ext (match a with
      | ⟨0, _⟩ => by show (x 0).val = 0; omega
      | ⟨1, _⟩ => by show (x 1).val = 0; omega
      | ⟨2, _⟩ => by show (x 2).val = 0; omega
      | ⟨3, _⟩ => by show (x 3).val = d.val; omega
      | ⟨4, _⟩ => by show (x 4).val = e.val; omega)
    simp (disch := decide) only [↓View.readCov_skip, View.readCov_cons_toLoadRect]
    refine (bwd3 _ _ _ (row (iblk m c 0 t) 1 3) (fun i l => ?_) d e).trans ?_
    · exact start3 _ i l
    · exact state_eq _ _ _ 1 3 _ _ (ld_key _ 3 768 rfl _) (ld_val _ 3 1536 rfl _) d e
  case piece1 =>
    obtain rfl : h = 3 := Fin.ext (by show _ = 3; omega)
    obtain rfl : z = 0 := Fin.ext (by show _ = 0; omega)
    obtain rfl : x = ix5 0 0 0 d e := funext fun a => Fin.ext (match a with
      | ⟨0, _⟩ => by show (x 0).val = 0; omega
      | ⟨1, _⟩ => by show (x 1).val = 0; omega
      | ⟨2, _⟩ => by show (x 2).val = 0; omega
      | ⟨3, _⟩ => by show (x 3).val = d.val; omega
      | ⟨4, _⟩ => by show (x 4).val = e.val; omega)
    simp (disch := decide) only [↓View.readCov_skip, View.readCov_cons_toLoadRect]
    refine (fwd3 _ _ _ (row (iblk m c 0 t) 0 3) (fun i l => ?_) d e).trans ?_
    · exact end3 _ i l
    · exact state_eq _ _ _ 0 3 _ _ (ld_key _ 3 768 rfl _) (ld_val _ 3 1536 rfl _) d e
  case piece2 =>
    obtain rfl : h = 2 := Fin.ext (by show _ = 2; omega)
    obtain rfl : z = 1 := Fin.ext (by show _ = 1; omega)
    obtain rfl : x = ix5 0 0 0 d e := funext fun a => Fin.ext (match a with
      | ⟨0, _⟩ => by show (x 0).val = 0; omega
      | ⟨1, _⟩ => by show (x 1).val = 0; omega
      | ⟨2, _⟩ => by show (x 2).val = 0; omega
      | ⟨3, _⟩ => by show (x 3).val = d.val; omega
      | ⟨4, _⟩ => by show (x 4).val = e.val; omega)
    simp (disch := decide) only [↓View.readCov_skip, View.readCov_cons_toLoadRect]
    refine (bwd2 _ _ _ (row (iblk m c 0 t) 1 2) (fun i l => ?_) d e).trans ?_
    · exact start2 _ i l
    · exact state_eq _ _ _ 1 2 _ _ (ld_key _ 2 512 rfl _) (ld_val _ 2 1024 rfl _) d e
  case piece3 =>
    obtain rfl : h = 2 := Fin.ext (by show _ = 2; omega)
    obtain rfl : z = 0 := Fin.ext (by show _ = 0; omega)
    obtain rfl : x = ix5 0 0 0 d e := funext fun a => Fin.ext (match a with
      | ⟨0, _⟩ => by show (x 0).val = 0; omega
      | ⟨1, _⟩ => by show (x 1).val = 0; omega
      | ⟨2, _⟩ => by show (x 2).val = 0; omega
      | ⟨3, _⟩ => by show (x 3).val = d.val; omega
      | ⟨4, _⟩ => by show (x 4).val = e.val; omega)
    simp (disch := decide) only [↓View.readCov_skip, View.readCov_cons_toLoadRect]
    refine (fwd2 _ _ _ (row (iblk m c 0 t) 0 2) (fun i l => ?_) d e).trans ?_
    · exact end2 _ i l
    · exact state_eq _ _ _ 0 2 _ _ (ld_key _ 2 512 rfl _) (ld_val _ 2 1024 rfl _) d e
  case piece4 =>
    obtain rfl : h = 1 := Fin.ext (by show _ = 1; omega)
    obtain rfl : z = 1 := Fin.ext (by show _ = 1; omega)
    obtain rfl : x = ix5 0 0 0 d e := funext fun a => Fin.ext (match a with
      | ⟨0, _⟩ => by show (x 0).val = 0; omega
      | ⟨1, _⟩ => by show (x 1).val = 0; omega
      | ⟨2, _⟩ => by show (x 2).val = 0; omega
      | ⟨3, _⟩ => by show (x 3).val = d.val; omega
      | ⟨4, _⟩ => by show (x 4).val = e.val; omega)
    simp (disch := decide) only [↓View.readCov_skip, View.readCov_cons_toLoadRect]
    refine (bwd1 _ _ _ (row (iblk m c 0 t) 1 1) (fun i l => ?_) d e).trans ?_
    · exact start1 _ i l
    · exact state_eq _ _ _ 1 1 _ _ (ld_key _ 1 256 rfl _) (ld_val _ 1 512 rfl _) d e
  case piece5 =>
    obtain rfl : h = 1 := Fin.ext (by show _ = 1; omega)
    obtain rfl : z = 0 := Fin.ext (by show _ = 0; omega)
    obtain rfl : x = ix5 0 0 0 d e := funext fun a => Fin.ext (match a with
      | ⟨0, _⟩ => by show (x 0).val = 0; omega
      | ⟨1, _⟩ => by show (x 1).val = 0; omega
      | ⟨2, _⟩ => by show (x 2).val = 0; omega
      | ⟨3, _⟩ => by show (x 3).val = d.val; omega
      | ⟨4, _⟩ => by show (x 4).val = e.val; omega)
    simp (disch := decide) only [↓View.readCov_skip, View.readCov_cons_toLoadRect]
    refine (fwd1 _ _ _ (row (iblk m c 0 t) 0 1) (fun i l => ?_) d e).trans ?_
    · exact end1 _ i l
    · exact state_eq _ _ _ 0 1 _ _ (ld_key _ 1 256 rfl _) (ld_val _ 1 512 rfl _) d e
  case piece6 =>
    obtain rfl : h = 0 := Fin.ext (by show _ = 0; omega)
    obtain rfl : z = 1 := Fin.ext (by show _ = 1; omega)
    obtain rfl : x = ix5 0 0 0 d e := funext fun a => Fin.ext (match a with
      | ⟨0, _⟩ => by show (x 0).val = 0; omega
      | ⟨1, _⟩ => by show (x 1).val = 0; omega
      | ⟨2, _⟩ => by show (x 2).val = 0; omega
      | ⟨3, _⟩ => by show (x 3).val = d.val; omega
      | ⟨4, _⟩ => by show (x 4).val = e.val; omega)
    simp (disch := decide) only [↓View.readCov_skip, View.readCov_cons_toLoadRect]
    refine (bwd0 _ _ _ (row (iblk m c 0 t) 1 0) (fun i l => ?_) d e).trans ?_
    · exact start0 _ i l
    · exact state_eq _ _ _ 1 0 _ _ (ld_key _ 0 0 rfl _) (ld_val _ 0 0 rfl _) d e
  case piece7 =>
    obtain rfl : h = 0 := Fin.ext (by show _ = 0; omega)
    obtain rfl : z = 0 := Fin.ext (by show _ = 0; omega)
    obtain rfl : x = ix5 0 0 0 d e := funext fun a => Fin.ext (match a with
      | ⟨0, _⟩ => by show (x 0).val = 0; omega
      | ⟨1, _⟩ => by show (x 1).val = 0; omega
      | ⟨2, _⟩ => by show (x 2).val = 0; omega
      | ⟨3, _⟩ => by show (x 3).val = d.val; omega
      | ⟨4, _⟩ => by show (x 4).val = e.val; omega)
    simp (disch := decide) only [↓View.readCov_skip, View.readCov_cons_toLoadRect]
    refine (fwd0 _ _ _ (row (iblk m c 0 t) 0 0) (fun i l => ?_) d e).trans ?_
    · exact end0 _ i l
    · exact state_eq _ _ _ 0 0 _ _ (ld_key _ 0 0 rfl _) (ld_val _ 0 0 rfl _) d e

/-- The states of a later point. -/
theorem state_later (c : Dev nD) (t : Fin cfg0.N) (hf : ¬t.val % 32 = 0) (z : Fin 2) (h : Fin 4) (d : Fin 256) (e : Fin 512) :
    (outsAt0 m c t.val t.isLt).2.1 (ix5 0 z h d e) = sBlk (V m c main_v0) (iblk m c 2 t) (iblk m c 3 t) z h d e := by
  rw [outsAt0_B m c t hf]
  dsimp only
  generalize hy : (ix5 0 z h d e : S1x2x4x256x512.Idx) = y
  have e0 : (y 0).val = 0 := by rw [← hy]; rfl
  have e1 : (y 1).val = z.val := by rw [← hy]; rfl
  have e2 : (y 2).val = h.val := by rw [← hy]; rfl
  have e3 : (y 3).val = d.val := by rw [← hy]; rfl
  have e4 : (y 4).val = e.val := by rw [← hy]; rfl
  clear hy
  frame_out
  canon_tiles x h
  case piece0 =>
    obtain rfl : h = 3 := Fin.ext (by show _ = 3; omega)
    obtain rfl : z = 1 := Fin.ext (by show _ = 1; omega)
    obtain rfl : x = ix5 0 0 0 d e := funext fun a => Fin.ext (match a with
      | ⟨0, _⟩ => by show (x 0).val = 0; omega
      | ⟨1, _⟩ => by show (x 1).val = 0; omega
      | ⟨2, _⟩ => by show (x 2).val = 0; omega
      | ⟨3, _⟩ => by show (x 3).val = d.val; omega
      | ⟨4, _⟩ => by show (x 4).val = e.val; omega)
    refine (bwd3 _ _ _ (row (V m c main_v0) 1 3) (fun i l => ?_) d e).trans ?_
    · exact (ld_row _ 3 3 3 3 rfl rfl _ i l).trans ((congrFun (Memref.IsWhole.read_unread _ _) _).trans ((tables m c _ _).2 1 3 i l))
    · exact state_eq _ _ _ 1 3 _ _ (ld_key _ 3 768 rfl _) (ld_val _ 3 1536 rfl _) d e
  case piece1 =>
    obtain rfl : h = 3 := Fin.ext (by show _ = 3; omega)
    obtain rfl : z = 0 := Fin.ext (by show _ = 0; omega)
    obtain rfl : x = ix5 0 0 0 d e := funext fun a => Fin.ext (match a with
      | ⟨0, _⟩ => by show (x 0).val = 0; omega
      | ⟨1, _⟩ => by show (x 1).val = 0; omega
      | ⟨2, _⟩ => by show (x 2).val = 0; omega
      | ⟨3, _⟩ => by show (x 3).val = d.val; omega
      | ⟨4, _⟩ => by show (x 4).val = e.val; omega)
    refine (fwd3 _ _ _ (row (V m c main_v0) 0 3) (fun i l => ?_) d e).trans ?_
    · exact (ld_row _ 3 1 3 1 rfl rfl _ i l).trans ((congrFun (Memref.IsWhole.read_unread _ _) _).trans ((tables m c _ _).2 0 3 i l))
    · exact state_eq _ _ _ 0 3 _ _ (ld_key _ 3 768 rfl _) (ld_val _ 3 1536 rfl _) d e
  case piece2 =>
    obtain rfl : h = 2 := Fin.ext (by show _ = 2; omega)
    obtain rfl : z = 1 := Fin.ext (by show _ = 1; omega)
    obtain rfl : x = ix5 0 0 0 d e := funext fun a => Fin.ext (match a with
      | ⟨0, _⟩ => by show (x 0).val = 0; omega
      | ⟨1, _⟩ => by show (x 1).val = 0; omega
      | ⟨2, _⟩ => by show (x 2).val = 0; omega
      | ⟨3, _⟩ => by show (x 3).val = d.val; omega
      | ⟨4, _⟩ => by show (x 4).val = e.val; omega)
    refine (bwd2 _ _ _ (row (V m c main_v0) 1 2) (fun i l => ?_) d e).trans ?_
    · exact (ld_row _ 2 3 2 3 rfl rfl _ i l).trans ((congrFun (Memref.IsWhole.read_unread _ _) _).trans ((tables m c _ _).2 1 2 i l))
    · exact state_eq _ _ _ 1 2 _ _ (ld_key _ 2 512 rfl _) (ld_val _ 2 1024 rfl _) d e
  case piece3 =>
    obtain rfl : h = 2 := Fin.ext (by show _ = 2; omega)
    obtain rfl : z = 0 := Fin.ext (by show _ = 0; omega)
    obtain rfl : x = ix5 0 0 0 d e := funext fun a => Fin.ext (match a with
      | ⟨0, _⟩ => by show (x 0).val = 0; omega
      | ⟨1, _⟩ => by show (x 1).val = 0; omega
      | ⟨2, _⟩ => by show (x 2).val = 0; omega
      | ⟨3, _⟩ => by show (x 3).val = d.val; omega
      | ⟨4, _⟩ => by show (x 4).val = e.val; omega)
    refine (fwd2 _ _ _ (row (V m c main_v0) 0 2) (fun i l => ?_) d e).trans ?_
    · exact (ld_row _ 2 1 2 1 rfl rfl _ i l).trans ((congrFun (Memref.IsWhole.read_unread _ _) _).trans ((tables m c _ _).2 0 2 i l))
    · exact state_eq _ _ _ 0 2 _ _ (ld_key _ 2 512 rfl _) (ld_val _ 2 1024 rfl _) d e
  case piece4 =>
    obtain rfl : h = 1 := Fin.ext (by show _ = 1; omega)
    obtain rfl : z = 1 := Fin.ext (by show _ = 1; omega)
    obtain rfl : x = ix5 0 0 0 d e := funext fun a => Fin.ext (match a with
      | ⟨0, _⟩ => by show (x 0).val = 0; omega
      | ⟨1, _⟩ => by show (x 1).val = 0; omega
      | ⟨2, _⟩ => by show (x 2).val = 0; omega
      | ⟨3, _⟩ => by show (x 3).val = d.val; omega
      | ⟨4, _⟩ => by show (x 4).val = e.val; omega)
    refine (bwd1 _ _ _ (row (V m c main_v0) 1 1) (fun i l => ?_) d e).trans ?_
    · exact (ld_row _ 1 3 1 3 rfl rfl _ i l).trans ((congrFun (Memref.IsWhole.read_unread _ _) _).trans ((tables m c _ _).2 1 1 i l))
    · exact state_eq _ _ _ 1 1 _ _ (ld_key _ 1 256 rfl _) (ld_val _ 1 512 rfl _) d e
  case piece5 =>
    obtain rfl : h = 1 := Fin.ext (by show _ = 1; omega)
    obtain rfl : z = 0 := Fin.ext (by show _ = 0; omega)
    obtain rfl : x = ix5 0 0 0 d e := funext fun a => Fin.ext (match a with
      | ⟨0, _⟩ => by show (x 0).val = 0; omega
      | ⟨1, _⟩ => by show (x 1).val = 0; omega
      | ⟨2, _⟩ => by show (x 2).val = 0; omega
      | ⟨3, _⟩ => by show (x 3).val = d.val; omega
      | ⟨4, _⟩ => by show (x 4).val = e.val; omega)
    refine (fwd1 _ _ _ (row (V m c main_v0) 0 1) (fun i l => ?_) d e).trans ?_
    · exact (ld_row _ 1 1 1 1 rfl rfl _ i l).trans ((congrFun (Memref.IsWhole.read_unread _ _) _).trans ((tables m c _ _).2 0 1 i l))
    · exact state_eq _ _ _ 0 1 _ _ (ld_key _ 1 256 rfl _) (ld_val _ 1 512 rfl _) d e
  case piece6 =>
    obtain rfl : h = 0 := Fin.ext (by show _ = 0; omega)
    obtain rfl : z = 1 := Fin.ext (by show _ = 1; omega)
    obtain rfl : x = ix5 0 0 0 d e := funext fun a => Fin.ext (match a with
      | ⟨0, _⟩ => by show (x 0).val = 0; omega
      | ⟨1, _⟩ => by show (x 1).val = 0; omega
      | ⟨2, _⟩ => by show (x 2).val = 0; omega
      | ⟨3, _⟩ => by show (x 3).val = d.val; omega
      | ⟨4, _⟩ => by show (x 4).val = e.val; omega)
    refine (bwd0 _ _ _ (row (V m c main_v0) 1 0) (fun i l => ?_) d e).trans ?_
    · exact (ld_row _ 0 3 0 3 rfl rfl _ i l).trans ((congrFun (Memref.IsWhole.read_unread _ _) _).trans ((tables m c _ _).2 1 0 i l))
    · exact state_eq _ _ _ 1 0 _ _ (ld_key _ 0 0 rfl _) (ld_val _ 0 0 rfl _) d e
  case piece7 =>
    obtain rfl : h = 0 := Fin.ext (by show _ = 0; omega)
    obtain rfl : z = 0 := Fin.ext (by show _ = 0; omega)
    obtain rfl : x = ix5 0 0 0 d e := funext fun a => Fin.ext (match a with
      | ⟨0, _⟩ => by show (x 0).val = 0; omega
      | ⟨1, _⟩ => by show (x 1).val = 0; omega
      | ⟨2, _⟩ => by show (x 2).val = 0; omega
      | ⟨3, _⟩ => by show (x 3).val = d.val; omega
      | ⟨4, _⟩ => by show (x 4).val = e.val; omega)
    refine (fwd0 _ _ _ (row (V m c main_v0) 0 0) (fun i l => ?_) d e).trans ?_
    · exact (ld_row _ 0 1 0 1 rfl rfl _ i l).trans ((congrFun (Memref.IsWhole.read_unread _ _) _).trans ((tables m c _ _).2 0 0 i l))
    · exact state_eq _ _ _ 0 0 _ _ (ld_key _ 0 0 rfl _) (ld_val _ 0 0 rfl _) d e

end Cert.RetBlock

end
-- ==== Proof.RetArray.lean ====
module

public import proofs.«01_k».proof.Proof.RetBlock
public import Idealize.ShloMosaic.Lib.KernelVsHost
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.RetArray

open Cert.RetIdeal Cert.RetIdeal.Gen Cert.RetTile Cert.RetBlock

variable (m : (ℓ : Loc nD τ sig) → Buf (Elt Ideal) ℓ)

/-- Row `i` of block `b`, and the lanes of head `h`. -/
def tok (b : Fin 32) (i : Fin 256) : Fin 8192 := ⟨256 * b.val + i.val, by omega⟩
def klane (h : Fin 4) (d : Fin 256) : Fin 1024 := ⟨256 * h.val + d.val, by omega⟩
def vlane (h : Fin 4) (e : Fin 512) : Fin 2048 := ⟨512 * h.val + e.val, by omega⟩

/-- The logarithm of the decay of a head in one direction. -/
def logDecay (D : Vec Ideal S2x4 .f32) (z : Fin 2) (h : Fin 4) : EReal := 0 - Ideal.exp (D (ix2 z h))

/-- The output at a token, from all the tokens of its block. -/
def yOut (D : Vec Ideal S2x4 .f32) (Q K : Vec Ideal S8192x1024 .bf16) (W : Vec Ideal S8192x2048 .bf16) (b : Fin 32) (i : Fin 256) (h : Fin 4) (e : Fin 512) : EReal :=
  ∑ j : Fin 256, (∑ d : Fin 256, Q (ix2 (tok b i) (klane h d)) * K (ix2 (tok b j) (klane h d))) * decE (logDecay D 0 h) (logDecay D 1 h) i j * W (ix2 (tok b j) (vlane h e))

/-- The state a block leaves, in one direction. -/
def sOut (D : Vec Ideal S2x4 .f32) (K : Vec Ideal S8192x1024 .bf16) (W : Vec Ideal S8192x2048 .bf16) (b : Fin 32) (z : Fin 2) (h : Fin 4) (d : Fin 256) (e : Fin 512) : EReal :=
  ∑ j : Fin 256, K (ix2 (tok b j) (klane h d)) * (if z.val = 0 then toEnd (logDecay D 0 h) j else toStart (logDecay D 1 h) j) * W (ix2 (tok b j) (vlane h e))

theorem padded (c : Dev nD) (z : Fin 2) (h : Fin 4) :
    (V m c main_v0 : Vec Ideal S8x128 .f32) (ix2 (⟨z.val, by omega⟩ : Fin 8) (lane h)) = (m ((c : Thread nD τ).loc main_arg0) : Vec Ideal S2x4 .f32) (ix2 z h) := by
  have hV : (V m c main_v0 : Vec Ideal S8x128 .f32) = pad S8x128 ![0, 0] ![6, 124] ![0, 0] (show FVec Ideal S2x4 .f32 from m ((c : Thread nD τ).loc main_arg0))
      (sitofp .f32 (constantI S_ 32 0#32) : FVec Ideal S_ .f32) pads_S2x4_S8x128_060_01240 h_S_ := by
    unfold V; after_results; try rfl
  rw [hV]
  refine pad_apply_of_inside _ _ _ _ _ _ _ _ (ix2 z h) fun a => ?_
  match a with
  | ⟨0, _⟩ => show z.val = 0 + z.val * (0 + 1); omega
  | ⟨1, _⟩ => show h.val = 0 + h.val * (0 + 1); omega

theorem qblk (c : Dev nD) (t : Fin cfg0.N) (b : Fin 32) (hb : b.val = t.val) (i : Fin 256) (h : Fin 4) (d : Fin 256) :
    (iblk m c 1 t : Vec Ideal S256x1024 .bf16) (ix2 i (⟨256 * h.val + d.val, by omega⟩ : Fin 1024)) = (m ((c : Thread nD τ).loc main_arg1) : Vec Ideal S8192x1024 .bf16) (ix2 (tok b i) (klane h d)) := by
  obtain ⟨w0, w1, w2, w3, w4, w5⟩ := idx_val t
  blk_ext [iblk, V, w1, tok, klane]
theorem kblk (c : Dev nD) (t : Fin cfg0.N) (b : Fin 32) (hb : b.val = t.val) (i : Fin 256) (h : Fin 4) (d : Fin 256) :
    (iblk m c 2 t : Vec Ideal S256x1024 .bf16) (ix2 i (⟨256 * h.val + d.val, by omega⟩ : Fin 1024)) = (m ((c : Thread nD τ).loc main_arg2) : Vec Ideal S8192x1024 .bf16) (ix2 (tok b i) (klane h d)) := by
  obtain ⟨w0, w1, w2, w3, w4, w5⟩ := idx_val t
  blk_ext [iblk, V, w2, tok, klane]
theorem vblk (c : Dev nD) (t : Fin cfg0.N) (b : Fin 32) (hb : b.val = t.val) (i : Fin 256) (h : Fin 4) (e : Fin 512) :
    (iblk m c 3 t : Vec Ideal S256x2048 .bf16) (ix2 i (⟨512 * h.val + e.val, by omega⟩ : Fin 2048)) = (m ((c : Thread nD τ).loc main_arg3) : Vec Ideal S8192x2048 .bf16) (ix2 (tok b i) (vlane h e)) := by
  obtain ⟨w0, w1, w2, w3, w4, w5⟩ := idx_val t
  blk_ext [iblk, V, w3, tok, vlane]

/-- The whole output, and the whole array of states. -/
def Y (D : Vec Ideal S2x4 .f32) (Q K : Vec Ideal S8192x1024 .bf16) (W : Vec Ideal S8192x2048 .bf16) (y : S8192x2048.Idx) : EReal :=
  yOut D Q K W (⟨(y 0).val / 256, by have : (y 0).val < 8192 := (y 0).isLt; omega⟩ : Fin 32) (⟨(y 0).val % 256, by omega⟩ : Fin 256)
    (⟨(y 1).val / 512, by have : (y 1).val < 2048 := (y 1).isLt; omega⟩ : Fin 4) (⟨(y 1).val % 512, by omega⟩ : Fin 512)
def S (D : Vec Ideal S2x4 .f32) (K : Vec Ideal S8192x1024 .bf16) (W : Vec Ideal S8192x2048 .bf16) (y : S32x2x4x256x512.Idx) : EReal :=
  sOut D K W (y 0) (y 1) (y 2) (y 3) (y 4)

theorem Y_at (D : Vec Ideal S2x4 .f32) (Q K : Vec Ideal S8192x1024 .bf16) (W : Vec Ideal S8192x2048 .bf16) (b : Fin 32) (i : Fin 256) (h : Fin 4) (e : Fin 512) :
    Y D Q K W (ix2 (tok b i) (vlane h e)) = yOut D Q K W b i h e := by
  have h0 : (⟨(tok b i).val / 256, by have := (tok b i).isLt; omega⟩ : Fin 32) = b := Fin.ext (by show (256 * b.val + i.val) / 256 = b.val; omega)
  have h1 : (⟨(tok b i).val % 256, by omega⟩ : Fin 256) = i := Fin.ext (by show (256 * b.val + i.val) % 256 = i.val; omega)
  have h2 : (⟨(vlane h e).val / 512, by have := (vlane h e).isLt; omega⟩ : Fin 4) = h := Fin.ext (by show (512 * h.val + e.val) / 512 = h.val; omega)
  have h3 : (⟨(vlane h e).val % 512, by omega⟩ : Fin 512) = e := Fin.ext (by show (512 * h.val + e.val) % 512 = e.val; omega)
  show yOut D Q K W ⟨(tok b i).val / 256, _⟩ ⟨(tok b i).val % 256, _⟩ ⟨(vlane h e).val / 512, _⟩ ⟨(vlane h e).val % 512, _⟩ = _
  rw [h0, h1, h2, h3]

theorem block_y (c : Dev nD) (t : Fin cfg0.N) (b : Fin 32) (hb : b.val = t.val) (i : Fin 256) (h : Fin 4) (e : Fin 512) :
    (outsAt0 m c t.val t.isLt).1 (ix2 i (⟨512 * h.val + e.val, by omega⟩ : Fin 2048))
      = yOut (m ((c : Thread nD τ).loc main_arg0)) (m ((c : Thread nD τ).loc main_arg1)) (m ((c : Thread nD τ).loc main_arg2)) (m ((c : Thread nD τ).loc main_arg3)) b i h e := by
  have key : (outsAt0 m c t.val t.isLt).1 (ix2 i (⟨512 * h.val + e.val, by omega⟩ : Fin 2048))
      = yBlk (V m c main_v0) (iblk m c 1 t) (iblk m c 2 t) (iblk m c 3 t) i h e := by
    by_cases hf : t.val % 32 = 0
    · exact out_first m c t hf i h e
    · exact out_later m c t hf i h e
  rw [key]
  unfold yBlk yOut
  refine Finset.sum_congr rfl fun j _ => ?_
  rw [vblk m c t b hb j h e]
  congr 2
  · exact Finset.sum_congr rfl fun d _ => by rw [qblk m c t b hb i h d, kblk m c t b hb j h d]
  · unfold dec lg logDecay
    rw [← padded m c 0 h, ← padded m c 1 h]
    rfl

theorem block_s (c : Dev nD) (t : Fin cfg0.N) (b : Fin 32) (hb : b.val = t.val) (z : Fin 2) (h : Fin 4) (d : Fin 256) (e : Fin 512) :
    (outsAt0 m c t.val t.isLt).2.1 (ix5 0 z h d e)
      = sOut (m ((c : Thread nD τ).loc main_arg0)) (m ((c : Thread nD τ).loc main_arg2)) (m ((c : Thread nD τ).loc main_arg3)) b z h d e := by
  have key : (outsAt0 m c t.val t.isLt).2.1 (ix5 0 z h d e) = sBlk (V m c main_v0) (iblk m c 2 t) (iblk m c 3 t) z h d e := by
    by_cases hf : t.val % 32 = 0
    · exact state_first m c t hf z h d e
    · exact state_later m c t hf z h d e
  rw [key]
  unfold sBlk sOut
  refine Finset.sum_congr rfl fun j _ => ?_
  rw [vblk m c t b hb j h e, kblk m c t b hb j h d]
  congr 2
  unfold row lg logDecay
  rw [← padded m c 0 h, ← padded m c 1 h]
  rfl

theorem final_y (c : Dev nD) : (dats m 0 c).arrAt 4 cfg0.N
    = (Y (m ((c : Thread nD τ).loc main_arg0)) (m ((c : Thread nD τ).loc main_arg1)) (m ((c : Thread nD τ).loc main_arg2)) (m ((c : Thread nD τ).loc main_arg3)) : S8192x2048.Idx → EReal) := by
  refine (dats m 0 c).arrAt_eq_of_covers 4 _ (by decide +kernel) fun t hf y => ?_
  obtain ⟨w0, w1, w2, w3, w4, w5⟩ := idx_val t
  blk_simp
  rw [after0_4]
  obtain ⟨i, h, e, rfl⟩ : ∃ (i : Fin 256) (h : Fin 4) (e : Fin 512), y = ix2 i (⟨512 * h.val + e.val, by omega⟩ : Fin 2048) :=
    ⟨y 0, ⟨(y 1).val / 512, by have : (y 1).val < 2048 := (y 1).isLt; omega⟩, ⟨(y 1).val % 512, by omega⟩, funext fun a => Fin.ext (match a with
      | ⟨0, _⟩ => rfl
      | ⟨1, _⟩ => by show (y 1).val = 512 * ((y 1).val / 512) + (y 1).val % 512; omega)⟩
  refine (block_y m c t ⟨t.val, t.isLt⟩ rfl i h e).trans ?_
  refine (Y_at _ _ _ _ ⟨t.val, t.isLt⟩ i h e).symm.trans ?_
  blk_ext [w4, tok, vlane]

theorem final_s (c : Dev nD) : (dats m 0 c).arrAt 5 cfg0.N
    = (S (m ((c : Thread nD τ).loc main_arg0)) (m ((c : Thread nD τ).loc main_arg2)) (m ((c : Thread nD τ).loc main_arg3)) : S32x2x4x256x512.Idx → EReal) := by
  refine (dats m 0 c).arrAt_eq_of_covers 5 _ (by decide +kernel) fun t hf y => ?_
  obtain ⟨w0, w1, w2, w3, w4, w5⟩ := idx_val t
  blk_simp
  rw [after0_5]
  obtain ⟨z, h, d, e, rfl⟩ : ∃ (z : Fin 2) (h : Fin 4) (d : Fin 256) (e : Fin 512), y = ix5 0 z h d e :=
    ⟨y 1, y 2, y 3, y 4, funext fun a => Fin.ext (match a with
      | ⟨0, _⟩ => by show (y 0).val = 0; have : (y 0).val < 1 := (y 0).isLt; omega
      | ⟨1, _⟩ => rfl
      | ⟨2, _⟩ => rfl
      | ⟨3, _⟩ => rfl
      | ⟨4, _⟩ => rfl)⟩
  refine (block_s m c t ⟨t.val, t.isLt⟩ rfl z h d e).trans ?_
  refine (rfl : _ = S _ _ _ (ix5 (⟨t.val, t.isLt⟩ : Fin 32) z h d e)).trans ?_
  blk_ext [w5]

end Cert.RetArray

end
-- ==== Proof.RetLoop.lean ====
/- The run of the retention's reference as a sequence of valuations, and what each holds. -/
module

public import proofs.«01_k».proof.Proof.Gen.RetRefIdeal.Run
public import Idealize.ShloMosaic.Lib.Pipeline.ValueKit
public import Idealize.ShloMosaic.Lib.Pointwise

@[expose] public section

set_option maxRecDepth 16384

noncomputable section

namespace Cert.RetLoop

open Idealize.ShloMosaic Idealize.ShloMosaic.TcCoe Idealize.SL.Sem Idealize.ShloMosaic.StableHlo
open Cert.RetRefIdeal Cert.RetRefIdeal.Gen Cert.RetRefIdeal.Value
open scoped BigOperators

variable (m : (ℓ : Loc nD τ sig) → Buf (Elt Ideal) ℓ) (c : Dev nD)

/-- The valuation before trip `n`. -/
def val (n : ℕ) : Valuation τ sig (Elt Ideal) := STEP^[n] (entryContents preI m c)

theorem val_succ (n : ℕ) : val m c (n + 1) = STEP (val m c n) := Function.iterate_succ_apply' ..

/-- The loop's buffers before trip `n`: queries, keys, values, decays, states, outputs. -/
def Q (n : ℕ) : Vec Ideal S256x2x32x4x256 .f32 := val m c n (Proc.devRef .tc main_v27_0)
def K (n : ℕ) : Vec Ideal S256x2x32x4x256 .f32 := val m c n (Proc.devRef .tc main_v27_1)
def W (n : ℕ) : Vec Ideal S256x2x32x4x512 .f32 := val m c n (Proc.devRef .tc main_v27_2)
def A (n : ℕ) : Vec Ideal S2x1x4x1x1 .f32 := val m c n (Proc.devRef .tc main_v27_3)
def S (n : ℕ) : Vec Ideal S2x32x4x256x512 .f32 := val m c n (Proc.devRef .tc main_v27_5)
def Y (n : ℕ) : Vec Ideal S256x2x32x4x512 .f32 := val m c n (Proc.devRef .tc main_v27_6)

theorem Q_const : ∀ n, Q m c n = Q m c 0
  | 0 => rfl
  | n + 1 => by rw [← Q_const n]; unfold Q; rw [val_succ]; exact STEP_main_v27_0 _
theorem K_const : ∀ n, K m c n = K m c 0
  | 0 => rfl
  | n + 1 => by rw [← K_const n]; unfold K; rw [val_succ]; exact STEP_main_v27_1 _
theorem W_const : ∀ n, W m c n = W m c 0
  | 0 => rfl
  | n + 1 => by rw [← W_const n]; unfold W; rw [val_succ]; exact STEP_main_v27_2 _
theorem A_const : ∀ n, A m c n = A m c 0
  | 0 => rfl
  | n + 1 => by rw [← A_const n]; unfold A; rw [val_succ]; exact STEP_main_v27_3 _

theorem count : ∀ n, val m c n (Proc.devRef .tc main_v27_4) = constantI S_ 32 (BitVec.ofNat 32 n)
  | 0 => ctr_entry m c
  | n + 1 => by
    rw [val_succ, STEP_main_v27_4]
    unfold step_main_v27_4
    rw [count n]
    funext i
    show BitVec.ofNat 32 n + 1#32 = BitVec.ofNat 32 (n + 1)
    rw [BitVec.ofNat_add]

/-- Where a trip's slices start. -/
def starts (n : ℕ) : Fin 5 → Int := fun k => ((![constantI S_ 32 (BitVec.ofNat 32 n), constantI S_ 32 0#32, constantI S_ 32 0#32, constantI S_ 32 0#32, constantI S_ 32 0#32] : Fin 5 → IVec S_ 32) k (Shape.Idx.first h_S_)).toInt

theorem starts_token (n : ℕ) (hn : n < 256) : starts n 0 = (n : ℤ) := by
  have h : ∀ n : Fin 256, (BitVec.ofNat 32 n.val).toInt = (n.val : ℤ) := by decide +kernel
  exact h ⟨n, hn⟩

/-- A trip's token of the queries or keys. -/
theorem token_at (x : Vec Ideal S256x2x32x4x256 .f32) (n : ℕ) (hn : n < 256) (z : Fin 2) (b : Fin 32) (h : Fin 4) (d : Fin 256) :
    (shapeCast S2x32x4x256 (Host.dynamicSlice S1x2x32x4x256 x (starts n) sliceFits_S256x2x32x4x256_S1x2x32x4x256) shapeCasts_S1x2x32x4x256_S2x32x4x256 : Vec Ideal S2x32x4x256 .f32) (ix4 z b h d)
      = x (ix5 (⟨n, hn⟩ : Fin 256) z b h d) := by
  pointwise
  refine congrArg x (funext fun a => Fin.ext ?_)
  match a with
  | ⟨0, _⟩ => exact Host.clampedStart_of_le (s := S256x2x32x4x256) (t := S1x2x32x4x256) rfl (starts n) 0 n (starts_token n hn) (by show n + 1 ≤ 256; omega)
  | ⟨1, _⟩ => exact (congrArg (· + z.val) (Host.clampedStart_of_le _ _ 1 0 rfl (by decide))).trans (Nat.zero_add _)
  | ⟨2, _⟩ => exact (congrArg (· + b.val) (Host.clampedStart_of_le _ _ 2 0 rfl (by decide))).trans (Nat.zero_add _)
  | ⟨3, _⟩ => exact (congrArg (· + h.val) (Host.clampedStart_of_le _ _ 3 0 rfl (by decide))).trans (Nat.zero_add _)
  | ⟨4, _⟩ => exact (congrArg (· + d.val) (Host.clampedStart_of_le _ _ 4 0 rfl (by decide))).trans (Nat.zero_add _)

/-- A trip's token of the values. -/
theorem value_at (x : Vec Ideal S256x2x32x4x512 .f32) (n : ℕ) (hn : n < 256) (z : Fin 2) (b : Fin 32) (h : Fin 4) (d : Fin 512) :
    (shapeCast S2x32x4x512 (Host.dynamicSlice S1x2x32x4x512 x (starts n) sliceFits_S256x2x32x4x512_S1x2x32x4x512) shapeCasts_S1x2x32x4x512_S2x32x4x512 : Vec Ideal S2x32x4x512 .f32) (ix4 z b h d)
      = x (ix5 (⟨n, hn⟩ : Fin 256) z b h d) := by
  pointwise
  refine congrArg x (funext fun a => Fin.ext ?_)
  match a with
  | ⟨0, _⟩ => exact Host.clampedStart_of_le (s := S256x2x32x4x512) (t := S1x2x32x4x512) rfl (starts n) 0 n (starts_token n hn) (by show n + 1 ≤ 256; omega)
  | ⟨1, _⟩ => exact (congrArg (· + z.val) (Host.clampedStart_of_le _ _ 1 0 rfl (by decide))).trans (Nat.zero_add _)
  | ⟨2, _⟩ => exact (congrArg (· + b.val) (Host.clampedStart_of_le _ _ 2 0 rfl (by decide))).trans (Nat.zero_add _)
  | ⟨3, _⟩ => exact (congrArg (· + h.val) (Host.clampedStart_of_le _ _ 3 0 rfl (by decide))).trans (Nat.zero_add _)
  | ⟨4, _⟩ => exact (congrArg (· + d.val) (Host.clampedStart_of_le _ _ 4 0 rfl (by decide))).trans (Nat.zero_add _)

/-- What a trip writes into the outputs. -/
theorem put_at (x : Vec Ideal S256x2x32x4x512 .f32) (u : Vec Ideal S1x2x32x4x512 .f32) (n : ℕ) (hn : n < 256) (i : Fin 256) (z : Fin 2) (b : Fin 32) (h : Fin 4) (e : Fin 512) :
    (Host.dynamicUpdateSlice x u (starts n) updateFits_S256x2x32x4x512_S1x2x32x4x512 : Vec Ideal S256x2x32x4x512 .f32) (ix5 i z b h e)
      = if i.val = n then u (ix5 0 z b h e) else x (ix5 i z b h e) := by
  have c0 := Host.clampedStart_of_le (s := S256x2x32x4x512) (t := S1x2x32x4x512) rfl (starts n) 0 n (starts_token n hn) (by show n + 1 ≤ 256; omega)
  have c1 := Host.clampedStart_of_le (s := S256x2x32x4x512) (t := S1x2x32x4x512) rfl (starts n) 1 0 rfl (by decide)
  have c2 := Host.clampedStart_of_le (s := S256x2x32x4x512) (t := S1x2x32x4x512) rfl (starts n) 2 0 rfl (by decide)
  have c3 := Host.clampedStart_of_le (s := S256x2x32x4x512) (t := S1x2x32x4x512) rfl (starts n) 3 0 rfl (by decide)
  have c4 := Host.clampedStart_of_le (s := S256x2x32x4x512) (t := S1x2x32x4x512) rfl (starts n) 4 0 rfl (by decide)
  rw [Host.dynamicUpdateSlice_apply]
  by_cases hi : i.val = n
  · rw [if_pos hi, dif_pos]
    · refine congrArg u (funext fun a => Fin.ext ?_)
      match a with
      | ⟨0, _⟩ => exact (congrArg (i.val - ·) c0).trans (by show i.val - n = 0; omega)
      | ⟨1, _⟩ => exact (congrArg (z.val - ·) c1).trans (Nat.sub_zero _)
      | ⟨2, _⟩ => exact (congrArg (b.val - ·) c2).trans (Nat.sub_zero _)
      | ⟨3, _⟩ => exact (congrArg (h.val - ·) c3).trans (Nat.sub_zero _)
      | ⟨4, _⟩ => exact (congrArg (e.val - ·) c4).trans (Nat.sub_zero _)
    · intro a
      match a with
      | ⟨0, _⟩ => exact ⟨c0.le.trans hi.ge, (Nat.lt_succ_of_le hi.le).trans_eq (congrArg (· + 1) c0.symm)⟩
      | ⟨1, _⟩ => exact ⟨c1.le.trans (Nat.zero_le _), lt_of_lt_of_le z.isLt (Nat.le_add_left _ _)⟩
      | ⟨2, _⟩ => exact ⟨c2.le.trans (Nat.zero_le _), lt_of_lt_of_le b.isLt (Nat.le_add_left _ _)⟩
      | ⟨3, _⟩ => exact ⟨c3.le.trans (Nat.zero_le _), lt_of_lt_of_le h.isLt (Nat.le_add_left _ _)⟩
      | ⟨4, _⟩ => exact ⟨c4.le.trans (Nat.zero_le _), lt_of_lt_of_le e.isLt (Nat.le_add_left _ _)⟩
  · rw [if_neg hi, dif_neg]
    intro hin
    have h0 := hin 0
    have l : Host.clampedStart S256x2x32x4x512 S1x2x32x4x512 rfl (starts n) 0 ≤ i.val := h0.1
    have r : i.val < Host.clampedStart S256x2x32x4x512 S1x2x32x4x512 rfl (starts n) 0 + 1 := h0.2
    rw [c0] at l r
    omega

/-- One trip's state from the one before. -/
theorem next_at (a : FVec Ideal S2x1x4x1x1 .f32) (s : FVec Ideal S2x32x4x256x512 .f32) (k : FVec Ideal S2x32x4x256 .f32) (v : FVec Ideal S2x32x4x512 .f32)
    (z : Fin 2) (b : Fin 32) (h : Fin 4) (d : Fin 256) (e : Fin 512) :
    (addf (mulf (broadcastInDim S2x32x4x256x512 ![0, 1, 2, 3, 4] bcast_S2x1x4x1x1_S2x32x4x256x512_0_1_2_3_4 a) s)
      (mulf (broadcastInDim S2x32x4x256x512 ![0, 1, 2, 3, 4] bcast_S2x32x4x256x1_S2x32x4x256x512_0_1_2_3_4 (broadcastInDim S2x32x4x256x1 ![0, 1, 2, 3] bcast_S2x32x4x256_S2x32x4x256x1_0_1_2_3 k))
        (broadcastInDim S2x32x4x256x512 ![0, 1, 2, 3, 4] bcast_S2x32x4x1x512_S2x32x4x256x512_0_1_2_3_4 (broadcastInDim S2x32x4x1x512 ![0, 1, 2, 4] bcast_S2x32x4x512_S2x32x4x1x512_0_1_2_4 v)))
      : FVec Ideal S2x32x4x256x512 .f32) (ix5 z b h d e)
      = a (ix5 z 0 h 0 0) * s (ix5 z b h d e) + k (ix4 z b h d) * v (ix4 z b h e) := by
  pointwise

/-- One trip's output from its state. -/
theorem read_at (q : FVec Ideal S2x32x4x256 .f32) (s : FVec Ideal S2x32x4x256x512 .f32) (z : Fin 2) (b : Fin 32) (h : Fin 4) (e : Fin 512) :
    (broadcastInDim S1x2x32x4x512 ![1, 2, 3, 4] bcast_S2x32x4x512_S1x2x32x4x512_1_2_3_4
      (Host.dotGeneral dot_S2x32x4x256_S2x32x4x256x512_S2x32x4x512_3_3_n_4_012_012 none q s : FVec Ideal S2x32x4x512 .f32) : FVec Ideal S1x2x32x4x512 .f32) (ix5 0 z b h e)
      = ∑ d : Fin 256, q (ix4 z b h d) * s (ix5 z b h d e) := by
  pointwise

theorem S_step (n : ℕ) (hn : n < 256) (z : Fin 2) (b : Fin 32) (h : Fin 4) (d : Fin 256) (e : Fin 512) :
    S m c (n + 1) (ix5 z b h d e) = A m c 0 (ix5 z 0 h 0 0) * S m c n (ix5 z b h d e)
      + K m c 0 (ix5 (⟨n, hn⟩ : Fin 256) z b h d) * W m c 0 (ix5 (⟨n, hn⟩ : Fin 256) z b h e) := by
  rw [← A_const m c n, ← K_const m c n, ← W_const m c n]
  unfold S
  rw [val_succ, STEP_main_v27_5]
  unfold step_main_v27_5 res_main_while0b_v48 A K W
  rw [count m c n]
  generalize val m c n = V0
  refine (next_at _ _ _ _ z b h d e).trans ?_
  exact congrArg (_ + ·) (congrArg₂ (· * ·) (token_at _ n hn z b h d) (value_at _ n hn z b h e))

theorem Y_step (n : ℕ) (hn : n < 256) (i : Fin 256) (z : Fin 2) (b : Fin 32) (h : Fin 4) (e : Fin 512) :
    Y m c (n + 1) (ix5 i z b h e) = if i.val = n then ∑ d : Fin 256, Q m c 0 (ix5 i z b h d) * S m c (n + 1) (ix5 z b h d e) else Y m c n (ix5 i z b h e) := by
  have hS : S m c (n + 1) = res_main_while0b_v48 (val m c n) := by
    unfold S; rw [val_succ]; exact STEP_main_v27_5 _
  rw [← Q_const m c n, hS]
  unfold Y
  rw [val_succ, STEP_main_v27_6]
  unfold step_main_v27_6 Q
  generalize res_main_while0b_v48 (val m c n) = R
  rw [count m c n]
  generalize val m c n = V0
  refine (put_at _ _ n hn i z b h e).trans ?_
  by_cases hi : i.val = n
  · rw [if_pos hi, if_pos hi]
    obtain rfl : i = ⟨n, hn⟩ := Fin.ext hi
    refine (read_at _ _ z b h e).trans (Finset.sum_congr rfl fun d _ => ?_)
    exact congrArg (· * _) (token_at _ n hn z b h d)
  · rw [if_neg hi, if_neg hi]

/-- Both directions of an array of tokens, by step. -/
def both (x : FVec Ideal S8192x1024 .bf16) : FVec Ideal S256x2x32x4x256 .f32 :=
  transpose S256x2x32x4x256 [2, 0, 1, 3, 4] (concatenate S2x32x256x4x256 0
    [⟨S1x32x256x4x256, broadcastInDim S1x32x256x4x256 ![1, 2, 3, 4] bcast_S32x256x4x256_S1x32x256x4x256_1_2_3_4 (shapeCast S32x256x4x256 (extf .f32 x bitsLt_bf16_f32) shapeCasts_S8192x1024_S32x256x4x256)⟩,
     ⟨S1x32x256x4x256, broadcastInDim S1x32x256x4x256 ![1, 2, 3, 4] bcast_S32x256x4x256_S1x32x256x4x256_1_2_3_4 (Host.reverse [1] (shapeCast S32x256x4x256 (extf .f32 x bitsLt_bf16_f32) shapeCasts_S8192x1024_S32x256x4x256))⟩]
    concatenates_S1x32x256x4x256_S1x32x256x4x256_S2x32x256x4x256_d0) transposes_S2x32x256x4x256_S256x2x32x4x256_2_0_1_3_4
def bothW (x : FVec Ideal S8192x2048 .bf16) : FVec Ideal S256x2x32x4x512 .f32 :=
  transpose S256x2x32x4x512 [2, 0, 1, 3, 4] (concatenate S2x32x256x4x512 0
    [⟨S1x32x256x4x512, broadcastInDim S1x32x256x4x512 ![1, 2, 3, 4] bcast_S32x256x4x512_S1x32x256x4x512_1_2_3_4 (shapeCast S32x256x4x512 (extf .f32 x bitsLt_bf16_f32) shapeCasts_S8192x2048_S32x256x4x512)⟩,
     ⟨S1x32x256x4x512, broadcastInDim S1x32x256x4x512 ![1, 2, 3, 4] bcast_S32x256x4x512_S1x32x256x4x512_1_2_3_4 (Host.reverse [1] (shapeCast S32x256x4x512 (extf .f32 x bitsLt_bf16_f32) shapeCasts_S8192x2048_S32x256x4x512))⟩]
    concatenates_S1x32x256x4x512_S1x32x256x4x512_S2x32x256x4x512_d0) transposes_S2x32x256x4x512_S256x2x32x4x512_2_0_1_3_4

set_option maxHeartbeats 1600000 in
theorem Q_zero : Q m c 0 = both (m ((c.tc : Thread nD τ).loc main_arg1)) := by
  show entryContents preI m c (Proc.devRef .tc main_v27_0) = _
  simp only [entryContents, afterL_cons, afterL_nil]; after_reads_simp <;> rfl
set_option maxHeartbeats 1600000 in
theorem K_zero : K m c 0 = both (m ((c.tc : Thread nD τ).loc main_arg2)) := by
  show entryContents preI m c (Proc.devRef .tc main_v27_1) = _
  simp only [entryContents, afterL_cons, afterL_nil]; after_reads_simp <;> rfl
set_option maxHeartbeats 1600000 in
theorem W_zero : W m c 0 = bothW (m ((c.tc : Thread nD τ).loc main_arg3)) := by
  show entryContents preI m c (Proc.devRef .tc main_v27_2) = _
  simp only [entryContents, afterL_cons, afterL_nil]; after_reads_simp <;> rfl
set_option maxHeartbeats 1600000 in
theorem A_zero (z : Fin 2) (h : Fin 4) : A m c 0 (ix5 z 0 h 0 0) = Ideal.exp (-(Ideal.exp ((m ((c.tc : Thread nD τ).loc main_arg0) : Vec Ideal S2x4 .f32) (ix2 z h)))) := by
  have : A m c 0 = broadcastInDim S2x1x4x1x1 ![0, 2] bcast_S2x4_S2x1x4x1x1_0_2 (Host.exp (Host.negf (Host.exp (show FVec Ideal S2x4 .f32 from m ((c.tc : Thread nD τ).loc main_arg0))))) := by
    show entryContents preI m c (Proc.devRef .tc main_v27_3) = _
    simp only [entryContents, afterL_cons, afterL_nil]; after_reads_simp <;> rfl
  rw [this]
  pointwise
set_option maxHeartbeats 1600000 in
theorem S_zero (y) : S m c 0 y = 0 := by
  have : S m c 0 = broadcastInDim S2x32x4x256x512 ![] bcast_S_S2x32x4x256x512 (constant (F := Ideal) S_ .f32 0x00000000#32) := by
    show entryContents preI m c (Proc.devRef .tc main_v27_5) = _
    simp only [entryContents, afterL_cons, afterL_nil]; after_reads_simp <;> rfl
  rw [this]
  show Ideal.ofBits FTy.f32 0x00000000#32 = 0
  simp [Ideal.ofBits, Ideal.ieee]

theorem both_at (x : FVec Ideal S8192x1024 .bf16) (n : Fin 256) (z : Fin 2) (b : Fin 32) (h : Fin 4) (d : Fin 256) :
    both x (ix5 n z b h d) = x (ix2 (⟨256 * b.val + (if z.val = 0 then n.val else 255 - n.val), by split <;> omega⟩ : Fin 8192) (⟨256 * h.val + d.val, by omega⟩ : Fin 1024)) := by
  pointwise [both]
  rcases z with ⟨z, hz⟩
  by_cases h0 : z = 0
  · subst h0
    refine congrArg x (funext fun a => Fin.ext ?_)
    match a with
    | ⟨0, _⟩ => show b.val * 256 + n.val = 256 * b.val + n.val; omega
    | ⟨1, _⟩ => show h.val * 256 + d.val = 256 * h.val + d.val; omega
  · obtain rfl : z = 1 := by omega
    refine congrArg x (funext fun a => Fin.ext ?_)
    match a with
    | ⟨0, _⟩ => show b.val * 256 + (256 - (n.val + 1)) = 256 * b.val + (255 - n.val); omega
    | ⟨1, _⟩ => show h.val * 256 + d.val = 256 * h.val + d.val; omega

theorem bothW_at (x : FVec Ideal S8192x2048 .bf16) (n : Fin 256) (z : Fin 2) (b : Fin 32) (h : Fin 4) (d : Fin 512) :
    bothW x (ix5 n z b h d) = x (ix2 (⟨256 * b.val + (if z.val = 0 then n.val else 255 - n.val), by split <;> omega⟩ : Fin 8192) (⟨512 * h.val + d.val, by omega⟩ : Fin 2048)) := by
  pointwise [bothW]
  rcases z with ⟨z, hz⟩
  by_cases h0 : z = 0
  · subst h0
    refine congrArg x (funext fun a => Fin.ext ?_)
    match a with
    | ⟨0, _⟩ => show b.val * 256 + n.val = 256 * b.val + n.val; omega
    | ⟨1, _⟩ => show h.val * 512 + d.val = 512 * h.val + d.val; omega
  · obtain rfl : z = 1 := by omega
    refine congrArg x (funext fun a => Fin.ext ?_)
    match a with
    | ⟨0, _⟩ => show b.val * 256 + (256 - (n.val + 1)) = 256 * b.val + (255 - n.val); omega
    | ⟨1, _⟩ => show h.val * 512 + d.val = 512 * h.val + d.val; omega

theorem out_y (b : Fin 32) (i : Fin 256) (h : Fin 4) (e : Fin 512) :
    (out_main_v36 (val m c 256) : Vec Ideal S8192x2048 .bf16) (ix2 (⟨256 * b.val + i.val, by omega⟩ : Fin 8192) (⟨512 * h.val + e.val, by omega⟩ : Fin 2048))
      = Y m c 256 (ix5 i 0 b h e) + Y m c 256 (ix5 (⟨255 - i.val, by omega⟩ : Fin 256) 1 b h e) := by
  unfold out_main_v36 Y
  generalize val m c 256 (Proc.devRef .tc main_v27_6) = R
  pointwise
  refine congrArg₂ (HAdd.hAdd (α := EReal) (β := EReal)) rfl (congrArg R (funext fun a => Fin.ext ?_))
  match a with
  | ⟨0, _⟩ => show 256 - (i.val + 1) = 255 - i.val; omega
  | ⟨1, _⟩ => rfl
  | ⟨2, _⟩ => rfl
  | ⟨3, _⟩ => rfl
  | ⟨4, _⟩ => rfl

theorem out_s (b : Fin 32) (z : Fin 2) (h : Fin 4) (d : Fin 256) (e : Fin 512) :
    (out_main_v37 (val m c 256) : Vec Ideal S32x2x4x256x512 .f32) (ix5 b z h d e) = S m c 256 (ix5 z b h d e) := by
  unfold out_main_v37 S
  generalize val m c 256 (Proc.devRef .tc main_v27_5) = R
  pointwise

end Cert.RetLoop

end
-- ==== Proof.RetEq.lean ====
/- The equation of the retention: the recurrence over a block's tokens, summed up, is the kernel's weighted sum. -/
module

public import proofs.«01_k».proof.Proof.RetTile
public import proofs.«01_k».proof.Proof.AttEq

@[expose] public section

set_option maxRecDepth 16384

noncomputable section

open Idealize.ShloMosaic
open scoped BigOperators

namespace Cert.RetEq

open Cert.RetTile Cert.AttEq

/-- A decay's powers: the exponential of `n` times its logarithm. -/
theorem decay_powers (x : EReal) : ∃ a : ℝ, Ideal.exp (-(Ideal.exp x)) = (a : EReal) ∧ ∀ n : ℕ, Ideal.exp ((0 - Ideal.exp x) * (((n : ℕ) : ℝ) : EReal)) = ((a ^ n : ℝ) : EReal) := by
  rw [zero_sub]
  induction x using EReal.rec with
  | bot =>
    refine ⟨1, ?_, fun n => ?_⟩
    · show Ideal.exp (-(0 : EReal)) = _
      rw [neg_zero, ← EReal.coe_zero, Ideal.exp_coe, Real.exp_zero]
    · show Ideal.exp (-(0 : EReal) * _) = _
      rw [neg_zero, zero_mul, ← EReal.coe_zero, Ideal.exp_coe, Real.exp_zero, one_pow]
  | top =>
    refine ⟨0, ?_, fun n => ?_⟩
    · show Ideal.exp (-(⊤ : EReal)) = _
      rw [EReal.neg_top]; rfl
    · show Ideal.exp (-(⊤ : EReal) * _) = _
      rw [EReal.neg_top]
      rcases Nat.eq_zero_or_pos n with rfl | hn
      · rw [Nat.cast_zero, EReal.coe_zero, mul_zero, ← EReal.coe_zero, Ideal.exp_coe, Real.exp_zero, pow_zero]
      · rw [EReal.bot_mul_coe_of_pos (by exact_mod_cast hn), zero_pow hn.ne']; rfl
  | coe r =>
    refine ⟨Real.exp (-Real.exp r), ?_, fun n => ?_⟩
    · rw [Ideal.exp_coe, ← EReal.coe_neg, Ideal.exp_coe]
    · rw [Ideal.exp_coe, ← EReal.coe_neg, ← EReal.coe_mul, Ideal.exp_coe, ← Real.exp_nat_mul, mul_comm]

/-- The weight between two tokens, as real powers. -/
def weight (a b : ℝ) (i j : Fin 256) : ℝ := (if j.val ≤ i.val then a ^ (i.val - j.val) else 0) + (if i.val ≤ j.val then b ^ (j.val - i.val) else 0)

theorem decE_eq (g0 g1 : EReal) (a b : ℝ) (h0 : ∀ n : ℕ, Ideal.exp (g0 * (((n : ℕ) : ℝ) : EReal)) = ((a ^ n : ℝ) : EReal))
    (h1 : ∀ n : ℕ, Ideal.exp (g1 * (((n : ℕ) : ℝ) : EReal)) = ((b ^ n : ℝ) : EReal)) (i j : Fin 256) : decE g0 g1 i j = (weight a b i j : EReal) := by
  unfold decE weight
  rw [dist_at, EReal.coe_add]
  congr 1
  · by_cases h : j.val ≤ i.val
    · have hr : (0 : ℝ) ≤ (i.val : ℝ) - (j.val : ℝ) := by have : (j.val : ℝ) ≤ i.val := by exact_mod_cast h
                                                          linarith
      rw [if_pos (EReal.coe_nonneg.2 hr), if_pos h, max_eq_left (EReal.coe_nonneg.2 hr), ← h0, Nat.cast_sub h]
    · have hr : (i.val : ℝ) - (j.val : ℝ) < 0 := by have : (i.val : ℝ) < j.val := by exact_mod_cast Nat.lt_of_not_le h
                                                    linarith
      rw [if_neg (by rw [EReal.coe_nonneg]; linarith), if_neg h]; rfl
  · by_cases h : i.val ≤ j.val
    · have hr : (0 : ℝ) ≤ (j.val : ℝ) - (i.val : ℝ) := by have : (i.val : ℝ) ≤ j.val := by exact_mod_cast h
                                                          linarith
      have e : (0 : EReal) - (((i.val : ℝ) - (j.val : ℝ) : ℝ) : EReal) = (((j.val : ℝ) - (i.val : ℝ) : ℝ) : EReal) := by
        rw [← EReal.coe_zero, ← EReal.coe_sub]; congr 1; ring
      rw [if_pos (by rw [← EReal.coe_zero, EReal.coe_le_coe_iff]; linarith), if_pos h, e, max_eq_left (EReal.coe_nonneg.2 hr), ← h1, Nat.cast_sub h]
    · have hr : (0 : ℝ) < (i.val : ℝ) - (j.val : ℝ) := by have : (j.val : ℝ) < i.val := by exact_mod_cast Nat.lt_of_not_le h
                                                          linarith
      rw [if_neg (by rw [← EReal.coe_zero, EReal.coe_le_coe_iff]; linarith), if_neg h]; rfl

theorem toEnd_eq (g : EReal) (a : ℝ) (h : ∀ n : ℕ, Ideal.exp (g * (((n : ℕ) : ℝ) : EReal)) = ((a ^ n : ℝ) : EReal)) (j : Fin 256) :
    toEnd g j = ((a ^ (255 - j.val) : ℝ) : EReal) := by
  unfold toEnd
  rw [← h, Nat.cast_sub (by omega)]
  rfl

theorem toStart_eq (g : EReal) (a : ℝ) (h : ∀ n : ℕ, Ideal.exp (g * (((n : ℕ) : ℝ) : EReal)) = ((a ^ n : ℝ) : EReal)) (j : Fin 256) :
    toStart g j = ((a ^ j.val : ℝ) : EReal) := h j.val

/-- The recurrence `s ↦ a s + x`, summed up to `n` steps. -/
def summed (a : ℝ) (x : Fin 256 → ℝ) (n : ℕ) : ℝ := ∑ j : Fin 256, if j.val < n then a ^ (n - 1 - j.val) * x j else 0

theorem summed_zero (a : ℝ) (x : Fin 256 → ℝ) : summed a x 0 = 0 := by
  unfold summed
  exact Finset.sum_eq_zero fun j _ => if_neg (Nat.not_lt_zero _)

theorem summed_succ (a : ℝ) (x : Fin 256 → ℝ) (n : ℕ) (hn : n < 256) : summed a x (n + 1) = a * summed a x n + x ⟨n, hn⟩ := by
  unfold summed
  have e : x ⟨n, hn⟩ = ∑ j : Fin 256, if j = ⟨n, hn⟩ then x j else 0 := by rw [Finset.sum_ite_eq' Finset.univ]; simp
  rw [e, Finset.mul_sum, ← Finset.sum_add_distrib]
  refine Finset.sum_congr rfl fun j _ => ?_
  rcases lt_trichotomy j.val n with h | h | h
  · have hne : j ≠ ⟨n, hn⟩ := fun hj => by rw [hj] at h; exact lt_irrefl _ h
    rw [if_pos (by omega), if_pos h, if_neg hne, add_zero, show n + 1 - 1 - j.val = (n - 1 - j.val) + 1 by omega, pow_succ]
    ring
  · obtain rfl : j = ⟨n, hn⟩ := Fin.ext h
    rw [if_pos (by show n < n + 1; omega), if_neg (by show ¬n < n; omega), if_pos rfl, mul_zero, zero_add]
    show a ^ (n + 1 - 1 - n) * _ = _
    rw [show n + 1 - 1 - n = 0 by omega, pow_zero, one_mul]
  · have hne : j ≠ ⟨n, hn⟩ := fun hj => by rw [hj] at h; exact lt_irrefl _ h
    rw [if_neg (by omega), if_neg (by omega), if_neg hne, mul_zero, add_zero]

/-- The forward sum up to token `i`, as a sum over the whole block. -/
theorem summed_fwd (a : ℝ) (x : Fin 256 → ℝ) (i : Fin 256) : summed a x (i.val + 1) = ∑ j : Fin 256, (if j.val ≤ i.val then a ^ (i.val - j.val) else 0) * x j := by
  unfold summed
  refine Finset.sum_congr rfl fun j _ => ?_
  by_cases h : j.val ≤ i.val
  · rw [if_pos (by omega), if_pos h, show i.val + 1 - 1 - j.val = i.val - j.val by omega]
  · rw [if_neg (by omega), if_neg h, zero_mul]

/-- The sum over the flipped tokens up to token `i`, as a sum over the whole block. -/
theorem summed_bwd (b : ℝ) (x : Fin 256 → ℝ) (i : Fin 256) :
    summed b (fun j => x (Fin.rev j)) (255 - i.val + 1) = ∑ j : Fin 256, (if i.val ≤ j.val then b ^ (j.val - i.val) else 0) * x j := by
  rw [← Equiv.sum_comp Fin.revPerm fun j : Fin 256 => (if i.val ≤ j.val then b ^ (j.val - i.val) else 0) * x j]
  unfold summed
  refine Finset.sum_congr rfl fun j _ => ?_
  have hj : (Fin.revPerm j : Fin 256).val = 255 - j.val := by show 256 - (j.val + 1) = _; omega
  rw [hj]
  by_cases h : j.val < 255 - i.val + 1
  · rw [if_pos h, if_pos (by omega), show 255 - i.val + 1 - 1 - j.val = 255 - j.val - i.val by omega]; rfl
  · rw [if_neg h, if_neg (by omega), zero_mul]

/-- Scores against weights against values is queries against the two directions' states. -/
theorem out_real (a b : ℝ) (q : Fin 256 → ℝ) (k : Fin 256 → Fin 256 → ℝ) (v : Fin 256 → ℝ) (i : Fin 256) :
    (∑ j, (∑ d, q d * k j d) * weight a b i j * v j)
      = (∑ d, q d * summed a (fun j => k j d * v j) (i.val + 1)) + ∑ d, q d * summed b (fun j => k (Fin.rev j) d * v (Fin.rev j)) (255 - i.val + 1) := by
  have hb : ∀ d, summed b (fun j => k (Fin.rev j) d * v (Fin.rev j)) (255 - i.val + 1) = _ := fun d => summed_bwd b (fun j => k j d * v j) i
  simp only [hb, summed_fwd]
  rw [← Finset.sum_add_distrib]
  have e : ∀ d, q d * (∑ j : Fin 256, (if j.val ≤ i.val then a ^ (i.val - j.val) else 0) * (k j d * v j)) + q d * ∑ j : Fin 256, (if i.val ≤ j.val then b ^ (j.val - i.val) else 0) * (k j d * v j)
      = ∑ j : Fin 256, q d * k j d * weight a b i j * v j := fun d => by
    rw [← mul_add, ← Finset.sum_add_distrib, Finset.mul_sum]
    refine Finset.sum_congr rfl fun j _ => ?_
    unfold weight
    ring
  simp only [e]
  rw [Finset.sum_comm]
  refine Finset.sum_congr rfl fun j _ => ?_
  rw [Finset.sum_mul, Finset.sum_mul]

theorem fwd_real (a : ℝ) (k : Fin 256 → ℝ) (v : Fin 256 → ℝ) : (∑ j, k j * a ^ (255 - j.val) * v j) = summed a (fun j => k j * v j) 256 := by
  unfold summed
  refine Finset.sum_congr rfl fun j _ => ?_
  rw [if_pos j.isLt, show 256 - 1 - j.val = 255 - j.val by omega]
  ring

theorem bwd_real (b : ℝ) (k : Fin 256 → ℝ) (v : Fin 256 → ℝ) : (∑ j, k j * b ^ j.val * v j) = summed b (fun j => k (Fin.rev j) * v (Fin.rev j)) 256 := by
  have h := summed_bwd b (fun j => k j * v j) 0
  rw [show 255 - (0 : Fin 256).val + 1 = 256 from rfl] at h
  rw [h]
  refine Finset.sum_congr rfl fun j _ => ?_
  rw [if_pos (show (0 : Fin 256).val ≤ j.val from Nat.zero_le _), show j.val - (0 : Fin 256).val = j.val from rfl]
  ring

end Cert.RetEq

end
-- ==== Proof.RetRef.lean ====
/- What the retention's reference computes for real arrays: each state is the recurrence summed up, each output a query against its state. -/
module

public import proofs.«01_k».proof.Proof.RetLoop
public import proofs.«01_k».proof.Proof.RetEq

@[expose] public section

set_option maxRecDepth 16384

noncomputable section

namespace Cert.RetRef

open Idealize.ShloMosaic Idealize.ShloMosaic.TcCoe Idealize.SL.Sem
open Cert.RetRefIdeal Cert.RetRefIdeal.Gen Cert.RetLoop Cert.RetEq Cert.AttEq
open scoped BigOperators

variable (m : (ℓ : Loc nD τ sig) → Buf (Elt Ideal) ℓ) (c : Dev nD)
variable (q k : S8192x1024.Idx → ℝ) (v : S8192x2048.Idx → ℝ)

/-- The token that direction `z` reads at step `n` of block `b`. -/
def at' (z : Fin 2) (b : Fin 32) (n : Fin 256) : Fin 8192 := ⟨256 * b.val + (if z.val = 0 then n.val else 255 - n.val), by split <;> omega⟩
def kl (h : Fin 4) (d : Fin 256) : Fin 1024 := ⟨256 * h.val + d.val, by omega⟩
def vl (h : Fin 4) (e : Fin 512) : Fin 2048 := ⟨512 * h.val + e.val, by omega⟩

/-- A step's contribution to a state. -/
def kv (z : Fin 2) (b : Fin 32) (h : Fin 4) (d : Fin 256) (e : Fin 512) (j : Fin 256) : ℝ := k (ix2 (at' z b j) (kl h d)) * v (ix2 (at' z b j) (vl h e))

theorem state_at (hk : ∀ y, (m ((c.tc : Thread nD τ).loc main_arg2) : FVec Ideal S8192x1024 .bf16) y = (k y : EReal)) (hv : ∀ y, (m ((c.tc : Thread nD τ).loc main_arg3) : FVec Ideal S8192x2048 .bf16) y = (v y : EReal))
    (z : Fin 2) (b : Fin 32) (h : Fin 4) (d : Fin 256) (e : Fin 512) (a : ℝ)
    (ha : Ideal.exp (-(Ideal.exp ((m ((c.tc : Thread nD τ).loc main_arg0) : Vec Ideal S2x4 .f32) (ix2 z h)))) = (a : EReal)) (n : ℕ) (hn : n ≤ 256) :
    S m c n (ix5 z b h d e) = (summed a (kv k v z b h d e) n : EReal) := by
  induction n with
  | zero => rw [S_zero, summed_zero]; rfl
  | succ n ih =>
    rw [S_step m c n (by omega), ih (by omega), A_zero, ha, K_zero, W_zero, both_at, bothW_at, hk, hv, summed_succ _ _ _ (by omega), EReal.coe_add, EReal.coe_mul]
    rfl

theorem out_state (i : Fin 256) (z : Fin 2) (b : Fin 32) (h : Fin 4) (e : Fin 512) (n : ℕ) (hn : n ≤ 256) (hi : i.val < n) :
    Y m c n (ix5 i z b h e) = ∑ d : Fin 256, Q m c 0 (ix5 i z b h d) * S m c (i.val + 1) (ix5 z b h d e) := by
  induction n with
  | zero => omega
  | succ n ih =>
    rw [Y_step m c n (by omega)]
    by_cases hj : i.val = n
    · rw [if_pos hj, hj]
    · rw [if_neg hj, ih (by omega) (by omega)]

theorem out_at (hq : ∀ y, (m ((c.tc : Thread nD τ).loc main_arg1) : FVec Ideal S8192x1024 .bf16) y = (q y : EReal)) (hk : ∀ y, (m ((c.tc : Thread nD τ).loc main_arg2) : FVec Ideal S8192x1024 .bf16) y = (k y : EReal))
    (hv : ∀ y, (m ((c.tc : Thread nD τ).loc main_arg3) : FVec Ideal S8192x2048 .bf16) y = (v y : EReal)) (i : Fin 256) (z : Fin 2) (b : Fin 32) (h : Fin 4) (e : Fin 512) (a : ℝ)
    (ha : Ideal.exp (-(Ideal.exp ((m ((c.tc : Thread nD τ).loc main_arg0) : Vec Ideal S2x4 .f32) (ix2 z h)))) = (a : EReal)) :
    Y m c 256 (ix5 i z b h e) = ((∑ d : Fin 256, q (ix2 (at' z b i) (kl h d)) * summed a (kv k v z b h d e) (i.val + 1) : ℝ) : EReal) := by
  rw [out_state m c i z b h e 256 le_rfl i.isLt, coe_sum]
  refine Finset.sum_congr rfl fun d _ => ?_
  rw [state_at m c k v hk hv z b h d e a ha _ (by omega), Q_zero, both_at, hq, EReal.coe_mul]
  rfl

end Cert.RetRef

end
-- ==== Proof.RetClaim.lean ====
/- The retention: the kernel's outputs and states are the recurrence's. -/
module

public import proofs.«01_k».proof.Defs
public import proofs.«01_k».proof.Proof.RetArray
public import proofs.«01_k».proof.Proof.RetRef
public import proofs.«01_k».proof.Proof.Finite

@[expose] public section

set_option maxRecDepth 16384

noncomputable section

open Idealize.ShloMosaic Idealize.ShloMosaic.TcCoe Idealize.SL.Sem
open scoped BigOperators

namespace Cert.RetClaim

open Cert.RetTile Cert.RetArray Cert.RetEq Cert.AttEq

section Kernel
open Cert.RetIdeal

variable (D : Vec Ideal S2x4 .f32) (Q K : Vec Ideal S8192x1024 .bf16) (W : Vec Ideal S8192x2048 .bf16)
variable (q k : S8192x1024.Idx → ℝ) (v : S8192x2048.Idx → ℝ)

/-- The powers of a head's decay. -/
def Powers (D : Vec Ideal S2x4 .f32) (z : Fin 2) (h : Fin 4) (a : ℝ) : Prop := ∀ n : ℕ, Ideal.exp (logDecay D z h * (((n : ℕ) : ℝ) : EReal)) = ((a ^ n : ℝ) : EReal)

theorem yOut_eq (hq : ∀ y, (Q y : EReal) = q y) (hk : ∀ y, (K y : EReal) = k y) (hv : ∀ y, (W y : EReal) = v y) (b : Fin 32) (i : Fin 256) (h : Fin 4) (e : Fin 512) (a0 a1 : ℝ)
    (h0 : Powers D 0 h a0) (h1 : Powers D 1 h a1) :
    yOut D Q K W b i h e = ((∑ j : Fin 256, (∑ d : Fin 256, q (ix2 (tok b i) (klane h d)) * k (ix2 (tok b j) (klane h d))) * weight a0 a1 i j * v (ix2 (tok b j) (vlane h e)) : ℝ) : EReal) := by
  unfold yOut
  rw [coe_sum]
  refine Finset.sum_congr rfl fun j _ => ?_
  rw [EReal.coe_mul, EReal.coe_mul, coe_sum, decE_eq _ _ a0 a1 h0 h1, hv]
  refine congrArg (fun s : EReal => s * _ * _) (Finset.sum_congr rfl fun d _ => ?_)
  rw [hq, hk, EReal.coe_mul]

theorem sOut_eq (hk : ∀ y, (K y : EReal) = k y) (hv : ∀ y, (W y : EReal) = v y) (b : Fin 32) (z : Fin 2) (h : Fin 4) (d : Fin 256) (e : Fin 512) (a : ℝ) (ha : Powers D z h a) :
    sOut D K W b z h d e = ((∑ j : Fin 256, k (ix2 (tok b j) (klane h d)) * (if z.val = 0 then a ^ (255 - j.val) else a ^ j.val) * v (ix2 (tok b j) (vlane h e)) : ℝ) : EReal) := by
  unfold sOut
  rw [coe_sum]
  refine Finset.sum_congr rfl fun j _ => ?_
  rw [EReal.coe_mul, EReal.coe_mul, hk, hv]
  refine congrArg (fun s : EReal => _ * s * _) ?_
  rcases z with ⟨z, hz⟩
  interval_cases z
  · exact toEnd_eq _ a ha j
  · exact toStart_eq _ a ha j

end Kernel

section Reference
open Cert.RetRefIdeal Cert.RetRefIdeal.Value Cert.RetLoop Cert.RetRef

variable (m : (ℓ : Loc nD τ sig) → Buf (Elt Ideal) ℓ) (c : Dev nD)
variable (D : Vec Ideal S2x4 .f32) (Q K : Vec Ideal S8192x1024 .bf16) (W : Vec Ideal S8192x2048 .bf16)

theorem flipped (b : Fin 32) (j : Fin 256) : at' 1 b j = tok b (Fin.rev j) := Fin.ext (by
  show 256 * b.val + (255 - j.val) = 256 * b.val + (256 - (j.val + 1)); omega)

/-- The reference's outputs are the kernel's, for real queries, keys and values. -/
theorem y_eq (hD : m ((c.tc : Thread nD τ).loc main_arg0) = D) (hQ : m ((c.tc : Thread nD τ).loc main_arg1) = Q) (hK : m ((c.tc : Thread nD τ).loc main_arg2) = K) (hW : m ((c.tc : Thread nD τ).loc main_arg3) = W)
    (rq : ∀ y, ∃ r : ℝ, (Q y : EReal) = r) (rk : ∀ y, ∃ r : ℝ, (K y : EReal) = r) (rv : ∀ y, ∃ r : ℝ, (W y : EReal) = r) :
    (out_main_v36 (val m c 256) : Vec Ideal S8192x2048 .bf16) = (Cert.RetArray.Y D Q K W : S8192x2048.Idx → EReal) := by
  choose q hq using rq
  choose k hk using rk
  choose v hv using rv
  funext y
  obtain ⟨b, i, h, e, rfl⟩ : ∃ (b : Fin 32) (i : Fin 256) (h : Fin 4) (e : Fin 512), y = ix2 (tok b i) (vlane h e) :=
    ⟨⟨(y 0).val / 256, by have := (y 0).isLt; simp at this; omega⟩, ⟨(y 0).val % 256, by omega⟩, ⟨(y 1).val / 512, by have := (y 1).isLt; simp at this; omega⟩, ⟨(y 1).val % 512, by omega⟩,
      funext fun a => Fin.ext (match a with
        | ⟨0, _⟩ => (Nat.div_add_mod (y 0).val 256).symm
        | ⟨1, _⟩ => (Nat.div_add_mod (y 1).val 512).symm)⟩
  obtain ⟨a0, ha0, p0⟩ := decay_powers (D (ix2 0 h))
  obtain ⟨a1, ha1, p1⟩ := decay_powers (D (ix2 1 h))
  rw [Y_at, yOut_eq D Q K W q k v hq hk hv b i h e a0 a1 p0 p1, out_real]
  refine (out_y m c b i h e).trans ?_
  rw [out_at m c q k v (by rw [hQ]; exact hq) (by rw [hK]; exact hk) (by rw [hW]; exact hv) i 0 b h e a0 (by rw [hD]; exact ha0),
    out_at m c q k v (by rw [hQ]; exact hq) (by rw [hK]; exact hk) (by rw [hW]; exact hv) _ 1 b h e a1 (by rw [hD]; exact ha1), EReal.coe_add]
  have hi : tok b (Fin.rev (⟨255 - i.val, by omega⟩ : Fin 256)) = tok b i := Fin.ext (by
    show 256 * b.val + (256 - (255 - i.val + 1)) = 256 * b.val + i.val; omega)
  have hkv : ∀ d, kv k v 1 b h d e = fun j => k (ix2 (tok b (Fin.rev j)) (klane h d)) * v (ix2 (tok b (Fin.rev j)) (vlane h e)) := fun d => by
    funext j; unfold kv; rw [flipped]; rfl
  refine congrArg₂ (HAdd.hAdd (α := EReal) (β := EReal)) rfl (congrArg _ (Finset.sum_congr rfl fun d _ => ?_))
  rw [hkv, flipped, hi]
  rfl

/-- The reference's states are the kernel's, for real keys and values. -/
theorem s_eq (hD : m ((c.tc : Thread nD τ).loc main_arg0) = D) (hK : m ((c.tc : Thread nD τ).loc main_arg2) = K) (hW : m ((c.tc : Thread nD τ).loc main_arg3) = W)
    (rk : ∀ y, ∃ r : ℝ, (K y : EReal) = r) (rv : ∀ y, ∃ r : ℝ, (W y : EReal) = r) :
    (out_main_v37 (val m c 256) : Vec Ideal S32x2x4x256x512 .f32) = (Cert.RetArray.S D K W : S32x2x4x256x512.Idx → EReal) := by
  choose k hk using rk
  choose v hv using rv
  funext y
  obtain ⟨b, z, h, d, e, rfl⟩ : ∃ (b : Fin 32) (z : Fin 2) (h : Fin 4) (d : Fin 256) (e : Fin 512), y = ix5 b z h d e :=
    ⟨y 0, y 1, y 2, y 3, y 4, funext fun a => match a with | ⟨0, _⟩ => rfl | ⟨1, _⟩ => rfl | ⟨2, _⟩ => rfl | ⟨3, _⟩ => rfl | ⟨4, _⟩ => rfl⟩
  obtain ⟨a, ha, p⟩ := decay_powers (D (ix2 z h))
  show _ = sOut D K W b z h d e
  rw [sOut_eq D K W k v hk hv b z h d e a p]
  refine (out_s m c b z h d e).trans ?_
  rw [state_at m c k v (by rw [hK]; exact hk) (by rw [hW]; exact hv) z b h d e a (by rw [hD]; exact ha) 256 le_rfl]
  refine congrArg _ ?_
  rcases z with ⟨z, hz⟩
  interval_cases z
  · exact (fwd_real a _ _).symm
  · refine Eq.trans ?_ (bwd_real a _ _).symm
    refine congrArg (fun x => summed a x 256) (funext fun j => ?_)
    show kv k v 1 b h d e j = _
    unfold kv; rw [flipped]; rfl

end Reference

theorem claim : Cert.algebraic_RetIdeal_RetRefIdeal_pre_finite := by
  intro m g m' g' hpre hagree
  refine ⟨fun c => Cert.RetArray.Y (m ((c.tc : Thread Cert.RetIdeal.nD Cert.RetIdeal.τ).loc Cert.RetIdeal.main_arg0)) (m ((c.tc : Thread Cert.RetIdeal.nD Cert.RetIdeal.τ).loc Cert.RetIdeal.main_arg1))
      (m ((c.tc : Thread Cert.RetIdeal.nD Cert.RetIdeal.τ).loc Cert.RetIdeal.main_arg2)) (m ((c.tc : Thread Cert.RetIdeal.nD Cert.RetIdeal.τ).loc Cert.RetIdeal.main_arg3)),
    fun c => Cert.RetArray.S (m ((c.tc : Thread Cert.RetIdeal.nD Cert.RetIdeal.τ).loc Cert.RetIdeal.main_arg0))
      (m ((c.tc : Thread Cert.RetIdeal.nD Cert.RetIdeal.τ).loc Cert.RetIdeal.main_arg2)) (m ((c.tc : Thread Cert.RetIdeal.nD Cert.RetIdeal.τ).loc Cert.RetIdeal.main_arg3)), ?_, ?_⟩
  · refine (θ_run _ _ _).mono (fun r h c => ?_) (Cert.RetIdeal.Value.run_blocks m g)
    obtain ⟨h1, h2, h3, h4, h5, h6⟩ := h c
    exact ⟨h1.trans (final_y m c), h2.trans (final_s m c), h3, h4, h5, h6⟩
  · refine (θ_run _ _ _).mono (fun r h c => ?_) (Cert.RetRefIdeal.Value.run m' g')
    obtain ⟨h1, h2, h3⟩ := h c
    obtain ⟨a0, a1, a2, a3⟩ := hagree c
    obtain ⟨rq, rk, rv⟩ := Cert.Finite.ret_real _ _ _ _ (hpre c)
    exact ⟨h1.trans (y_eq m' c _ _ _ _ a0 a1 a2 a3 rq rk rv), h2.trans (s_eq m' c _ _ _ a0 a2 a3 rk rv), h3⟩

end Cert.RetClaim

end
-- ==== Proof.Dense.lean ====
/- What the three dense calls of a layer share, on rows of extended reals: the RMS norm, the modulated norm, and the two ways to
   write the gate's activation, which agree on reals. -/
module

public import Idealize.ShloMosaic.PureOps.Ideal
public import Idealize.ShloMosaic.PureOps.Ideal.Laws
public import proofs.«01_k».proof.Proof.AttEq

@[expose] public section

noncomputable section

open Idealize.ShloMosaic
open scoped BigOperators

namespace Cert.Dense

/-- The constant under the root. -/
def eps : EReal := Ideal.ofBits .f32 0x358637BD#32

/-- A row divided by the root of its mean square; `w` is the row's length. -/
def rmsE {n : ℕ} (w : EReal) (f : Fin n → EReal) (k : Fin n) : EReal := f k * Ideal.rsqrt (Ideal.div (∑ j, f j * f j) w + eps)

/-- The length 1024 as a word. -/
def w1024 : EReal := Ideal.ofBits .f32 0x44800000#32
/-- The length 512 as a word. -/
def w512 : EReal := Ideal.ofBits .f32 0x44000000#32

/-- The normed, scaled and shifted row a projection reads. -/
def modE (f nw sc sh : Fin 1024 → EReal) (k : Fin 1024) : EReal := rmsE w1024 f k * nw k * (1 + sc k) + sh k

/-- The activation by a hyperbolic tangent of the half. -/
def siluT (x : EReal) : EReal := Ideal.ofBits .f32 0x3F000000#32 * x + Ideal.ofBits .f32 0x3F000000#32 * x * Ideal.tanh (Ideal.ofBits .f32 0x3F000000#32 * x)
/-- The activation by the logistic function. -/
def siluE (x : EReal) : EReal := x * Ideal.div 1 (1 + Ideal.exp (-x))

theorem word_one : Ideal.ofBits .f32 0x3F800000#32 = 1 := by
  simp [Ideal.ofBits, Ideal.ieee, -EReal.coe_mul]; norm_num
theorem word_zero : Ideal.ofBits .f32 0x00000000#32 = 0 := by
  simp [Ideal.ofBits, Ideal.ieee]
theorem word_half : Ideal.ofBits .f32 0x3F000000#32 = ((1 / 2 : ℝ) : EReal) := by
  simp [Ideal.ofBits, Ideal.ieee, -EReal.coe_mul]; norm_num
theorem w1024_eq : w1024 = ((1024 : ℝ) : EReal) := by
  simp [w1024, Ideal.ofBits, Ideal.ieee, -EReal.coe_mul]; norm_num
theorem w512_eq : w512 = ((512 : ℝ) : EReal) := by
  simp [w512, Ideal.ofBits, Ideal.ieee, -EReal.coe_mul]; norm_num
theorem eps_pos : ∃ e : ℝ, 0 < e ∧ eps = e := by
  refine ⟨_, ?_, by unfold eps; simp [Ideal.ofBits, Ideal.ieee, -EReal.coe_mul]; rfl⟩
  positivity

/-- The activations agree on reals. -/
theorem silu_eq (r : ℝ) : siluT (r : EReal) = siluE (r : EReal) := by
  have h := Ideal.logistic_coe r
  unfold siluT siluE
  rw [show Ideal.div 1 (1 + Ideal.exp (-(r : EReal))) = Ideal.logistic (r : EReal) from rfl, h, word_half, ← EReal.coe_mul, Ideal.tanh_coe, ← EReal.coe_mul,
    ← EReal.coe_add, ← EReal.coe_mul]
  refine congrArg _ ?_
  rw [Real.tanh_eq]
  have e1 : Real.exp (1 / 2 * r) * Real.exp (-(1 / 2 * r)) = 1 := by rw [← Real.exp_add]; simp
  have e2 : Real.exp (-r) = Real.exp (-(1 / 2 * r)) * Real.exp (-(1 / 2 * r)) := by rw [← Real.exp_add]; congr 1; ring
  have p1 := Real.exp_pos (1 / 2 * r)
  have p2 := Real.exp_pos (-(1 / 2 * r))
  rw [e2]
  generalize Real.exp (1 / 2 * r) = a at *
  generalize Real.exp (-(1 / 2 * r)) = b at *
  have hb : a = 1 / b := by field_simp; linarith
  subst hb
  field_simp
  ring

/-- An extended real that is a real. -/
def IsR (x : EReal) : Prop := ∃ r : ℝ, x = r

theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.one : IsR 1 := ⟨1, rfl⟩
theorem IsR.sum {ι : Type} (s : Finset ι) (f : ι → EReal) (h : ∀ i, IsR (f i)) : IsR (∑ i ∈ s, f i) := by
  classical
  induction s using Finset.induction_on with
  | empty => exact ⟨0, by simp⟩
  | insert a s ha ih => rw [Finset.sum_insert ha]; exact (h a).add ih

theorem sq_nonneg (x : EReal) : 0 ≤ x * x := by
  induction x using EReal.rec with
  | bot => simp
  | top => simp
  | coe r => rw [← EReal.coe_mul]; exact EReal.coe_nonneg.2 (mul_self_nonneg r)

/-- An extended real that is no real has the square +∞. -/
theorem sq_top (x : EReal) (h : ¬ IsR x) : x * x = ⊤ := by
  induction x using EReal.rec with
  | bot => simp
  | top => simp
  | coe r => exact (h ⟨r, rfl⟩).elim

theorem rmsE_real_of {n : ℕ} (w : EReal) (v : ℝ) (hv : 0 < v) (hw : w = v) (f : Fin n → EReal) (h : ∀ k, IsR (f k)) (k : Fin n) : IsR (rmsE w f k) := by
  choose g hg using h
  obtain ⟨e, he, ee⟩ := eps_pos
  have hs : ∃ s : ℝ, 0 ≤ s ∧ (∑ j, f j * f j) = s := by
    refine ⟨∑ j, g j * g j, Finset.sum_nonneg fun j _ => mul_self_nonneg _, ?_⟩
    rw [Cert.AttEq.coe_sum]
    exact Finset.sum_congr rfl fun j _ => by rw [hg, EReal.coe_mul]
  obtain ⟨s, s0, hs⟩ := hs
  have hp : 0 < s * (1 / v) + e := by positivity
  refine ⟨g k * (Real.sqrt (s * (1 / v) + e))⁻¹, ?_⟩
  unfold rmsE
  rw [hs, hw, Ideal.div_coe hv.ne', ee, ← EReal.coe_mul, ← EReal.coe_add, Ideal.rsqrt_coe, if_neg hp.le.not_gt, if_neg hp.ne', hg, EReal.coe_mul]

/-- Any row, normed, is a row of reals: at an infinite element the mean of the squares is +∞, and every element is scaled by 0. -/
theorem rmsE_real {n : ℕ} (w : EReal) (v : ℝ) (hv : 0 < v) (hw : w = v) (f : Fin n → EReal) (k : Fin n) : IsR (rmsE w f k) := by
  by_cases h : ∀ k, IsR (f k)
  · exact rmsE_real_of w v hv hw f h k
  obtain ⟨j, hj⟩ := not_forall.1 h
  obtain ⟨e, -, ee⟩ := eps_pos
  have hs : (∑ j, f j * f j) = ⊤ := top_le_iff.1 <| by
    rw [← sq_top _ hj]
    exact Finset.single_le_sum (f := fun j => f j * f j) (fun i _ => sq_nonneg (f i)) (Finset.mem_univ j)
  refine ⟨0, ?_⟩
  unfold rmsE
  rw [hs, hw, Ideal.div_coe hv.ne', ee, EReal.top_mul_coe_of_pos (by positivity), EReal.top_add_coe, Ideal.rsqrt_top, mul_zero, EReal.coe_zero]

theorem modE_real (f nw sc sh : Fin 1024 → EReal) (hn : ∀ k, IsR (nw k)) (hc : ∀ k, IsR (sc k)) (hs : ∀ k, IsR (sh k)) (k : Fin 1024) : IsR (modE f nw sc sh k) :=
  (((rmsE_real w1024 1024 (by norm_num) w1024_eq f k).mul (hn k)).mul (IsR.one.add (hc k))).add (hs k)

/-- One step of a residual branch's gated feed-forward, with the activation `s`, on a row. -/
def ffnE (s : EReal → EReal) (h : Fin 1024 → EReal) (wg wu : Fin 1024 → Fin 2816 → EReal) (wd : Fin 2816 → Fin 1024 → EReal) (k : Fin 1024) : EReal :=
  ∑ l : Fin 2816, s (∑ j, h j * wg j l) * (∑ j, h j * wu j l) * wd l k

/-- The residual row after the feed-forward. -/
def outE (s : EReal → EReal) (x1 nw sc sh g : Fin 1024 → EReal) (wg wu : Fin 1024 → Fin 2816 → EReal) (wd : Fin 2816 → Fin 1024 → EReal) (k : Fin 1024) : EReal :=
  x1 k + g k * ffnE s (modE x1 nw sc sh) wg wu wd k

/-- Both activations give one row, where what they act on is real. -/
theorem outE_eq (x1 nw sc sh g : Fin 1024 → EReal) (wg wu : Fin 1024 → Fin 2816 → EReal) (wd : Fin 2816 → Fin 1024 → EReal)
    (hn : ∀ k, IsR (nw k)) (hc : ∀ k, IsR (sc k)) (hs : ∀ k, IsR (sh k)) (hg : ∀ j l, IsR (wg j l)) :
    outE siluT x1 nw sc sh g wg wu wd = outE siluE x1 nw sc sh g wg wu wd := by
  funext k
  unfold outE ffnE
  refine congrArg (fun z => x1 k + g k * z) (Finset.sum_congr rfl fun l _ => ?_)
  obtain ⟨r, hr⟩ : IsR (∑ j, modE x1 nw sc sh j * wg j l) := IsR.sum _ _ fun j => (modE_real x1 nw sc sh hn hc hs j).mul (hg j l)
  rw [hr, silu_eq]

/-- Lane `e` of head `h`, of 2048 lanes. -/
def lane (h : Fin 4) (e : Fin 512) : Fin 2048 := ⟨512 * h.val + e.val, by omega⟩

/-- One head's part of the mixed row: the head's values normed over the head, scaled, gated, and put through its rows of the projection. -/
def headE (y g gain : Fin 512 → EReal) (wo : Fin 512 → Fin 1024 → EReal) (k : Fin 1024) : EReal :=
  ∑ e : Fin 512, g e * (rmsE w512 y e * gain e) * wo e k

/-- The sum over the lanes, head by head. -/
theorem sum_lanes (f : Fin 2048 → EReal) : ∑ l, f l = ∑ h : Fin 4, ∑ e : Fin 512, f (lane h e) := by
  rw [← Fintype.sum_prod_type']
  refine (Fintype.sum_equiv (finProdFinEquiv (m := 4) (n := 512)) _ _ fun p => congrArg f (Fin.ext ?_)).symm
  show 512 * p.1.val + p.2.val = (finProdFinEquiv p).val
  simp [finProdFinEquiv, Nat.add_comm]

/-- The mixed row of the retention's four heads. -/
def mixE (y g gain : Fin 2048 → EReal) (wo : Fin 2048 → Fin 1024 → EReal) (k : Fin 1024) : EReal :=
  ∑ h : Fin 4, headE (fun e => y (lane h e)) (fun e => g (lane h e)) (fun e => gain (lane h e)) (fun e => wo (lane h e)) k

/-- The mixed row of attention and state space, with the activation `s`. -/
def joinE (s : EReal → EReal) (att yf yb z gain : Fin 512 → EReal) (wo : Fin 1024 → Fin 1024 → EReal) (k : Fin 1024) : EReal :=
  ∑ e : Fin 512, att e * wo ⟨e.val, by omega⟩ k
    + ∑ e : Fin 512, rmsE w512 (fun e => (yf e + yb e) * s (z e)) e * gain e * wo ⟨512 + e.val, by omega⟩ k

theorem joinE_eq (att yf yb z gain : Fin 512 → EReal) (wo : Fin 1024 → Fin 1024 → EReal) (hz : ∀ l, IsR (z l)) :
    joinE siluT att yf yb z gain wo = joinE siluE att yf yb z gain wo := by
  have h : (fun e => (yf e + yb e) * siluT (z e)) = fun e => (yf e + yb e) * siluE (z e) := funext fun e => by
    obtain ⟨r, hr⟩ := hz e
    rw [hr, silu_eq]
  funext k
  unfold joinE
  rw [h]

end Cert.Dense

end
-- ==== Proof.PostCTile.lean ====
module

public import proofs.«01_k».proof.Proof.Gen.PostCIdeal.Value
public import proofs.«01_k».proof.Proof.Dense
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.PostCTile

open Cert.PostCIdeal Cert.PostCIdeal.Gen Cert.Dense

theorem head0_at (y : Vec Ideal S512x512 .bf16) (gain : Vec Ideal S1x512 .f32) (g : Vec Ideal S512x512 .bf16) (w : Vec Ideal S512x1024 .bf16) (i : Fin 512) (k : Fin 1024) :
    k0_pay1 (F := Ideal) y gain g w (ix2 i k)
      = headE (fun e => y (ix2 i e)) (fun e => g (ix2 i e)) (fun e => gain (ix2 0 e)) (fun e k => w (ix2 e k)) k := by
  pointwise [k0_pay1]
  rfl

theorem norm1_at (y : Vec Ideal S512x512 .bf16) (gain : Vec Ideal S1x512 .f32) (i : Fin 512) (e : Fin 512) :
    k0_pay2 (F := Ideal) y gain (ix2 i e) = rmsE w512 (fun e => y (ix2 i e)) e * gain (ix2 0 e) := by
  pointwise [k0_pay2]
  rfl

theorem heads_at (a : FVec Ideal S512x1024 .f32) (b : FVec Ideal S512x512 .f32) (g : Vec Ideal S512x512 .bf16) (w : Vec Ideal S512x1024 .bf16)
    (y2 : Vec Ideal S512x512 .bf16) (gain2 : Vec Ideal S1x512 .f32) (g2 : Vec Ideal S512x512 .bf16) (w2 : Vec Ideal S512x1024 .bf16) (i : Fin 512) (k : Fin 1024) :
    k0_pay3 (F := Ideal) a b g w y2 gain2 g2 w2 (ix2 i k)
      = (a (ix2 i k) + ∑ e : Fin 512, (g (ix2 i e) : EReal) * b (ix2 i e) * w (ix2 e k))
        + headE (fun e => y2 (ix2 i e)) (fun e => g2 (ix2 i e)) (fun e => gain2 (ix2 0 e)) (fun e k => w2 (ix2 e k)) k := by
  pointwise [k0_pay3]
  rfl

theorem root_at (y : Vec Ideal S512x512 .bf16) (i : Fin 512) :
    k0_pay5 (F := Ideal) y (ix2 i 0) = Ideal.rsqrt (Ideal.div (∑ e : Fin 512, (y (ix2 i e) : EReal) * y (ix2 i e)) w512 + eps) := by
  pointwise [k0_pay5, k0_pay4]
  rfl

theorem x1_at (a : FVec Ideal S512x1024 .f32) (y : Vec Ideal S512x512 .bf16) (gain : Vec Ideal S1x512 .f32) (g : Vec Ideal S512x512 .bf16)
    (w : Vec Ideal S512x1024 .bf16) (x : Vec Ideal S512x1024 .f32) (g1 : Vec Ideal S1x1x1024 .f32) (i : Fin 512) (k : Fin 1024) :
    k0_pay6 (F := Ideal) a (k0_pay4 y) (k0_pay5 y) gain g w x g1 (ix2 i k)
      = x (ix2 i k) + g1 (ix3 0 0 k) * (a (ix2 i k)
        + headE (fun e => y (ix2 i e)) (fun e => g (ix2 i e)) (fun e => gain (ix2 0 e)) (fun e k => w (ix2 e k)) k) := by
  have hr := root_at y i
  generalize k0_pay5 (F := Ideal) y = r at *
  pointwise [k0_pay6, k0_pay4]
  rw [hr]
  rfl

theorem scaled_at (a : FVec Ideal S512x1024 .f32) (b : FVec Ideal S512x512 .f32) (r : FVec Ideal S512x1 .f32) (gain : Vec Ideal S1x512 .f32) (g : Vec Ideal S512x512 .bf16)
    (w : Vec Ideal S512x1024 .bf16) (x : Vec Ideal S512x1024 .f32) (g1 : Vec Ideal S1x1x1024 .f32) (nw : Vec Ideal S1x1024 .f32) (sc : Vec Ideal S1x1x1024 .f32) (i : Fin 512) (k : Fin 1024) :
    k0_pay7 (F := Ideal) a b r gain g w x g1 nw sc (ix2 i k)
      = rmsE w1024 (fun k => k0_pay6 (F := Ideal) a b r gain g w x g1 (ix2 i k)) k * nw (ix2 0 k) * (1 + sc (ix3 0 0 k)) := by
  unfold k0_pay7
  generalize k0_pay6 (F := Ideal) a b r gain g w x g1 = v
  pointwise
  rfl

theorem out_at (x1 s : FVec Ideal S512x1024 .f32) (sh : Vec Ideal S1x1x1024 .f32) (wg wu : Vec Ideal S1024x2816 .bf16) (g2 : Vec Ideal S1x1x1024 .f32)
    (wd : Vec Ideal S2816x1024 .bf16) (fn : Vec Ideal S1x1024 .f32) (i : Fin 512) (k : Fin 1024) :
    k0_pay8 (F := Ideal) x1 s sh wg wu g2 wd fn (ix2 i k)
      = rmsE w1024 (fun k => x1 (ix2 i k) + g2 (ix3 0 0 k) * ffnE siluT (fun j => s (ix2 i j) + sh (ix3 0 0 j)) (fun j l => wg (ix2 j l)) (fun j l => wu (ix2 j l)) (fun l k => wd (ix2 l k)) k) k
        * fn (ix2 0 k) := by
  pointwise [k0_pay8]
  rfl

end Cert.PostCTile

end
-- ==== Proof.PostCArray.lean ====
/- The last layer's post-processing: its array, from the arguments as launched. -/
module

public import proofs.«01_k».proof.Proof.PostCTile
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.PostCArray

open Cert.PostCIdeal Cert.PostCIdeal.Gen Cert.Dense

variable (m : (ℓ : Loc nD τ sig) → Buf (Elt Ideal) ℓ)

theorem idx_val : ∀ t : Fin cfg0.N, win0_0.index t = ![t.val, 0]
    ∧ win0_1.index t = ![0, 0, 2]
    ∧ win0_2.index t = ![0, 0]
    ∧ win0_3.index t = ![0, 0, 3]
    ∧ win0_4.index t = ![0, 0, 4]
    ∧ win0_5.index t = ![0, 0, 5]
    ∧ win0_6.index t = ![0, 0]
    ∧ win0_7.index t = ![0, 0]
    ∧ win0_8.index t = ![0, 0]
    ∧ win0_9.index t = ![0, 0]
    ∧ win0_10.index t = ![0, 0]
    ∧ win0_11.index t = ![t.val, 0]
    ∧ win0_12.index t = ![t.val, 0]
    ∧ win0_13.index t = ![0, 0]
    ∧ win0_14.index t = ![t.val, 0] :=
  (by decide +kernel : ∀ t : Fin grid0.N, _)

/-- The place of row `i` of tile `t`. -/
def tok (t : Fin 16) (i : Fin 512) : Fin 8192 := ⟨512 * t.val + i.val, by omega⟩

theorem z2 : (![0, 0] : Fin 2 → ℕ) = fun _ => 0 := funext fun a => match a with | ⟨0, _⟩ => rfl | ⟨1, _⟩ => rfl
theorem z3 : (![0, 0, 0] : Fin 3 → ℕ) = fun _ => 0 := funext fun a => match a with | ⟨0, _⟩ => rfl | ⟨1, _⟩ => rfl | ⟨2, _⟩ => rfl

/-- The rows as launched. -/
def Ax (c : Dev nD) : S8192x1024.Idx → EReal := m ((c : Thread nD τ).loc main_arg0)
/-- The modulation as launched. -/
def Amo (c : Dev nD) : S1x1x6144.Idx → EReal := m ((c : Thread nD τ).loc main_arg1)
/-- The norm's weights as launched. -/
def An (c : Dev nD) : S1024.Idx → EReal := m ((c : Thread nD τ).loc main_arg2)
/-- The output projection as launched. -/
def Awo (c : Dev nD) : S2048x1024.Idx → EReal := m ((c : Thread nD τ).loc main_arg3)
/-- The gate projection as launched. -/
def Awg (c : Dev nD) : S1024x2816.Idx → EReal := m ((c : Thread nD τ).loc main_arg4)
/-- The up projection as launched. -/
def Awu (c : Dev nD) : S1024x2816.Idx → EReal := m ((c : Thread nD τ).loc main_arg5)
/-- The down projection as launched. -/
def Awd (c : Dev nD) : S2816x1024.Idx → EReal := m ((c : Thread nD τ).loc main_arg6)
/-- The last norm's weights as launched. -/
def Afn (c : Dev nD) : S1024.Idx → EReal := m ((c : Thread nD τ).loc main_arg7)
/-- The retention's values as launched. -/
def Ay (c : Dev nD) : S8192x2048.Idx → EReal := m ((c : Thread nD τ).loc main_arg8)
/-- The gates as launched. -/
def Ag (c : Dev nD) : S8192x2048.Idx → EReal := m ((c : Thread nD τ).loc main_arg9)
/-- The heads' weights as launched. -/
def Again (c : Dev nD) : S2048.Idx → EReal := m ((c : Thread nD τ).loc main_arg10)

theorem host_n (c : Dev nD) (k : Fin 1024) : (V m c main_v0 : Vec Ideal S1x1024 .f32) (ix2 0 k) = An m c (ix1 k) := by
  entry_read
  pointwise
  rfl

theorem host_gain (c : Dev nD) (k : Fin 2048) : (V m c main_v1 : Vec Ideal S1x2048 .f32) (ix2 0 k) = Again m c (ix1 k) := by
  entry_read
  pointwise
  rfl

theorem host_fn (c : Dev nD) (k : Fin 1024) : (V m c main_v2 : Vec Ideal S1x1024 .f32) (ix2 0 k) = Afn m c (ix1 k) := by
  entry_read
  pointwise
  rfl

theorem blk0 (c : Dev nD) (t : Fin 16) (i : Fin 512) (k : Fin 1024) : (iblk m c 0 t : Vec Ideal S512x1024 .f32) (ix2 i k) = Ax m c (ix2 (tok t i) k) := by
  obtain ⟨w0, w1, w2, w3, w4, w5, w6, w7, w8, w9, w10, w11, w12, w13, w14⟩ := idx_val t
  blk_ext [iblk, V, w0, tok, Ax]
theorem blk1 (c : Dev nD) (t : Fin 16) (k : Fin 1024) : (iblk m c 1 t : Vec Ideal S1x1x1024 .f32) (ix3 0 0 k) = Amo m c (ix3 0 0 (⟨2048 + k.val, by omega⟩ : Fin 6144)) := by
  obtain ⟨w0, w1, w2, w3, w4, w5, w6, w7, w8, w9, w10, w11, w12, w13, w14⟩ := idx_val t
  blk_ext [iblk, V, w1, Amo]
theorem blk2 (c : Dev nD) (t : Fin 16) (k : Fin 1024) : (iblk m c 2 t : Vec Ideal S1x1024 .f32) (ix2 0 k) = An m c (ix1 k) := by
  obtain ⟨w0, w1, w2, w3, w4, w5, w6, w7, w8, w9, w10, w11, w12, w13, w14⟩ := idx_val t
  refine Eq.trans ?_ (host_n m c k)
  blk_simp [iblk]
  generalize V m c main_v0 = W
  blk_ext [w2]
theorem blk3 (c : Dev nD) (t : Fin 16) (k : Fin 1024) : (iblk m c 3 t : Vec Ideal S1x1x1024 .f32) (ix3 0 0 k) = Amo m c (ix3 0 0 (⟨3072 + k.val, by omega⟩ : Fin 6144)) := by
  obtain ⟨w0, w1, w2, w3, w4, w5, w6, w7, w8, w9, w10, w11, w12, w13, w14⟩ := idx_val t
  blk_ext [iblk, V, w3, Amo]
theorem blk4 (c : Dev nD) (t : Fin 16) (k : Fin 1024) : (iblk m c 4 t : Vec Ideal S1x1x1024 .f32) (ix3 0 0 k) = Amo m c (ix3 0 0 (⟨4096 + k.val, by omega⟩ : Fin 6144)) := by
  obtain ⟨w0, w1, w2, w3, w4, w5, w6, w7, w8, w9, w10, w11, w12, w13, w14⟩ := idx_val t
  blk_ext [iblk, V, w4, Amo]
theorem blk5 (c : Dev nD) (t : Fin 16) (k : Fin 1024) : (iblk m c 5 t : Vec Ideal S1x1x1024 .f32) (ix3 0 0 k) = Amo m c (ix3 0 0 (⟨5120 + k.val, by omega⟩ : Fin 6144)) := by
  obtain ⟨w0, w1, w2, w3, w4, w5, w6, w7, w8, w9, w10, w11, w12, w13, w14⟩ := idx_val t
  blk_ext [iblk, V, w5, Amo]
theorem blk6 (c : Dev nD) (t : Fin 16) (k : Fin 2048) (l : Fin 1024) : (iblk m c 6 t : Vec Ideal S2048x1024 .bf16) (ix2 k l) = Awo m c (ix2 k l) := by
  obtain ⟨w0, w1, w2, w3, w4, w5, w6, w7, w8, w9, w10, w11, w12, w13, w14⟩ := idx_val t
  blk_ext [iblk, V, w6, Awo]
theorem blk7 (c : Dev nD) (t : Fin 16) (k : Fin 1024) (l : Fin 2816) : (iblk m c 7 t : Vec Ideal S1024x2816 .bf16) (ix2 k l) = Awg m c (ix2 k l) := by
  obtain ⟨w0, w1, w2, w3, w4, w5, w6, w7, w8, w9, w10, w11, w12, w13, w14⟩ := idx_val t
  blk_ext [iblk, V, w7, Awg]
theorem blk8 (c : Dev nD) (t : Fin 16) (k : Fin 1024) (l : Fin 2816) : (iblk m c 8 t : Vec Ideal S1024x2816 .bf16) (ix2 k l) = Awu m c (ix2 k l) := by
  obtain ⟨w0, w1, w2, w3, w4, w5, w6, w7, w8, w9, w10, w11, w12, w13, w14⟩ := idx_val t
  blk_ext [iblk, V, w8, Awu]
theorem blk9 (c : Dev nD) (t : Fin 16) (k : Fin 2816) (l : Fin 1024) : (iblk m c 9 t : Vec Ideal S2816x1024 .bf16) (ix2 k l) = Awd m c (ix2 k l) := by
  obtain ⟨w0, w1, w2, w3, w4, w5, w6, w7, w8, w9, w10, w11, w12, w13, w14⟩ := idx_val t
  blk_ext [iblk, V, w9, Awd]
theorem blk10 (c : Dev nD) (t : Fin 16) (k : Fin 1024) : (iblk m c 10 t : Vec Ideal S1x1024 .f32) (ix2 0 k) = Afn m c (ix1 k) := by
  obtain ⟨w0, w1, w2, w3, w4, w5, w6, w7, w8, w9, w10, w11, w12, w13, w14⟩ := idx_val t
  refine Eq.trans ?_ (host_fn m c k)
  blk_simp [iblk]
  generalize V m c main_v2 = W
  blk_ext [w10]
theorem blk11 (c : Dev nD) (t : Fin 16) (i : Fin 512) (k : Fin 2048) : (iblk m c 11 t : Vec Ideal S512x2048 .bf16) (ix2 i k) = Ay m c (ix2 (tok t i) k) := by
  obtain ⟨w0, w1, w2, w3, w4, w5, w6, w7, w8, w9, w10, w11, w12, w13, w14⟩ := idx_val t
  blk_ext [iblk, V, w11, tok, Ay]
theorem blk12 (c : Dev nD) (t : Fin 16) (i : Fin 512) (k : Fin 2048) : (iblk m c 12 t : Vec Ideal S512x2048 .bf16) (ix2 i k) = Ag m c (ix2 (tok t i) k) := by
  obtain ⟨w0, w1, w2, w3, w4, w5, w6, w7, w8, w9, w10, w11, w12, w13, w14⟩ := idx_val t
  blk_ext [iblk, V, w12, tok, Ag]
theorem blk13 (c : Dev nD) (t : Fin 16) (k : Fin 2048) : (iblk m c 13 t : Vec Ideal S1x2048 .f32) (ix2 0 k) = Again m c (ix1 k) := by
  obtain ⟨w0, w1, w2, w3, w4, w5, w6, w7, w8, w9, w10, w11, w12, w13, w14⟩ := idx_val t
  refine Eq.trans ?_ (host_gain m c k)
  blk_simp [iblk]
  generalize V m c main_v1 = W
  blk_ext [w13]
theorem ld0 (c : Dev nD) (t : Fin 16) (i : Fin 512) (k : Fin 1024) : View.ld (iblk m c 0 t) r0_12 (ix2 i k) = Ax m c (ix2 (tok t i) k) :=
  (congrFun (View.ld_unit_zero z2 _ _) _).trans (blk0 m c t i k)
theorem ld1 (c : Dev nD) (t : Fin 16) (k : Fin 1024) : View.ld (iblk m c 1 t) r0_13 (ix3 0 0 k) = Amo m c (ix3 0 0 (⟨2048 + k.val, by omega⟩ : Fin 6144)) :=
  (congrFun (View.ld_unit_zero z3 _ _) _).trans (blk1 m c t k)
theorem ld2 (c : Dev nD) (t : Fin 16) (k : Fin 1024) : View.ld (iblk m c 2 t) r0_14 (ix2 0 k) = An m c (ix1 k) :=
  (congrFun (View.ld_unit_zero z2 _ _) _).trans (blk2 m c t k)
theorem ld3 (c : Dev nD) (t : Fin 16) (k : Fin 1024) : View.ld (iblk m c 3 t) r0_13 (ix3 0 0 k) = Amo m c (ix3 0 0 (⟨3072 + k.val, by omega⟩ : Fin 6144)) :=
  (congrFun (View.ld_unit_zero z3 _ _) _).trans (blk3 m c t k)
theorem ld4 (c : Dev nD) (t : Fin 16) (k : Fin 1024) : View.ld (iblk m c 4 t) r0_13 (ix3 0 0 k) = Amo m c (ix3 0 0 (⟨4096 + k.val, by omega⟩ : Fin 6144)) :=
  (congrFun (View.ld_unit_zero z3 _ _) _).trans (blk4 m c t k)
theorem ld5 (c : Dev nD) (t : Fin 16) (k : Fin 1024) : View.ld (iblk m c 5 t) r0_13 (ix3 0 0 k) = Amo m c (ix3 0 0 (⟨5120 + k.val, by omega⟩ : Fin 6144)) :=
  (congrFun (View.ld_unit_zero z3 _ _) _).trans (blk5 m c t k)
theorem ld7 (c : Dev nD) (t : Fin 16) (k : Fin 1024) (l : Fin 2816) : View.ld (iblk m c 7 t) r0_15 (ix2 k l) = Awg m c (ix2 k l) :=
  (congrFun (View.ld_unit_zero z2 _ _) _).trans (blk7 m c t k l)
theorem ld8 (c : Dev nD) (t : Fin 16) (k : Fin 1024) (l : Fin 2816) : View.ld (iblk m c 8 t) r0_15 (ix2 k l) = Awu m c (ix2 k l) :=
  (congrFun (View.ld_unit_zero z2 _ _) _).trans (blk8 m c t k l)
theorem ld9 (c : Dev nD) (t : Fin 16) (k : Fin 2816) (l : Fin 1024) : View.ld (iblk m c 9 t) r0_16 (ix2 k l) = Awd m c (ix2 k l) :=
  (congrFun (View.ld_unit_zero z2 _ _) _).trans (blk9 m c t k l)
theorem ld10 (c : Dev nD) (t : Fin 16) (k : Fin 1024) : View.ld (iblk m c 10 t) r0_14 (ix2 0 k) = Afn m c (ix1 k) :=
  (congrFun (View.ld_unit_zero z2 _ _) _).trans (blk10 m c t k)

theorem ldy (c : Dev nD) (t : Fin 16) (h : Fin 4) (a : ℕ) (inb) (ha : a = 512 * h.val) (i : Fin 512) (e : Fin 512) :
    View.ld (iblk m c 11 t : Vec Ideal S512x2048 .bf16) (Rect.unit (s := S512x2048) ![0, a] ![512, 512] inb) (ix2 i e) = Ay m c (ix2 (tok t i) (lane h e)) := by
  refine Eq.trans (congrArg (iblk m c 11 t : Vec Ideal S512x2048 .bf16) (funext fun b => Fin.ext ?_)) (blk11 m c t i (lane h e))
  match b with
  | ⟨0, _⟩ => show 0 + 1 * i.val = i.val; omega
  | ⟨1, _⟩ => show a + 1 * e.val = 512 * h.val + e.val; omega
theorem ldg (c : Dev nD) (t : Fin 16) (h : Fin 4) (a : ℕ) (inb) (ha : a = 512 * h.val) (i : Fin 512) (e : Fin 512) :
    View.ld (iblk m c 12 t : Vec Ideal S512x2048 .bf16) (Rect.unit (s := S512x2048) ![0, a] ![512, 512] inb) (ix2 i e) = Ag m c (ix2 (tok t i) (lane h e)) := by
  refine Eq.trans (congrArg (iblk m c 12 t : Vec Ideal S512x2048 .bf16) (funext fun b => Fin.ext ?_)) (blk12 m c t i (lane h e))
  match b with
  | ⟨0, _⟩ => show 0 + 1 * i.val = i.val; omega
  | ⟨1, _⟩ => show a + 1 * e.val = 512 * h.val + e.val; omega
theorem ldn (c : Dev nD) (t : Fin 16) (h : Fin 4) (a : ℕ) (inb) (ha : a = 512 * h.val) (e : Fin 512) :
    View.ld (iblk m c 13 t : Vec Ideal S1x2048 .f32) (Rect.unit (s := S1x2048) ![0, a] ![1, 512] inb) (ix2 0 e) = Again m c (ix1 (lane h e)) := by
  refine Eq.trans (congrArg (iblk m c 13 t : Vec Ideal S1x2048 .f32) (funext fun b => Fin.ext ?_)) (blk13 m c t (lane h e))
  match b with
  | ⟨0, _⟩ => rfl
  | ⟨1, _⟩ => show a + 1 * e.val = 512 * h.val + e.val; omega
theorem ldw (c : Dev nD) (t : Fin 16) (h : Fin 4) (a : ℕ) (inb) (ha : a = 512 * h.val) (e : Fin 512) (k : Fin 1024) :
    View.ld (iblk m c 6 t : Vec Ideal S2048x1024 .bf16) (Rect.unit (s := S2048x1024) ![a, 0] ![512, 1024] inb) (ix2 e k) = Awo m c (ix2 (lane h e) k) := by
  refine Eq.trans (congrArg (iblk m c 6 t : Vec Ideal S2048x1024 .bf16) (funext fun b => Fin.ext ?_)) (blk6 m c t (lane h e) k)
  match b with
  | ⟨0, _⟩ => show a + 1 * e.val = 512 * h.val + e.val; omega
  | ⟨1, _⟩ => show 0 + 1 * k.val = k.val; omega

theorem head_congr {y y' g g' n n' : Fin 512 → EReal} {w w' : Fin 512 → Fin 1024 → EReal} (hy : ∀ e, y e = y' e) (hg : ∀ e, g e = g' e) (hn : ∀ e, n e = n' e)
    (hw : ∀ e k, w e k = w' e k) (k : Fin 1024) : headE y g n w k = headE y' g' n' w' k := by
  rw [funext hy, funext hg, funext hn, funext fun e => funext (hw e)]

/-- One head's part of row `r`. -/
def Hd (y g : S8192x2048.Idx → EReal) (gain : S2048.Idx → EReal) (wo : S2048x1024.Idx → EReal) (r : Fin 8192) (h : Fin 4) (k : Fin 1024) : EReal :=
  headE (fun e => y (ix2 r (lane h e))) (fun e => g (ix2 r (lane h e))) (fun e => gain (ix1 (lane h e))) (fun e k => wo (ix2 (lane h e) k)) k

/-- Row `r` after the mixing branch. -/
def X1 (x : S8192x1024.Idx → EReal) (mo : S1x1x6144.Idx → EReal) (wo : S2048x1024.Idx → EReal) (y g : S8192x2048.Idx → EReal) (gain : S2048.Idx → EReal) (r : Fin 8192) (k : Fin 1024) : EReal :=
  x (ix2 r k) + mo (ix3 0 0 (⟨2048 + k.val, by omega⟩ : Fin 6144))
    * mixE (fun l => y (ix2 r l)) (fun l => g (ix2 r l)) (fun l => gain (ix1 l)) (fun l k => wo (ix2 l k)) k

/-- The normed output, with the activation `s`. -/
def Out (s : EReal → EReal) (x : S8192x1024.Idx → EReal) (mo : S1x1x6144.Idx → EReal) (n : S1024.Idx → EReal) (wo : S2048x1024.Idx → EReal) (wg wu : S1024x2816.Idx → EReal)
    (wd : S2816x1024.Idx → EReal) (fn : S1024.Idx → EReal) (y g : S8192x2048.Idx → EReal) (gain : S2048.Idx → EReal) (z : S8192x1024.Idx) : EReal :=
  rmsE w1024 (outE s (X1 x mo wo y g gain (z 0)) (fun k => n (ix1 k)) (fun k => mo (ix3 0 0 (⟨4096 + k.val, by omega⟩ : Fin 6144))) (fun k => mo (ix3 0 0 (⟨3072 + k.val, by omega⟩ : Fin 6144)))
    (fun k => mo (ix3 0 0 (⟨5120 + k.val, by omega⟩ : Fin 6144))) (fun j l => wg (ix2 j l)) (fun j l => wu (ix2 j l)) (fun l k => wd (ix2 l k))) (z 1) * fn (ix1 (z 1))

theorem heads (c : Dev nD) (t : Fin 16) (i : Fin 512) (k : Fin 1024) :
    k0_pay9 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i k)
      = Hd (Ay m c) (Ag m c) (Again m c) (Awo m c) (tok t i) 0 k + Hd (Ay m c) (Ag m c) (Again m c) (Awo m c) (tok t i) 1 k + Hd (Ay m c) (Ag m c) (Again m c) (Awo m c) (tok t i) 2 k := by
  unfold k0_pay9
  refine (PostCTile.heads_at _ _ _ _ _ _ _ _ i k).trans ?_
  refine congrArg₂ (HAdd.hAdd (α := EReal) (β := EReal)) (congrArg₂ (HAdd.hAdd (α := EReal) (β := EReal)) ?_ ?_) ?_
  · refine (PostCTile.head0_at _ _ _ _ i k).trans ?_
    exact head_congr (fun e => ldy m c t 0 0 _ rfl i e) (fun e => ldg m c t 0 0 _ rfl i e) (fun e => ldn m c t 0 0 _ rfl e) (fun e k => ldw m c t 0 0 _ rfl e k) k
  · unfold Hd headE
    refine Finset.sum_congr rfl fun e _ => congrArg₂ (HMul.hMul (α := EReal) (β := EReal)) (congrArg₂ (HMul.hMul (α := EReal) (β := EReal)) (ldg m c t 1 512 _ rfl i e) ?_) (ldw m c t 1 512 _ rfl e k)
    refine (PostCTile.norm1_at _ _ i e).trans ?_
    exact congrArg₂ (HMul.hMul (α := EReal) (β := EReal)) (congrArg (fun f => rmsE w512 f e) (funext fun e => ldy m c t 1 512 _ rfl i e)) (ldn m c t 1 512 _ rfl e)
  · exact head_congr (fun e => ldy m c t 2 1024 _ rfl i e) (fun e => ldg m c t 2 1024 _ rfl i e) (fun e => ldn m c t 2 1024 _ rfl e) (fun e k => ldw m c t 2 1024 _ rfl e k) k

theorem x1 (c : Dev nD) (t : Fin 16) (i : Fin 512) (k : Fin 1024) :
    k0_pay6 (F := Ideal) (k0_pay9 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay10 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay11 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 13 t) r0_10) (View.ld (iblk m c 12 t) r0_9) (View.ld (iblk m c 6 t) r0_11) (View.ld (iblk m c 0 t) r0_12) (View.ld (iblk m c 1 t) r0_13) (ix2 i k)
      = X1 (Ax m c) (Amo m c) (Awo m c) (Ay m c) (Ag m c) (Again m c) (tok t i) k := by
  unfold k0_pay10 k0_pay11
  refine (PostCTile.x1_at _ _ _ _ _ _ _ i k).trans ?_
  unfold X1 mixE
  rw [Fin.sum_univ_four]
  refine congrArg₂ (HAdd.hAdd (α := EReal) (β := EReal)) (ld0 m c t i k) (congrArg₂ (HMul.hMul (α := EReal) (β := EReal)) (ld1 m c t k)
    (congrArg₂ (HAdd.hAdd (α := EReal) (β := EReal)) (heads m c t i k) ?_))
  exact head_congr (fun e => ldy m c t 3 1536 _ rfl i e) (fun e => ldg m c t 3 1536 _ rfl i e) (fun e => ldn m c t 3 1536 _ rfl e) (fun e k => ldw m c t 3 1536 _ rfl e k) k

theorem scaled (c : Dev nD) (t : Fin 16) (i : Fin 512) (k : Fin 1024) :
    k0_pay7 (F := Ideal) (k0_pay9 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay10 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay11 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (View.ld (iblk m c 13 t) r0_10) (View.ld (iblk m c 12 t) r0_9) (View.ld (iblk m c 6 t) r0_11) (View.ld (iblk m c 0 t) r0_12) (View.ld (iblk m c 1 t) r0_13) (View.ld (iblk m c 2 t) r0_14) (View.ld (iblk m c 4 t) r0_13) (ix2 i k)
      = rmsE w1024 (X1 (Ax m c) (Amo m c) (Awo m c) (Ay m c) (Ag m c) (Again m c) (tok t i)) k * An m c (ix1 k) * (1 + Amo m c (ix3 0 0 (⟨4096 + k.val, by omega⟩ : Fin 6144))) := by
  refine (PostCTile.scaled_at _ _ _ _ _ _ _ _ _ _ i k).trans ?_
  exact congrArg₂ (HMul.hMul (α := EReal) (β := EReal)) (congrArg₂ (HMul.hMul (α := EReal) (β := EReal)) (congrArg (fun f => rmsE w1024 f k) (funext fun k => x1 m c t i k)) (ld2 m c t k))
    (congrArg (fun z => (1 : EReal) + z) (ld4 m c t k))

theorem block (c : Dev nD) (t : Fin 16) (i : Fin 512) (k : Fin 1024) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 i k)
      = Out siluT (Ax m c) (Amo m c) (An m c) (Awo m c) (Awg m c) (Awu m c) (Awd m c) (Afn m c) (Ay m c) (Ag m c) (Again m c) (ix2 (tok t i) k) := by
  unfold out0_14
  rw [View.canon_unit_zero z2]
  refine (PostCTile.out_at _ _ _ _ _ _ _ _ i k).trans ?_
  refine congrArg₂ (HMul.hMul (α := EReal) (β := EReal)) (congrArg (fun f => rmsE w1024 f k) (funext fun k => ?_)) (ld10 m c t k)
  refine congrArg₂ (HAdd.hAdd (α := EReal) (β := EReal)) (x1 m c t i k) (congrArg₂ (HMul.hMul (α := EReal) (β := EReal)) (ld5 m c t k) ?_)
  have e1 := funext fun j => congrArg₂ (HAdd.hAdd (α := EReal) (β := EReal)) (scaled m c t i j) (ld3 m c t j)
  have e2 := funext fun j => funext fun l => ld7 m c t j l
  have e3 := funext fun j => funext fun l => ld8 m c t j l
  have e4 := funext fun l => funext fun k => ld9 m c t l k
  exact congr (congr (congr (congr (congrArg (ffnE siluT) e1) e2) e3) e4) (Eq.refl k)

theorem final (c : Dev nD) : (dats m 0 c).arrAt 14 cfg0.N
    = (Out siluT (Ax m c) (Amo m c) (An m c) (Awo m c) (Awg m c) (Awu m c) (Awd m c) (Afn m c) (Ay m c) (Ag m c) (Again m c) : S8192x1024.Idx → EReal) := by
  refine (dats m 0 c).arrAt_eq_of_covers 14 _ (by decide +kernel) fun t hf y => ?_
  blk_simp
  rw [after0_14]
  obtain ⟨i, k, rfl⟩ : ∃ (i : Fin 512) (k : Fin 1024), y = ix2 i k := ⟨y 0, y 1, funext fun a => match a with | ⟨0, _⟩ => rfl | ⟨1, _⟩ => rfl⟩
  obtain ⟨w0, w1, w2, w3, w4, w5, w6, w7, w8, w9, w10, w11, w12, w13, w14⟩ := idx_val t
  refine (block m c t i k).trans ?_
  blk_ext [w14, tok]

end Cert.PostCArray

end
-- ==== Proof.PostCClaim.lean ====
/- The last layer's post-processing: its reference, element by element, and the claim. -/
module

public import proofs.«01_k».proof.Defs
public import proofs.«01_k».proof.Proof.Gen.PostCRefIdeal.Read
public import proofs.«01_k».proof.Proof.PostCArray
public import proofs.«01_k».proof.Proof.Finite
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.PostCRefVal

open Cert.PostCRefIdeal Cert.PostCRefIdeal.Gen Cert.PostCRefIdeal.Read Cert.Dense

variable (x0 : S8192x1024.Idx → EReal) (x1 : S1x1x6144.Idx → EReal) (x2 : S1024.Idx → EReal) (x3 : S2048x1024.Idx → EReal) (x4 x5 : S1024x2816.Idx → EReal)
  (x6 : S2816x1024.Idx → EReal) (x7 : S1024.Idx → EReal) (x8 x9 : S8192x2048.Idx → EReal) (x10 : S2048.Idx → EReal)

theorem y_at (r : Fin 8192) (h : Fin 4) (e : Fin 512) : val_main_v1 (F := Ideal) x8 (ix3 r h e) = x8 (ix2 r (lane h e)) := by
  rw [val_main_v1_apply]
  refine congrArg x8 (funext fun a => Fin.ext ?_)
  have h1 := r.isLt; have h2 := h.isLt; have h3 := e.isLt
  match a with
  | ⟨0, _⟩ => show ((r.val * 4 + h.val) * 512 + e.val) / 2048 = r.val; omega
  | ⟨1, _⟩ => show ((r.val * 4 + h.val) * 512 + e.val) % 2048 = 512 * h.val + e.val; omega

theorem gain_at (h : Fin 4) (e : Fin 512) : val_main_v2 (F := Ideal) x10 (ix2 h e) = x10 (ix1 (lane h e)) := by
  rw [val_main_v2_apply]
  refine congrArg x10 (funext fun a => Fin.ext ?_)
  match a with
  | ⟨0, _⟩ => show h.val * 512 + e.val = 512 * h.val + e.val; omega

theorem normed (r : Fin 8192) (h : Fin 4) (e : Fin 512) :
    val_main_v15 (F := Ideal) x8 x10 (ix3 r h e) = rmsE w512 (fun e => x8 (ix2 r (lane h e))) e * x10 (ix1 (lane h e)) := by
  simp only [← y_at, ← gain_at]
  unfold val_main_v15 val_main_v14 val_main_v13 val_main_v12 val_main_v11 val_main_v10 val_main_v9 val_main_v8 val_main_v7 val_main_v6 val_main_v5 val_main_v4 val_main_v3
  generalize val_main_v1 (F := Ideal) x8 = y
  generalize val_main_v2 (F := Ideal) x10 = n
  pointwise [val_main_v6, val_main_v8, val_main_cst, val_main_cst_1, val_main_cst_0]
  rfl

theorem gated (r : Fin 8192) (h : Fin 4) (e : Fin 512) :
    val_main_v18 (F := Ideal) x8 x9 x10 (ix2 r (lane h e)) = x9 (ix2 r (lane h e)) * (rmsE w512 (fun e => x8 (ix2 r (lane h e))) e * x10 (ix1 (lane h e))) := by
  rw [← normed, val_main_v18_apply, val_main_v17_apply]
  refine congrArg₂ (HMul.hMul (α := EReal) (β := EReal)) rfl (congrArg _ (funext fun a => Fin.ext ?_))
  have h1 := r.isLt; have h2 := h.isLt; have h3 := e.isLt
  match a with
  | ⟨0, _⟩ => show (r.val * 2048 + (512 * h.val + e.val)) / 2048 = r.val; omega
  | ⟨1, _⟩ => show (r.val * 2048 + (512 * h.val + e.val)) / 512 % 4 = h.val; omega
  | ⟨2, _⟩ => show (r.val * 2048 + (512 * h.val + e.val)) % 512 = e.val; omega

theorem mix (r : Fin 8192) (k : Fin 1024) :
    val_main_v20 (F := Ideal) x3 x8 x9 x10 (ix2 r k) = mixE (fun l => x8 (ix2 r l)) (fun l => x9 (ix2 r l)) (fun l => x10 (ix1 l)) (fun l k => x3 (ix2 l k)) k := by
  have hg := gated x8 x9 x10 r
  unfold val_main_v20
  generalize val_main_v18 (F := Ideal) x8 x9 x10 = u at *
  pointwise [val_main_v19]
  refine (sum_lanes _).trans ?_
  unfold mixE headE
  refine Finset.sum_congr rfl fun h _ => Finset.sum_congr rfl fun e _ => ?_
  exact congrArg (· * _) (hg h e)

theorem x1_at (r : Fin 8192) (k : Fin 1024) : val_main_v30 (F := Ideal) x0 x1 x3 x8 x9 x10 (ix2 r k) = PostCArray.X1 x0 x1 x3 x8 x9 x10 r k := by
  unfold PostCArray.X1
  rw [← mix]
  unfold val_main_v30 val_main_v29
  generalize val_main_v20 (F := Ideal) x3 x8 x9 x10 = u
  pointwise [val_main_v28, val_main_v24, val_main_v21]

theorem mod_at (r : Fin 8192) (k : Fin 1024) : val_main_v49 (F := Ideal) x0 x1 x2 x3 x8 x9 x10 (ix2 r k)
    = modE (PostCArray.X1 x0 x1 x3 x8 x9 x10 r) (fun k => x2 (ix1 k)) (fun k => x1 (ix3 0 0 (⟨4096 + k.val, by omega⟩ : Fin 6144))) (fun k => x1 (ix3 0 0 (⟨3072 + k.val, by omega⟩ : Fin 6144))) k := by
  rw [← funext (x1_at x0 x1 x3 x8 x9 x10 r)]
  unfold val_main_v49 val_main_v47 val_main_v43 val_main_v40 val_main_v39 val_main_v38 val_main_v37 val_main_v35 val_main_v33 val_main_v32 val_main_v31
  generalize val_main_v30 (F := Ideal) x0 x1 x3 x8 x9 x10 = u
  pointwise [val_main_v41, val_main_v42, val_main_v44, val_main_v45, val_main_v46, val_main_v48, val_main_v34, val_main_v36, val_main_v21, val_main_v25, val_main_v26, val_main_cst_2, val_main_cst_3, val_main_cst_4, val_main_cst_5]
  rfl

theorem gate_at (r : Fin 8192) (l : Fin 2816) : val_main_v55 (F := Ideal) x0 x1 x2 x3 x4 x5 x8 x9 x10 (ix2 r l)
    = siluE (∑ j : Fin 1024, (val_main_v49 (F := Ideal) x0 x1 x2 x3 x8 x9 x10 (ix2 r j) : EReal) * x4 (ix2 j l)) * (∑ j : Fin 1024, (val_main_v49 (F := Ideal) x0 x1 x2 x3 x8 x9 x10 (ix2 r j) : EReal) * x5 (ix2 j l)) := by
  unfold val_main_v55 val_main_v54 val_main_v52 val_main_call0_v5 val_main_call0_v3 val_main_call0_v1 val_main_call0_v0 val_main_v51
  generalize val_main_v49 (F := Ideal) x0 x1 x2 x3 x8 x9 x10 = u
  pointwise [val_main_v50, val_main_v53, val_main_call0_v2, val_main_call0_v4, val_main_call0_cst, val_main_call0_cst_0]
  rfl

theorem out_at (r : Fin 8192) (k : Fin 1024) : val_main_v60 (F := Ideal) x0 x1 x2 x3 x4 x5 x6 x8 x9 x10 (ix2 r k)
    = outE siluE (PostCArray.X1 x0 x1 x3 x8 x9 x10 r) (fun k => x2 (ix1 k)) (fun k => x1 (ix3 0 0 (⟨4096 + k.val, by omega⟩ : Fin 6144))) (fun k => x1 (ix3 0 0 (⟨3072 + k.val, by omega⟩ : Fin 6144)))
      (fun k => x1 (ix3 0 0 (⟨5120 + k.val, by omega⟩ : Fin 6144))) (fun j l => x4 (ix2 j l)) (fun j l => x5 (ix2 j l)) (fun l k => x6 (ix2 l k)) k := by
  unfold outE ffnE
  simp only [← mod_at]
  rw [← x1_at]
  have hg := gate_at x0 x1 x2 x3 x4 x5 x8 x9 x10 r
  unfold val_main_v60 val_main_v59 val_main_v57
  generalize val_main_v55 (F := Ideal) x0 x1 x2 x3 x4 x5 x8 x9 x10 = u at *
  generalize val_main_v30 (F := Ideal) x0 x1 x3 x8 x9 x10 = v
  pointwise [val_main_v56, val_main_v58, val_main_v27, val_main_v21]
  exact congrArg₂ (HAdd.hAdd (α := EReal) (β := EReal)) rfl (congrArg₂ (HMul.hMul (α := EReal) (β := EReal)) rfl (Finset.sum_congr rfl fun l _ => congrArg (· * _) (hg l)))

theorem result (r : Fin 8192) (k : Fin 1024) : val_main_v73 (F := Ideal) x0 x1 x2 x3 x4 x5 x6 x7 x8 x9 x10 (ix2 r k)
    = PostCArray.Out siluE x0 x1 x2 x3 x4 x5 x6 x7 x8 x9 x10 (ix2 r k) := by
  refine Eq.trans ?_ (congrArg (fun f => rmsE w1024 f k * x7 (ix1 k)) (funext (out_at x0 x1 x2 x3 x4 x5 x6 x8 x9 x10 r)))
  unfold val_main_v73 val_main_v70 val_main_v69 val_main_v68 val_main_v67 val_main_v65 val_main_v63 val_main_v62 val_main_v61
  generalize val_main_v60 (F := Ideal) x0 x1 x2 x3 x4 x5 x6 x8 x9 x10 = u
  pointwise [val_main_v64, val_main_v66, val_main_v71, val_main_v72, val_main_cst_6, val_main_cst_7, val_main_cst_8]
  rfl

theorem ext2 {n k : ℕ} (f g : (⟨2, ![n, k]⟩ : Shape).Idx → EReal) (h : ∀ (r : Fin n) (l : Fin k), f (ix2 r l) = g (ix2 r l)) : f = g := by
  funext y
  obtain ⟨r, l, rfl⟩ : ∃ (r : Fin n) (l : Fin k), y = ix2 r l := ⟨y 0, y 1, funext fun a => match a with | ⟨0, _⟩ => rfl | ⟨1, _⟩ => rfl⟩
  exact h r l

/-- Both activations give one output, where the modulation, the norm's weights and the gate projection are real. -/
theorem out_silu (h1 : ∀ i, IsR (x1 i)) (h2 : ∀ i, IsR (x2 i)) (h4 : ∀ i, IsR (x4 i)) (z : S8192x1024.Idx) :
    PostCArray.Out siluT x0 x1 x2 x3 x4 x5 x6 x7 x8 x9 x10 z = PostCArray.Out siluE x0 x1 x2 x3 x4 x5 x6 x7 x8 x9 x10 z := by
  unfold PostCArray.Out
  rw [outE_eq (PostCArray.X1 x0 x1 x3 x8 x9 x10 (z 0)) _ _ _ _ _ _ _ (fun _ => h2 _) (fun _ => h1 _) (fun _ => h1 _) (fun _ _ => h4 _)]

theorem eq (h1 : ∀ i, IsR (x1 i)) (h2 : ∀ i, IsR (x2 i)) (h4 : ∀ i, IsR (x4 i)) :
    (PostCArray.Out siluT x0 x1 x2 x3 x4 x5 x6 x7 x8 x9 x10 : S8192x1024.Idx → EReal) = val_main_v73 (F := Ideal) x0 x1 x2 x3 x4 x5 x6 x7 x8 x9 x10 :=
  ext2 _ _ fun r k => (out_silu x0 x1 x2 x3 x4 x5 x6 x7 x8 x9 x10 h1 h2 h4 _).trans (result x0 x1 x2 x3 x4 x5 x6 x7 x8 x9 x10 r k).symm

end Cert.PostCRefVal

namespace Cert.PostCClaim

open Cert.PostCArray Cert.Dense

theorem claim : Cert.algebraic_PostCIdeal_PostCRefIdeal_pre_finite3 := by
  intro m g m' g' hpre hagree
  refine ⟨fun c => Cert.PostCRefIdeal.Read.val_main_v73 (F := Ideal) (Ax m c) (Amo m c) (An m c) (Awo m c) (Awg m c) (Awu m c) (Awd m c) (Afn m c) (Ay m c) (Ag m c) (Again m c), ?_, ?_⟩
  · refine (θ_run _ _ _).mono (fun r h c => ?_) (Cert.PostCIdeal.Value.run_blocks m g)
    obtain ⟨h1, hr⟩ := h c
    obtain ⟨r1, r2, r4⟩ := Cert.Finite.post_c_real _ _ _ _ _ _ _ _ _ _ _ (hpre c)
    exact ⟨h1.trans ((final m c).trans (PostCRefVal.eq _ _ _ _ _ _ _ _ _ _ _ r1 r2 r4)), hr⟩
  · refine (θ_run _ _ _).mono (fun r h c => ?_) (Cert.PostCRefIdeal.Value.run m' g')
    obtain ⟨h1, hr⟩ := h c
    refine ⟨h1.trans ((Cert.PostCRefIdeal.Read.val_main_v73_eq _ _).trans ?_), hr⟩
    obtain ⟨a0, a1, a2, a3, a4, a5, a6, a7, a8, a9, a10⟩ := hagree c
    exact congr (congr (congr (congr (congr (congr (congr (congr (congr (congr (congrArg _ a0) a1) a2) a3) a4) a5) a6) a7) a8) a9) a10

end Cert.PostCClaim

end
-- ==== Proof.PostAbTile.lean ====
module

public import proofs.«01_k».proof.Proof.Gen.PostAbIdeal.Value
public import proofs.«01_k».proof.Proof.Dense
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.PostAbTile

open Cert.PostAbIdeal Cert.PostAbIdeal.Gen Cert.Dense

theorem join_at (yf yb z : Vec Ideal S512x512 .bf16) (gain : Vec Ideal S1x512 .f32) (att : Vec Ideal S512x512 .bf16) (w : Vec Ideal S1024x1024 .bf16)
    (g1 : Vec Ideal S1x1x1024 .f32) (i : Fin 512) (k : Fin 1024) :
    k0_pay2 (F := Ideal) yf yb z gain att w g1 (ix2 i k)
      = g1 (ix3 0 0 k) * joinE siluT (fun e => att (ix2 i e)) (fun e => yf (ix2 i e)) (fun e => yb (ix2 i e)) (fun e => z (ix2 i e)) (fun e => gain (ix2 0 e)) (fun l k => w (ix2 l k)) k := by
  pointwise [k0_pay2]
  rfl

theorem x1_at (x : Vec Ideal S512x1024 .f32) (v : FVec Ideal S512x1024 .f32) (i : Fin 512) (k : Fin 1024) :
    k0_pay3 (F := Ideal) x v (ix2 i k) = x (ix2 i k) + v (ix2 i k) := by
  pointwise [k0_pay3]

theorem gated_at (x : Vec Ideal S512x1024 .f32) (v : FVec Ideal S512x1024 .f32) (nw : Vec Ideal S1x1024 .f32) (sc sh : Vec Ideal S1x1x1024 .f32) (wg wu : Vec Ideal S1024x2816 .bf16)
    (i : Fin 512) (l : Fin 2816) :
    k0_pay4 (F := Ideal) x v nw sc sh wg wu (ix2 i l)
      = siluT (∑ j : Fin 1024, modE (fun k => k0_pay3 (F := Ideal) x v (ix2 i k)) (fun k => nw (ix2 0 k)) (fun k => sc (ix3 0 0 k)) (fun k => sh (ix3 0 0 k)) j * wg (ix2 j l))
        * (∑ j : Fin 1024, modE (fun k => k0_pay3 (F := Ideal) x v (ix2 i k)) (fun k => nw (ix2 0 k)) (fun k => sc (ix3 0 0 k)) (fun k => sh (ix3 0 0 k)) j * wu (ix2 j l)) := by
  unfold k0_pay4
  generalize k0_pay3 (F := Ideal) x v = u
  pointwise
  rfl

theorem out_at (x1 : FVec Ideal S512x1024 .f32) (u : FVec Ideal S512x2816 .bf16) (g2 : Vec Ideal S1x1x1024 .f32) (wd : Vec Ideal S2816x1024 .bf16) (i : Fin 512) (k : Fin 1024) :
    k0_pay1 (F := Ideal) x1 u g2 wd (ix2 i k) = x1 (ix2 i k) + g2 (ix3 0 0 k) * ∑ l : Fin 2816, (u (ix2 i l) : EReal) * wd (ix2 l k) := by
  pointwise [k0_pay1]

end Cert.PostAbTile

end
-- ==== Proof.PostAbArray.lean ====
/- The first layer's post-processing: its array, from the arguments as launched. -/
module

public import proofs.«01_k».proof.Proof.PostAbTile
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.PostAbArray

open Cert.PostAbIdeal Cert.PostAbIdeal.Gen Cert.Dense

variable (m : (ℓ : Loc nD τ sig) → Buf (Elt Ideal) ℓ)

theorem idx_val : ∀ t : Fin cfg0.N, win0_0.index t = ![t.val, 0]
    ∧ win0_1.index t = ![0, 0, 2]
    ∧ win0_2.index t = ![0, 0]
    ∧ win0_3.index t = ![0, 0, 3]
    ∧ win0_4.index t = ![0, 0, 4]
    ∧ win0_5.index t = ![0, 0, 5]
    ∧ win0_6.index t = ![0, 0]
    ∧ win0_7.index t = ![0, 0]
    ∧ win0_8.index t = ![0, 0]
    ∧ win0_9.index t = ![0, 0]
    ∧ win0_10.index t = ![t.val, 0]
    ∧ win0_11.index t = ![t.val, 0]
    ∧ win0_12.index t = ![t.val, 0]
    ∧ win0_13.index t = ![t.val, 0]
    ∧ win0_14.index t = ![0, 0]
    ∧ win0_15.index t = ![t.val, 0] :=
  (by decide +kernel : ∀ t : Fin grid0.N, _)

/-- The place of row `i` of tile `t`. -/
def tok (t : Fin 16) (i : Fin 512) : Fin 8192 := ⟨512 * t.val + i.val, by omega⟩

theorem z2 : (![0, 0] : Fin 2 → ℕ) = fun _ => 0 := funext fun a => match a with | ⟨0, _⟩ => rfl | ⟨1, _⟩ => rfl
theorem z3 : (![0, 0, 0] : Fin 3 → ℕ) = fun _ => 0 := funext fun a => match a with | ⟨0, _⟩ => rfl | ⟨1, _⟩ => rfl | ⟨2, _⟩ => rfl

/-- The rows as launched. -/
def Ax (c : Dev nD) : S8192x1024.Idx → EReal := m ((c : Thread nD τ).loc main_arg0)
/-- The modulation as launched. -/
def Amo (c : Dev nD) : S1x1x6144.Idx → EReal := m ((c : Thread nD τ).loc main_arg1)
/-- The norm's weights as launched. -/
def An (c : Dev nD) : S1024.Idx → EReal := m ((c : Thread nD τ).loc main_arg2)
/-- The output projection as launched. -/
def Awo (c : Dev nD) : S1024x1024.Idx → EReal := m ((c : Thread nD τ).loc main_arg3)
/-- The gate projection as launched. -/
def Awg (c : Dev nD) : S1024x2816.Idx → EReal := m ((c : Thread nD τ).loc main_arg4)
/-- The up projection as launched. -/
def Awu (c : Dev nD) : S1024x2816.Idx → EReal := m ((c : Thread nD τ).loc main_arg5)
/-- The down projection as launched. -/
def Awd (c : Dev nD) : S2816x1024.Idx → EReal := m ((c : Thread nD τ).loc main_arg6)
/-- The attention's values as launched. -/
def Aatt (c : Dev nD) : S8192x512.Idx → EReal := m ((c : Thread nD τ).loc main_arg7)
/-- The forward scan's values as launched. -/
def Ayf (c : Dev nD) : S8192x512.Idx → EReal := m ((c : Thread nD τ).loc main_arg8)
/-- The backward scan's values as launched. -/
def Ayb (c : Dev nD) : S8192x512.Idx → EReal := m ((c : Thread nD τ).loc main_arg9)
/-- The gate's argument as launched. -/
def Az (c : Dev nD) : S8192x512.Idx → EReal := m ((c : Thread nD τ).loc main_arg10)
/-- The state space's weights as launched. -/
def Again (c : Dev nD) : S512.Idx → EReal := m ((c : Thread nD τ).loc main_arg11)

theorem host_n (c : Dev nD) (k : Fin 1024) : (V m c main_v0 : Vec Ideal S1x1024 .f32) (ix2 0 k) = An m c (ix1 k) := by
  entry_read
  pointwise
  rfl

theorem host_gain (c : Dev nD) (k : Fin 512) : (V m c main_v1 : Vec Ideal S1x512 .f32) (ix2 0 k) = Again m c (ix1 k) := by
  entry_read
  pointwise
  rfl

theorem blk0 (c : Dev nD) (t : Fin 16) (i : Fin 512) (k : Fin 1024) : (iblk m c 0 t : Vec Ideal S512x1024 .f32) (ix2 i k) = Ax m c (ix2 (tok t i) k) := by
  obtain ⟨w0, w1, w2, w3, w4, w5, w6, w7, w8, w9, w10, w11, w12, w13, w14, w15⟩ := idx_val t
  blk_ext [iblk, V, w0, tok, Ax]
theorem blk1 (c : Dev nD) (t : Fin 16) (k : Fin 1024) : (iblk m c 1 t : Vec Ideal S1x1x1024 .f32) (ix3 0 0 k) = Amo m c (ix3 0 0 (⟨2048 + k.val, by omega⟩ : Fin 6144)) := by
  obtain ⟨w0, w1, w2, w3, w4, w5, w6, w7, w8, w9, w10, w11, w12, w13, w14, w15⟩ := idx_val t
  blk_ext [iblk, V, w1, Amo]
theorem blk2 (c : Dev nD) (t : Fin 16) (k : Fin 1024) : (iblk m c 2 t : Vec Ideal S1x1024 .f32) (ix2 0 k) = An m c (ix1 k) := by
  obtain ⟨w0, w1, w2, w3, w4, w5, w6, w7, w8, w9, w10, w11, w12, w13, w14, w15⟩ := idx_val t
  refine Eq.trans ?_ (host_n m c k)
  blk_simp [iblk]
  generalize V m c main_v0 = W
  blk_ext [w2]
theorem blk3 (c : Dev nD) (t : Fin 16) (k : Fin 1024) : (iblk m c 3 t : Vec Ideal S1x1x1024 .f32) (ix3 0 0 k) = Amo m c (ix3 0 0 (⟨3072 + k.val, by omega⟩ : Fin 6144)) := by
  obtain ⟨w0, w1, w2, w3, w4, w5, w6, w7, w8, w9, w10, w11, w12, w13, w14, w15⟩ := idx_val t
  blk_ext [iblk, V, w3, Amo]
theorem blk4 (c : Dev nD) (t : Fin 16) (k : Fin 1024) : (iblk m c 4 t : Vec Ideal S1x1x1024 .f32) (ix3 0 0 k) = Amo m c (ix3 0 0 (⟨4096 + k.val, by omega⟩ : Fin 6144)) := by
  obtain ⟨w0, w1, w2, w3, w4, w5, w6, w7, w8, w9, w10, w11, w12, w13, w14, w15⟩ := idx_val t
  blk_ext [iblk, V, w4, Amo]
theorem blk5 (c : Dev nD) (t : Fin 16) (k : Fin 1024) : (iblk m c 5 t : Vec Ideal S1x1x1024 .f32) (ix3 0 0 k) = Amo m c (ix3 0 0 (⟨5120 + k.val, by omega⟩ : Fin 6144)) := by
  obtain ⟨w0, w1, w2, w3, w4, w5, w6, w7, w8, w9, w10, w11, w12, w13, w14, w15⟩ := idx_val t
  blk_ext [iblk, V, w5, Amo]
theorem blk6 (c : Dev nD) (t : Fin 16) (k : Fin 1024) (l : Fin 1024) : (iblk m c 6 t : Vec Ideal S1024x1024 .bf16) (ix2 k l) = Awo m c (ix2 k l) := by
  obtain ⟨w0, w1, w2, w3, w4, w5, w6, w7, w8, w9, w10, w11, w12, w13, w14, w15⟩ := idx_val t
  blk_ext [iblk, V, w6, Awo]
theorem blk7 (c : Dev nD) (t : Fin 16) (k : Fin 1024) (l : Fin 2816) : (iblk m c 7 t : Vec Ideal S1024x2816 .bf16) (ix2 k l) = Awg m c (ix2 k l) := by
  obtain ⟨w0, w1, w2, w3, w4, w5, w6, w7, w8, w9, w10, w11, w12, w13, w14, w15⟩ := idx_val t
  blk_ext [iblk, V, w7, Awg]
theorem blk8 (c : Dev nD) (t : Fin 16) (k : Fin 1024) (l : Fin 2816) : (iblk m c 8 t : Vec Ideal S1024x2816 .bf16) (ix2 k l) = Awu m c (ix2 k l) := by
  obtain ⟨w0, w1, w2, w3, w4, w5, w6, w7, w8, w9, w10, w11, w12, w13, w14, w15⟩ := idx_val t
  blk_ext [iblk, V, w8, Awu]
theorem blk9 (c : Dev nD) (t : Fin 16) (k : Fin 2816) (l : Fin 1024) : (iblk m c 9 t : Vec Ideal S2816x1024 .bf16) (ix2 k l) = Awd m c (ix2 k l) := by
  obtain ⟨w0, w1, w2, w3, w4, w5, w6, w7, w8, w9, w10, w11, w12, w13, w14, w15⟩ := idx_val t
  blk_ext [iblk, V, w9, Awd]
theorem blk10 (c : Dev nD) (t : Fin 16) (i : Fin 512) (k : Fin 512) : (iblk m c 10 t : Vec Ideal S512x512 .bf16) (ix2 i k) = Aatt m c (ix2 (tok t i) k) := by
  obtain ⟨w0, w1, w2, w3, w4, w5, w6, w7, w8, w9, w10, w11, w12, w13, w14, w15⟩ := idx_val t
  blk_ext [iblk, V, w10, tok, Aatt]
theorem blk11 (c : Dev nD) (t : Fin 16) (i : Fin 512) (k : Fin 512) : (iblk m c 11 t : Vec Ideal S512x512 .bf16) (ix2 i k) = Ayf m c (ix2 (tok t i) k) := by
  obtain ⟨w0, w1, w2, w3, w4, w5, w6, w7, w8, w9, w10, w11, w12, w13, w14, w15⟩ := idx_val t
  blk_ext [iblk, V, w11, tok, Ayf]
theorem blk12 (c : Dev nD) (t : Fin 16) (i : Fin 512) (k : Fin 512) : (iblk m c 12 t : Vec Ideal S512x512 .bf16) (ix2 i k) = Ayb m c (ix2 (tok t i) k) := by
  obtain ⟨w0, w1, w2, w3, w4, w5, w6, w7, w8, w9, w10, w11, w12, w13, w14, w15⟩ := idx_val t
  blk_ext [iblk, V, w12, tok, Ayb]
theorem blk13 (c : Dev nD) (t : Fin 16) (i : Fin 512) (k : Fin 512) : (iblk m c 13 t : Vec Ideal S512x512 .bf16) (ix2 i k) = Az m c (ix2 (tok t i) k) := by
  obtain ⟨w0, w1, w2, w3, w4, w5, w6, w7, w8, w9, w10, w11, w12, w13, w14, w15⟩ := idx_val t
  blk_ext [iblk, V, w13, tok, Az]
theorem blk14 (c : Dev nD) (t : Fin 16) (k : Fin 512) : (iblk m c 14 t : Vec Ideal S1x512 .f32) (ix2 0 k) = Again m c (ix1 k) := by
  obtain ⟨w0, w1, w2, w3, w4, w5, w6, w7, w8, w9, w10, w11, w12, w13, w14, w15⟩ := idx_val t
  refine Eq.trans ?_ (host_gain m c k)
  blk_simp [iblk]
  generalize V m c main_v1 = W
  blk_ext [w14]
theorem ld0 (c : Dev nD) (t : Fin 16) (i : Fin 512) (k : Fin 1024) : View.ld (iblk m c 0 t) r0_3 (ix2 i k) = Ax m c (ix2 (tok t i) k) :=
  (congrFun (View.ld_unit_zero z2 _ _) _).trans (blk0 m c t i k)
theorem ld1 (c : Dev nD) (t : Fin 16) (k : Fin 1024) : View.ld (iblk m c 1 t) r0_4 (ix3 0 0 k) = Amo m c (ix3 0 0 (⟨2048 + k.val, by omega⟩ : Fin 6144)) :=
  (congrFun (View.ld_unit_zero z3 _ _) _).trans (blk1 m c t k)
theorem ld2 (c : Dev nD) (t : Fin 16) (k : Fin 1024) : View.ld (iblk m c 2 t) r0_5 (ix2 0 k) = An m c (ix1 k) :=
  (congrFun (View.ld_unit_zero z2 _ _) _).trans (blk2 m c t k)
theorem ld3 (c : Dev nD) (t : Fin 16) (k : Fin 1024) : View.ld (iblk m c 3 t) r0_4 (ix3 0 0 k) = Amo m c (ix3 0 0 (⟨3072 + k.val, by omega⟩ : Fin 6144)) :=
  (congrFun (View.ld_unit_zero z3 _ _) _).trans (blk3 m c t k)
theorem ld4 (c : Dev nD) (t : Fin 16) (k : Fin 1024) : View.ld (iblk m c 4 t) r0_4 (ix3 0 0 k) = Amo m c (ix3 0 0 (⟨4096 + k.val, by omega⟩ : Fin 6144)) :=
  (congrFun (View.ld_unit_zero z3 _ _) _).trans (blk4 m c t k)
theorem ld5 (c : Dev nD) (t : Fin 16) (k : Fin 1024) : View.ld (iblk m c 5 t) r0_4 (ix3 0 0 k) = Amo m c (ix3 0 0 (⟨5120 + k.val, by omega⟩ : Fin 6144)) :=
  (congrFun (View.ld_unit_zero z3 _ _) _).trans (blk5 m c t k)
theorem ld6 (c : Dev nD) (t : Fin 16) (k : Fin 1024) (l : Fin 1024) : View.ld (iblk m c 6 t) r0_2 (ix2 k l) = Awo m c (ix2 k l) :=
  (congrFun (View.ld_unit_zero z2 _ _) _).trans (blk6 m c t k l)
theorem ld7 (c : Dev nD) (t : Fin 16) (k : Fin 1024) (l : Fin 2816) : View.ld (iblk m c 7 t) r0_6 (ix2 k l) = Awg m c (ix2 k l) :=
  (congrFun (View.ld_unit_zero z2 _ _) _).trans (blk7 m c t k l)
theorem ld8 (c : Dev nD) (t : Fin 16) (k : Fin 1024) (l : Fin 2816) : View.ld (iblk m c 8 t) r0_6 (ix2 k l) = Awu m c (ix2 k l) :=
  (congrFun (View.ld_unit_zero z2 _ _) _).trans (blk8 m c t k l)
theorem ld9 (c : Dev nD) (t : Fin 16) (k : Fin 2816) (l : Fin 1024) : View.ld (iblk m c 9 t) r0_7 (ix2 k l) = Awd m c (ix2 k l) :=
  (congrFun (View.ld_unit_zero z2 _ _) _).trans (blk9 m c t k l)
theorem ld10 (c : Dev nD) (t : Fin 16) (i : Fin 512) (k : Fin 512) : View.ld (iblk m c 10 t) r0_0 (ix2 i k) = Aatt m c (ix2 (tok t i) k) :=
  (congrFun (View.ld_unit_zero z2 _ _) _).trans (blk10 m c t i k)
theorem ld11 (c : Dev nD) (t : Fin 16) (i : Fin 512) (k : Fin 512) : View.ld (iblk m c 11 t) r0_0 (ix2 i k) = Ayf m c (ix2 (tok t i) k) :=
  (congrFun (View.ld_unit_zero z2 _ _) _).trans (blk11 m c t i k)
theorem ld12 (c : Dev nD) (t : Fin 16) (i : Fin 512) (k : Fin 512) : View.ld (iblk m c 12 t) r0_0 (ix2 i k) = Ayb m c (ix2 (tok t i) k) :=
  (congrFun (View.ld_unit_zero z2 _ _) _).trans (blk12 m c t i k)
theorem ld13 (c : Dev nD) (t : Fin 16) (i : Fin 512) (k : Fin 512) : View.ld (iblk m c 13 t) r0_0 (ix2 i k) = Az m c (ix2 (tok t i) k) :=
  (congrFun (View.ld_unit_zero z2 _ _) _).trans (blk13 m c t i k)
theorem ld14 (c : Dev nD) (t : Fin 16) (k : Fin 512) : View.ld (iblk m c 14 t) r0_1 (ix2 0 k) = Again m c (ix1 k) :=
  (congrFun (View.ld_unit_zero z2 _ _) _).trans (blk14 m c t k)

/-- Row `r` after the mixing branch, with the activation `s`. -/
def X1 (s : EReal → EReal) (x : S8192x1024.Idx → EReal) (mo : S1x1x6144.Idx → EReal) (wo : S1024x1024.Idx → EReal) (att yf yb z : S8192x512.Idx → EReal) (gain : S512.Idx → EReal) (r : Fin 8192) (k : Fin 1024) : EReal :=
  x (ix2 r k) + mo (ix3 0 0 (⟨2048 + k.val, by omega⟩ : Fin 6144))
    * joinE s (fun l => att (ix2 r l)) (fun l => yf (ix2 r l)) (fun l => yb (ix2 r l)) (fun l => z (ix2 r l)) (fun l => gain (ix1 l)) (fun l k => wo (ix2 l k)) k

/-- The output, with the activation `s`. -/
def Out (s : EReal → EReal) (x : S8192x1024.Idx → EReal) (mo : S1x1x6144.Idx → EReal) (n : S1024.Idx → EReal) (wo : S1024x1024.Idx → EReal) (wg wu : S1024x2816.Idx → EReal)
    (wd : S2816x1024.Idx → EReal) (att yf yb z : S8192x512.Idx → EReal) (gain : S512.Idx → EReal) (p : S8192x1024.Idx) : EReal :=
  outE s (X1 s x mo wo att yf yb z gain (p 0)) (fun k => n (ix1 k)) (fun k => mo (ix3 0 0 (⟨4096 + k.val, by omega⟩ : Fin 6144))) (fun k => mo (ix3 0 0 (⟨3072 + k.val, by omega⟩ : Fin 6144)))
    (fun k => mo (ix3 0 0 (⟨5120 + k.val, by omega⟩ : Fin 6144))) (fun j l => wg (ix2 j l)) (fun j l => wu (ix2 j l)) (fun l k => wd (ix2 l k)) (p 1)

theorem x1 (c : Dev nD) (t : Fin 16) (i : Fin 512) (k : Fin 1024) :
    k0_pay3 (F := Ideal) (View.ld (iblk m c 0 t) r0_3) (k0_pay5 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (ix2 i k)
      = X1 siluT (Ax m c) (Amo m c) (Awo m c) (Aatt m c) (Ayf m c) (Ayb m c) (Az m c) (Again m c) (tok t i) k := by
  refine (PostAbTile.x1_at _ _ i k).trans ?_
  refine congrArg₂ (HAdd.hAdd (α := EReal) (β := EReal)) (ld0 m c t i k) ?_
  unfold k0_pay5
  refine (PostAbTile.join_at _ _ _ _ _ _ _ i k).trans ?_
  refine congrArg₂ (HMul.hMul (α := EReal) (β := EReal)) (ld1 m c t k) ?_
  exact congr (congr (congr (congr (congr (congr (congrArg (joinE siluT) (funext fun e => ld10 m c t i e)) (funext fun e => ld11 m c t i e)) (funext fun e => ld12 m c t i e))
    (funext fun e => ld13 m c t i e)) (funext fun e => ld14 m c t e)) (funext fun l => funext fun k => ld6 m c t l k)) (Eq.refl k)

theorem block (c : Dev nD) (t : Fin 16) (i : Fin 512) (k : Fin 1024) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 i k)
      = Out siluT (Ax m c) (Amo m c) (An m c) (Awo m c) (Awg m c) (Awu m c) (Awd m c) (Aatt m c) (Ayf m c) (Ayb m c) (Az m c) (Again m c) (ix2 (tok t i) k) := by
  unfold out0_15
  rw [View.canon_unit_zero z2]
  refine (PostAbTile.out_at _ _ _ _ i k).trans ?_
  refine congrArg₂ (HAdd.hAdd (α := EReal) (β := EReal)) (x1 m c t i k) (congrArg₂ (HMul.hMul (α := EReal) (β := EReal)) (ld5 m c t k) ?_)
  refine Finset.sum_congr rfl fun l _ => congrArg₂ (HMul.hMul (α := EReal) (β := EReal)) ?_ (ld9 m c t l k)
  refine (PostAbTile.gated_at _ _ _ _ _ _ _ i l).trans ?_
  have e1 := congr (congr (congr (congrArg modE (funext fun k => x1 m c t i k)) (funext fun k => ld2 m c t k)) (funext fun k => ld4 m c t k)) (funext fun k => ld3 m c t k)
  refine congrArg₂ (HMul.hMul (α := EReal) (β := EReal)) (congrArg siluT (Finset.sum_congr rfl fun j _ => congrArg₂ (HMul.hMul (α := EReal) (β := EReal)) (congrFun e1 j) (ld7 m c t j l)))
    (Finset.sum_congr rfl fun j _ => congrArg₂ (HMul.hMul (α := EReal) (β := EReal)) (congrFun e1 j) (ld8 m c t j l))

theorem final (c : Dev nD) : (dats m 0 c).arrAt 15 cfg0.N
    = (Out siluT (Ax m c) (Amo m c) (An m c) (Awo m c) (Awg m c) (Awu m c) (Awd m c) (Aatt m c) (Ayf m c) (Ayb m c) (Az m c) (Again m c) : S8192x1024.Idx → EReal) := by
  refine (dats m 0 c).arrAt_eq_of_covers 15 _ (by decide +kernel) fun t hf y => ?_
  blk_simp
  rw [after0_15]
  obtain ⟨i, k, rfl⟩ : ∃ (i : Fin 512) (k : Fin 1024), y = ix2 i k := ⟨y 0, y 1, funext fun a => match a with | ⟨0, _⟩ => rfl | ⟨1, _⟩ => rfl⟩
  obtain ⟨w0, w1, w2, w3, w4, w5, w6, w7, w8, w9, w10, w11, w12, w13, w14, w15⟩ := idx_val t
  refine (block m c t i k).trans ?_
  blk_ext [w15, tok]

end Cert.PostAbArray

end
-- ==== Proof.PostAbClaim.lean ====
/- The first layer's post-processing: its reference, element by element, and the claim. -/
module

public import proofs.«01_k».proof.Defs
public import proofs.«01_k».proof.Proof.Gen.PostAbRefIdeal.Read
public import proofs.«01_k».proof.Proof.PostAbArray
public import proofs.«01_k».proof.Proof.Finite
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.PostAbRefVal

open Cert.PostAbRefIdeal Cert.PostAbRefIdeal.Gen Cert.PostAbRefIdeal.Read Cert.Dense

variable (x0 : S8192x1024.Idx → EReal) (x1 : S1x1x6144.Idx → EReal) (x2 : S1024.Idx → EReal) (x3 : S1024x1024.Idx → EReal) (x4 x5 : S1024x2816.Idx → EReal)
  (x6 : S2816x1024.Idx → EReal) (x7 x8 x9 x10 : S8192x512.Idx → EReal) (x11 : S512.Idx → EReal)

theorem prod_at (r : Fin 8192) (e : Fin 512) : val_main_v5 (F := Ideal) x8 x9 x10 (ix2 r e) = (x8 (ix2 r e) + x9 (ix2 r e)) * siluE (x10 (ix2 r e)) := by
  pointwise [val_main_v0, val_main_v1, val_main_v2, val_main_v3, val_main_v4, val_main_v5, val_main_call0_v0, val_main_call0_v1, val_main_call0_v2, val_main_call0_v3, val_main_call0_v4, val_main_call0_v5, val_main_call0_cst, val_main_call0_cst_0]
  rfl

theorem normed (r : Fin 8192) (e : Fin 512) : val_main_v18 (F := Ideal) x8 x9 x10 x11 (ix2 r e)
    = rmsE w512 (fun e => (x8 (ix2 r e) + x9 (ix2 r e)) * siluE (x10 (ix2 r e))) e * x11 (ix1 e) := by
  rw [← funext (prod_at x8 x9 x10 r)]
  unfold val_main_v18 val_main_v15 val_main_v14 val_main_v13 val_main_v12 val_main_v10 val_main_v8 val_main_v7 val_main_v6
  generalize val_main_v5 (F := Ideal) x8 x9 x10 = u
  pointwise [val_main_v9, val_main_v11, val_main_v16, val_main_v17, val_main_cst, val_main_cst_1, val_main_cst_0]
  rfl

theorem mix (r : Fin 8192) (k : Fin 1024) : val_main_v22 (F := Ideal) x3 x7 x8 x9 x10 x11 (ix2 r k)
    = joinE siluE (fun l => x7 (ix2 r l)) (fun l => x8 (ix2 r l)) (fun l => x9 (ix2 r l)) (fun l => x10 (ix2 r l)) (fun l => x11 (ix1 l)) (fun l k => x3 (ix2 l k)) k := by
  unfold joinE
  simp only [← normed]
  unfold val_main_v22 val_main_v20
  generalize val_main_v18 (F := Ideal) x8 x9 x10 x11 = u
  pointwise [val_main_v19, val_main_v21]

theorem x1_at (r : Fin 8192) (k : Fin 1024) : val_main_v32 (F := Ideal) x0 x1 x3 x7 x8 x9 x10 x11 (ix2 r k) = PostAbArray.X1 siluE x0 x1 x3 x7 x8 x9 x10 x11 r k := by
  unfold PostAbArray.X1
  rw [← mix]
  unfold val_main_v32 val_main_v31
  generalize val_main_v22 (F := Ideal) x3 x7 x8 x9 x10 x11 = u
  pointwise [val_main_v30, val_main_v26, val_main_v23]

theorem mod_at (r : Fin 8192) (k : Fin 1024) : val_main_v51 (F := Ideal) x0 x1 x2 x3 x7 x8 x9 x10 x11 (ix2 r k)
    = modE (PostAbArray.X1 siluE x0 x1 x3 x7 x8 x9 x10 x11 r) (fun k => x2 (ix1 k)) (fun k => x1 (ix3 0 0 (⟨4096 + k.val, by omega⟩ : Fin 6144))) (fun k => x1 (ix3 0 0 (⟨3072 + k.val, by omega⟩ : Fin 6144))) k := by
  rw [← funext (x1_at x0 x1 x3 x7 x8 x9 x10 x11 r)]
  unfold val_main_v51 val_main_v49 val_main_v45 val_main_v42 val_main_v41 val_main_v40 val_main_v39 val_main_v37 val_main_v35 val_main_v34 val_main_v33
  generalize val_main_v32 (F := Ideal) x0 x1 x3 x7 x8 x9 x10 x11 = u
  pointwise [val_main_v43, val_main_v44, val_main_v46, val_main_v47, val_main_v48, val_main_v50, val_main_v36, val_main_v38, val_main_v23, val_main_v27, val_main_v28, val_main_cst_2, val_main_cst_3, val_main_cst_4, val_main_cst_5]
  rfl

theorem gate_at (r : Fin 8192) (l : Fin 2816) : val_main_v57 (F := Ideal) x0 x1 x2 x3 x4 x5 x7 x8 x9 x10 x11 (ix2 r l)
    = siluE (∑ j : Fin 1024, (val_main_v51 (F := Ideal) x0 x1 x2 x3 x7 x8 x9 x10 x11 (ix2 r j) : EReal) * x4 (ix2 j l)) * (∑ j : Fin 1024, (val_main_v51 (F := Ideal) x0 x1 x2 x3 x7 x8 x9 x10 x11 (ix2 r j) : EReal) * x5 (ix2 j l)) := by
  unfold val_main_v57 val_main_v56 val_main_v54 val_main_call1_v5 val_main_call1_v3 val_main_call1_v1 val_main_call1_v0 val_main_v53
  generalize val_main_v51 (F := Ideal) x0 x1 x2 x3 x7 x8 x9 x10 x11 = u
  pointwise [val_main_v52, val_main_v55, val_main_call1_v2, val_main_call1_v4, val_main_call1_cst, val_main_call1_cst_0]
  rfl

theorem result (r : Fin 8192) (k : Fin 1024) : val_main_v62 (F := Ideal) x0 x1 x2 x3 x4 x5 x6 x7 x8 x9 x10 x11 (ix2 r k)
    = PostAbArray.Out siluE x0 x1 x2 x3 x4 x5 x6 x7 x8 x9 x10 x11 (ix2 r k) := by
  show _ = outE siluE (PostAbArray.X1 siluE x0 x1 x3 x7 x8 x9 x10 x11 r) (fun k => x2 (ix1 k)) (fun k => x1 (ix3 0 0 (⟨4096 + k.val, by omega⟩ : Fin 6144))) (fun k => x1 (ix3 0 0 (⟨3072 + k.val, by omega⟩ : Fin 6144)))
      (fun k => x1 (ix3 0 0 (⟨5120 + k.val, by omega⟩ : Fin 6144))) (fun j l => x4 (ix2 j l)) (fun j l => x5 (ix2 j l)) (fun l k => x6 (ix2 l k)) k
  unfold outE ffnE
  simp only [← mod_at]
  rw [← x1_at]
  have hg := gate_at x0 x1 x2 x3 x4 x5 x7 x8 x9 x10 x11 r
  unfold val_main_v62 val_main_v61 val_main_v59
  generalize val_main_v57 (F := Ideal) x0 x1 x2 x3 x4 x5 x7 x8 x9 x10 x11 = u at *
  generalize val_main_v32 (F := Ideal) x0 x1 x3 x7 x8 x9 x10 x11 = v
  pointwise [val_main_v58, val_main_v60, val_main_v29, val_main_v23]
  exact congrArg₂ (HAdd.hAdd (α := EReal) (β := EReal)) rfl (congrArg₂ (HMul.hMul (α := EReal) (β := EReal)) rfl (Finset.sum_congr rfl fun l _ => congrArg (· * _) (hg l)))

theorem ext2 {n k : ℕ} (f g : (⟨2, ![n, k]⟩ : Shape).Idx → EReal) (h : ∀ (r : Fin n) (l : Fin k), f (ix2 r l) = g (ix2 r l)) : f = g := by
  funext y
  obtain ⟨r, l, rfl⟩ : ∃ (r : Fin n) (l : Fin k), y = ix2 r l := ⟨y 0, y 1, funext fun a => match a with | ⟨0, _⟩ => rfl | ⟨1, _⟩ => rfl⟩
  exact h r l

theorem eq (h1 : ∀ i, IsR (x1 i)) (h2 : ∀ i, IsR (x2 i)) (h4 : ∀ i, IsR (x4 i)) (h10 : ∀ i, IsR (x10 i)) :
    (PostAbArray.Out siluT x0 x1 x2 x3 x4 x5 x6 x7 x8 x9 x10 x11 : S8192x1024.Idx → EReal) = val_main_v62 (F := Ideal) x0 x1 x2 x3 x4 x5 x6 x7 x8 x9 x10 x11 := by
  refine ext2 _ _ fun r k => ?_
  rw [result]
  have e : PostAbArray.X1 siluT x0 x1 x3 x7 x8 x9 x10 x11 r = PostAbArray.X1 siluE x0 x1 x3 x7 x8 x9 x10 x11 r := by
    funext k
    unfold PostAbArray.X1
    rw [joinE_eq _ _ _ _ _ _ (fun _ => h10 _)]
  show outE siluT (PostAbArray.X1 siluT x0 x1 x3 x7 x8 x9 x10 x11 r) _ _ _ _ _ _ _ k = outE siluE (PostAbArray.X1 siluE x0 x1 x3 x7 x8 x9 x10 x11 r) _ _ _ _ _ _ _ k
  rw [e, outE_eq (PostAbArray.X1 siluE x0 x1 x3 x7 x8 x9 x10 x11 r) _ _ _ _ _ _ _ (fun _ => h2 _) (fun _ => h1 _) (fun _ => h1 _) (fun _ _ => h4 _)]

end Cert.PostAbRefVal

namespace Cert.PostAbClaim

open Cert.PostAbArray Cert.Dense

theorem claim : Cert.algebraic_PostAbIdeal_PostAbRefIdeal_pre_finite4 := by
  intro m g m' g' hpre hagree
  refine ⟨fun c => Cert.PostAbRefIdeal.Read.val_main_v62 (F := Ideal) (Ax m c) (Amo m c) (An m c) (Awo m c) (Awg m c) (Awu m c) (Awd m c) (Aatt m c) (Ayf m c) (Ayb m c) (Az m c) (Again m c), ?_, ?_⟩
  · refine (θ_run _ _ _).mono (fun r h c => ?_) (Cert.PostAbIdeal.Value.run_blocks m g)
    obtain ⟨h1, hr⟩ := h c
    obtain ⟨r1, r2, r4, r10⟩ := Cert.Finite.post_ab_real _ _ _ _ _ _ _ _ _ _ _ _ (hpre c)
    exact ⟨h1.trans ((final m c).trans (PostAbRefVal.eq _ _ _ _ _ _ _ _ _ _ _ _ r1 r2 r4 r10)), hr⟩
  · refine (θ_run _ _ _).mono (fun r h c => ?_) (Cert.PostAbRefIdeal.Value.run m' g')
    obtain ⟨h1, hr⟩ := h c
    refine ⟨h1.trans ((Cert.PostAbRefIdeal.Read.val_main_v62_eq _ _).trans ?_), hr⟩
    obtain ⟨a0, a1, a2, a3, a4, a5, a6, a7, a8, a9, a10, a11⟩ := hagree c
    exact congr (congr (congr (congr (congr (congr (congr (congr (congr (congr (congr (congrArg _ a0) a1) a2) a3) a4) a5) a6) a7) a8) a9) a10) a11

end Cert.PostAbClaim

end
-- ==== Proof.L1InTile.lean ====
module

public import proofs.«01_k».proof.Proof.Gen.L1InIdeal.Value
public import proofs.«01_k».proof.Proof.Dense
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.L1InTile

open Cert.L1InIdeal Cert.L1InIdeal.Gen Cert.Dense

theorem h_at (x : Vec Ideal S512x1024 .f32) (nw : Vec Ideal S1x1024 .f32) (sc sh : Vec Ideal S1x1x1024 .f32) (i : Fin 512) (k : Fin 1024) :
    k0_pay3 (F := Ideal) x nw sc sh (ix2 i k)
      = modE (fun k => x (ix2 i k)) (fun k => nw (ix2 0 k)) (fun k => sc (ix3 0 0 k)) (fun k => sh (ix3 0 0 k)) k := by
  pointwise [k0_pay3]
  rfl

theorem gate_at (h : FVec Ideal S512x1024 .bf16) (w : Vec Ideal S1024x2048 .bf16) (i : Fin 512) (k : Fin 2048) :
    k0_pay2 (F := Ideal) h w (ix2 i k) = siluT (∑ j : Fin 1024, (h (ix2 i j) : EReal) * w (ix2 j k)) := by
  pointwise [k0_pay2]
  rfl

theorem value_at (h : FVec Ideal S512x1024 .bf16) (w : Vec Ideal S1024x2048 .bf16) (i : Fin 512) (k : Fin 2048) :
    k0_pay1 (F := Ideal) h w (ix2 i k) = (∑ j : Fin 1024, (h (ix2 i j) : EReal) * w (ix2 j k)) := by
  pointwise [k0_pay1]

theorem query_at (x : Vec Ideal S512x1024 .f32) (nw : Vec Ideal S1x1024 .f32) (sc sh : Vec Ideal S1x1x1024 .f32) (w : Vec Ideal S1024x1024 .bf16) (i : Fin 512) (k : Fin 1024) :
    k0_pay4 (F := Ideal) x nw sc sh w (ix2 i k) = (∑ j : Fin 1024, (k0_pay3 (F := Ideal) x nw sc sh (ix2 i j) : EReal) * w (ix2 j k)) := by
  unfold k0_pay4
  generalize k0_pay3 (F := Ideal) x nw sc sh = h
  pointwise

theorem key_at (x : Vec Ideal S512x1024 .f32) (nw : Vec Ideal S1x1024 .f32) (sc sh : Vec Ideal S1x1x1024 .f32) (w : Vec Ideal S1024x1024 .bf16) (i : Fin 512) (k : Fin 1024) :
    k0_pay5 (F := Ideal) x nw sc sh w (ix2 i k) = (∑ j : Fin 1024, (k0_pay3 (F := Ideal) x nw sc sh (ix2 i j) : EReal) * w (ix2 j k)) * Ideal.ofBits .f32 0x3D800000#32 := by
  unfold k0_pay5
  generalize k0_pay3 (F := Ideal) x nw sc sh = h
  pointwise

end Cert.L1InTile

end
-- ==== Proof.L1InArray.lean ====
/- The projection's four arrays, from the arguments as launched. -/
module

public import proofs.«01_k».proof.Proof.L1InTile
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.L1InArray

open Cert.L1InIdeal Cert.L1InIdeal.Gen Cert.Dense

variable (m : (ℓ : Loc nD τ sig) → Buf (Elt Ideal) ℓ)

theorem idx_val : ∀ t : Fin cfg0.N, win0_0.index t = ![t.val, 0]
    ∧ win0_1.index t = ![0, 0]
    ∧ win0_2.index t = ![0, 0, 0]
    ∧ win0_3.index t = ![0, 0, 1]
    ∧ win0_4.index t = ![0, 0]
    ∧ win0_5.index t = ![t.val, 0]
    ∧ win0_6.index t = ![t.val, 0]
    ∧ win0_7.index t = ![t.val, 0]
    ∧ win0_8.index t = ![t.val, 0] :=
  (by decide +kernel : ∀ t : Fin grid0.N, _)

/-- The place of row `i` of tile `t`. -/
def tok (t : Fin 16) (i : Fin 512) : Fin 8192 := ⟨512 * t.val + i.val, by omega⟩

/-- The rows as launched. -/
def X (c : Dev nD) : S8192x1024.Idx → EReal := m ((c : Thread nD τ).loc main_arg0)
/-- The modulation as launched. -/
def M (c : Dev nD) : S1x1x6144.Idx → EReal := m ((c : Thread nD τ).loc main_arg1)
/-- The norm's weights as launched. -/
def N (c : Dev nD) : S1024.Idx → EReal := m ((c : Thread nD τ).loc main_arg2)
/-- The projection as launched. -/
def W (c : Dev nD) : S1024x6144.Idx → EReal := m ((c : Thread nD τ).loc main_arg3)

theorem weights (c : Dev nD) (k : Fin 1024) : (V m c main_v0 : Vec Ideal S1x1024 .f32) (ix2 0 k) = N m c (ix1 k) := by
  entry_read
  pointwise
  rfl

theorem blk0 (c : Dev nD) (t : Fin 16) (i : Fin 512) (k : Fin 1024) : (iblk m c 0 t : Vec Ideal S512x1024 .f32) (ix2 i k) = X m c (ix2 (tok t i) k) := by
  obtain ⟨w0, w1, w2, w3, w4, w5, w6, w7, w8⟩ := idx_val t
  blk_ext [iblk, V, w0, tok, X]
theorem blk1 (c : Dev nD) (t : Fin 16) (k : Fin 1024) : (iblk m c 1 t : Vec Ideal S1x1024 .f32) (ix2 0 k) = N m c (ix1 k) := by
  obtain ⟨w0, w1, w2, w3, w4, w5, w6, w7, w8⟩ := idx_val t
  refine Eq.trans ?_ (weights m c k)
  blk_simp [iblk]
  generalize V m c main_v0 = W
  blk_ext [w1]
theorem blk2 (c : Dev nD) (t : Fin 16) (k : Fin 1024) : (iblk m c 2 t : Vec Ideal S1x1x1024 .f32) (ix3 0 0 k) = M m c (ix3 0 0 (⟨k.val, by omega⟩ : Fin 6144)) := by
  obtain ⟨w0, w1, w2, w3, w4, w5, w6, w7, w8⟩ := idx_val t
  blk_ext [iblk, V, w2, M]
theorem blk3 (c : Dev nD) (t : Fin 16) (k : Fin 1024) : (iblk m c 3 t : Vec Ideal S1x1x1024 .f32) (ix3 0 0 k) = M m c (ix3 0 0 (⟨1024 + k.val, by omega⟩ : Fin 6144)) := by
  obtain ⟨w0, w1, w2, w3, w4, w5, w6, w7, w8⟩ := idx_val t
  blk_ext [iblk, V, w3, M]
theorem blk4 (c : Dev nD) (t : Fin 16) (k : Fin 1024) (l : Fin 6144) : (iblk m c 4 t : Vec Ideal S1024x6144 .bf16) (ix2 k l) = W m c (ix2 k l) := by
  obtain ⟨w0, w1, w2, w3, w4, w5, w6, w7, w8⟩ := idx_val t
  blk_ext [iblk, V, w4, W]

/-- The modulated norm of row `r`. -/
def H (x : S8192x1024.Idx → EReal) (mo : S1x1x6144.Idx → EReal) (n : S1024.Idx → EReal) (r : Fin 8192) (k : Fin 1024) : EReal :=
  modE (fun k => x (ix2 r k)) (fun k => n (ix1 k)) (fun k => mo (ix3 0 0 (⟨1024 + k.val, by omega⟩ : Fin 6144))) (fun k => mo (ix3 0 0 (⟨k.val, by omega⟩ : Fin 6144))) k
/-- Row `r` of the projection. -/
def R (x : S8192x1024.Idx → EReal) (mo : S1x1x6144.Idx → EReal) (n : S1024.Idx → EReal) (w : S1024x6144.Idx → EReal) (r : Fin 8192) (l : Fin 6144) : EReal :=
  ∑ j : Fin 1024, H x mo n r j * w (ix2 j l)

theorem hrow (c : Dev nD) (t : Fin 16) (i : Fin 512) (j : Fin 1024) :
    k0_pay3 (F := Ideal) (View.ld (iblk m c 0 t) r0_0) (View.ld (iblk m c 1 t) r0_1) (View.ld (iblk m c 3 t) r0_2) (View.ld (iblk m c 2 t) r0_2) (ix2 i j)
      = H (X m c) (M m c) (N m c) (tok t i) j := by
  refine (L1InTile.h_at _ _ _ _ i j).trans ?_
  unfold H
  simp only [← blk0 m c t, ← blk1 m c t, ← blk2 m c t, ← blk3 m c t]
  congr 1 <;> funext k <;> pointwise

theorem lsum (h : Fin 1024 → EReal) (c : Dev nD) (t : Fin 16) (a n : ℕ) (inb) (hn : a + n ≤ 6144) (l : Fin n) (h' : Fin 1024 → EReal) (e : ∀ j, h' j = h j) :
    ∑ j : Fin 1024, h' j * View.ld (iblk m c 4 t : Vec Ideal S1024x6144 .bf16) (Rect.unit (s := S1024x6144) ![0, a] ![1024, n] inb) (ix2 j l)
      = ∑ j : Fin 1024, h j * W m c (ix2 j (⟨a + l.val, by omega⟩ : Fin 6144)) := by
  refine Finset.sum_congr rfl fun j _ => congrArg₂ (· * ·) (e j) (Eq.trans ?_ (blk4 m c t j (⟨a + l.val, by omega⟩ : Fin 6144)))
  refine congrArg (iblk m c 4 t : Vec Ideal S1024x6144 .bf16) (funext fun b => Fin.ext ?_)
  match b with
  | ⟨0, _⟩ => show 0 + 1 * j.val = j.val; omega
  | ⟨1, _⟩ => show a + 1 * l.val = a + l.val; omega

theorem z2 : (![0, 0] : Fin 2 → ℕ) = fun _ => 0 := funext fun a => match a with | ⟨0, _⟩ => rfl | ⟨1, _⟩ => rfl

/-- The columns from `a` on, of the projection. -/
def part (n a : ℕ) (h : a + n ≤ 6144) (x : S8192x1024.Idx → EReal) (mo : S1x1x6144.Idx → EReal) (nw : S1024.Idx → EReal) (w : S1024x6144.Idx → EReal) (y : (⟨2, ![8192, n]⟩ : Shape).Idx) : EReal :=
  R x mo nw w (y 0) (⟨a + (y 1).val, by have : (y 1).val < n := (y 1).isLt; omega⟩ : Fin 6144)

/-- The queries. -/
def QA (x : S8192x1024.Idx → EReal) (mo : S1x1x6144.Idx → EReal) (nw : S1024.Idx → EReal) (w : S1024x6144.Idx → EReal) (y : S8192x1024.Idx) : EReal :=
  part 1024 0 (by omega) x mo nw w y

theorem final_q (c : Dev nD) : (dats m 0 c).arrAt 5 cfg0.N = (QA (X m c) (M m c) (N m c) (W m c) : S8192x1024.Idx → EReal) := by
  refine (dats m 0 c).arrAt_eq_of_covers 5 _ (by decide +kernel) fun t hf y => ?_
  blk_simp
  rw [after0_5]
  obtain ⟨i, k, rfl⟩ : ∃ (i : Fin 512) (k : Fin 1024), y = ix2 i k := ⟨y 0, y 1, funext fun a => match a with | ⟨0, _⟩ => rfl | ⟨1, _⟩ => rfl⟩
  obtain ⟨w0, w1, w2, w3, w4, w5, w6, w7, w8⟩ := idx_val t
  have e : out0_5 (F := Ideal) (iblk m c 0 t) (iblk m c 1 t) (iblk m c 2 t) (iblk m c 3 t) (iblk m c 4 t) (ix2 i k)
      = QA (X m c) (M m c) (N m c) (W m c) (ix2 (tok t i) k) := by
    unfold out0_5
    rw [View.canon_unit_zero z2]
    exact (L1InTile.query_at _ _ _ _ _ i k).trans (lsum m _ c t 0 1024 _ (by omega) k _ fun j => hrow m c t i j)
  refine e.trans ?_
  blk_ext [w5, tok]

/-- The keys. -/
def KA (x : S8192x1024.Idx → EReal) (mo : S1x1x6144.Idx → EReal) (nw : S1024.Idx → EReal) (w : S1024x6144.Idx → EReal) (y : S8192x1024.Idx) : EReal :=
  part 1024 1024 (by omega) x mo nw w y * Ideal.ofBits .f32 0x3D800000#32

theorem final_k (c : Dev nD) : (dats m 0 c).arrAt 6 cfg0.N = (KA (X m c) (M m c) (N m c) (W m c) : S8192x1024.Idx → EReal) := by
  refine (dats m 0 c).arrAt_eq_of_covers 6 _ (by decide +kernel) fun t hf y => ?_
  blk_simp
  rw [after0_6]
  obtain ⟨i, k, rfl⟩ : ∃ (i : Fin 512) (k : Fin 1024), y = ix2 i k := ⟨y 0, y 1, funext fun a => match a with | ⟨0, _⟩ => rfl | ⟨1, _⟩ => rfl⟩
  obtain ⟨w0, w1, w2, w3, w4, w5, w6, w7, w8⟩ := idx_val t
  have e : out0_6 (F := Ideal) (iblk m c 0 t) (iblk m c 1 t) (iblk m c 2 t) (iblk m c 3 t) (iblk m c 4 t) (ix2 i k)
      = KA (X m c) (M m c) (N m c) (W m c) (ix2 (tok t i) k) := by
    unfold out0_6
    rw [View.canon_unit_zero z2]
    exact (L1InTile.key_at _ _ _ _ _ i k).trans (congrArg (· * Ideal.ofBits .f32 0x3D800000#32) (lsum m _ c t 1024 1024 _ (by omega) k _ fun j => hrow m c t i j))
  refine e.trans ?_
  blk_ext [w6, tok]

/-- The values. -/
def VA (x : S8192x1024.Idx → EReal) (mo : S1x1x6144.Idx → EReal) (nw : S1024.Idx → EReal) (w : S1024x6144.Idx → EReal) (y : S8192x2048.Idx) : EReal :=
  part 2048 2048 (by omega) x mo nw w y

theorem final_v (c : Dev nD) : (dats m 0 c).arrAt 7 cfg0.N = (VA (X m c) (M m c) (N m c) (W m c) : S8192x2048.Idx → EReal) := by
  refine (dats m 0 c).arrAt_eq_of_covers 7 _ (by decide +kernel) fun t hf y => ?_
  blk_simp
  rw [after0_7]
  obtain ⟨i, k, rfl⟩ : ∃ (i : Fin 512) (k : Fin 2048), y = ix2 i k := ⟨y 0, y 1, funext fun a => match a with | ⟨0, _⟩ => rfl | ⟨1, _⟩ => rfl⟩
  obtain ⟨w0, w1, w2, w3, w4, w5, w6, w7, w8⟩ := idx_val t
  have e : out0_7 (F := Ideal) (iblk m c 0 t) (iblk m c 1 t) (iblk m c 2 t) (iblk m c 3 t) (iblk m c 4 t) (ix2 i k)
      = VA (X m c) (M m c) (N m c) (W m c) (ix2 (tok t i) k) := by
    unfold out0_7
    rw [View.canon_unit_zero z2]
    exact (L1InTile.value_at _ _ i k).trans (lsum m _ c t 2048 2048 _ (by omega) k _ fun j => hrow m c t i j)
  refine e.trans ?_
  blk_ext [w7, tok]

/-- The gates. -/
def GA (x : S8192x1024.Idx → EReal) (mo : S1x1x6144.Idx → EReal) (nw : S1024.Idx → EReal) (w : S1024x6144.Idx → EReal) (y : S8192x2048.Idx) : EReal :=
  siluT (part 2048 4096 (by omega) x mo nw w y)

theorem final_g (c : Dev nD) : (dats m 0 c).arrAt 8 cfg0.N = (GA (X m c) (M m c) (N m c) (W m c) : S8192x2048.Idx → EReal) := by
  refine (dats m 0 c).arrAt_eq_of_covers 8 _ (by decide +kernel) fun t hf y => ?_
  blk_simp
  rw [after0_8]
  obtain ⟨i, k, rfl⟩ : ∃ (i : Fin 512) (k : Fin 2048), y = ix2 i k := ⟨y 0, y 1, funext fun a => match a with | ⟨0, _⟩ => rfl | ⟨1, _⟩ => rfl⟩
  obtain ⟨w0, w1, w2, w3, w4, w5, w6, w7, w8⟩ := idx_val t
  have e : out0_8 (F := Ideal) (iblk m c 0 t) (iblk m c 1 t) (iblk m c 2 t) (iblk m c 3 t) (iblk m c 4 t) (ix2 i k)
      = GA (X m c) (M m c) (N m c) (W m c) (ix2 (tok t i) k) := by
    unfold out0_8
    rw [View.canon_unit_zero z2]
    exact (L1InTile.gate_at _ _ i k).trans (congrArg siluT (lsum m _ c t 4096 2048 _ (by omega) k _ fun j => hrow m c t i j))
  refine e.trans ?_
  blk_ext [w8, tok]

end Cert.L1InArray

end
-- ==== Proof.L1InClaim.lean ====
/- The projection's reference, element by element, and the claim. -/
module

public import proofs.«01_k».proof.Defs
public import proofs.«01_k».proof.Proof.Gen.L1InRefIdeal.Read
public import proofs.«01_k».proof.Proof.L1InArray
public import proofs.«01_k».proof.Proof.Finite
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.L1InRefVal

open Cert.L1InRefIdeal Cert.L1InRefIdeal.Gen Cert.L1InRefIdeal.Read Cert.Dense

variable (x0 : S8192x1024.Idx → EReal) (x1 : S1x1x6144.Idx → EReal) (x2 : S1024.Idx → EReal) (x3 : S1024x6144.Idx → EReal)

theorem hrow (r : Fin 8192) (k : Fin 1024) : val_main_v25 (F := Ideal) x0 x1 x2 (ix2 r k) = L1InArray.H x0 x1 x2 r k := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_cst_0, val_main_cst_1, val_main_cst_2]
  rfl

theorem row (r : Fin 8192) (l : Fin 6144) : val_main_v27 (F := Ideal) x0 x1 x2 x3 (ix2 r l) = L1InArray.R x0 x1 x2 x3 r l := by
  unfold L1InArray.R
  simp only [← hrow]
  unfold val_main_v27
  generalize val_main_v25 (F := Ideal) x0 x1 x2 = h
  pointwise [val_main_v26]

theorem queries (r : Fin 8192) (l : Fin 1024) : val_main_v32 (F := Ideal) x0 x1 x2 x3 (ix2 r l) = L1InArray.QA x0 x1 x2 x3 (ix2 r l) := by
  refine Eq.trans ?_ (row x0 x1 x2 x3 r (⟨0 + l.val, by omega⟩ : Fin 6144))
  unfold val_main_v32 val_main_v28
  generalize val_main_v27 (F := Ideal) x0 x1 x2 x3 = h
  pointwise

theorem keys (r : Fin 8192) (l : Fin 1024) : val_main_v35 (F := Ideal) x0 x1 x2 x3 (ix2 r l) = L1InArray.KA x0 x1 x2 x3 (ix2 r l) := by
  refine Eq.trans ?_ (congrArg (· * Ideal.ofBits .f32 0x3D800000#32) (row x0 x1 x2 x3 r (⟨1024 + l.val, by omega⟩ : Fin 6144)))
  unfold val_main_v35 val_main_v34 val_main_v29
  generalize val_main_v27 (F := Ideal) x0 x1 x2 x3 = h
  pointwise [val_main_v33, val_main_cst_3]

theorem values (r : Fin 8192) (l : Fin 2048) : val_main_v36 (F := Ideal) x0 x1 x2 x3 (ix2 r l) = L1InArray.VA x0 x1 x2 x3 (ix2 r l) := by
  refine Eq.trans ?_ (row x0 x1 x2 x3 r (⟨2048 + l.val, by omega⟩ : Fin 6144))
  unfold val_main_v36 val_main_v30
  generalize val_main_v27 (F := Ideal) x0 x1 x2 x3 = h
  pointwise

theorem gates (r : Fin 8192) (l : Fin 2048) : val_main_v38 (F := Ideal) x0 x1 x2 x3 (ix2 r l) = siluE (L1InArray.R x0 x1 x2 x3 r (⟨4096 + l.val, by omega⟩ : Fin 6144)) := by
  refine Eq.trans ?_ (congrArg siluE (row x0 x1 x2 x3 r (⟨4096 + l.val, by omega⟩ : Fin 6144)))
  unfold val_main_v38 val_main_v37 val_main_call0_v5 val_main_call0_v3 val_main_call0_v1 val_main_call0_v0 val_main_v31
  generalize val_main_v27 (F := Ideal) x0 x1 x2 x3 = h
  pointwise [val_main_call0_v2, val_main_call0_v4, val_main_call0_cst, val_main_call0_cst_0]
  rfl

/-- Where the arguments are real, so is the projection. -/
theorem row_real (h1 : ∀ i, IsR (x1 i)) (h2 : ∀ i, IsR (x2 i)) (h3 : ∀ i, IsR (x3 i)) (r : Fin 8192) (l : Fin 6144) :
    IsR (L1InArray.R x0 x1 x2 x3 r l) :=
  IsR.sum _ _ fun j => (modE_real _ _ _ _ (fun _ => h2 _) (fun _ => h1 _) (fun _ => h1 _) j).mul (h3 _)

theorem ext2 {n k : ℕ} (f g : (⟨2, ![n, k]⟩ : Shape).Idx → EReal) (h : ∀ (r : Fin n) (l : Fin k), f (ix2 r l) = g (ix2 r l)) : f = g := by
  funext y
  obtain ⟨r, l, rfl⟩ : ∃ (r : Fin n) (l : Fin k), y = ix2 r l := ⟨y 0, y 1, funext fun a => match a with | ⟨0, _⟩ => rfl | ⟨1, _⟩ => rfl⟩
  exact h r l

theorem gates_eq (h1 : ∀ i, IsR (x1 i)) (h2 : ∀ i, IsR (x2 i)) (h3 : ∀ i, IsR (x3 i)) :
    (L1InArray.GA x0 x1 x2 x3 : S8192x2048.Idx → EReal) = val_main_v38 (F := Ideal) x0 x1 x2 x3 := by
  refine ext2 _ _ fun r l => ?_
  rw [gates]
  show siluT (L1InArray.R x0 x1 x2 x3 r (⟨4096 + l.val, by omega⟩ : Fin 6144)) = _
  obtain ⟨v, hv⟩ := row_real x0 x1 x2 x3 h1 h2 h3 r (⟨4096 + l.val, by omega⟩ : Fin 6144)
  rw [hv, silu_eq]

end Cert.L1InRefVal

namespace Cert.L1InClaim

open Cert.L1InArray Cert.Dense

theorem claim : Cert.algebraic_L1InIdeal_L1InRefIdeal_pre_finite5 := by
  intro m g m' g' hpre hagree
  refine ⟨fun c => Cert.L1InRefIdeal.Read.val_main_v32 (F := Ideal) (X m c) (M m c) (N m c) (W m c), fun c => Cert.L1InRefIdeal.Read.val_main_v35 (F := Ideal) (X m c) (M m c) (N m c) (W m c),
    fun c => Cert.L1InRefIdeal.Read.val_main_v36 (F := Ideal) (X m c) (M m c) (N m c) (W m c), fun c => Cert.L1InRefIdeal.Read.val_main_v38 (F := Ideal) (X m c) (M m c) (N m c) (W m c), ?_, ?_⟩
  · refine (θ_run _ _ _).mono (fun r h c => ?_) (Cert.L1InIdeal.Value.run_blocks m g)
    obtain ⟨h1, h2, h3, h4, hr⟩ := h c
    obtain ⟨r1, r2, r3⟩ := Cert.Finite.l1_real _ _ _ _ (hpre c)
    refine ⟨h1.trans ((final_q m c).trans ?_), h2.trans ((final_k m c).trans ?_), h3.trans ((final_v m c).trans ?_), h4.trans ((final_g m c).trans ?_), hr⟩
    · exact L1InRefVal.ext2 _ _ fun r l => (L1InRefVal.queries _ _ _ _ r l).symm
    · exact L1InRefVal.ext2 _ _ fun r l => (L1InRefVal.keys _ _ _ _ r l).symm
    · exact L1InRefVal.ext2 _ _ fun r l => (L1InRefVal.values _ _ _ _ r l).symm
    · exact L1InRefVal.gates_eq _ _ _ _ r1 r2 r3
  · refine (θ_run _ _ _).mono (fun r h c => ?_) (Cert.L1InRefIdeal.Value.run m' g')
    obtain ⟨h1, h2, h3, h4, hr⟩ := h c
    obtain ⟨a0, a1, a2, a3⟩ := hagree c
    refine ⟨h1.trans ((Cert.L1InRefIdeal.Read.val_main_v32_eq _ _ _ _).trans ?_), h2.trans ((Cert.L1InRefIdeal.Read.val_main_v35_eq _ _ _ _).trans ?_),
      h3.trans ((Cert.L1InRefIdeal.Read.val_main_v36_eq _ _ _ _).trans ?_), h4.trans ((Cert.L1InRefIdeal.Read.val_main_v38_eq _ _ _ _).trans ?_), hr⟩
    all_goals exact congr (congr (congr (congrArg _ a0) a1) a2) a3

end Cert.L1InClaim

end
-- ==== Proof.L0InTile.lean ====
/- One tile of layer 0's projection, element by element. -/
module

public import proofs.«01_k».proof.Proof.Gen.L0InIdeal.Value
public import proofs.«01_k».proof.Proof.Dense
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.L0InTile

open Cert.L0InIdeal Cert.L0InIdeal.Gen Cert.Dense

/-- A row's lanes, each divided by the root of its column of `P` over the squares, and scaled; the squares' rounding error is put through `P` too. -/
def headK {n : ℕ} (P : Fin n → Fin n → EReal) (f g : Fin n → EReal) (l : Fin n) : EReal :=
  f l * Ideal.rsqrt (∑ j, f j * f j * P j l + ∑ j, (f j * f j - f j * f j) * P j l + eps) * g l

theorem proj_at (x : Vec Ideal S512x1024 .f32) (nw : Vec Ideal S1x1024 .f32) (sc sh : Vec Ideal S1x1x1024 .f32) (w : Vec Ideal S1024x2176 .bf16) (i : Fin 512) (l : Fin 2176) :
    k0_pay5 (F := Ideal) x nw sc sh w (ix2 i l)
      = ∑ j : Fin 1024, modE (fun k => x (ix2 i k)) (fun k => nw (ix2 0 k)) (fun k => sc (ix3 0 0 k)) (fun k => sh (ix3 0 0 k)) j * w (ix2 j l) := by
  pointwise [k0_pay5]
  rfl

theorem query_at (x : Vec Ideal S512x1024 .f32) (nw : Vec Ideal S1x1024 .f32) (sc sh : Vec Ideal S1x1x1024 .f32) (w : Vec Ideal S1024x2176 .bf16)
    (g : Vec Ideal S1x512 .f32) (p : Vec Ideal S512x512 .bf16) (i l : Fin 512) :
    k0_pay28 (F := Ideal) (k0_pay12 (k0_pay6 x nw sc sh w) (k0_pay7 g) (k0_pay9 x nw sc sh w) (k0_pay10 x nw sc sh w) (k0_pay11 p) p) (ix2 i l)
      = headK (fun j l => p (ix2 j l)) (fun l => k0_pay5 (F := Ideal) x nw sc sh w (ix2 i (⟨l.val, by omega⟩ : Fin 2176))) (fun l => g (ix2 0 l)) l * Ideal.ofBits .f32 0x3E000000#32 := by
  unfold k0_pay10 k0_pay9 k0_pay8 k0_pay6
  generalize k0_pay5 (F := Ideal) x nw sc sh w = u
  pointwise [k0_pay28, k0_pay12, k0_pay7, k0_pay11]
  rfl

theorem key_at (u : FVec Ideal S512x2176 .f32) (g : Vec Ideal S1x128 .f32) (p : Vec Ideal S128x128 .bf16) (i : Fin 512) (l : Fin 128) :
    k0_pay13 (F := Ideal) u g p p (ix2 i l)
      = headK (fun j l => p (ix2 j l)) (fun l => u (ix2 i (⟨512 + l.val, by omega⟩ : Fin 2176))) (fun l => g (ix2 0 l)) l := by
  pointwise [k0_pay13]
  rfl

theorem lt_word : ∀ l : Fin 128, IntOp.cmpi CmpIPredicate.slt (BitVec.ofNat 32 l.val) 64#32 = if l.val < 64 then 1#1 else 0#1 := by decide +kernel
theorem eq_word : ∀ l : Fin 128, IntOp.cmpi CmpIPredicate.eq (BitVec.ofNat 32 l.val) 64#32 = if l.val = 64 then 1#1 else 0#1 := by decide +kernel

/-- A value's lanes, a one, and zeros. -/
def withOne (v : Fin 64 → EReal) (l : Fin 128) : EReal :=
  if h : l.val < 64 then v ⟨l.val, h⟩ else if l.val = 64 then Ideal.ofBits .f32 0x3F800000#32 else 0

theorem select_one (l : Fin 128) (v : Fin 64 → EReal) (w : EReal) (hw : ∀ h : l.val < 64, w = v ⟨l.val, h⟩) :
    Scalar.select (IntOp.cmpi CmpIPredicate.slt (BitVec.ofNat 32 l.val) 64#32) w
      (Scalar.select (IntOp.cmpi CmpIPredicate.eq (BitVec.ofNat 32 l.val) 64#32) (Ideal.ofBits .f32 0x3F800000#32) (0 : EReal)) = withOne v l := by
  rw [lt_word, eq_word]
  unfold withOne
  by_cases h : l.val < 64
  · rw [if_pos h, dif_pos h]
    exact hw h
  · rw [if_neg h, dif_neg h]
    by_cases h' : l.val = 64
    · rw [if_pos h', if_pos h']; rfl
    · rw [if_neg h', if_neg h']; rfl

theorem value0_at (v : FVec Ideal S512x128 .f32) (i : Fin 512) (l : Fin 128) :
    k0_pay32 (F := Ideal) v (ix3 0 i l) = withOne (fun d => v (ix2 i (⟨d.val, by omega⟩ : Fin 128))) l := by
  refine Eq.trans ?_ (select_one l _ (v (ix2 i l)) fun h => rfl)
  pointwise [k0_pay32, k0_pay30]

theorem value1_at (v : FVec Ideal S512x128 .f32) (i : Fin 512) (l : Fin 128) :
    k0_pay1 (F := Ideal) (iota .tc S1x128 32 [1] iota_S1x128_d1_w32) (k0_pay30 (F := Ideal)) (k0_pay34 v) 64#32 (ix3 0 i l)
      = withOne (fun d => v (ix2 i (⟨64 + d.val, by omega⟩ : Fin 128))) l := by
  refine Eq.trans ?_ (select_one l _ (v (ix2 i (⟨(l.val + 128 - 64) % 128, by omega⟩ : Fin 128))) fun h => ?_)
  · pointwise [k0_pay1, k0_pay30, k0_pay34]
  · refine congrArg v (congrArg (ix2 i) (Fin.ext ?_))
    show (l.val + 128 - 64) % 128 = 64 + l.val
    omega

end Cert.L0InTile

end
-- ==== Proof.L0InHost.lean ====
/- Layer 0's projection: what the host prepares. -/
module

public import proofs.«01_k».proof.Proof.L0InTile
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.L0InArray

open Cert.L0InIdeal Cert.L0InIdeal.Gen Cert.Dense

variable (m : (ℓ : Loc nD τ sig) → Buf (Elt Ideal) ℓ)

/-- The rows as launched. -/
def X (c : Dev nD) : S8192x1024.Idx → EReal := m ((c : Thread nD τ).loc main_arg0)
/-- The modulation as launched. -/
def M (c : Dev nD) : S1x1x6144.Idx → EReal := m ((c : Thread nD τ).loc main_arg1)
/-- The norm's weights as launched. -/
def N (c : Dev nD) : S1024.Idx → EReal := m ((c : Thread nD τ).loc main_arg2)
/-- The projection as launched. -/
def W (c : Dev nD) : S1024x2176.Idx → EReal := m ((c : Thread nD τ).loc main_arg3)
/-- The queries' gains as launched. -/
def QG (c : Dev nD) : S64.Idx → EReal := m ((c : Thread nD τ).loc main_arg4)
/-- The keys' gains as launched. -/
def KG (c : Dev nD) : S64.Idx → EReal := m ((c : Thread nD τ).loc main_arg5)

/-- The host's floored quotient of a lane's number by 64, as it spells it. -/
def floor64 (n : ℕ) : BitVec 32 :=
  Scalar.select
    (IntOp.andi
      (IntOp.cmpi CmpIPredicate.ne
        (if BitVec.ofNat 32 n = 0 then (0 : BitVec 32) else if (BitVec.ofNat 32 n).msb = true then -1 else 1)
        (if 64#32 = 0 then 0 else if (64#32).msb = true then -1 else 1))
      (IntOp.cmpi CmpIPredicate.ne (IntOp.remsi ArithUnit.host (BitVec.ofNat 32 n) 64#32) 0#32))
    (IntOp.subi (IntOp.divsi ArithUnit.host (BitVec.ofNat 32 n) 64#32) 1#32)
    (IntOp.divsi ArithUnit.host (BitVec.ofNat 32 n) 64#32)

theorem floor64_eq : ∀ n : Fin 512, floor64 n.val = BitVec.ofNat 32 (n.val / 64) := by decide +kernel

theorem same_word : ∀ a b : Fin 8, IntOp.cmpi CmpIPredicate.eq (BitVec.ofNat 32 a.val) (BitVec.ofNat 32 b.val) = if a.val = b.val then 1#1 else 0#1 := by decide +kernel

/-- The matrix that averages each head of 64 lanes, at an entry. -/
def meanM (j l : ℕ) : EReal := if j / 64 = l / 64 then Ideal.ofBits .f32 0x3C800000#32 else 0

theorem mean_word (j l : ℕ) (hj : j < 512) (hl : l < 512) :
    Scalar.select (IntOp.cmpi CmpIPredicate.eq (floor64 j) (floor64 l)) (Ideal.ofBits .f32 0x3C800000#32) (0 : EReal) = meanM j l := by
  have e := same_word ⟨j / 64, by omega⟩ ⟨l / 64, by omega⟩
  rw [floor64_eq ⟨j, hj⟩, floor64_eq ⟨l, hl⟩]
  unfold meanM
  dsimp only at e ⊢
  rw [e]
  split <;> rfl

theorem weights (c : Dev nD) (k : Fin 1024) : (V m c main_v0 : Vec Ideal S1x1024 .f32) (ix2 0 k) = N m c (ix1 k) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise
  rfl

theorem qgain (c : Dev nD) (l : Fin 512) : (V m c main_v4 : Vec Ideal S1x512 .f32) (ix2 0 l) = QG m c (ix1 (⟨l.val % 64, by omega⟩ : Fin 64)) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise
  rfl

theorem kgain (c : Dev nD) (l : Fin 128) : (V m c main_v8 : Vec Ideal S1x128 .f32) (ix2 0 l) = KG m c (ix1 (⟨l.val % 64, by omega⟩ : Fin 64)) := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise
  rfl

theorem qmean (c : Dev nD) (j l : Fin 512) : (V m c main_v17 : Vec Ideal S512x512 .bf16) (ix2 j l) = meanM j l := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  simp only [StableHlo.TRef.ofBuf_toBuf, StableHlo.TRef.ofBuf, cast_eq]
  pointwise
  exact mean_word j.val l.val (by omega) (by omega)

theorem kmean (c : Dev nD) (j l : Fin 128) : (V m c main_v26 : Vec Ideal S128x128 .bf16) (ix2 j l) = meanM j l := by
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  simp only [StableHlo.TRef.ofBuf_toBuf, StableHlo.TRef.ofBuf, cast_eq]
  pointwise
  exact mean_word j.val l.val (by omega) (by omega)

end Cert.L0InArray

end
-- ==== Proof.L0InArray.lean ====
/- Layer 0's projection: its eight arrays, from the arguments as launched. -/
module

public import proofs.«01_k».proof.Proof.L0InHost
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.L0InArray

open Cert.L0InIdeal Cert.L0InIdeal.Gen Cert.Dense Cert.L0InTile

variable (m : (ℓ : Loc nD τ sig) → Buf (Elt Ideal) ℓ)

theorem idx_val : ∀ t : Fin cfg0.N, win0_0.index t = ![t.val, 0]
    ∧ win0_1.index t = ![0, 0]
    ∧ win0_2.index t = ![0, 0, 0]
    ∧ win0_3.index t = ![0, 0, 1]
    ∧ win0_4.index t = ![0, 0]
    ∧ win0_5.index t = ![0, 0]
    ∧ win0_6.index t = ![0, 0]
    ∧ win0_7.index t = ![0, 0]
    ∧ win0_8.index t = ![0, 0]
    ∧ win0_9.index t = ![t.val, 0]
    ∧ win0_10.index t = ![0, t.val, 0]
    ∧ win0_11.index t = ![0, t.val, 0]
    ∧ win0_12.index t = ![t.val, 0]
    ∧ win0_13.index t = ![t.val, 0]
    ∧ win0_14.index t = ![t.val, 0]
    ∧ win0_15.index t = ![t.val, 0, 0, 0]
    ∧ win0_16.index t = ![t.val, 0, 0, 0] :=
  (by decide +kernel : ∀ t : Fin grid0.N, _)

/-- The place of row `i` of tile `t`. -/
def tok (t : Fin 16) (i : Fin 512) : Fin 8192 := ⟨512 * t.val + i.val, by omega⟩

theorem blk0 (c : Dev nD) (t : Fin 16) (i : Fin 512) (k : Fin 1024) : (iblk m c 0 t : Vec Ideal S512x1024 .f32) (ix2 i k) = X m c (ix2 (tok t i) k) := by
  obtain ⟨w0, w1, w2, w3, w4, w5, w6, w7, w8, w9⟩ := idx_val t
  blk_ext [iblk, V_main_arg0, w0, tok, X]
theorem blk1 (c : Dev nD) (t : Fin 16) (k : Fin 1024) : (iblk m c 1 t : Vec Ideal S1x1024 .f32) (ix2 0 k) = N m c (ix1 k) := by
  obtain ⟨w0, w1, w2, w3, w4, w5, w6, w7, w8, w9⟩ := idx_val t
  refine Eq.trans ?_ (weights m c k)
  blk_simp [iblk]
  generalize V m c main_v0 = W
  blk_ext [w1]
theorem blk2 (c : Dev nD) (t : Fin 16) (k : Fin 1024) : (iblk m c 2 t : Vec Ideal S1x1x1024 .f32) (ix3 0 0 k) = M m c (ix3 0 0 (⟨k.val, by omega⟩ : Fin 6144)) := by
  obtain ⟨w0, w1, w2, w3, w4, w5, w6, w7, w8, w9⟩ := idx_val t
  blk_ext [iblk, V_main_arg1, w2, M]
theorem blk3 (c : Dev nD) (t : Fin 16) (k : Fin 1024) : (iblk m c 3 t : Vec Ideal S1x1x1024 .f32) (ix3 0 0 k) = M m c (ix3 0 0 (⟨1024 + k.val, by omega⟩ : Fin 6144)) := by
  obtain ⟨w0, w1, w2, w3, w4, w5, w6, w7, w8, w9⟩ := idx_val t
  blk_ext [iblk, V_main_arg1, w3, M]
theorem blk4 (c : Dev nD) (t : Fin 16) (k : Fin 1024) (l : Fin 2176) : (iblk m c 4 t : Vec Ideal S1024x2176 .bf16) (ix2 k l) = W m c (ix2 k l) := by
  obtain ⟨w0, w1, w2, w3, w4, w5, w6, w7, w8, w9⟩ := idx_val t
  blk_ext [iblk, V_main_arg3, w4, W]
theorem blk5 (c : Dev nD) (t : Fin 16) (l : Fin 512) : (iblk m c 5 t : Vec Ideal S1x512 .f32) (ix2 0 l) = QG m c (ix1 (⟨l.val % 64, by omega⟩ : Fin 64)) := by
  obtain ⟨w0, w1, w2, w3, w4, w5, w6, w7, w8, w9⟩ := idx_val t
  refine Eq.trans ?_ (qgain m c l)
  blk_simp [iblk]
  generalize V m c main_v4 = W
  blk_ext [w5]
theorem blk6 (c : Dev nD) (t : Fin 16) (l : Fin 128) : (iblk m c 6 t : Vec Ideal S1x128 .f32) (ix2 0 l) = KG m c (ix1 (⟨l.val % 64, by omega⟩ : Fin 64)) := by
  obtain ⟨w0, w1, w2, w3, w4, w5, w6, w7, w8, w9⟩ := idx_val t
  refine Eq.trans ?_ (kgain m c l)
  blk_simp [iblk]
  generalize V m c main_v8 = W
  blk_ext [w6]
theorem blk7 (c : Dev nD) (t : Fin 16) (j l : Fin 512) : (iblk m c 7 t : Vec Ideal S512x512 .bf16) (ix2 j l) = meanM j l := by
  obtain ⟨w0, w1, w2, w3, w4, w5, w6, w7, w8, w9⟩ := idx_val t
  refine Eq.trans ?_ (qmean m c j l)
  blk_simp [iblk]
  generalize V m c main_v17 = W
  blk_ext [w7]
theorem blk8 (c : Dev nD) (t : Fin 16) (j l : Fin 128) : (iblk m c 8 t : Vec Ideal S128x128 .bf16) (ix2 j l) = meanM j l := by
  obtain ⟨w0, w1, w2, w3, w4, w5, w6, w7, w8, w9⟩ := idx_val t
  refine Eq.trans ?_ (kmean m c j l)
  blk_simp [iblk]
  generalize V m c main_v26 = W
  blk_ext [w8]

/-- The modulated norm of row `r`. -/
def H (x : S8192x1024.Idx → EReal) (mo : S1x1x6144.Idx → EReal) (n : S1024.Idx → EReal) (r : Fin 8192) (k : Fin 1024) : EReal :=
  modE (fun k => x (ix2 r k)) (fun k => n (ix1 k)) (fun k => mo (ix3 0 0 (⟨1024 + k.val, by omega⟩ : Fin 6144))) (fun k => mo (ix3 0 0 (⟨k.val, by omega⟩ : Fin 6144))) k
/-- Row `r` of the projection. -/
def R (x : S8192x1024.Idx → EReal) (mo : S1x1x6144.Idx → EReal) (n : S1024.Idx → EReal) (w : S1024x2176.Idx → EReal) (r : Fin 8192) (l : Fin 2176) : EReal :=
  ∑ j : Fin 1024, H x mo n r j * w (ix2 j l)

theorem z2 : (![0, 0] : Fin 2 → ℕ) = fun _ => 0 := funext fun a => match a with | ⟨0, _⟩ => rfl | ⟨1, _⟩ => rfl
theorem z3 : (![0, 0, 0] : Fin 3 → ℕ) = fun _ => 0 := funext fun a => match a with | ⟨0, _⟩ => rfl | ⟨1, _⟩ => rfl | ⟨2, _⟩ => rfl
theorem ld0 (Y : Vec Ideal S512x1024 .f32) : View.ld Y r0_0 = Y := View.ld_unit_zero z2 _ _
theorem ld1 (Y : Vec Ideal S1x1024 .f32) : View.ld Y r0_1 = Y := View.ld_unit_zero z2 _ _
theorem ld2 (Y : Vec Ideal S1x1x1024 .f32) : View.ld Y r0_2 = Y := View.ld_unit_zero z3 _ _
theorem ld4 (Y : Vec Ideal S1024x2176 .bf16) : View.ld Y r0_3 = Y := View.ld_unit_zero z2 _ _
theorem ld5 (Y : Vec Ideal S1x512 .f32) : View.ld Y r0_4 = Y := View.ld_unit_zero z2 _ _
theorem ld6 (Y : Vec Ideal S1x128 .f32) : View.ld Y r0_6 = Y := View.ld_unit_zero z2 _ _
theorem ld7 (Y : Vec Ideal S512x512 .bf16) : View.ld Y r0_5 = Y := View.ld_unit_zero z2 _ _
theorem ld8 (Y : Vec Ideal S128x128 .bf16) : View.ld Y r0_7 = Y := View.ld_unit_zero z2 _ _

theorem proj_ld (x : Vec Ideal S512x1024 .f32) (nw : Vec Ideal S1x1024 .f32) (sc sh : Vec Ideal S1x1x1024 .f32) (w : Vec Ideal S1024x2176 .bf16) (i : Fin 512) (l : Fin 2176) :
    k0_pay5 (F := Ideal) (View.ld x r0_0) (View.ld nw r0_1) (View.ld sc r0_2) (View.ld sh r0_2) (View.ld w r0_3) (ix2 i l)
      = ∑ j : Fin 1024, modE (fun k => x (ix2 i k)) (fun k => nw (ix2 0 k)) (fun k => sc (ix3 0 0 k)) (fun k => sh (ix3 0 0 k)) j * w (ix2 j l) := by
  rw [ld0, ld1, ld2, ld2, ld4]
  exact proj_at _ _ _ _ _ i l

theorem row (c : Dev nD) (t : Fin 16) (i : Fin 512) (l : Fin 2176) :
    k0_pay5 (F := Ideal) (View.ld (iblk m c 0 t) r0_0) (View.ld (iblk m c 1 t) r0_1) (View.ld (iblk m c 3 t) r0_2) (View.ld (iblk m c 2 t) r0_2) (View.ld (iblk m c 4 t) r0_3) (ix2 i l)
      = R (X m c) (M m c) (N m c) (W m c) (tok t i) l := by
  refine (proj_ld _ _ _ _ _ i l).trans ?_
  unfold R H
  simp only [← blk0 m c t, ← blk1 m c t, ← blk2 m c t, ← blk3 m c t, ← blk4 m c t]

theorem headK_congr {n : ℕ} {P P' : Fin n → Fin n → EReal} {f f' g g' : Fin n → EReal} (hP : ∀ j l, P j l = P' j l) (hf : ∀ l, f l = f' l) (hg : ∀ l, g l = g' l) (l : Fin n) :
    headK P f g l = headK P' f' g' l := by
  rw [show P = P' from funext fun j => funext fun l => hP j l, show f = f' from funext hf, show g = g' from funext hg]

section Values

variable (x : S8192x1024.Idx → EReal) (mo : S1x1x6144.Idx → EReal) (nw : S1024.Idx → EReal) (w : S1024x2176.Idx → EReal) (qg kg : S64.Idx → EReal)

/-- A query's lane, normed by head and scaled. -/
def Q (r : Fin 8192) (l : Fin 512) : EReal :=
  headK (fun j l : Fin 512 => meanM j l) (fun l => R x mo nw w r (⟨l.val, by omega⟩ : Fin 2176)) (fun l => qg (ix1 (⟨l.val % 64, by omega⟩ : Fin 64))) l * Ideal.ofBits .f32 0x3E000000#32
/-- A key's lane, normed by head. -/
def K (r : Fin 8192) (l : Fin 128) : EReal :=
  headK (fun j l : Fin 128 => meanM j l) (fun l => R x mo nw w r (⟨512 + l.val, by omega⟩ : Fin 2176)) (fun l => kg (ix1 (⟨l.val % 64, by omega⟩ : Fin 64))) l
/-- A value's lane. -/
def U (r : Fin 8192) (l : Fin 128) : EReal := R x mo nw w r (⟨640 + l.val, by omega⟩ : Fin 2176)

/-- The queries. -/
def QA (y : S8192x512.Idx) : EReal := Q x mo nw w qg (y 0) (y 1)
/-- The lane of a head. -/
def lane64 (h : Fin 2) (d : Fin 64) : Fin 128 := ⟨h.val * 64 + d.val, by omega⟩
/-- The row of a sequence's token. -/
def seqRow (s : Fin 32) (i : Fin 256) : Fin 8192 := ⟨s.val * 256 + i.val, by omega⟩
/-- The keys by head. -/
def KA (y : S2x8192x64.Idx) : EReal := K x mo nw w kg (y 1) (lane64 (y 0) (y 2))
/-- The values by head, with the column of ones. -/
def VA (y : S2x8192x128.Idx) : EReal := withOne (fun d => U x mo nw w (y 1) (lane64 (y 0) d)) (y 2)
/-- The gates of the mixer. -/
def ZA (y : S8192x512.Idx) : EReal := R x mo nw w (y 0) (⟨(y 1).val + 768, by have : (y 1).val < 512 := (y 1).isLt; omega⟩ : Fin 2176)
/-- The mixer's inputs. -/
def XA (y : S8192x768.Idx) : EReal := R x mo nw w (y 0) (⟨(y 1).val + 1280, by have : (y 1).val < 768 := (y 1).isLt; omega⟩ : Fin 2176)
/-- The mixer's steps. -/
def DA (y : S8192x128.Idx) : EReal := R x mo nw w (y 0) (⟨(y 1).val + 2048, by have : (y 1).val < 128 := (y 1).isLt; omega⟩ : Fin 2176)
/-- The keys' cache. -/
def KT (y : S32x2x64x256.Idx) : EReal := K x mo nw w kg (seqRow (y 0) (y 3)) (lane64 (y 1) (y 2))
/-- The values' cache. -/
def VT (y : S32x2x64x256.Idx) : EReal := U x mo nw w (seqRow (y 0) (y 3)) (lane64 (y 1) (y 2))

end Values

theorem key_row (c : Dev nD) (t : Fin 16) (i : Fin 512) (l : Fin 128) :
    k0_pay13 (F := Ideal) (k0_pay5 (View.ld (iblk m c 0 t) r0_0) (View.ld (iblk m c 1 t) r0_1) (View.ld (iblk m c 3 t) r0_2) (View.ld (iblk m c 2 t) r0_2) (View.ld (iblk m c 4 t) r0_3)) (View.ld (iblk m c 6 t) r0_6) (View.ld (iblk m c 8 t) r0_7) (View.ld (iblk m c 8 t) r0_7) (ix2 i l)
      = K (X m c) (M m c) (N m c) (W m c) (KG m c) (tok t i) l := by
  refine (key_at _ _ _ i l).trans (headK_congr (fun j l => (congrFun (ld8 _) _).trans (blk8 m c t j l)) (fun l => row m c t i _) (fun l => (congrFun (ld6 _) _).trans (blk6 m c t l)) l)

theorem final_QA (c : Dev nD) : (dats m 0 c).arrAt 9 cfg0.N = (QA (X m c) (M m c) (N m c) (W m c) (QG m c) : S8192x512.Idx → EReal) := by
  refine (dats m 0 c).arrAt_eq_of_covers 9 _ (by decide +kernel) fun t hf y => ?_
  blk_simp
  rw [after0_9]
  obtain ⟨i, k, rfl⟩ : ∃ (i : Fin 512) (k : Fin 512), y = ix2 i k := ⟨y 0, y 1, funext fun a => match a with | ⟨0, _⟩ => rfl | ⟨1, _⟩ => rfl⟩
  obtain ⟨w0, w1, w2, w3, w4, w5, w6, w7, w8, w9, w10, w11, w12, w13, w14, w15, w16⟩ := idx_val t
  have e : out0_9 (F := Ideal) (iblk m c 0 t) (iblk m c 1 t) (iblk m c 2 t) (iblk m c 3 t) (iblk m c 4 t) (iblk m c 5 t) (iblk m c 6 t) (iblk m c 7 t) (iblk m c 8 t) (ix2 i k)
      = QA (X m c) (M m c) (N m c) (W m c) (QG m c) (ix2 (tok t i) k) := by
    unfold out0_9
    rw [View.canon_unit_zero z2]
    refine (query_at _ _ _ _ _ _ _ i k).trans (congrArg (· * Ideal.ofBits .f32 0x3E000000#32) (headK_congr (fun j l => (congrFun (ld7 _) _).trans (blk7 m c t j l)) (fun l => row m c t i _) (fun l => (congrFun (ld5 _) _).trans (blk5 m c t l)) k))
  refine e.trans ?_
  blk_ext [w9, tok]

theorem final_KA (c : Dev nD) : (dats m 0 c).arrAt 10 cfg0.N = (KA (X m c) (M m c) (N m c) (W m c) (KG m c) : S2x8192x64.Idx → EReal) := by
  refine (dats m 0 c).arrAt_eq_of_covers 10 _ (by decide +kernel) fun t hf y => ?_
  blk_simp
  rw [after0_10]
  obtain ⟨h, i, d, rfl⟩ : ∃ (h : Fin 2) (i : Fin 512) (d : Fin 64), y = ix3 h i d := ⟨y 0, y 1, y 2, funext fun a => match a with | ⟨0, _⟩ => rfl | ⟨1, _⟩ => rfl | ⟨2, _⟩ => rfl⟩
  obtain ⟨w0, w1, w2, w3, w4, w5, w6, w7, w8, w9, w10, w11, w12, w13, w14, w15, w16⟩ := idx_val t
  have e : out0_10 (F := Ideal) (iblk m c 0 t) (iblk m c 1 t) (iblk m c 2 t) (iblk m c 3 t) (iblk m c 4 t) (iblk m c 5 t) (iblk m c 6 t) (iblk m c 7 t) (iblk m c 8 t) (ix3 h i d)
      = KA (X m c) (M m c) (N m c) (W m c) (KG m c) (ix3 h (tok t i) d) := by
    refine (Cert.L0InIdeal.Value.canon10_eq _ _ _ _ _ _ _ _).trans ?_
    refine Eq.trans ?_ (key_row m c t i (lane64 h d))
    refine congrArg (k0_pay13 (F := Ideal) _ _ _ _) (funext fun a => ?_)
    match a with
    | ⟨0, _⟩ => rfl
    | ⟨1, _⟩ => rfl
  refine e.trans ?_
  blk_ext [w10, tok]

theorem value_row (c : Dev nD) (t : Fin 16) (i : Fin 512) (l : Fin 128) :
    k0_pay37 (F := Ideal) (iblk m c 0 t) (iblk m c 1 t) (iblk m c 2 t) (iblk m c 3 t) (iblk m c 4 t) (iblk m c 5 t) (iblk m c 6 t) (iblk m c 7 t) (iblk m c 8 t) (ix2 i l) = U (X m c) (M m c) (N m c) (W m c) (tok t i) l := by
  refine Eq.trans ?_ (row m c t i (⟨640 + l.val, by omega⟩ : Fin 2176))
  unfold k0_pay37 k0_pay35 k0_pay14
  generalize k0_pay5 (F := Ideal) _ _ _ _ _ = u
  pointwise

/-- The values of one tile, by head. -/
def VB (c : Dev nD) (t : Fin 16) : Vec Ideal S2x512x128 .bf16 := fun y => VA (X m c) (M m c) (N m c) (W m c) (ix3 (y 0) (tok t (y 1)) (y 2))

theorem value_piece (c : Dev nD) (t : Fin 16) (h : Fin 2) (a : ℕ) (ha : a = h.val * 64) (i : Fin 512) (l : Fin 128) (q : Fin 64 → Fin 128) (hq : ∀ d, (q d).val = a + d.val) :
    withOne (fun d => k0_pay37 (F := Ideal) (iblk m c 0 t) (iblk m c 1 t) (iblk m c 2 t) (iblk m c 3 t) (iblk m c 4 t) (iblk m c 5 t) (iblk m c 6 t) (iblk m c 7 t) (iblk m c 8 t) (ix2 i (q d))) l = VB m c t (ix3 h i l) := by
  show _ = withOne (fun d => U (X m c) (M m c) (N m c) (W m c) (tok t i) (lane64 h d)) l
  refine congrArg (fun f => withOne f l) (funext fun d => (value_row m c t i (q d)).trans (congrArg (U (X m c) (M m c) (N m c) (W m c) (tok t i)) (Fin.ext ?_)))
  show (q d).val = h.val * 64 + d.val
  rw [hq, ha]

theorem final_VA (c : Dev nD) : (dats m 0 c).arrAt 11 cfg0.N = (VA (X m c) (M m c) (N m c) (W m c)  : S2x8192x128.Idx → EReal) := by
  refine (dats m 0 c).arrAt_eq_of_covers 11 _ (by decide +kernel) fun t hf y => ?_
  blk_simp
  rw [after0_11]
  obtain ⟨h, i, d, rfl⟩ : ∃ (h : Fin 2) (i : Fin 512) (d : Fin 128), y = ix3 h i d := ⟨y 0, y 1, y 2, funext fun a => match a with | ⟨0, _⟩ => rfl | ⟨1, _⟩ => rfl | ⟨2, _⟩ => rfl⟩
  obtain ⟨w0, w1, w2, w3, w4, w5, w6, w7, w8, w9, w10, w11, w12, w13, w14, w15, w16⟩ := idx_val t
  have e : out0_11 (F := Ideal) (iblk m c 0 t) (iblk m c 1 t) (iblk m c 2 t) (iblk m c 3 t) (iblk m c 4 t) (iblk m c 5 t) (iblk m c 6 t) (iblk m c 7 t) (iblk m c 8 t) (ix3 h i d)
      = VA (X m c) (M m c) (N m c) (W m c)  (ix3 h (tok t i) d) := by
    refine View.canon_apply_of_pieces (VB m c t) _ ?_ _ (cover0_11 _ _ _)
    intro pc hpc
    rcases List.mem_cons.mp hpc with rfl | hpc
    · intro y
      obtain ⟨a, i, l, rfl⟩ : ∃ (a : Fin 1) (i : Fin 512) (l : Fin 128), y = ix3 a i l := ⟨y 0, y 1, y 2, funext fun a => match a with | ⟨0, _⟩ => rfl | ⟨1, _⟩ => rfl | ⟨2, _⟩ => rfl⟩
      obtain rfl : a = 0 := Subsingleton.elim _ _
      refine (value1_at _ i l).trans ((value_piece m c t 1 64 rfl i l _ fun d => rfl).trans (congrArg (VB m c t) (funext fun b => Fin.ext ?_)))
      match b with
      | ⟨0, _⟩ => rfl
      | ⟨1, _⟩ => show i.val = 0 + 1 * i.val; omega
      | ⟨2, _⟩ => show l.val = 0 + 1 * l.val; omega
    · rcases List.mem_cons.mp hpc with rfl | hpc
      · intro y
        obtain ⟨a, i, l, rfl⟩ : ∃ (a : Fin 1) (i : Fin 512) (l : Fin 128), y = ix3 a i l := ⟨y 0, y 1, y 2, funext fun a => match a with | ⟨0, _⟩ => rfl | ⟨1, _⟩ => rfl | ⟨2, _⟩ => rfl⟩
        obtain rfl : a = 0 := Subsingleton.elim _ _
        refine (value0_at _ i l).trans ((value_piece m c t 0 0 rfl i l _ fun d => (Nat.zero_add _).symm).trans (congrArg (VB m c t) (funext fun b => Fin.ext ?_)))
        match b with
        | ⟨0, _⟩ => rfl
        | ⟨1, _⟩ => show i.val = 0 + 1 * i.val; omega
        | ⟨2, _⟩ => show l.val = 0 + 1 * l.val; omega
      · exact absurd hpc (by simp)
  refine e.trans ?_
  blk_ext [w11, tok]

theorem final_ZA (c : Dev nD) : (dats m 0 c).arrAt 12 cfg0.N = (ZA (X m c) (M m c) (N m c) (W m c)  : S8192x512.Idx → EReal) := by
  refine (dats m 0 c).arrAt_eq_of_covers 12 _ (by decide +kernel) fun t hf y => ?_
  blk_simp
  rw [after0_12]
  obtain ⟨i, k, rfl⟩ : ∃ (i : Fin 512) (k : Fin 512), y = ix2 i k := ⟨y 0, y 1, funext fun a => match a with | ⟨0, _⟩ => rfl | ⟨1, _⟩ => rfl⟩
  obtain ⟨w0, w1, w2, w3, w4, w5, w6, w7, w8, w9, w10, w11, w12, w13, w14, w15, w16⟩ := idx_val t
  have e : out0_12 (F := Ideal) (iblk m c 0 t) (iblk m c 1 t) (iblk m c 2 t) (iblk m c 3 t) (iblk m c 4 t) (iblk m c 5 t) (iblk m c 6 t) (iblk m c 7 t) (iblk m c 8 t) (ix2 i k)
      = ZA (X m c) (M m c) (N m c) (W m c)  (ix2 (tok t i) k) := by
    refine (Cert.L0InIdeal.Value.canon12_eq _ _ _ _ _ _).trans ?_
    refine Eq.trans ?_ (row m c t i _)
    refine congrArg (k0_pay5 (F := Ideal) _ _ _ _ _) (funext fun a => ?_)
    match a with
    | ⟨0, _⟩ => rfl
    | ⟨1, _⟩ => rfl
  refine e.trans ?_
  blk_ext [w12, tok]

theorem final_XA (c : Dev nD) : (dats m 0 c).arrAt 13 cfg0.N = (XA (X m c) (M m c) (N m c) (W m c)  : S8192x768.Idx → EReal) := by
  refine (dats m 0 c).arrAt_eq_of_covers 13 _ (by decide +kernel) fun t hf y => ?_
  blk_simp
  rw [after0_13]
  obtain ⟨i, k, rfl⟩ : ∃ (i : Fin 512) (k : Fin 768), y = ix2 i k := ⟨y 0, y 1, funext fun a => match a with | ⟨0, _⟩ => rfl | ⟨1, _⟩ => rfl⟩
  obtain ⟨w0, w1, w2, w3, w4, w5, w6, w7, w8, w9, w10, w11, w12, w13, w14, w15, w16⟩ := idx_val t
  have e : out0_13 (F := Ideal) (iblk m c 0 t) (iblk m c 1 t) (iblk m c 2 t) (iblk m c 3 t) (iblk m c 4 t) (iblk m c 5 t) (iblk m c 6 t) (iblk m c 7 t) (iblk m c 8 t) (ix2 i k)
      = XA (X m c) (M m c) (N m c) (W m c)  (ix2 (tok t i) k) := by
    refine (Cert.L0InIdeal.Value.canon13_eq _ _ _ _ _ _).trans ?_
    refine Eq.trans ?_ (row m c t i _)
    refine congrArg (k0_pay5 (F := Ideal) _ _ _ _ _) (funext fun a => ?_)
    match a with
    | ⟨0, _⟩ => rfl
    | ⟨1, _⟩ => rfl
  refine e.trans ?_
  blk_ext [w13, tok]

theorem final_DA (c : Dev nD) : (dats m 0 c).arrAt 14 cfg0.N = (DA (X m c) (M m c) (N m c) (W m c)  : S8192x128.Idx → EReal) := by
  refine (dats m 0 c).arrAt_eq_of_covers 14 _ (by decide +kernel) fun t hf y => ?_
  blk_simp
  rw [after0_14]
  obtain ⟨i, k, rfl⟩ : ∃ (i : Fin 512) (k : Fin 128), y = ix2 i k := ⟨y 0, y 1, funext fun a => match a with | ⟨0, _⟩ => rfl | ⟨1, _⟩ => rfl⟩
  obtain ⟨w0, w1, w2, w3, w4, w5, w6, w7, w8, w9, w10, w11, w12, w13, w14, w15, w16⟩ := idx_val t
  have e : out0_14 (F := Ideal) (iblk m c 0 t) (iblk m c 1 t) (iblk m c 2 t) (iblk m c 3 t) (iblk m c 4 t) (iblk m c 5 t) (iblk m c 6 t) (iblk m c 7 t) (iblk m c 8 t) (ix2 i k)
      = DA (X m c) (M m c) (N m c) (W m c)  (ix2 (tok t i) k) := by
    refine (Cert.L0InIdeal.Value.canon14_eq _ _ _ _ _ _).trans ?_
    refine Eq.trans ?_ (row m c t i _)
    refine congrArg (k0_pay5 (F := Ideal) _ _ _ _ _) (funext fun a => ?_)
    match a with
    | ⟨0, _⟩ => rfl
    | ⟨1, _⟩ => rfl
  refine e.trans ?_
  blk_ext [w14, tok]

theorem final_KT (c : Dev nD) : (dats m 0 c).arrAt 15 cfg0.N = (KT (X m c) (M m c) (N m c) (W m c) (KG m c) : S32x2x64x256.Idx → EReal) := by
  refine (dats m 0 c).arrAt_eq_of_covers 15 _ (by decide +kernel) fun t hf y => ?_
  blk_simp
  rw [after0_15]
  obtain ⟨a, b, e, g, rfl⟩ : ∃ (a : Fin 2) (b : Fin 2) (e : Fin 64) (g : Fin 256), y = ix4 a b e g := ⟨y 0, y 1, y 2, y 3, funext fun a => match a with | ⟨0, _⟩ => rfl | ⟨1, _⟩ => rfl | ⟨2, _⟩ => rfl | ⟨3, _⟩ => rfl⟩
  have ht : t.val < 16 := t.isLt
  obtain ⟨w0, w1, w2, w3, w4, w5, w6, w7, w8, w9, w10, w11, w12, w13, w14, w15, w16⟩ := idx_val t
  have e : out0_15 (F := Ideal) (iblk m c 0 t) (iblk m c 1 t) (iblk m c 2 t) (iblk m c 3 t) (iblk m c 4 t) (iblk m c 5 t) (iblk m c 6 t) (iblk m c 7 t) (iblk m c 8 t) (ix4 a b e g)
      = KT (X m c) (M m c) (N m c) (W m c) (KG m c) (ix4 (⟨2 * t.val + a.val, by omega⟩ : Fin 32) b e g) := by
    refine (Cert.L0InIdeal.Value.canon15_eq _ _ _ _ _ _ _ _).trans ?_
    have et : tok t (⟨a.val * 256 + g.val, by omega⟩ : Fin 512) = seqRow (⟨2 * t.val + a.val, by omega⟩ : Fin 32) g := Fin.ext (by show 512 * t.val + (a.val * 256 + g.val) = (2 * t.val + a.val) * 256 + g.val; omega)
    refine Eq.trans ?_ ((key_row m c t (⟨a.val * 256 + g.val, by omega⟩ : Fin 512) (lane64 b e)).trans (congrArg (fun r => K (X m c) (M m c) (N m c) (W m c) (KG m c) r (lane64 b e)) et))
    refine congrArg (k0_pay13 (F := Ideal) _ _ _ _) (funext fun a => ?_)
    match a with
    | ⟨0, _⟩ => rfl
    | ⟨1, _⟩ => rfl
  refine e.trans ?_
  blk_ext [w15, tok]

theorem final_VT (c : Dev nD) : (dats m 0 c).arrAt 16 cfg0.N = (VT (X m c) (M m c) (N m c) (W m c)  : S32x2x64x256.Idx → EReal) := by
  refine (dats m 0 c).arrAt_eq_of_covers 16 _ (by decide +kernel) fun t hf y => ?_
  blk_simp
  rw [after0_16]
  obtain ⟨a, b, e, g, rfl⟩ : ∃ (a : Fin 2) (b : Fin 2) (e : Fin 64) (g : Fin 256), y = ix4 a b e g := ⟨y 0, y 1, y 2, y 3, funext fun a => match a with | ⟨0, _⟩ => rfl | ⟨1, _⟩ => rfl | ⟨2, _⟩ => rfl | ⟨3, _⟩ => rfl⟩
  have ht : t.val < 16 := t.isLt
  obtain ⟨w0, w1, w2, w3, w4, w5, w6, w7, w8, w9, w10, w11, w12, w13, w14, w15, w16⟩ := idx_val t
  have e : out0_16 (F := Ideal) (iblk m c 0 t) (iblk m c 1 t) (iblk m c 2 t) (iblk m c 3 t) (iblk m c 4 t) (iblk m c 5 t) (iblk m c 6 t) (iblk m c 7 t) (iblk m c 8 t) (ix4 a b e g)
      = VT (X m c) (M m c) (N m c) (W m c)  (ix4 (⟨2 * t.val + a.val, by omega⟩ : Fin 32) b e g) := by
    refine (Cert.L0InIdeal.Value.canon16_eq _ _ _ _ _ _).trans ?_
    have et : tok t (⟨a.val * 256 + g.val, by omega⟩ : Fin 512) = seqRow (⟨2 * t.val + a.val, by omega⟩ : Fin 32) g := Fin.ext (by show 512 * t.val + (a.val * 256 + g.val) = (2 * t.val + a.val) * 256 + g.val; omega)
    refine Eq.trans ?_ ((row m c t (⟨a.val * 256 + g.val, by omega⟩ : Fin 512) (⟨640 + (lane64 b e).val, by have := (lane64 b e).isLt; omega⟩ : Fin 2176)).trans (congrArg (fun r => U (X m c) (M m c) (N m c) (W m c) r (lane64 b e)) et))
    refine congrArg (k0_pay5 (F := Ideal) _ _ _ _ _) (funext fun a => ?_)
    match a with
    | ⟨0, _⟩ => rfl
    | ⟨1, _⟩ => exact Fin.ext (Nat.add_comm _ 640)
  refine e.trans ?_
  blk_ext [w16, tok]

end Cert.L0InArray

end
-- ==== Proof.L0InEq.lean ====
/- The head norm as a matrix product against the head norm by head, on reals. -/
module

public import proofs.«01_k».proof.Proof.L0InHost
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.L0InEq

open Cert.Dense Cert.L0InTile Cert.L0InArray

/-- The length 64 as a word. -/
def w64 : EReal := Ideal.ofBits .f32 0x42800000#32
theorem w64_eq : w64 = ((64 : ℝ) : EReal) := by
  simp [w64, Ideal.ofBits, Ideal.ieee, -EReal.coe_mul]; norm_num
theorem w64_inv : Ideal.ofBits .f32 0x3C800000#32 = ((1 / 64 : ℝ) : EReal) := by
  simp [Ideal.ofBits, Ideal.ieee, -EReal.coe_mul]; norm_num

/-- A row's lanes, each divided by the root of the mean square of its head, and scaled; `hd` lists the lanes of the head. -/
def headR {n : ℕ} (f g : Fin n → EReal) (hd : Fin 64 → Fin n) (l : Fin n) : EReal :=
  f l * Ideal.rsqrt (Ideal.div (∑ e, f (hd e) * f (hd e)) w64 + eps) * g l

theorem mean_sum {n : ℕ} (F : Fin n → EReal) (hF : ∀ j, IsR (F j)) (l : Fin n) (hd : Fin 64 → Fin n) (hh : ∀ e, (hd e).val = l.val / 64 * 64 + e.val) :
    ∑ j : Fin n, F j * meanM j l = Ideal.div (∑ e, F (hd e)) w64 := by
  have e1 : ∑ j : Fin n, F j * meanM j l = ∑ e : Fin 64, F (hd e) * ((1 / 64 : ℝ) : EReal) := by
    unfold meanM
    simp only [mul_ite, mul_zero, w64_inv]
    rw [← Finset.sum_filter]
    refine (Finset.sum_bij (fun e _ => hd e) (fun e _ => ?_) (fun a _ b _ h => ?_) (fun j hj => ?_) fun e _ => rfl).symm
    · rw [Finset.mem_filter]
      refine ⟨Finset.mem_univ _, ?_⟩
      have := hh e
      omega
    · have ha := hh a
      have hb := hh b
      rw [h] at ha
      exact Fin.ext (by omega)
    · have hj' := (Finset.mem_filter.1 hj).2
      refine ⟨⟨j.val % 64, by omega⟩, Finset.mem_univ _, Fin.ext ?_⟩
      rw [hh]
      show l.val / 64 * 64 + j.val % 64 = j.val
      omega
  rw [e1]
  choose G hG using hF
  simp only [hG]
  rw [w64_eq, Ideal.div_coe (by norm_num), ← Cert.AttEq.coe_sum, ← EReal.coe_mul, Finset.sum_mul, Cert.AttEq.coe_sum]
  simp only [EReal.coe_mul]

theorem head_eq {n : ℕ} (f g : Fin n → EReal) (hf : ∀ j, IsR (f j)) (l : Fin n) (hd : Fin 64 → Fin n) (hh : ∀ e, (hd e).val = l.val / 64 * 64 + e.val) :
    headK (fun j l : Fin n => meanM j l) f g l = headR f g hd l := by
  unfold headK headR
  have z : ∀ j, f j * f j - f j * f j = 0 := fun j => by
    obtain ⟨r, hr⟩ := hf j
    rw [hr, ← EReal.coe_mul, ← EReal.coe_sub, sub_self, EReal.coe_zero]
  rw [mean_sum (fun j => f j * f j) (fun j => (hf j).mul (hf j)) l hd hh]
  simp only [z, zero_mul, Finset.sum_const_zero, add_zero]

end Cert.L0InEq

end
-- ==== Proof.L0InRef.lean ====
/- The reference of layer 0's projection, element by element. -/
module

public import proofs.«01_k».proof.Proof.Gen.L0InRefIdeal.Read
public import proofs.«01_k».proof.Proof.Gen.L0InRefIdeal.Run
public import proofs.«01_k».proof.Proof.L0InArray
public import proofs.«01_k».proof.Proof.L0InEq
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.L0InRefVal

open Cert.L0InRefIdeal Cert.L0InRefIdeal.Gen Cert.L0InRefIdeal.Read Cert.Dense Cert.L0InTile Cert.L0InEq

variable (x0 : S8192x1024.Idx → EReal) (x1 : S1x1x6144.Idx → EReal) (x2 : S1024.Idx → EReal) (x3 : S1024x2176.Idx → EReal) (x4 x5 : S64.Idx → EReal)

theorem hrow (r : Fin 8192) (k : Fin 1024) : val_main_v25 (F := Ideal) x0 x1 x2 (ix2 r k) = L0InArray.H x0 x1 x2 r k := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_cst_0, val_main_cst_1, val_main_cst_2]
  rfl

theorem row (r : Fin 8192) (l : Fin 2176) : val_main_v27 (F := Ideal) x0 x1 x2 x3 (ix2 r l) = L0InArray.R x0 x1 x2 x3 r l := by
  unfold L0InArray.R
  simp only [← hrow]
  unfold val_main_v27
  generalize val_main_v25 (F := Ideal) x0 x1 x2 = h
  pointwise [val_main_v26]

/-- The lanes of a head among the queries. -/
def hd8 (h : Fin 8) (e : Fin 64) : Fin 512 := ⟨h.val * 64 + e.val, by omega⟩

theorem queries (r : Fin 8192) (l : Fin 512) : val_main_v69 (F := Ideal) x0 x1 x2 x3 x4 (ix2 r l)
    = headR (fun l : Fin 512 => L0InArray.R x0 x1 x2 x3 r (⟨l.val, by omega⟩ : Fin 2176)) (fun l => x4 (ix1 (⟨l.val % 64, by omega⟩ : Fin 64))) (hd8 ⟨l.val / 64, by omega⟩) l * Ideal.ofBits .f32 0x3E000000#32 := by
  simp only [← row]
  unfold val_main_v69 val_main_v68 val_main_v49 val_main_v47 val_main_v44 val_main_v43 val_main_v42 val_main_v41 val_main_v39 val_main_v37 val_main_v36 val_main_v35 val_main_v34 val_main_v28
  generalize val_main_v27 (F := Ideal) x0 x1 x2 x3 = h
  pointwise [val_main_v48, val_main_v46, val_main_v45, val_main_v40, val_main_v38, val_main_cst_3, val_main_cst_4, val_main_cst_5, val_main_cst_6]
  rfl

theorem keys (r : Fin 8192) (h : Fin 2) (d : Fin 64) : val_main_v63 (F := Ideal) x0 x1 x2 x3 x5 (ix3 r h d)
    = headR (fun l : Fin 128 => L0InArray.R x0 x1 x2 x3 r (⟨512 + l.val, by omega⟩ : Fin 2176)) (fun l => x5 (ix1 (⟨l.val % 64, by omega⟩ : Fin 64))) (L0InArray.lane64 h) (L0InArray.lane64 h d) := by
  simp only [← row]
  unfold val_main_v63 val_main_v60 val_main_v59 val_main_v58 val_main_v57 val_main_v55 val_main_v53 val_main_v52 val_main_v51 val_main_v50 val_main_v29
  generalize val_main_v27 (F := Ideal) x0 x1 x2 x3 = u
  pointwise [val_main_v62, val_main_v61, val_main_v56, val_main_v54, val_main_cst_7, val_main_cst_8, val_main_cst_9]
  refine congrArg₂ (HMul.hMul (α := EReal) (β := EReal)) rfl (congrArg x5 (congrArg ix1 (Fin.ext ?_)))
  show d.val = (h.val * 64 + d.val) % 64
  omega

theorem values (r : Fin 8192) (h : Fin 2) (d : Fin 64) : val_main_v64 (F := Ideal) x0 x1 x2 x3 (ix3 r h d) = L0InArray.U x0 x1 x2 x3 r (L0InArray.lane64 h d) := by
  unfold L0InArray.U
  rw [← row]
  unfold val_main_v64 val_main_v30
  generalize val_main_v27 (F := Ideal) x0 x1 x2 x3 = u
  pointwise
  rfl

theorem keys_heads (h : Fin 2) (r : Fin 8192) (d : Fin 64) : val_main_v71 (F := Ideal) x0 x1 x2 x3 x5 (ix3 h r d) = val_main_v63 (F := Ideal) x0 x1 x2 x3 x5 (ix3 r h d) := by
  unfold val_main_v71 val_main_v70
  generalize val_main_v63 (F := Ideal) x0 x1 x2 x3 x5 = u
  pointwise

theorem keys_cache (s : Fin 32) (h : Fin 2) (d : Fin 64) (i : Fin 256) : val_main_v77 (F := Ideal) x0 x1 x2 x3 x5 (ix4 s h d i) = val_main_v63 (F := Ideal) x0 x1 x2 x3 x5 (ix3 (L0InArray.seqRow s i) h d) := by
  unfold val_main_v77 val_main_v76
  generalize val_main_v63 (F := Ideal) x0 x1 x2 x3 x5 = u
  pointwise
  rfl

theorem values_cache (s : Fin 32) (h : Fin 2) (d : Fin 64) (i : Fin 256) : val_main_v79 (F := Ideal) x0 x1 x2 x3 (ix4 s h d i) = L0InArray.U x0 x1 x2 x3 (L0InArray.seqRow s i) (L0InArray.lane64 h d) := by
  rw [← values]
  unfold val_main_v79 val_main_v78
  generalize val_main_v64 (F := Ideal) x0 x1 x2 x3 = u
  pointwise
  rfl

theorem values_heads (h : Fin 2) (r : Fin 8192) (l : Fin 128) : val_main_v74 (F := Ideal) x0 x1 x2 x3 (ix3 h r l) = withOne (fun d => L0InArray.U x0 x1 x2 x3 r (L0InArray.lane64 h d)) l := by
  simp only [← values]
  unfold val_main_v74 val_main_v73 val_main_v72
  generalize val_main_v64 (F := Ideal) x0 x1 x2 x3 = u
  pointwise [val_main_v67, val_main_v66, val_main_v65, val_main_cst_10, val_main_cst_11]
  unfold withOne
  by_cases e : l.val < 64
  · rw [dif_pos e, dif_pos e]
  · rw [dif_neg e, dif_neg e]
    by_cases e' : l.val = 64
    · rw [dif_pos (by omega), if_pos e', word_one]
    · rw [dif_neg (by omega), if_neg e']

theorem gates (r : Fin 8192) (l : Fin 512) : val_main_v75 (F := Ideal) x0 x1 x2 x3 (ix2 r l) = L0InArray.R x0 x1 x2 x3 r (⟨l.val + 768, by omega⟩ : Fin 2176) := by
  rw [← row]
  unfold val_main_v75 val_main_v31
  generalize val_main_v27 (F := Ideal) x0 x1 x2 x3 = u
  pointwise
  exact congrArg u (congrArg (ix2 r) (Fin.ext (Nat.add_comm _ _)))

theorem inputs (r : Fin 8192) (l : Fin 768) : val_main_v32 (F := Ideal) x0 x1 x2 x3 (ix2 r l) = L0InArray.R x0 x1 x2 x3 r (⟨l.val + 1280, by omega⟩ : Fin 2176) := by
  rw [← row]
  unfold val_main_v32
  generalize val_main_v27 (F := Ideal) x0 x1 x2 x3 = u
  pointwise
  exact congrArg u (congrArg (ix2 r) (Fin.ext (Nat.add_comm _ _)))

theorem steps (r : Fin 8192) (l : Fin 128) : val_main_v33 (F := Ideal) x0 x1 x2 x3 (ix2 r l) = L0InArray.R x0 x1 x2 x3 r (⟨l.val + 2048, by omega⟩ : Fin 2176) := by
  rw [← row]
  unfold val_main_v33
  generalize val_main_v27 (F := Ideal) x0 x1 x2 x3 = u
  pointwise
  exact congrArg u (congrArg (ix2 r) (Fin.ext (Nat.add_comm _ _)))

/-- The reference's run, each result named by its last stage. -/
theorem run_read (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v69) = val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v71) = val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v74) = val_main_v74 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v75) = val_main_v75 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v32) = val_main_v32 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v33) = val_main_v33 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v77) = val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v79) = val_main_v79 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1).trans (val_main_v69_eq m c),
    ((h c).2.1).trans (val_main_v71_eq m c),
    ((h c).2.2.1).trans (val_main_v74_eq (m ((c.tc : Thread nD τ).loc main_arg0)) (m ((c.tc : Thread nD τ).loc main_arg1)) (m ((c.tc : Thread nD τ).loc main_arg2)) (m ((c.tc : Thread nD τ).loc main_arg3))),
    ((h c).2.2.2.1).trans (val_main_v75_eq (m ((c.tc : Thread nD τ).loc main_arg0)) (m ((c.tc : Thread nD τ).loc main_arg1)) (m ((c.tc : Thread nD τ).loc main_arg2)) (m ((c.tc : Thread nD τ).loc main_arg3))),
    ((h c).2.2.2.2.1).trans (val_main_v32_eq (m ((c.tc : Thread nD τ).loc main_arg0)) (m ((c.tc : Thread nD τ).loc main_arg1)) (m ((c.tc : Thread nD τ).loc main_arg2)) (m ((c.tc : Thread nD τ).loc main_arg3))),
    ((h c).2.2.2.2.2.1).trans (val_main_v33_eq (m ((c.tc : Thread nD τ).loc main_arg0)) (m ((c.tc : Thread nD τ).loc main_arg1)) (m ((c.tc : Thread nD τ).loc main_arg2)) (m ((c.tc : Thread nD τ).loc main_arg3))),
    ((h c).2.2.2.2.2.2.1).trans (val_main_v77_eq m c),
    ((h c).2.2.2.2.2.2.2.1).trans (val_main_v79_eq (m ((c.tc : Thread nD τ).loc main_arg0)) (m ((c.tc : Thread nD τ).loc main_arg1)) (m ((c.tc : Thread nD τ).loc main_arg2)) (m ((c.tc : Thread nD τ).loc main_arg3))), (h c).2.2.2.2.2.2.2.2⟩) (Cert.L0InRefIdeal.Value.run (F := Ideal) m ρ)

end Cert.L0InRefVal

end
-- ==== Proof.L0InClaim.lean ====
/- The claim about layer 0's projection. -/
module

public import proofs.«01_k».proof.Defs
public import proofs.«01_k».proof.Proof.L0InRef
public import proofs.«01_k».proof.Proof.Finite
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.L0InClaim

open Cert.L0InArray Cert.Dense Cert.L0InTile Cert.L0InEq

section Equal

open Cert.L0InRefIdeal Cert.L0InRefIdeal.Read

variable (x0 : S8192x1024.Idx → EReal) (x1 : S1x1x6144.Idx → EReal) (x2 : S1024.Idx → EReal) (x3 : S1024x2176.Idx → EReal) (x4 x5 : S64.Idx → EReal)

/-- Where the modulation, the norm's weights and the projection are real, so is the projected row. -/
theorem row_real (h1 : ∀ i, IsR (x1 i)) (h2 : ∀ i, IsR (x2 i)) (h3 : ∀ i, IsR (x3 i)) (r : Fin 8192) (l : Fin 2176) : IsR (R x0 x1 x2 x3 r l) :=
  IsR.sum _ _ fun j => (modE_real _ _ _ _ (fun _ => h2 _) (fun _ => h1 _) (fun _ => h1 _) j).mul (h3 _)

theorem query_eq (h1 : ∀ i, IsR (x1 i)) (h2 : ∀ i, IsR (x2 i)) (h3 : ∀ i, IsR (x3 i)) (r : Fin 8192) (l : Fin 512) :
    Q x0 x1 x2 x3 x4 r l = val_main_v69 (F := Ideal) x0 x1 x2 x3 x4 (ix2 r l) := by
  rw [L0InRefVal.queries]
  unfold Q
  rw [head_eq _ _ (fun j => row_real x0 x1 x2 x3 h1 h2 h3 r _) l (L0InRefVal.hd8 ⟨l.val / 64, by omega⟩) fun e => rfl]

theorem key_eq (h1 : ∀ i, IsR (x1 i)) (h2 : ∀ i, IsR (x2 i)) (h3 : ∀ i, IsR (x3 i)) (r : Fin 8192) (h : Fin 2) (d : Fin 64) :
    K x0 x1 x2 x3 x5 r (lane64 h d) = val_main_v63 (F := Ideal) x0 x1 x2 x3 x5 (ix3 r h d) := by
  rw [L0InRefVal.keys]
  unfold K
  refine head_eq _ _ (fun j => row_real x0 x1 x2 x3 h1 h2 h3 r _) (lane64 h d) (lane64 h) fun e => ?_
  show h.val * 64 + e.val = (h.val * 64 + d.val) / 64 * 64 + e.val
  omega

theorem ext2 {n k : ℕ} (f g : (⟨2, ![n, k]⟩ : Shape).Idx → EReal) (h : ∀ (r : Fin n) (l : Fin k), f (ix2 r l) = g (ix2 r l)) : f = g := by
  funext y
  obtain ⟨r, l, rfl⟩ : ∃ (r : Fin n) (l : Fin k), y = ix2 r l := ⟨y 0, y 1, funext fun a => match a with | ⟨0, _⟩ => rfl | ⟨1, _⟩ => rfl⟩
  exact h r l

theorem ext3 {n k p : ℕ} (f g : (⟨3, ![n, k, p]⟩ : Shape).Idx → EReal) (h : ∀ (a : Fin n) (r : Fin k) (l : Fin p), f (ix3 a r l) = g (ix3 a r l)) : f = g := by
  funext y
  obtain ⟨a, r, l, rfl⟩ : ∃ (a : Fin n) (r : Fin k) (l : Fin p), y = ix3 a r l := ⟨y 0, y 1, y 2, funext fun a => match a with | ⟨0, _⟩ => rfl | ⟨1, _⟩ => rfl | ⟨2, _⟩ => rfl⟩
  exact h a r l

theorem ext4 {n k p q : ℕ} (f g : (⟨4, ![n, k, p, q]⟩ : Shape).Idx → EReal) (h : ∀ (s : Fin n) (a : Fin k) (d : Fin p) (i : Fin q), f (ix4 s a d i) = g (ix4 s a d i)) : f = g := by
  funext y
  obtain ⟨s, a, d, i, rfl⟩ : ∃ (s : Fin n) (a : Fin k) (d : Fin p) (i : Fin q), y = ix4 s a d i := ⟨y 0, y 1, y 2, y 3, funext fun a => match a with | ⟨0, _⟩ => rfl | ⟨1, _⟩ => rfl | ⟨2, _⟩ => rfl | ⟨3, _⟩ => rfl⟩
  exact h s a d i

theorem q_arr (h1 : ∀ i, IsR (x1 i)) (h2 : ∀ i, IsR (x2 i)) (h3 : ∀ i, IsR (x3 i)) : (QA x0 x1 x2 x3 x4 : S8192x512.Idx → EReal) = val_main_v69 (F := Ideal) x0 x1 x2 x3 x4 :=
  ext2 _ _ fun r l => query_eq x0 x1 x2 x3 x4 h1 h2 h3 r l

theorem k_arr (h1 : ∀ i, IsR (x1 i)) (h2 : ∀ i, IsR (x2 i)) (h3 : ∀ i, IsR (x3 i)) : (KA x0 x1 x2 x3 x5 : S2x8192x64.Idx → EReal) = val_main_v71 (F := Ideal) x0 x1 x2 x3 x5 :=
  ext3 _ _ fun a r l => (key_eq x0 x1 x2 x3 x5 h1 h2 h3 r a l).trans (L0InRefVal.keys_heads x0 x1 x2 x3 x5 a r l).symm

theorem v_arr : (VA x0 x1 x2 x3 : S2x8192x128.Idx → EReal) = val_main_v74 (F := Ideal) x0 x1 x2 x3 :=
  ext3 _ _ fun a r l => (L0InRefVal.values_heads x0 x1 x2 x3 a r l).symm

theorem z_arr : (ZA x0 x1 x2 x3 : S8192x512.Idx → EReal) = val_main_v75 (F := Ideal) x0 x1 x2 x3 :=
  ext2 _ _ fun r l => (L0InRefVal.gates x0 x1 x2 x3 r l).symm

theorem x_arr : (XA x0 x1 x2 x3 : S8192x768.Idx → EReal) = val_main_v32 (F := Ideal) x0 x1 x2 x3 :=
  ext2 _ _ fun r l => (L0InRefVal.inputs x0 x1 x2 x3 r l).symm

theorem d_arr : (DA x0 x1 x2 x3 : S8192x128.Idx → EReal) = val_main_v33 (F := Ideal) x0 x1 x2 x3 :=
  ext2 _ _ fun r l => (L0InRefVal.steps x0 x1 x2 x3 r l).symm

theorem kt_arr (h1 : ∀ i, IsR (x1 i)) (h2 : ∀ i, IsR (x2 i)) (h3 : ∀ i, IsR (x3 i)) : (KT x0 x1 x2 x3 x5 : S32x2x64x256.Idx → EReal) = val_main_v77 (F := Ideal) x0 x1 x2 x3 x5 :=
  ext4 _ _ fun s a d i => (key_eq x0 x1 x2 x3 x5 h1 h2 h3 _ a d).trans (L0InRefVal.keys_cache x0 x1 x2 x3 x5 s a d i).symm

theorem vt_arr : (VT x0 x1 x2 x3 : S32x2x64x256.Idx → EReal) = val_main_v79 (F := Ideal) x0 x1 x2 x3 :=
  ext4 _ _ fun s a d i => (L0InRefVal.values_cache x0 x1 x2 x3 s a d i).symm

end Equal

set_option maxHeartbeats 2000000 in
theorem claim : Cert.algebraic_L0InIdeal_L0InRefIdeal_pre_finite6 := by
  intro m g m' g' hpre hagree
  refine ⟨fun c => Cert.L0InRefIdeal.Read.val_main_v69 (F := Ideal) (X m c) (M m c) (N m c) (W m c) (QG m c),
    fun c => Cert.L0InRefIdeal.Read.val_main_v71 (F := Ideal) (X m c) (M m c) (N m c) (W m c) (KG m c),
    fun c => Cert.L0InRefIdeal.Read.val_main_v74 (F := Ideal) (X m c) (M m c) (N m c) (W m c),
    fun c => Cert.L0InRefIdeal.Read.val_main_v75 (F := Ideal) (X m c) (M m c) (N m c) (W m c),
    fun c => Cert.L0InRefIdeal.Read.val_main_v32 (F := Ideal) (X m c) (M m c) (N m c) (W m c),
    fun c => Cert.L0InRefIdeal.Read.val_main_v33 (F := Ideal) (X m c) (M m c) (N m c) (W m c),
    fun c => Cert.L0InRefIdeal.Read.val_main_v77 (F := Ideal) (X m c) (M m c) (N m c) (W m c) (KG m c),
    fun c => Cert.L0InRefIdeal.Read.val_main_v79 (F := Ideal) (X m c) (M m c) (N m c) (W m c), ?_, ?_⟩
  · refine (θ_run _ _ _).mono (fun r h c => ?_) (Cert.L0InIdeal.Value.run_blocks m g)
    obtain ⟨h1, h2, h3, h4, h5, h6, h7, h8, hr⟩ := h c
    obtain ⟨r1, r2, r3⟩ := Cert.Finite.l0_real _ _ _ _ _ _ (hpre c)
    refine ⟨h1.trans ((final_QA m c).trans ?_), h2.trans ((final_KA m c).trans ?_), h3.trans ((final_VA m c).trans ?_), h4.trans ((final_ZA m c).trans ?_),
      h5.trans ((final_XA m c).trans ?_), h6.trans ((final_DA m c).trans ?_), h7.trans ((final_KT m c).trans ?_), h8.trans ((final_VT m c).trans ?_), hr⟩
    · exact q_arr _ _ _ _ _ r1 r2 r3
    · exact k_arr _ _ _ _ _ r1 r2 r3
    · exact v_arr _ _ _ _
    · exact z_arr _ _ _ _
    · exact x_arr _ _ _ _
    · exact d_arr _ _ _ _
    · exact kt_arr _ _ _ _ _ r1 r2 r3
    · exact vt_arr _ _ _ _
  · refine (θ_run _ _ _).mono (fun r h c => ?_) (L0InRefVal.run_read m' g')
    obtain ⟨h1, h2, h3, h4, h5, h6, h7, h8, hr⟩ := h c
    obtain ⟨a0, a1, a2, a3, a4, a5⟩ := hagree c
    exact ⟨h1.trans (congr (congr (congr (congr (congrArg _ a0) a1) a2) a3) a4), h2.trans (congr (congr (congr (congr (congrArg _ a0) a1) a2) a3) a5),
      h3.trans (congr (congr (congr (congrArg _ a0) a1) a2) a3), h4.trans (congr (congr (congr (congrArg _ a0) a1) a2) a3),
      h5.trans (congr (congr (congr (congrArg _ a0) a1) a2) a3), h6.trans (congr (congr (congr (congrArg _ a0) a1) a2) a3),
      h7.trans (congr (congr (congr (congr (congrArg _ a0) a1) a2) a3) a5), h8.trans (congr (congr (congr (congrArg _ a0) a1) a2) a3), hr⟩

end Cert.L0InClaim

end
-- ==== Proof.PostSTile.lean ====
/- The samples' end of the last layer: one tile's values, element by element. -/
module

public import proofs.«01_k».proof.Proof.Gen.PostSIdeal.Value
public import proofs.«01_k».proof.Proof.Dense
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.PostSTile

open Cert.PostSIdeal Cert.PostSIdeal.Gen Cert.Dense

/-- The first head's part, of the two directions' sum. -/
theorem head0_at (y z : Vec Ideal S512x512 .bf16) (gain : Vec Ideal S1x512 .f32) (g : Vec Ideal S512x512 .bf16) (w : Vec Ideal S512x1024 .bf16) (i : Fin 512) (k : Fin 1024) :
    k0_pay2 (F := Ideal) y z gain g w (ix2 i k)
      = headE (fun e => (y (ix2 i e) : EReal) + z (ix2 i e)) (fun e => g (ix2 i e)) (fun e => gain (ix2 0 e)) (fun e k => w (ix2 e k)) k := by
  pointwise [k0_pay2]
  rfl

/-- The root of a head's mean square. -/
theorem root_at (y z : Vec Ideal S512x512 .bf16) (i : Fin 512) :
    k0_pay4 (F := Ideal) y z (ix2 i 0)
      = Ideal.rsqrt (Ideal.div (∑ e : Fin 512, ((y (ix2 i e) : EReal) + z (ix2 i e)) * ((y (ix2 i e) : EReal) + z (ix2 i e))) w512 + eps) := by
  pointwise [k0_pay4, k0_pay3]
  rfl

/-- The second and the third head's parts, added to the first's. -/
theorem heads_at (a : FVec Ideal S512x1024 .f32) (y z : Vec Ideal S512x512 .bf16) (gain : Vec Ideal S1x512 .f32) (g : Vec Ideal S512x512 .bf16) (w : Vec Ideal S512x1024 .bf16)
    (y2 z2 : Vec Ideal S512x512 .bf16) (gain2 : Vec Ideal S1x512 .f32) (g2 : Vec Ideal S512x512 .bf16) (w2 : Vec Ideal S512x1024 .bf16) (i : Fin 512) (k : Fin 1024) :
    k0_pay5 (F := Ideal) a (k0_pay3 y z) (k0_pay4 y z) gain g w y2 z2 gain2 g2 w2 (ix2 i k)
      = (a (ix2 i k) + headE (fun e => (y (ix2 i e) : EReal) + z (ix2 i e)) (fun e => g (ix2 i e)) (fun e => gain (ix2 0 e)) (fun e k => w (ix2 e k)) k)
        + headE (fun e => (y2 (ix2 i e) : EReal) + z2 (ix2 i e)) (fun e => g2 (ix2 i e)) (fun e => gain2 (ix2 0 e)) (fun e k => w2 (ix2 e k)) k := by
  have hr := root_at y z i
  generalize k0_pay4 (F := Ideal) y z = r at *
  pointwise [k0_pay5, k0_pay3]
  rw [hr]
  rfl

/-- The residual after the mixing branch. -/
theorem x1_at (a : FVec Ideal S512x1024 .f32) (y z : Vec Ideal S512x512 .bf16) (gain : Vec Ideal S1x512 .f32) (g : Vec Ideal S512x512 .bf16)
    (w : Vec Ideal S512x1024 .bf16) (x : Vec Ideal S512x1024 .f32) (g1 : Vec Ideal S1x1x1024 .f32) (i : Fin 512) (k : Fin 1024) :
    k0_pay6 (F := Ideal) a y z gain g w x g1 (ix2 i k)
      = x (ix2 i k) + g1 (ix3 0 0 k) * (a (ix2 i k)
        + headE (fun e => (y (ix2 i e) : EReal) + z (ix2 i e)) (fun e => g (ix2 i e)) (fun e => gain (ix2 0 e)) (fun e k => w (ix2 e k)) k) := by
  pointwise [k0_pay6]
  rfl

/-- The mean square of a residual row. -/
theorem mean_at (a : FVec Ideal S512x1024 .f32) (y z : Vec Ideal S512x512 .bf16) (gain : Vec Ideal S1x512 .f32) (g : Vec Ideal S512x512 .bf16)
    (w : Vec Ideal S512x1024 .bf16) (x : Vec Ideal S512x1024 .f32) (g1 : Vec Ideal S1x1x1024 .f32) (i : Fin 512) :
    k0_pay7 (F := Ideal) a y z gain g w x g1 (ix2 i 0)
      = Ideal.div (∑ k : Fin 1024, (k0_pay6 (F := Ideal) a y z gain g w x g1 (ix2 i k) : EReal) * k0_pay6 (F := Ideal) a y z gain g w x g1 (ix2 i k)) w1024 := by
  unfold k0_pay7
  generalize k0_pay6 (F := Ideal) a y z gain g w x g1 = v
  pointwise
  rfl

/-- The residual after the feed-forward part, where `p` holds the rows' mean squares. -/
theorem x2_at (x1 : FVec Ideal S512x1024 .f32) (p : FVec Ideal S512x1 .f32) (nw : Vec Ideal S1x1024 .f32) (sc sh : Vec Ideal S1x1x1024 .f32) (wg wu : Vec Ideal S1024x2816 .bf16)
    (g2 : Vec Ideal S1x1x1024 .f32) (wd : Vec Ideal S2816x1024 .bf16) (i : Fin 512)
    (hp : p (ix2 i 0) = Ideal.div (∑ k : Fin 1024, (x1 (ix2 i k) : EReal) * x1 (ix2 i k)) w1024) (k : Fin 1024) :
    k0_pay9 (F := Ideal) x1 p (k0_pay8 (F := Ideal)) nw sc sh wg wu g2 wd (ix2 i k)
      = outE siluT (fun k => x1 (ix2 i k)) (fun k => nw (ix2 0 k)) (fun k => sc (ix3 0 0 k)) (fun k => sh (ix3 0 0 k)) (fun k => g2 (ix3 0 0 k))
        (fun j l => wg (ix2 j l)) (fun j l => wu (ix2 j l)) (fun l k => wd (ix2 l k)) k := by
  pointwise [k0_pay9, k0_pay8]
  rw [hp]
  rfl

/-- The last norm of a row. -/
theorem out_at (x2 : FVec Ideal S512x1024 .f32) (fn : Vec Ideal S1x1024 .f32) (i : Fin 512) (k : Fin 1024) :
    k0_pay1 (F := Ideal) x2 (mulf x2 x2) fn (ix2 i k) = rmsE w1024 (fun k => x2 (ix2 i k)) k * fn (ix2 0 k) := by
  pointwise [k0_pay1]
  rfl

end Cert.PostSTile

end
-- ==== Proof.PostSArray.lean ====
/- The samples' end of the last layer: its array, from the arguments as launched. -/
module

public import proofs.«01_k».proof.Proof.PostSTile
public import proofs.«01_k».proof.Proof.PostCArray
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.PostSArray

open Cert.PostSIdeal Cert.PostSIdeal.Gen Cert.Dense
open Cert.PostCArray (tok z2 z3 Hd head_congr)

variable (m : (ℓ : Loc nD τ sig) → Buf (Elt Ideal) ℓ)

theorem idx_val : ∀ t : Fin cfg0.N, win0_0.index t = ![t.val, 0]
    ∧ win0_1.index t = ![t.val / 8, 0, 2]
    ∧ win0_2.index t = ![0, 0]
    ∧ win0_3.index t = ![t.val / 8, 0, 3]
    ∧ win0_4.index t = ![t.val / 8, 0, 4]
    ∧ win0_5.index t = ![t.val / 8, 0, 5]
    ∧ win0_6.index t = ![0, 0]
    ∧ win0_7.index t = ![0, 0]
    ∧ win0_8.index t = ![0, 0]
    ∧ win0_9.index t = ![0, 0]
    ∧ win0_10.index t = ![0, 0]
    ∧ win0_11.index t = ![t.val, 0]
    ∧ win0_12.index t = ![t.val, 0]
    ∧ win0_13.index t = ![t.val, 0]
    ∧ win0_14.index t = ![0, 0]
    ∧ win0_15.index t = ![t.val, 0] :=
  (by decide +kernel : ∀ t : Fin grid0.N, _)

/-- The sample of a row. -/
def smp (r : Fin 8192) : Fin 2 := ⟨r.val / 4096, by omega⟩
/-- The sample of a tile. -/
def par (t : Fin 16) : Fin 2 := ⟨t.val / 8, by omega⟩
theorem smp_tok (t : Fin 16) (i : Fin 512) : smp (tok t i) = par t := Fin.ext (by show (512 * t.val + i.val) / 4096 = t.val / 8; omega)

/-- One sample's modulation. -/
def Row (mo : S2x1x6144.Idx → EReal) (q : Fin 2) : Cert.PostCIdeal.S1x1x6144.Idx → EReal := fun i => mo (ix3 q 0 (i 2))
/-- The sum of both directions. -/
def Both (yf yb : S8192x2048.Idx → EReal) : S8192x2048.Idx → EReal := fun i => yf i + yb i

/-- The rows as launched. -/
def Ax (c : Dev nD) : S8192x1024.Idx → EReal := m ((c : Thread nD τ).loc main_arg0)
/-- The samples' modulations as launched. -/
def Amo (c : Dev nD) : S2x1x6144.Idx → EReal := m ((c : Thread nD τ).loc main_arg1)
/-- The norm's weights as launched. -/
def An (c : Dev nD) : S1024.Idx → EReal := m ((c : Thread nD τ).loc main_arg2)
/-- The output projection as launched. -/
def Awo (c : Dev nD) : S2048x1024.Idx → EReal := m ((c : Thread nD τ).loc main_arg3)
/-- The gate projection as launched. -/
def Awg (c : Dev nD) : S1024x2816.Idx → EReal := m ((c : Thread nD τ).loc main_arg4)
/-- The up projection as launched. -/
def Awu (c : Dev nD) : S1024x2816.Idx → EReal := m ((c : Thread nD τ).loc main_arg5)
/-- The down projection as launched. -/
def Awd (c : Dev nD) : S2816x1024.Idx → EReal := m ((c : Thread nD τ).loc main_arg6)
/-- The last norm's weights as launched. -/
def Afn (c : Dev nD) : S1024.Idx → EReal := m ((c : Thread nD τ).loc main_arg7)
/-- The retention's forward direction as launched. -/
def Ayf (c : Dev nD) : S8192x2048.Idx → EReal := m ((c : Thread nD τ).loc main_arg8)
/-- The retention's backward direction as launched. -/
def Ayb (c : Dev nD) : S8192x2048.Idx → EReal := m ((c : Thread nD τ).loc main_arg9)
/-- The gates as launched. -/
def Ag (c : Dev nD) : S8192x2048.Idx → EReal := m ((c : Thread nD τ).loc main_arg10)
/-- The heads' weights as launched. -/
def Again (c : Dev nD) : S2048.Idx → EReal := m ((c : Thread nD τ).loc main_arg11)

theorem host_n (c : Dev nD) (k : Fin 1024) : (V m c main_v0 : Vec Ideal S1x1024 .f32) (ix2 0 k) = An m c (ix1 k) := by
  entry_read
  pointwise
  rfl

theorem host_gain (c : Dev nD) (k : Fin 2048) : (V m c main_v1 : Vec Ideal S1x2048 .f32) (ix2 0 k) = Again m c (ix1 k) := by
  entry_read
  pointwise
  rfl

theorem host_fn (c : Dev nD) (k : Fin 1024) : (V m c main_v2 : Vec Ideal S1x1024 .f32) (ix2 0 k) = Afn m c (ix1 k) := by
  entry_read
  pointwise
  rfl

theorem blk0 (c : Dev nD) (t : Fin 16) (i : Fin 512) (k : Fin 1024) : (iblk m c 0 t : Vec Ideal S512x1024 .f32) (ix2 i k) = Ax m c (ix2 (tok t i) k) := by
  obtain ⟨w0, w1, w2, w3, w4, w5, w6, w7, w8, w9, w10, w11, w12, w13, w14, w15⟩ := idx_val t
  blk_ext [iblk, V, w0, tok, Ax]
theorem blk1 (c : Dev nD) (t : Fin 16) (k : Fin 1024) : (iblk m c 1 t : Vec Ideal S1x1x1024 .f32) (ix3 0 0 k) = Amo m c (ix3 (par t) 0 (⟨2048 + k.val, by omega⟩ : Fin 6144)) := by
  obtain ⟨w0, w1, w2, w3, w4, w5, w6, w7, w8, w9, w10, w11, w12, w13, w14, w15⟩ := idx_val t
  blk_ext [iblk, V, w1, par, Amo]
theorem blk2 (c : Dev nD) (t : Fin 16) (k : Fin 1024) : (iblk m c 2 t : Vec Ideal S1x1024 .f32) (ix2 0 k) = An m c (ix1 k) := by
  obtain ⟨w0, w1, w2, w3, w4, w5, w6, w7, w8, w9, w10, w11, w12, w13, w14, w15⟩ := idx_val t
  refine Eq.trans ?_ (host_n m c k)
  blk_simp [iblk]
  generalize V m c main_v0 = W
  blk_ext [w2]
theorem blk3 (c : Dev nD) (t : Fin 16) (k : Fin 1024) : (iblk m c 3 t : Vec Ideal S1x1x1024 .f32) (ix3 0 0 k) = Amo m c (ix3 (par t) 0 (⟨3072 + k.val, by omega⟩ : Fin 6144)) := by
  obtain ⟨w0, w1, w2, w3, w4, w5, w6, w7, w8, w9, w10, w11, w12, w13, w14, w15⟩ := idx_val t
  blk_ext [iblk, V, w3, par, Amo]
theorem blk4 (c : Dev nD) (t : Fin 16) (k : Fin 1024) : (iblk m c 4 t : Vec Ideal S1x1x1024 .f32) (ix3 0 0 k) = Amo m c (ix3 (par t) 0 (⟨4096 + k.val, by omega⟩ : Fin 6144)) := by
  obtain ⟨w0, w1, w2, w3, w4, w5, w6, w7, w8, w9, w10, w11, w12, w13, w14, w15⟩ := idx_val t
  blk_ext [iblk, V, w4, par, Amo]
theorem blk5 (c : Dev nD) (t : Fin 16) (k : Fin 1024) : (iblk m c 5 t : Vec Ideal S1x1x1024 .f32) (ix3 0 0 k) = Amo m c (ix3 (par t) 0 (⟨5120 + k.val, by omega⟩ : Fin 6144)) := by
  obtain ⟨w0, w1, w2, w3, w4, w5, w6, w7, w8, w9, w10, w11, w12, w13, w14, w15⟩ := idx_val t
  blk_ext [iblk, V, w5, par, Amo]
theorem blk6 (c : Dev nD) (t : Fin 16) (k : Fin 2048) (l : Fin 1024) : (iblk m c 6 t : Vec Ideal S2048x1024 .bf16) (ix2 k l) = Awo m c (ix2 k l) := by
  obtain ⟨w0, w1, w2, w3, w4, w5, w6, w7, w8, w9, w10, w11, w12, w13, w14, w15⟩ := idx_val t
  blk_ext [iblk, V, w6, Awo]
theorem blk7 (c : Dev nD) (t : Fin 16) (k : Fin 1024) (l : Fin 2816) : (iblk m c 7 t : Vec Ideal S1024x2816 .bf16) (ix2 k l) = Awg m c (ix2 k l) := by
  obtain ⟨w0, w1, w2, w3, w4, w5, w6, w7, w8, w9, w10, w11, w12, w13, w14, w15⟩ := idx_val t
  blk_ext [iblk, V, w7, Awg]
theorem blk8 (c : Dev nD) (t : Fin 16) (k : Fin 1024) (l : Fin 2816) : (iblk m c 8 t : Vec Ideal S1024x2816 .bf16) (ix2 k l) = Awu m c (ix2 k l) := by
  obtain ⟨w0, w1, w2, w3, w4, w5, w6, w7, w8, w9, w10, w11, w12, w13, w14, w15⟩ := idx_val t
  blk_ext [iblk, V, w8, Awu]
theorem blk9 (c : Dev nD) (t : Fin 16) (k : Fin 2816) (l : Fin 1024) : (iblk m c 9 t : Vec Ideal S2816x1024 .bf16) (ix2 k l) = Awd m c (ix2 k l) := by
  obtain ⟨w0, w1, w2, w3, w4, w5, w6, w7, w8, w9, w10, w11, w12, w13, w14, w15⟩ := idx_val t
  blk_ext [iblk, V, w9, Awd]
theorem blk10 (c : Dev nD) (t : Fin 16) (k : Fin 1024) : (iblk m c 10 t : Vec Ideal S1x1024 .f32) (ix2 0 k) = Afn m c (ix1 k) := by
  obtain ⟨w0, w1, w2, w3, w4, w5, w6, w7, w8, w9, w10, w11, w12, w13, w14, w15⟩ := idx_val t
  refine Eq.trans ?_ (host_fn m c k)
  blk_simp [iblk]
  generalize V m c main_v2 = W
  blk_ext [w10]
theorem blk11 (c : Dev nD) (t : Fin 16) (i : Fin 512) (k : Fin 2048) : (iblk m c 11 t : Vec Ideal S512x2048 .bf16) (ix2 i k) = Ayf m c (ix2 (tok t i) k) := by
  obtain ⟨w0, w1, w2, w3, w4, w5, w6, w7, w8, w9, w10, w11, w12, w13, w14, w15⟩ := idx_val t
  blk_ext [iblk, V, w11, tok, Ayf]
theorem blk12 (c : Dev nD) (t : Fin 16) (i : Fin 512) (k : Fin 2048) : (iblk m c 12 t : Vec Ideal S512x2048 .bf16) (ix2 i k) = Ayb m c (ix2 (tok t i) k) := by
  obtain ⟨w0, w1, w2, w3, w4, w5, w6, w7, w8, w9, w10, w11, w12, w13, w14, w15⟩ := idx_val t
  blk_ext [iblk, V, w12, tok, Ayb]
theorem blk13 (c : Dev nD) (t : Fin 16) (i : Fin 512) (k : Fin 2048) : (iblk m c 13 t : Vec Ideal S512x2048 .bf16) (ix2 i k) = Ag m c (ix2 (tok t i) k) := by
  obtain ⟨w0, w1, w2, w3, w4, w5, w6, w7, w8, w9, w10, w11, w12, w13, w14, w15⟩ := idx_val t
  blk_ext [iblk, V, w13, tok, Ag]
theorem blk14 (c : Dev nD) (t : Fin 16) (k : Fin 2048) : (iblk m c 14 t : Vec Ideal S1x2048 .f32) (ix2 0 k) = Again m c (ix1 k) := by
  obtain ⟨w0, w1, w2, w3, w4, w5, w6, w7, w8, w9, w10, w11, w12, w13, w14, w15⟩ := idx_val t
  refine Eq.trans ?_ (host_gain m c k)
  blk_simp [iblk]
  generalize V m c main_v1 = W
  blk_ext [w14]

theorem ld0 (c : Dev nD) (t : Fin 16) (i : Fin 512) (k : Fin 1024) : View.ld (iblk m c 0 t) r0_12 (ix2 i k) = Ax m c (ix2 (tok t i) k) :=
  (congrFun (View.ld_unit_zero z2 _ _) _).trans (blk0 m c t i k)
theorem ld1 (c : Dev nD) (t : Fin 16) (k : Fin 1024) : View.ld (iblk m c 1 t) r0_13 (ix3 0 0 k) = Amo m c (ix3 (par t) 0 (⟨2048 + k.val, by omega⟩ : Fin 6144)) :=
  (congrFun (View.ld_unit_zero z3 _ _) _).trans (blk1 m c t k)
theorem ld3 (c : Dev nD) (t : Fin 16) (k : Fin 1024) : View.ld (iblk m c 3 t) r0_13 (ix3 0 0 k) = Amo m c (ix3 (par t) 0 (⟨3072 + k.val, by omega⟩ : Fin 6144)) :=
  (congrFun (View.ld_unit_zero z3 _ _) _).trans (blk3 m c t k)
theorem ld4 (c : Dev nD) (t : Fin 16) (k : Fin 1024) : View.ld (iblk m c 4 t) r0_13 (ix3 0 0 k) = Amo m c (ix3 (par t) 0 (⟨4096 + k.val, by omega⟩ : Fin 6144)) :=
  (congrFun (View.ld_unit_zero z3 _ _) _).trans (blk4 m c t k)
theorem ld5 (c : Dev nD) (t : Fin 16) (k : Fin 1024) : View.ld (iblk m c 5 t) r0_13 (ix3 0 0 k) = Amo m c (ix3 (par t) 0 (⟨5120 + k.val, by omega⟩ : Fin 6144)) :=
  (congrFun (View.ld_unit_zero z3 _ _) _).trans (blk5 m c t k)
theorem ld2 (c : Dev nD) (t : Fin 16) (k : Fin 1024) : View.ld (iblk m c 2 t) r0_14 (ix2 0 k) = An m c (ix1 k) :=
  (congrFun (View.ld_unit_zero z2 _ _) _).trans (blk2 m c t k)
theorem ld7 (c : Dev nD) (t : Fin 16) (k : Fin 1024) (l : Fin 2816) : View.ld (iblk m c 7 t) r0_15 (ix2 k l) = Awg m c (ix2 k l) :=
  (congrFun (View.ld_unit_zero z2 _ _) _).trans (blk7 m c t k l)
theorem ld8 (c : Dev nD) (t : Fin 16) (k : Fin 1024) (l : Fin 2816) : View.ld (iblk m c 8 t) r0_15 (ix2 k l) = Awu m c (ix2 k l) :=
  (congrFun (View.ld_unit_zero z2 _ _) _).trans (blk8 m c t k l)
theorem ld9 (c : Dev nD) (t : Fin 16) (k : Fin 2816) (l : Fin 1024) : View.ld (iblk m c 9 t) r0_16 (ix2 k l) = Awd m c (ix2 k l) :=
  (congrFun (View.ld_unit_zero z2 _ _) _).trans (blk9 m c t k l)
theorem ld10 (c : Dev nD) (t : Fin 16) (k : Fin 1024) : View.ld (iblk m c 10 t) r0_14 (ix2 0 k) = Afn m c (ix1 k) :=
  (congrFun (View.ld_unit_zero z2 _ _) _).trans (blk10 m c t k)

/-- A head's lanes, read out of the lanes of all heads. -/
theorem ld_lane (u : Vec Ideal S512x2048 .bf16) (h : Fin 4) (a : ℕ) (inb) (ha : a = 512 * h.val) (i : Fin 512) (e : Fin 512) :
    View.ld u (Rect.unit (s := S512x2048) ![0, a] ![512, 512] inb) (ix2 i e) = u (ix2 i (lane h e)) := by
  refine congrArg u (funext fun b => Fin.ext ?_)
  match b with
  | ⟨0, _⟩ => show 0 + 1 * i.val = i.val; omega
  | ⟨1, _⟩ => show a + 1 * e.val = 512 * h.val + e.val; omega
/-- The same of a row for all tokens. -/
theorem ld_lane1 (u : Vec Ideal S1x2048 .f32) (h : Fin 4) (a : ℕ) (inb) (ha : a = 512 * h.val) (e : Fin 512) :
    View.ld u (Rect.unit (s := S1x2048) ![0, a] ![1, 512] inb) (ix2 0 e) = u (ix2 0 (lane h e)) := by
  refine congrArg u (funext fun b => Fin.ext ?_)
  match b with
  | ⟨0, _⟩ => rfl
  | ⟨1, _⟩ => show a + 1 * e.val = 512 * h.val + e.val; omega
/-- A head's rows of the output projection. -/
theorem ld_rows (u : Vec Ideal S2048x1024 .bf16) (h : Fin 4) (a : ℕ) (inb) (ha : a = 512 * h.val) (e : Fin 512) (k : Fin 1024) :
    View.ld u (Rect.unit (s := S2048x1024) ![a, 0] ![512, 1024] inb) (ix2 e k) = u (ix2 (lane h e) k) := by
  refine congrArg u (funext fun b => Fin.ext ?_)
  match b with
  | ⟨0, _⟩ => show a + 1 * e.val = 512 * h.val + e.val; omega
  | ⟨1, _⟩ => show 0 + 1 * k.val = k.val; omega

/-- One head's part, by the reads of its lanes and rows. -/
theorem head_lanes (yf yb g : Vec Ideal S512x2048 .bf16) (gn : Vec Ideal S1x2048 .f32) (w : Vec Ideal S2048x1024 .bf16) (h : Fin 4) (a : ℕ) (inb1 inb2 inb3) (ha : a = 512 * h.val) (i : Fin 512) (k : Fin 1024) :
    headE (fun e => (View.ld yf (Rect.unit (s := S512x2048) ![0, a] ![512, 512] inb1) (ix2 i e) : EReal) + View.ld yb (Rect.unit (s := S512x2048) ![0, a] ![512, 512] inb1) (ix2 i e))
        (fun e => View.ld g (Rect.unit (s := S512x2048) ![0, a] ![512, 512] inb1) (ix2 i e))
        (fun e => View.ld gn (Rect.unit (s := S1x2048) ![0, a] ![1, 512] inb2) (ix2 0 e))
        (fun e k => View.ld w (Rect.unit (s := S2048x1024) ![a, 0] ![512, 1024] inb3) (ix2 e k)) k
      = headE (fun e => (yf (ix2 i (lane h e)) : EReal) + yb (ix2 i (lane h e))) (fun e => g (ix2 i (lane h e))) (fun e => gn (ix2 0 (lane h e))) (fun e k => w (ix2 (lane h e) k)) k :=
  head_congr (fun e => congrArg₂ (HAdd.hAdd (α := EReal) (β := EReal)) (ld_lane yf h a _ ha i e) (ld_lane yb h a _ ha i e))
    (fun e => ld_lane g h a _ ha i e) (fun e => ld_lane1 gn h a _ ha e) (fun e k => ld_rows w h a _ ha e k) k

/-- One head's part of a tile's row, from the arguments. -/
theorem head_arg (c : Dev nD) (t : Fin 16) (yf yb g : Vec Ideal S512x2048 .bf16) (gn : Vec Ideal S1x2048 .f32) (w : Vec Ideal S2048x1024 .bf16)
    (e11 : yf = iblk m c 11 t) (e12 : yb = iblk m c 12 t) (e13 : g = iblk m c 13 t) (e14 : gn = iblk m c 14 t) (e6 : w = iblk m c 6 t)
    (h : Fin 4) (i : Fin 512) (k : Fin 1024) :
    headE (fun e => (yf (ix2 i (lane h e)) : EReal) + yb (ix2 i (lane h e))) (fun e => g (ix2 i (lane h e))) (fun e => gn (ix2 0 (lane h e))) (fun e k => w (ix2 (lane h e) k)) k
      = Hd (Both (Ayf m c) (Ayb m c)) (Ag m c) (Again m c) (Awo m c) (tok t i) h k :=
  head_congr (fun e => congrArg₂ (HAdd.hAdd (α := EReal) (β := EReal)) ((congrFun e11 _).trans (blk11 m c t i _)) ((congrFun e12 _).trans (blk12 m c t i _)))
    (fun e => (congrFun e13 _).trans (blk13 m c t i _)) (fun e => (congrFun e14 _).trans (blk14 m c t _)) (fun e k => (congrFun e6 _).trans (blk6 m c t _ k)) k

/-- Row `r` after the mixing branch. -/
def X1 (x : S8192x1024.Idx → EReal) (mo : S2x1x6144.Idx → EReal) (wo : S2048x1024.Idx → EReal) (yf yb g : S8192x2048.Idx → EReal) (gain : S2048.Idx → EReal) (r : Fin 8192) (k : Fin 1024) : EReal :=
  PostCArray.X1 x (Row mo (smp r)) wo (Both yf yb) g gain r k

/-- The normed output, with the activation `s`: every row has its sample's modulation. -/
def Out (s : EReal → EReal) (x : S8192x1024.Idx → EReal) (mo : S2x1x6144.Idx → EReal) (n : S1024.Idx → EReal) (wo : S2048x1024.Idx → EReal) (wg wu : S1024x2816.Idx → EReal)
    (wd : S2816x1024.Idx → EReal) (fn : S1024.Idx → EReal) (yf yb g : S8192x2048.Idx → EReal) (gain : S2048.Idx → EReal) (z : S8192x1024.Idx) : EReal :=
  PostCArray.Out s x (Row mo (smp (z 0))) n wo wg wu wd fn (Both yf yb) g gain z

/-- The first three heads' parts. -/
theorem heads (c : Dev nD) (t : Fin 16) (i : Fin 512) (k : Fin 1024) :
    k0_pay11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 i k)
      = Hd (Both (Ayf m c) (Ayb m c)) (Ag m c) (Again m c) (Awo m c) (tok t i) 0 k + Hd (Both (Ayf m c) (Ayb m c)) (Ag m c) (Again m c) (Awo m c) (tok t i) 1 k
        + Hd (Both (Ayf m c) (Ayb m c)) (Ag m c) (Again m c) (Awo m c) (tok t i) 2 k := by
  unfold k0_pay11
  refine (PostSTile.heads_at _ _ _ _ _ _ _ _ _ _ _ i k).trans ?_
  exact congrArg₂ (HAdd.hAdd (α := EReal) (β := EReal)) (congrArg₂ (HAdd.hAdd (α := EReal) (β := EReal))
    ((PostSTile.head0_at _ _ _ _ _ i k).trans ((head_lanes _ _ _ _ _ 0 0 _ _ _ rfl i k).trans (head_arg m c t _ _ _ _ _ rfl rfl rfl rfl rfl 0 i k))) ((head_lanes _ _ _ _ _ 1 512 _ _ _ rfl i k).trans (head_arg m c t _ _ _ _ _ rfl rfl rfl rfl rfl 1 i k))) ((head_lanes _ _ _ _ _ 2 1024 _ _ _ rfl i k).trans (head_arg m c t _ _ _ _ _ rfl rfl rfl rfl rfl 2 i k))

theorem x1 (c : Dev nD) (t : Fin 16) (i : Fin 512) (k : Fin 1024) :
    k0_pay12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 i k)
      = X1 (Ax m c) (Amo m c) (Awo m c) (Ayf m c) (Ayb m c) (Ag m c) (Again m c) (tok t i) k := by
  unfold k0_pay12
  refine (PostSTile.x1_at _ _ _ _ _ _ _ _ i k).trans ?_
  unfold X1 PostCArray.X1 mixE
  rw [Fin.sum_univ_four, smp_tok]
  exact congrArg₂ (HAdd.hAdd (α := EReal) (β := EReal)) (ld0 m c t i k) (congrArg₂ (HMul.hMul (α := EReal) (β := EReal)) (ld1 m c t k)
    (congrArg₂ (HAdd.hAdd (α := EReal) (β := EReal)) (heads m c t i k) ((head_lanes _ _ _ _ _ 3 1536 _ _ _ rfl i k).trans (head_arg m c t _ _ _ _ _ rfl rfl rfl rfl rfl 3 i k))))

theorem mean (c : Dev nD) (t : Fin 16) (i : Fin 512) :
    k0_pay13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 i 0)
      = Ideal.div (∑ k : Fin 1024, (k0_pay12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 i k) : EReal) * k0_pay12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 i k)) w1024 := by
  unfold k0_pay13 k0_pay12
  exact PostSTile.mean_at _ _ _ _ _ _ _ _ i

/-- The residual after the feed-forward part. -/
def x2 (c : Dev nD) (t : Fin 16) : FVec Ideal S512x1024 .f32 :=
  k0_pay9 (k0_pay12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (View.ld (iblk m c 2 t) r0_14) (View.ld (iblk m c 4 t) r0_13) (View.ld (iblk m c 3 t) r0_13) (View.ld (iblk m c 7 t) r0_15) (View.ld (iblk m c 8 t) r0_15) (View.ld (iblk m c 5 t) r0_13) (View.ld (iblk m c 9 t) r0_16)

theorem x2_row (c : Dev nD) (t : Fin 16) (i : Fin 512) (k : Fin 1024) : x2 m c t (ix2 i k)
    = outE siluT (X1 (Ax m c) (Amo m c) (Awo m c) (Ayf m c) (Ayb m c) (Ag m c) (Again m c) (tok t i)) (fun k => An m c (ix1 k)) (fun k => Amo m c (ix3 (par t) 0 (⟨4096 + k.val, by omega⟩ : Fin 6144)))
      (fun k => Amo m c (ix3 (par t) 0 (⟨3072 + k.val, by omega⟩ : Fin 6144))) (fun k => Amo m c (ix3 (par t) 0 (⟨5120 + k.val, by omega⟩ : Fin 6144)))
      (fun j l => Awg m c (ix2 j l)) (fun j l => Awu m c (ix2 j l)) (fun l k => Awd m c (ix2 l k)) k := by
  unfold x2 k0_pay14
  refine (PostSTile.x2_at _ _ _ _ _ _ _ _ _ i (mean m c t i) k).trans ?_
  have e0 := funext fun k => x1 m c t i k
  have e1 := funext fun k => ld2 m c t k
  have e2 := funext fun k => ld4 m c t k
  have e3 := funext fun k => ld3 m c t k
  have e4 := funext fun k => ld5 m c t k
  have e5 := funext fun j => funext fun l => ld7 m c t j l
  have e6 := funext fun j => funext fun l => ld8 m c t j l
  have e7 := funext fun l => funext fun k => ld9 m c t l k
  exact congr (congr (congr (congr (congr (congr (congr (congr (congrArg (outE siluT) e0) e1) e2) e3) e4) e5) e6) e7) (Eq.refl k)

theorem block (c : Dev nD) (t : Fin 16) (i : Fin 512) (k : Fin 1024) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 i k)
      = Out siluT (Ax m c) (Amo m c) (An m c) (Awo m c) (Awg m c) (Awu m c) (Awd m c) (Afn m c) (Ayf m c) (Ayb m c) (Ag m c) (Again m c) (ix2 (tok t i) k) := by
  unfold out0_15 k0_pay10
  rw [View.canon_unit_zero z2]
  refine (PostSTile.out_at (x2 m c t) _ i k).trans ?_
  unfold Out PostCArray.Out
  show _ = rmsE w1024 (outE siluT (PostCArray.X1 _ (Row (Amo m c) (smp (tok t i))) _ _ _ _ (tok t i)) _ (fun k => Row (Amo m c) (smp (tok t i)) _) (fun k => Row (Amo m c) (smp (tok t i)) _) (fun k => Row (Amo m c) (smp (tok t i)) _) _ _ _) k * Afn m c (ix1 k)
  refine congrArg₂ (HMul.hMul (α := EReal) (β := EReal)) (congrArg (fun f => rmsE w1024 f k) (funext fun k => (x2_row m c t i k).trans ?_)) (ld10 m c t k)
  rw [← smp_tok t i]
  rfl

theorem final (c : Dev nD) : (dats m 0 c).arrAt 15 cfg0.N
    = (Out siluT (Ax m c) (Amo m c) (An m c) (Awo m c) (Awg m c) (Awu m c) (Awd m c) (Afn m c) (Ayf m c) (Ayb m c) (Ag m c) (Again m c) : S8192x1024.Idx → EReal) := by
  refine (dats m 0 c).arrAt_eq_of_covers 15 _ (by decide +kernel) fun t hf y => ?_
  blk_simp
  rw [after0_15]
  obtain ⟨i, k, rfl⟩ : ∃ (i : Fin 512) (k : Fin 1024), y = ix2 i k := ⟨y 0, y 1, funext fun a => match a with | ⟨0, _⟩ => rfl | ⟨1, _⟩ => rfl⟩
  obtain ⟨w0, w1, w2, w3, w4, w5, w6, w7, w8, w9, w10, w11, w12, w13, w14, w15⟩ := idx_val t
  refine (block m c t i k).trans ?_
  blk_ext [w15, tok]

end Cert.PostSArray

end
-- ==== Proof.PostSClaim.lean ====
/- The samples' end of the last layer: its reference, element by element, and the claim. -/
module

public import proofs.«01_k».proof.Defs
public import proofs.«01_k».proof.Proof.Gen.PostSRefIdeal.Run
public import proofs.«01_k».proof.Proof.Gen.PostSRefIdeal.Read
public import proofs.«01_k».proof.Proof.PostSArray
public import proofs.«01_k».proof.Proof.PostCClaim
public import proofs.«01_k».proof.Proof.Finite
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.PostSRefVal

open Cert.PostSRefIdeal Cert.PostSRefIdeal.Gen Cert.PostSRefIdeal.Read Cert.Dense
open Cert.PostSArray (Both Row smp)

variable (x0 : S8192x1024.Idx → EReal) (x1 : S2x1x6144.Idx → EReal) (x2 : S1024.Idx → EReal) (x3 : S2048x1024.Idx → EReal) (x4 x5 : S1024x2816.Idx → EReal)
  (x6 : S2816x1024.Idx → EReal) (x7 : S1024.Idx → EReal) (x8 x9 x10 : S8192x2048.Idx → EReal) (x11 : S2048.Idx → EReal)

theorem y_at (r : Fin 8192) (h : Fin 4) (e : Fin 512) : val_main_v3 (F := Ideal) x8 x9 (ix3 r h e) = Both x8 x9 (ix2 r (lane h e)) := by
  rw [val_main_v3_apply]
  show Both x8 x9 _ = _
  refine congrArg (Both x8 x9) (funext fun a => Fin.ext ?_)
  have h1 := r.isLt; have h2 := h.isLt; have h3 := e.isLt
  match a with
  | ⟨0, _⟩ => show ((r.val * 4 + h.val) * 512 + e.val) / 2048 = r.val; omega
  | ⟨1, _⟩ => show ((r.val * 4 + h.val) * 512 + e.val) % 2048 = 512 * h.val + e.val; omega

theorem gain_at (h : Fin 4) (e : Fin 512) : val_main_v4 (F := Ideal) x11 (ix2 h e) = x11 (ix1 (lane h e)) := by
  rw [val_main_v4_apply]
  refine congrArg x11 (funext fun a => Fin.ext ?_)
  match a with
  | ⟨0, _⟩ => show h.val * 512 + e.val = 512 * h.val + e.val; omega

theorem normed (r : Fin 8192) (h : Fin 4) (e : Fin 512) :
    val_main_v17 (F := Ideal) x8 x9 x11 (ix3 r h e) = rmsE w512 (fun e => Both x8 x9 (ix2 r (lane h e))) e * x11 (ix1 (lane h e)) := by
  simp only [← y_at, ← gain_at]
  unfold val_main_v17 val_main_v16 val_main_v15 val_main_v14 val_main_v13 val_main_v12 val_main_v11 val_main_v10 val_main_v9 val_main_v8 val_main_v7 val_main_v6 val_main_v5
  generalize val_main_v3 (F := Ideal) x8 x9 = y
  generalize val_main_v4 (F := Ideal) x11 = n
  pointwise [val_main_v8, val_main_v10, val_main_cst, val_main_cst_1, val_main_cst_0]
  rfl

theorem gated (r : Fin 8192) (h : Fin 4) (e : Fin 512) :
    val_main_v20 (F := Ideal) x8 x9 x10 x11 (ix2 r (lane h e)) = x10 (ix2 r (lane h e)) * (rmsE w512 (fun e => Both x8 x9 (ix2 r (lane h e))) e * x11 (ix1 (lane h e))) := by
  rw [← normed, val_main_v20_apply, val_main_v19_apply]
  refine congrArg₂ (HMul.hMul (α := EReal) (β := EReal)) rfl (congrArg _ (funext fun a => Fin.ext ?_))
  have h1 := r.isLt; have h2 := h.isLt; have h3 := e.isLt
  match a with
  | ⟨0, _⟩ => show (r.val * 2048 + (512 * h.val + e.val)) / 2048 = r.val; omega
  | ⟨1, _⟩ => show (r.val * 2048 + (512 * h.val + e.val)) / 512 % 4 = h.val; omega
  | ⟨2, _⟩ => show (r.val * 2048 + (512 * h.val + e.val)) % 512 = e.val; omega

theorem mix (r : Fin 8192) (k : Fin 1024) :
    val_main_v22 (F := Ideal) x3 x8 x9 x10 x11 (ix2 r k) = mixE (fun l => Both x8 x9 (ix2 r l)) (fun l => x10 (ix2 r l)) (fun l => x11 (ix1 l)) (fun l k => x3 (ix2 l k)) k := by
  have hg := gated x8 x9 x10 x11 r
  unfold val_main_v22
  generalize val_main_v20 (F := Ideal) x8 x9 x10 x11 = u at *
  pointwise [val_main_v21]
  refine (sum_lanes _).trans ?_
  unfold mixE headE
  refine Finset.sum_congr rfl fun h _ => Finset.sum_congr rfl fun e _ => ?_
  exact congrArg (· * _) (hg h e)

/-- A token's modulation is its sample's. -/
theorem mod_row (r : Fin 8192) (j : Fin 6144) : val_main_v24 (F := Ideal) x1 (ix2 r j) = Row x1 (smp r) (ix3 0 0 j) := by
  rw [val_main_v24_apply, val_main_v23_apply]
  refine congrArg x1 (funext fun a => Fin.ext ?_)
  have h1 := r.isLt; have h2 := j.isLt
  match a with
  | ⟨0, _⟩ => show (r.val * 6144 + j.val) / 25165824 = r.val / 4096; omega
  | ⟨1, _⟩ => rfl
  | ⟨2, _⟩ => show (r.val * 6144 + j.val) % 6144 = j.val; omega

theorem x1_at (r : Fin 8192) (k : Fin 1024) : val_main_v32 (F := Ideal) x0 x1 x3 x8 x9 x10 x11 (ix2 r k) = PostCArray.X1 x0 (Row x1 (smp r)) x3 (Both x8 x9) x10 x11 r k := by
  unfold PostCArray.X1
  rw [← mix, ← mod_row]
  unfold val_main_v32 val_main_v31 val_main_v27
  generalize val_main_v22 (F := Ideal) x3 x8 x9 x10 x11 = u
  generalize val_main_v24 (F := Ideal) x1 = v
  pointwise

theorem mod_at (r : Fin 8192) (k : Fin 1024) : val_main_v49 (F := Ideal) x0 x1 x2 x3 x8 x9 x10 x11 (ix2 r k)
    = modE (PostCArray.X1 x0 (Row x1 (smp r)) x3 (Both x8 x9) x10 x11 r) (fun k => x2 (ix1 k)) (fun k => Row x1 (smp r) (ix3 0 0 (⟨4096 + k.val, by omega⟩ : Fin 6144))) (fun k => Row x1 (smp r) (ix3 0 0 (⟨3072 + k.val, by omega⟩ : Fin 6144))) k := by
  rw [← funext (x1_at x0 x1 x3 x8 x9 x10 x11 r)]
  simp only [← mod_row]
  unfold val_main_v49 val_main_v48 val_main_v47 val_main_v45 val_main_v42 val_main_v41 val_main_v40 val_main_v39 val_main_v37 val_main_v35 val_main_v34 val_main_v33 val_main_v29 val_main_v28
  generalize val_main_v32 (F := Ideal) x0 x1 x3 x8 x9 x10 x11 = u
  generalize val_main_v24 (F := Ideal) x1 = v
  pointwise [val_main_v43, val_main_v44, val_main_v46, val_main_v36, val_main_v38, val_main_cst_2, val_main_cst_3, val_main_cst_4, val_main_cst_5]
  rfl

theorem gate_at (r : Fin 8192) (l : Fin 2816) : val_main_v55 (F := Ideal) x0 x1 x2 x3 x4 x5 x8 x9 x10 x11 (ix2 r l)
    = siluE (∑ j : Fin 1024, (val_main_v49 (F := Ideal) x0 x1 x2 x3 x8 x9 x10 x11 (ix2 r j) : EReal) * x4 (ix2 j l))
      * (∑ j : Fin 1024, (val_main_v49 (F := Ideal) x0 x1 x2 x3 x8 x9 x10 x11 (ix2 r j) : EReal) * x5 (ix2 j l)) := by
  unfold val_main_v55 val_main_v54 val_main_v52 val_main_call0_v5 val_main_call0_v3 val_main_call0_v1 val_main_call0_v0 val_main_v51
  generalize val_main_v49 (F := Ideal) x0 x1 x2 x3 x8 x9 x10 x11 = u
  pointwise [val_main_v50, val_main_v53, val_main_call0_v2, val_main_call0_v4, val_main_call0_cst, val_main_call0_cst_0]
  rfl

theorem out_at (r : Fin 8192) (k : Fin 1024) : val_main_v59 (F := Ideal) x0 x1 x2 x3 x4 x5 x6 x8 x9 x10 x11 (ix2 r k)
    = outE siluE (PostCArray.X1 x0 (Row x1 (smp r)) x3 (Both x8 x9) x10 x11 r) (fun k => x2 (ix1 k)) (fun k => Row x1 (smp r) (ix3 0 0 (⟨4096 + k.val, by omega⟩ : Fin 6144))) (fun k => Row x1 (smp r) (ix3 0 0 (⟨3072 + k.val, by omega⟩ : Fin 6144)))
      (fun k => Row x1 (smp r) (ix3 0 0 (⟨5120 + k.val, by omega⟩ : Fin 6144))) (fun j l => x4 (ix2 j l)) (fun j l => x5 (ix2 j l)) (fun l k => x6 (ix2 l k)) k := by
  unfold outE ffnE
  simp only [← mod_at]
  rw [← x1_at, ← mod_row]
  have hg := gate_at x0 x1 x2 x3 x4 x5 x8 x9 x10 x11 r
  unfold val_main_v59 val_main_v58 val_main_v57 val_main_v30
  generalize val_main_v55 (F := Ideal) x0 x1 x2 x3 x4 x5 x8 x9 x10 x11 = u at *
  generalize val_main_v32 (F := Ideal) x0 x1 x3 x8 x9 x10 x11 = v
  generalize val_main_v24 (F := Ideal) x1 = w
  pointwise [val_main_v56]
  exact congrArg₂ (HAdd.hAdd (α := EReal) (β := EReal)) rfl (congrArg₂ (HMul.hMul (α := EReal) (β := EReal)) rfl (Finset.sum_congr rfl fun l _ => congrArg (· * _) (hg l)))

theorem result (r : Fin 8192) (k : Fin 1024) : val_main_v72 (F := Ideal) x0 x1 x2 x3 x4 x5 x6 x7 x8 x9 x10 x11 (ix2 r k)
    = PostSArray.Out siluE x0 x1 x2 x3 x4 x5 x6 x7 x8 x9 x10 x11 (ix2 r k) := by
  refine Eq.trans ?_ (congrArg (fun f => rmsE w1024 f k * x7 (ix1 k)) (funext (out_at x0 x1 x2 x3 x4 x5 x6 x8 x9 x10 x11 r)))
  unfold val_main_v72 val_main_v69 val_main_v68 val_main_v67 val_main_v66 val_main_v64 val_main_v62 val_main_v61 val_main_v60
  generalize val_main_v59 (F := Ideal) x0 x1 x2 x3 x4 x5 x6 x8 x9 x10 x11 = u
  pointwise [val_main_v63, val_main_v65, val_main_v70, val_main_v71, val_main_cst_6, val_main_cst_7, val_main_cst_8]
  rfl

theorem eq (h1 : ∀ i, IsR (x1 i)) (h2 : ∀ i, IsR (x2 i)) (h4 : ∀ i, IsR (x4 i)) :
    (PostSArray.Out siluT x0 x1 x2 x3 x4 x5 x6 x7 x8 x9 x10 x11 : S8192x1024.Idx → EReal) = val_main_v72 (F := Ideal) x0 x1 x2 x3 x4 x5 x6 x7 x8 x9 x10 x11 :=
  PostCRefVal.ext2 _ _ fun r k => (PostCRefVal.out_silu x0 (Row x1 (smp r)) x2 x3 x4 x5 x6 x7 (Both x8 x9) x10 x11 (fun _ => h1 _) h2 h4 (ix2 r k)).trans
    (result x0 x1 x2 x3 x4 x5 x6 x7 x8 x9 x10 x11 r k).symm

end Cert.PostSRefVal

namespace Cert.PostSClaim

open Cert.PostSArray Cert.Dense

theorem claim : Cert.algebraic_PostSIdeal_PostSRefIdeal_pre_finite7 := by
  intro m g m' g' hpre hagree
  refine ⟨fun c => Cert.PostSRefIdeal.Read.val_main_v72 (F := Ideal) (Ax m c) (Amo m c) (An m c) (Awo m c) (Awg m c) (Awu m c) (Awd m c) (Afn m c) (Ayf m c) (Ayb m c) (Ag m c) (Again m c), ?_, ?_⟩
  · refine (θ_run _ _ _).mono (fun r h c => ?_) (Cert.PostSIdeal.Value.run_blocks m g)
    obtain ⟨h1, hr⟩ := h c
    obtain ⟨r1, r2, r4⟩ := Cert.Finite.post_s_real _ _ _ _ _ _ _ _ _ _ _ _ (hpre c)
    exact ⟨h1.trans ((final m c).trans (PostSRefVal.eq _ _ _ _ _ _ _ _ _ _ _ _ r1 r2 r4)), hr⟩
  · refine (θ_run _ _ _).mono (fun r h c => ?_) (Cert.PostSRefIdeal.Value.run m' g')
    obtain ⟨h1, hr⟩ := h c
    refine ⟨h1.trans ((Cert.PostSRefIdeal.Read.val_main_v72_eq _ _).trans ?_), hr⟩
    obtain ⟨a0, a1, a2, a3, a4, a5, a6, a7, a8, a9, a10, a11⟩ := hagree c
    exact congr (congr (congr (congr (congr (congr (congr (congr (congr (congr (congr (congrArg _ a0) a1) a2) a3) a4) a5) a6) a7) a8) a9) a10) a11

end Cert.PostSClaim

end
-- ==== Proof.AdaArray.lean ====
/- The adaptive norm's array, from the arguments as launched. -/
module

public import proofs.«01_k».proof.Proof.Gen.AdaIdeal.Value
public import proofs.«01_k».proof.Proof.Dense
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AdaArray

open Cert.AdaIdeal Cert.AdaIdeal.Gen Cert.Dense

variable (m : (ℓ : Loc nD τ sig) → Buf (Elt Ideal) ℓ)

theorem idx_val : ∀ t : Fin cfg0.N, win0_0.index t = ![0, 0]
    ∧ win0_1.index t = ![0, t.val]
    ∧ win0_2.index t = ![0, t.val]
    ∧ win0_3.index t = ![0, t.val] :=
  (by decide +kernel : ∀ t : Fin grid0.N, _)

/-- The place of column `l` of tile `t`. -/
def col (t : Fin 4) (l : Fin 1536) : Fin 6144 := ⟨1536 * t.val + l.val, by omega⟩

/-- The conditioning rows as launched. -/
def C (c : Dev nD) : S8x1024.Idx → EReal := m ((c : Thread nD τ).loc main_arg0)
/-- The weights as launched. -/
def W (c : Dev nD) : S1024x6144.Idx → EReal := m ((c : Thread nD τ).loc main_arg1)
/-- The bias as launched. -/
def B (c : Dev nD) : S6144.Idx → EReal := m ((c : Thread nD τ).loc main_arg2)

theorem bias (c : Dev nD) (k : Fin 6144) : (V m c main_v0 : Vec Ideal S1x6144 .f32) (ix2 0 k) = B m c (ix1 k) := by
  entry_read
  pointwise
  rfl

theorem blk0 (c : Dev nD) (t : Fin 4) (i : Fin 8) (k : Fin 1024) : (iblk m c 0 t : Vec Ideal S8x1024 .f32) (ix2 i k) = C m c (ix2 i k) := by
  obtain ⟨w0, w1, w2, w3⟩ := idx_val t
  blk_ext [iblk, V, w0, C]
theorem blk1 (c : Dev nD) (t : Fin 4) (k : Fin 1024) (l : Fin 1536) : (iblk m c 1 t : Vec Ideal S1024x1536 .f32) (ix2 k l) = W m c (ix2 k (col t l)) := by
  obtain ⟨w0, w1, w2, w3⟩ := idx_val t
  blk_ext [iblk, V, w1, W, col]
theorem blk2 (c : Dev nD) (t : Fin 4) (l : Fin 1536) : (iblk m c 2 t : Vec Ideal S1x1536 .f32) (ix2 0 l) = B m c (ix1 (col t l)) := by
  obtain ⟨w0, w1, w2, w3⟩ := idx_val t
  refine Eq.trans ?_ (bias m c (col t l))
  blk_simp [iblk]
  generalize V m c main_v0 = W
  blk_ext [w2, col]

/-- The adaptive norm's rows, with the activation `f`. -/
def Out (f : EReal → EReal) (x : S8x1024.Idx → EReal) (w : S1024x6144.Idx → EReal) (b : S6144.Idx → EReal) (y : S8x6144.Idx) : EReal :=
  (∑ k : Fin 1024, f (x (ix2 (y 0) k)) * w (ix2 k (y 1))) + b (ix1 (y 1))

theorem z2 : (![0, 0] : Fin 2 → ℕ) = fun _ => 0 := funext fun a => match a with | ⟨0, _⟩ => rfl | ⟨1, _⟩ => rfl

theorem tile (x : Vec Ideal S8x1024 .f32) (w : Vec Ideal S1024x1536 .f32) (b : Vec Ideal S1x1536 .f32) (i : Fin 8) (l : Fin 1536) :
    k0_pay1 (F := Ideal) x w b (ix2 i l) = (∑ k : Fin 1024, siluT (x (ix2 i k)) * w (ix2 k l)) + b (ix2 0 l) := by
  pointwise [k0_pay1]
  rfl

theorem final (c : Dev nD) : (dats m 0 c).arrAt 3 cfg0.N = (Out siluT (C m c) (W m c) (B m c) : S8x6144.Idx → EReal) := by
  refine (dats m 0 c).arrAt_eq_of_covers 3 _ (by decide +kernel) fun t hf y => ?_
  blk_simp
  rw [after0_3]
  obtain ⟨i, l, rfl⟩ : ∃ (i : Fin 8) (l : Fin 1536), y = ix2 i l := ⟨y 0, y 1, funext fun a => match a with | ⟨0, _⟩ => rfl | ⟨1, _⟩ => rfl⟩
  obtain ⟨w0, w1, w2, w3⟩ := idx_val t
  have e : out0_3 (F := Ideal) (iblk m c 0 t) (iblk m c 1 t) (iblk m c 2 t) (ix2 i l)
      = Out siluT (C m c) (W m c) (B m c) (ix2 i (col t l)) := by
    unfold out0_3
    rw [View.canon_unit_zero z2]
    refine (tile _ _ _ i l).trans ?_
    show _ = (∑ k : Fin 1024, siluT (C m c (ix2 i k)) * W m c (ix2 k (col t l))) + B m c (ix1 (col t l))
    exact congrArg₂ (HAdd.hAdd (α := EReal) (β := EReal))
      (Finset.sum_congr rfl fun k _ => congrArg₂ (HMul.hMul (α := EReal) (β := EReal))
        (congrArg siluT ((congrFun (View.ld_unit_zero z2 _ _) _).trans (blk0 m c t i k))) ((congrFun (View.ld_unit_zero z2 _ _) _).trans (blk1 m c t k l)))
      ((congrFun (View.ld_unit_zero z2 _ _) _).trans (blk2 m c t l))
  refine e.trans ?_
  blk_ext [w3, col]

end Cert.AdaArray

end
-- ==== Proof.AdaClaim.lean ====
/- The adaptive norm's reference, element by element, and the claim. -/
module

public import proofs.«01_k».proof.Defs
public import proofs.«01_k».proof.Proof.Gen.AdaRefIdeal.Read
public import proofs.«01_k».proof.Proof.AdaArray
public import proofs.«01_k».proof.Proof.L1InClaim
public import proofs.«01_k».proof.Proof.Finite

@[expose] public section

set_option maxRecDepth 16384

noncomputable section

open Idealize.ShloMosaic Idealize.ShloMosaic.TcCoe Idealize.SL.Sem
open Idealize.ShloMosaic.Pipeline (Dat)
open scoped BigOperators

namespace Cert.AdaRefVal

open Cert.AdaRefIdeal Cert.AdaRefIdeal.Gen Cert.AdaRefIdeal.Read Cert.Dense

variable (x0 : S8x1024.Idx → EReal) (x1 : S1024x6144.Idx → EReal) (x2 : S6144.Idx → EReal)

theorem act (i : Fin 8) (k : Fin 1024) : val_main_v0 (F := Ideal) x0 (ix2 i k) = siluE (x0 (ix2 i k)) := by
  pointwise [val_main_call0_v0, val_main_call0_v1, val_main_call0_v2, val_main_call0_v3, val_main_call0_v4, val_main_call0_v5, val_main_call0_cst, val_main_call0_cst_0, val_main_v0]
  rfl

theorem result (i : Fin 8) (l : Fin 6144) : val_main_v4 (F := Ideal) x0 x1 x2 (ix2 i l) = AdaArray.Out siluE x0 x1 x2 (ix2 i l) := by
  show _ = (∑ k : Fin 1024, siluE (x0 (ix2 i k)) * x1 (ix2 k l)) + x2 (ix1 l)
  simp only [← act]
  unfold val_main_v4 val_main_v1
  generalize val_main_v0 (F := Ideal) x0 = h
  pointwise [val_main_v2, val_main_v3]

theorem eq (h0 : ∀ i, IsR (x0 i)) : (AdaArray.Out siluT x0 x1 x2 : S8x6144.Idx → EReal) = val_main_v4 (F := Ideal) x0 x1 x2 := by
  refine L1InRefVal.ext2 _ _ fun i l => Eq.trans ?_ (result x0 x1 x2 i l).symm
  refine congrArg (· + x2 (ix1 l)) (Finset.sum_congr rfl fun k _ => congrArg (· * x1 (ix2 k l)) ?_)
  obtain ⟨v, hv⟩ := h0 (ix2 i k)
  exact (congrArg siluT hv).trans ((silu_eq v).trans (congrArg siluE hv).symm)

end Cert.AdaRefVal

namespace Cert.AdaClaim

open Cert.AdaArray Cert.Dense

theorem claim : Cert.algebraic_AdaIdeal_AdaRefIdeal_pre_finite8 := by
  intro m g m' g' hpre hagree
  refine ⟨fun c => Cert.AdaRefIdeal.Read.val_main_v4 (F := Ideal) (C m c) (W m c) (B m c), ?_, ?_⟩
  · refine (θ_run _ _ _).mono (fun r h c => ?_) (Cert.AdaIdeal.Value.run_blocks m g)
    obtain ⟨h1, hr⟩ := h c
    exact ⟨h1.trans ((final m c).trans (AdaRefVal.eq _ _ _ (Cert.Finite.ada_real _ _ _ (hpre c)))), hr⟩
  · refine (θ_run _ _ _).mono (fun r h c => ?_) (Cert.AdaRefIdeal.Value.run m' g')
    obtain ⟨h1, hr⟩ := h c
    obtain ⟨a0, a1, a2⟩ := hagree c
    refine ⟨h1.trans ((Cert.AdaRefIdeal.Read.val_main_v4_eq _ _ _).trans ?_), hr⟩
    exact congr (congr (congrArg _ a0) a1) a2

end Cert.AdaClaim

end
-- ==== Proof.CastArray.lean ====
/- The arrays of the cast of the weights, from the arguments as launched. -/
module

public import proofs.«01_k».proof.Proof.Gen.CastIdeal.Value
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.CastArray

open Cert.CastIdeal Cert.CastIdeal.Gen

variable (m : (ℓ : Loc nD τ sig) → Buf (Elt Ideal) ℓ)

theorem idx_in : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

theorem idx_out : ∀ t : Fin cfg0.N, win0_10.index t = ![t.val, 0] ∧ win0_11.index t = ![t.val, 0] ∧ win0_12.index t = ![t.val, 0]
    ∧ win0_13.index t = ![t.val, 0] ∧ win0_14.index t = ![t.val, 0] ∧ win0_15.index t = ![t.val, 0] ∧ win0_16.index t = ![t.val, 0]
    ∧ win0_17.index t = ![t.val, 0] ∧ win0_18.index t = ![t.val, 0] ∧ win0_19.index t = ![t.val, 0] :=
  (by decide +kernel : ∀ t : Fin grid0.N, _)

set_option maxHeartbeats 2000000 in
/-- The nine weights that keep their shape: each array ends as its argument. -/
theorem kept (c : Dev nD) :
    (dats m 0 c).arrAt 11 cfg0.N = (m ((c : Thread nD τ).loc main_arg1) : S1024x1024.Idx → EReal) ∧
    (dats m 0 c).arrAt 12 cfg0.N = (m ((c : Thread nD τ).loc main_arg2) : S1024x2816.Idx → EReal) ∧
    (dats m 0 c).arrAt 13 cfg0.N = (m ((c : Thread nD τ).loc main_arg3) : S1024x2816.Idx → EReal) ∧
    (dats m 0 c).arrAt 14 cfg0.N = (m ((c : Thread nD τ).loc main_arg4) : S2816x1024.Idx → EReal) ∧
    (dats m 0 c).arrAt 15 cfg0.N = (m ((c : Thread nD τ).loc main_arg5) : S1024x6144.Idx → EReal) ∧
    (dats m 0 c).arrAt 16 cfg0.N = (m ((c : Thread nD τ).loc main_arg6) : S2048x1024.Idx → EReal) ∧
    (dats m 0 c).arrAt 17 cfg0.N = (m ((c : Thread nD τ).loc main_arg7) : S1024x2816.Idx → EReal) ∧
    (dats m 0 c).arrAt 18 cfg0.N = (m ((c : Thread nD τ).loc main_arg8) : S1024x2816.Idx → EReal) ∧
    (dats m 0 c).arrAt 19 cfg0.N = (m ((c : Thread nD τ).loc main_arg9) : S2816x1024.Idx → EReal) := by
  refine ⟨?_, ?_, ?_, ?_, ?_, ?_, ?_, ?_, ?_⟩
  all_goals
    refine (dats m 0 c).arrAt_eq_of_covers _ _ (by decide +kernel) fun t hf y => ?_
    obtain ⟨i0, i1, i2, i3, i4, i5, i6, i7, i8, i9⟩ := idx_in t
    obtain ⟨o0, o1, o2, o3, o4, o5, o6, o7, o8, o9⟩ := idx_out t
    blk_simp
    simp only [after0_11, after0_12, after0_13, after0_14, after0_15, after0_16, after0_17, after0_18, after0_19]
    unfold outsAt0
    frame_out
    simp only [k0_pay1, k0_pay2, k0_pay3, k0_pay6, k0_pay7, k0_pay8, k0_pay9, k0_pay10, k0_pay11]
    blk_ext [iblk, V, i1, i2, i3, i4, i5, i6, i7, i8, i9, o1, o2, o3, o4, o5, o6, o7, o8, o9]

/-- The first weight, with columns of zeros to its right. -/
def wide (w : S1024x2064.Idx → EReal) : S1024x2176.Idx → EReal :=
  fun y => if h : (y 1).val < 2064 then w (ix2 (y 0) ⟨(y 1).val, h⟩) else 0

theorem wide_lo (w : S1024x2064.Idx → EReal) (y : S1024x2176.Idx) (i : S1024x2064.Idx) (e0 : (y 0).val = (i 0).val) (e1 : (y 1).val = (i 1).val) :
    wide w y = w i := by
  have h : (y 1).val < 2064 := e1 ▸ (i 1).isLt
  refine (dif_pos h).trans (congrArg w (funext fun a => Fin.ext ?_))
  match a with
  | ⟨0, _⟩ => exact e0
  | ⟨1, _⟩ => exact e1

theorem wide_hi (w : S1024x2064.Idx → EReal) (y : S1024x2176.Idx) (h : 2064 ≤ (y 1).val) : wide w y = 0 :=
  dif_neg (Nat.not_lt.2 h)

/-- The first weight's array ends as the argument widened. -/
theorem widened (c : Dev nD) : (dats m 0 c).arrAt 10 cfg0.N = wide (m ((c : Thread nD τ).loc main_arg0)) := by
  refine (dats m 0 c).arrAt_eq_of_covers _ _ (by decide +kernel) fun t hf y => ?_
  obtain ⟨i0, i1, i2, i3, i4, i5, i6, i7, i8, i9⟩ := idx_in t
  obtain ⟨o0, o1, o2, o3, o4, o5, o6, o7, o8, o9⟩ := idx_out t
  blk_simp
  rw [after0_10]
  unfold outsAt0
  frame_out
  canon_tiles x h using (by
    rcases Nat.lt_or_ge (y 1).val 2064 with hy | hy
    · refine ⟨_, List.mem_cons_of_mem _ List.mem_cons_self, (Rect.mem_set_unit (inb := inb_S64x2176_S64x2064_0_0)).2 fun a => ?_⟩
      idx_bounds y
      fin_cases a <;> simp <;> omega
    · refine ⟨_, List.mem_cons_self, (Rect.mem_set_unit (inb := inb_S64x2176_S64x112_0_2064)).2 fun a => ?_⟩
      idx_bounds y
      fin_cases a <;> simp <;> omega)
  case piece0 =>
    refine Eq.trans ?_ (wide_hi _ _ ?_).symm
    · pointwise [k0_pay5]
    · blk_simp [o0]
      omega
  case piece1 =>
    have ht : t.val < 16 := t.isLt
    refine Eq.trans ?_ (wide_lo _ _ (ix2 (⟨64 * t.val + (x 0).val, by omega⟩ : Fin 1024) (⟨(x 1).val, by omega⟩ : Fin 2064)) ?_ ?_).symm
    · show (iblk m c 0 t : Vec Ideal S64x2064 .f32) x = _
      blk_ext [iblk, V, i0]
    · show _ = 64 * t.val + (x 0).val
      blk_simp [o0]
      omega
    · show _ = (x 1).val
      blk_simp [o0]
      omega

end Cert.CastArray

end
-- ==== Proof.CastClaim.lean ====
/- The cast of the weights: its reference's padding, and the claim. -/
module

public import proofs.«01_k».proof.Defs
public import proofs.«01_k».proof.Proof.Gen.CastRefIdeal.Read
public import proofs.«01_k».proof.Proof.CastArray
public import Idealize.ShloMosaic.Lib.KernelVsHost

@[expose] public section

set_option maxRecDepth 16384

noncomputable section

open Idealize.ShloMosaic Idealize.ShloMosaic.TcCoe Idealize.SL.Sem
open Idealize.ShloMosaic.Pipeline (Dat)
open scoped BigOperators

namespace Cert.CastClaim

open Cert.CastArray

/-- The reference's padding is the widening. -/
theorem padded (w : Cert.CastRefIdeal.S1024x2064.Idx → EReal) :
    Cert.CastRefIdeal.Read.val_main_v1 (F := Ideal) w = wide w := by
  funext y
  show Cert.CastRefIdeal.Read.val_main_v0 (F := Ideal) w y = _
  unfold Cert.CastRefIdeal.Read.val_main_v0
  by_cases h : (y 1).val < 2064
  · refine (pad_apply_of_inside _ _ _ _ _ _ _ y (ix2 (y 0) (⟨(y 1).val, h⟩ : Fin 2064)) fun a => ?_).trans (wide_lo w y _ rfl rfl).symm
    fin_cases a
    · show (y 0).val = 0 + (y 0).val * (0 + 1)
      omega
    · show (y 1).val = 0 + (y 1).val * (0 + 1)
      omega
  · refine (pad_apply_of_not_inside _ _ _ _ _ _ _ y (1 : Fin 2) fun hin => h ?_).trans (Eq.trans ?_ (wide_hi w y (Nat.not_lt.1 h)).symm)
    · have hl : ((y 1).val - 0) / (0 + 1) < 2064 := hin.2.2
      omega
    · show (((0#32 : BitVec 32).toInt : ℝ) : EReal) = 0
      simp

theorem claim : Cert.algebraic_CastIdeal_CastRefIdeal := by
  intro m g m' g' _ hagree
  refine ⟨fun c => wide (m ((c : Thread Cert.CastIdeal.nD Cert.CastIdeal.τ).loc Cert.CastIdeal.main_arg0)), fun c => m ((c : Thread Cert.CastIdeal.nD Cert.CastIdeal.τ).loc Cert.CastIdeal.main_arg1),
    fun c => m ((c : Thread Cert.CastIdeal.nD Cert.CastIdeal.τ).loc Cert.CastIdeal.main_arg2), fun c => m ((c : Thread Cert.CastIdeal.nD Cert.CastIdeal.τ).loc Cert.CastIdeal.main_arg3),
    fun c => m ((c : Thread Cert.CastIdeal.nD Cert.CastIdeal.τ).loc Cert.CastIdeal.main_arg4), fun c => m ((c : Thread Cert.CastIdeal.nD Cert.CastIdeal.τ).loc Cert.CastIdeal.main_arg5),
    fun c => m ((c : Thread Cert.CastIdeal.nD Cert.CastIdeal.τ).loc Cert.CastIdeal.main_arg6), fun c => m ((c : Thread Cert.CastIdeal.nD Cert.CastIdeal.τ).loc Cert.CastIdeal.main_arg7),
    fun c => m ((c : Thread Cert.CastIdeal.nD Cert.CastIdeal.τ).loc Cert.CastIdeal.main_arg8), fun c => m ((c : Thread Cert.CastIdeal.nD Cert.CastIdeal.τ).loc Cert.CastIdeal.main_arg9), ?_, ?_⟩
  · refine (θ_run _ _ _).mono (fun r h c => ?_) (Cert.CastIdeal.Value.run_blocks m g)
    obtain ⟨h0, h1, h2, h3, h4, h5, h6, h7, h8, h9, hr⟩ := h c
    obtain ⟨k1, k2, k3, k4, k5, k6, k7, k8, k9⟩ := kept m c
    exact ⟨h0.trans (widened m c), h1.trans k1, h2.trans k2, h3.trans k3, h4.trans k4, h5.trans k5, h6.trans k6, h7.trans k7, h8.trans k8, h9.trans k9, hr⟩
  · refine (θ_run _ _ _).mono (fun r h c => ?_) (Cert.CastRefIdeal.Value.run m' g')
    obtain ⟨h0, h1, h2, h3, h4, h5, h6, h7, h8, h9, hr⟩ := h c
    obtain ⟨a0, a1, a2, a3, a4, a5, a6, a7, a8, a9⟩ := hagree c
    exact ⟨h0.trans ((Cert.CastRefIdeal.Read.val_main_v1_eq _).trans ((padded _).trans (congrArg wide a0))),
      h1.trans a1, h2.trans a2, h3.trans a3, h4.trans a4, h5.trans a5, h6.trans a6, h7.trans a7, h8.trans a8, h9.trans a9, hr⟩

end Cert.CastClaim

end
-- ==== Proof.lean ====
module

public import proofs.«01_k».proof.Defs
public import proofs.«01_k».proof.Proof.Gen.Ret
public import proofs.«01_k».proof.Proof.Gen.Ret.Frame
public import proofs.«01_k».proof.Proof.Gen.RetIdeal
public import proofs.«01_k».proof.Proof.Gen.RetIdeal.Frame
public import proofs.«01_k».proof.Proof.Gen.RetIdeal.Value
public import proofs.«01_k».proof.Proof.Gen.RetRefIdeal
public import proofs.«01_k».proof.Proof.Gen.RetRefIdeal.Run
public import proofs.«01_k».proof.Proof.Gen.Att
public import proofs.«01_k».proof.Proof.Gen.Att.Frame
public import proofs.«01_k».proof.Proof.Gen.AttIdeal
public import proofs.«01_k».proof.Proof.Gen.AttIdeal.Frame
public import proofs.«01_k».proof.Proof.Gen.AttIdeal.Value
public import proofs.«01_k».proof.Proof.Gen.AttRefIdeal
public import proofs.«01_k».proof.Proof.Gen.AttRefIdeal.Run
public import proofs.«01_k».proof.Proof.Gen.AttRefIdeal.Read
public import proofs.«01_k».proof.Proof.Gen.Pre_finite
public import proofs.«01_k».proof.Proof.Gen.Pre_finite2
public import proofs.«01_k».proof.Proof.AttClaim
public import proofs.«01_k».proof.Proof.RetClaim
public import proofs.«01_k».proof.Proof.PostCClaim
public import proofs.«01_k».proof.Proof.PostAbClaim
public import proofs.«01_k».proof.Proof.L1InClaim
public import proofs.«01_k».proof.Proof.L0InClaim
public import proofs.«01_k».proof.Proof.PostSClaim
public import proofs.«01_k».proof.Proof.AdaClaim
public import proofs.«01_k».proof.Proof.CastClaim
public import proofs.«01_k».proof.Proof.Gen.PostC
public import proofs.«01_k».proof.Proof.Gen.PostC.Frame
public import proofs.«01_k».proof.Proof.Gen.PostCIdeal
public import proofs.«01_k».proof.Proof.Gen.PostCIdeal.Frame
public import proofs.«01_k».proof.Proof.Gen.PostCIdeal.Value
public import proofs.«01_k».proof.Proof.Gen.PostCRefIdeal
public import proofs.«01_k».proof.Proof.Gen.PostCRefIdeal.Run
public import proofs.«01_k».proof.Proof.Gen.PostCRefIdeal.Read
public import proofs.«01_k».proof.Proof.Gen.PostAb
public import proofs.«01_k».proof.Proof.Gen.PostAb.Frame
public import proofs.«01_k».proof.Proof.Gen.PostAbIdeal
public import proofs.«01_k».proof.Proof.Gen.PostAbIdeal.Frame
public import proofs.«01_k».proof.Proof.Gen.PostAbIdeal.Value
public import proofs.«01_k».proof.Proof.Gen.PostAbRefIdeal
public import proofs.«01_k».proof.Proof.Gen.PostAbRefIdeal.Run
public import proofs.«01_k».proof.Proof.Gen.PostAbRefIdeal.Read
public import proofs.«01_k».proof.Proof.Gen.L1In
public import proofs.«01_k».proof.Proof.Gen.L1In.Frame
public import proofs.«01_k».proof.Proof.Gen.L1InIdeal
public import proofs.«01_k».proof.Proof.Gen.L1InIdeal.Frame
public import proofs.«01_k».proof.Proof.Gen.L1InIdeal.Value
public import proofs.«01_k».proof.Proof.Gen.L1InRefIdeal
public import proofs.«01_k».proof.Proof.Gen.L1InRefIdeal.Run
public import proofs.«01_k».proof.Proof.Gen.L1InRefIdeal.Read
public import proofs.«01_k».proof.Proof.Gen.Pre_finite3
public import proofs.«01_k».proof.Proof.Gen.Pre_finite4
public import proofs.«01_k».proof.Proof.Gen.Pre_finite5
public import proofs.«01_k».proof.Proof.Gen.L0In
public import proofs.«01_k».proof.Proof.Gen.L0In.Frame
public import proofs.«01_k».proof.Proof.Gen.L0InIdeal
public import proofs.«01_k».proof.Proof.Gen.L0InIdeal.Frame
public import proofs.«01_k».proof.Proof.Gen.L0InIdeal.Value
public import proofs.«01_k».proof.Proof.Gen.L0InRefIdeal
public import proofs.«01_k».proof.Proof.Gen.L0InRefIdeal.Run
public import proofs.«01_k».proof.Proof.Gen.L0InRefIdeal.Read
public import proofs.«01_k».proof.Proof.Gen.Pre_finite6
public import proofs.«01_k».proof.Proof.Gen.PostS
public import proofs.«01_k».proof.Proof.Gen.PostS.Frame
public import proofs.«01_k».proof.Proof.Gen.PostSIdeal
public import proofs.«01_k».proof.Proof.Gen.PostSIdeal.Frame
public import proofs.«01_k».proof.Proof.Gen.PostSIdeal.Value
public import proofs.«01_k».proof.Proof.Gen.PostSRefIdeal
public import proofs.«01_k».proof.Proof.Gen.PostSRefIdeal.Run
public import proofs.«01_k».proof.Proof.Gen.PostSRefIdeal.Read
public import proofs.«01_k».proof.Proof.Gen.Pre_finite7
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.Pre_finite8
public import proofs.«01_k».proof.Proof.Gen.Cast
public import proofs.«01_k».proof.Proof.Gen.Cast.Frame
public import proofs.«01_k».proof.Proof.Gen.CastIdeal
public import proofs.«01_k».proof.Proof.Gen.CastIdeal.Frame
public import proofs.«01_k».proof.Proof.Gen.CastIdeal.Value
public import proofs.«01_k».proof.Proof.Gen.CastRefIdeal
public import proofs.«01_k».proof.Proof.Gen.CastRefIdeal.Run
public import proofs.«01_k».proof.Proof.Gen.CastRefIdeal.Read
public import Idealize.ShloMosaic.Adequacy
public import Idealize.ShloMosaic.Init

@[expose] public section

noncomputable section

namespace Cert.Proof

open Idealize.ShloMosaic Idealize.SL.Sem

/-- The retention's reference ends without a fault and leaves its arguments. -/
theorem frame_retRef : Cert.quiescent_RetRefIdeal := fun m ρ _ =>
  (θ_run Cert.RetRefIdeal.defs _ _).mono (fun r h => ⟨fun c => (h c).2.2, Idealize.ShloMosaic.sem_eq_zero_of_no_sems (by decide) r.2⟩)
    (Cert.RetRefIdeal.Value.run m ρ)

/-- The attention's reference ends without a fault and leaves its arguments. -/
theorem frame_attRef : Cert.quiescent_AttRefIdeal := fun m ρ _ =>
  (θ_run Cert.AttRefIdeal.defs _ _).mono (fun r h => ⟨fun c => (h c).2, Idealize.ShloMosaic.sem_eq_zero_of_no_sems (by decide) r.2⟩)
    (Cert.AttRefIdeal.Value.run m ρ)

/-- The last layer's post-processing's reference ends without a fault and leaves its arguments. -/
theorem frame_postCRef : Cert.quiescent_PostCRefIdeal := fun m ρ _ =>
  (θ_run Cert.PostCRefIdeal.defs _ _).mono (fun r h => ⟨fun c => (h c).2, Idealize.ShloMosaic.sem_eq_zero_of_no_sems (by decide) r.2⟩)
    (Cert.PostCRefIdeal.Value.run m ρ)

/-- The first layer's post-processing's reference ends without a fault and leaves its arguments. -/
theorem frame_postAbRef : Cert.quiescent_PostAbRefIdeal := fun m ρ _ =>
  (θ_run Cert.PostAbRefIdeal.defs _ _).mono (fun r h => ⟨fun c => (h c).2, Idealize.ShloMosaic.sem_eq_zero_of_no_sems (by decide) r.2⟩)
    (Cert.PostAbRefIdeal.Value.run m ρ)

/-- The last layer's projection's reference ends without a fault and leaves its arguments. -/
theorem frame_l1InRef : Cert.quiescent_L1InRefIdeal := fun m ρ _ =>
  (θ_run Cert.L1InRefIdeal.defs _ _).mono (fun r h => ⟨fun c => (h c).2.2.2.2, Idealize.ShloMosaic.sem_eq_zero_of_no_sems (by decide) r.2⟩)
    (Cert.L1InRefIdeal.Value.run m ρ)

/-- The first layer's projection's reference ends without a fault and leaves its arguments. -/
theorem frame_l0InRef : Cert.quiescent_L0InRefIdeal := fun m ρ _ =>
  (θ_run Cert.L0InRefIdeal.defs _ _).mono (fun r h => ⟨fun c => (h c).2.2.2.2.2.2.2.2, Idealize.ShloMosaic.sem_eq_zero_of_no_sems (by decide) r.2⟩)
    (Cert.L0InRefIdeal.Value.run m ρ)

/-- The samples' end of the last layer's reference ends without a fault and leaves its arguments. -/
theorem frame_postSRef : Cert.quiescent_PostSRefIdeal := fun m ρ _ =>
  (θ_run Cert.PostSRefIdeal.defs _ _).mono (fun r h => ⟨fun c => (h c).2, Idealize.ShloMosaic.sem_eq_zero_of_no_sems (by decide) r.2⟩)
    (Cert.PostSRefIdeal.Value.run m ρ)

/-- The adaptive norm's reference ends without a fault and leaves its arguments. -/
theorem frame_adaRef : Cert.quiescent_AdaRefIdeal := fun m ρ _ =>
  (θ_run Cert.AdaRefIdeal.defs _ _).mono (fun r h => ⟨fun c => (h c).2, Idealize.ShloMosaic.sem_eq_zero_of_no_sems (by decide) r.2⟩)
    (Cert.AdaRefIdeal.Value.run m ρ)

/-- The weights' cast's reference ends without a fault and leaves its arguments. -/
theorem frame_castRef : Cert.quiescent_CastRefIdeal := fun m ρ _ =>
  (θ_run Cert.CastRefIdeal.defs _ _).mono (fun r h => ⟨fun c => (h c).2.2.2.2.2.2.2.2.2.2, Idealize.ShloMosaic.sem_eq_zero_of_no_sems (by decide) r.2⟩)
    (Cert.CastRefIdeal.Value.run m ρ)

theorem claim : Cert.Claim :=
  ⟨Cert.Ret.Gen.facts, Cert.RetIdeal.Gen.facts, Cert.RetRefIdeal.Gen.facts,
    Cert.Att.Gen.facts, Cert.AttIdeal.Gen.facts, Cert.AttRefIdeal.Gen.facts,
    Cert.PostC.Gen.facts, Cert.PostCIdeal.Gen.facts, Cert.PostCRefIdeal.Gen.facts,
    Cert.PostAb.Gen.facts, Cert.PostAbIdeal.Gen.facts, Cert.PostAbRefIdeal.Gen.facts,
    Cert.L1In.Gen.facts, Cert.L1InIdeal.Gen.facts, Cert.L1InRefIdeal.Gen.facts,
    Cert.L0In.Gen.facts, Cert.L0InIdeal.Gen.facts, Cert.L0InRefIdeal.Gen.facts,
    Cert.PostS.Gen.facts, Cert.PostSIdeal.Gen.facts, Cert.PostSRefIdeal.Gen.facts,
    Cert.Ada.Gen.facts, Cert.AdaIdeal.Gen.facts, Cert.AdaRefIdeal.Gen.facts,
    Cert.Cast.Gen.facts, Cert.CastIdeal.Gen.facts, Cert.CastRefIdeal.Gen.facts,
    Cert.Pre_finite.Gen.facts, Cert.Pre_finite2.Gen.facts, Cert.Pre_finite3.Gen.facts, Cert.Pre_finite4.Gen.facts, Cert.Pre_finite5.Gen.facts, Cert.Pre_finite6.Gen.facts, Cert.Pre_finite7.Gen.facts, Cert.Pre_finite8.Gen.facts,
    fun m ρ _ => Cert.Ret.Gen.frame m ρ, fun m ρ _ => Cert.RetIdeal.Gen.frame m ρ, fun m ρ _ => Cert.RetIdeal.Gen.frame m ρ,
    fun m ρ _ => frame_retRef m ρ trivial, fun m ρ _ => frame_retRef m ρ trivial,
    fun m ρ _ => Cert.Att.Gen.frame m ρ, fun m ρ _ => Cert.AttIdeal.Gen.frame m ρ, fun m ρ _ => Cert.AttIdeal.Gen.frame m ρ,
    fun m ρ _ => frame_attRef m ρ trivial, fun m ρ _ => frame_attRef m ρ trivial,
    fun m ρ _ => Cert.PostC.Gen.frame m ρ, fun m ρ _ => Cert.PostCIdeal.Gen.frame m ρ, fun m ρ _ => Cert.PostCIdeal.Gen.frame m ρ,
    fun m ρ _ => frame_postCRef m ρ trivial, fun m ρ _ => frame_postCRef m ρ trivial,
    fun m ρ _ => Cert.PostAb.Gen.frame m ρ, fun m ρ _ => Cert.PostAbIdeal.Gen.frame m ρ, fun m ρ _ => Cert.PostAbIdeal.Gen.frame m ρ,
    fun m ρ _ => frame_postAbRef m ρ trivial, fun m ρ _ => frame_postAbRef m ρ trivial,
    fun m ρ _ => Cert.L1In.Gen.frame m ρ, fun m ρ _ => Cert.L1InIdeal.Gen.frame m ρ, fun m ρ _ => Cert.L1InIdeal.Gen.frame m ρ,
    fun m ρ _ => frame_l1InRef m ρ trivial, fun m ρ _ => frame_l1InRef m ρ trivial,
    fun m ρ _ => Cert.L0In.Gen.frame m ρ, fun m ρ _ => Cert.L0InIdeal.Gen.frame m ρ, fun m ρ _ => Cert.L0InIdeal.Gen.frame m ρ,
    fun m ρ _ => frame_l0InRef m ρ trivial, fun m ρ _ => frame_l0InRef m ρ trivial,
    fun m ρ _ => Cert.PostS.Gen.frame m ρ, fun m ρ _ => Cert.PostSIdeal.Gen.frame m ρ, fun m ρ _ => Cert.PostSIdeal.Gen.frame m ρ,
    fun m ρ _ => frame_postSRef m ρ trivial, fun m ρ _ => frame_postSRef m ρ trivial,
    fun m ρ _ => Cert.Ada.Gen.frame m ρ, fun m ρ _ => Cert.AdaIdeal.Gen.frame m ρ, fun m ρ _ => Cert.AdaIdeal.Gen.frame m ρ,
    fun m ρ _ => frame_adaRef m ρ trivial, fun m ρ _ => frame_adaRef m ρ trivial,
    fun m ρ _ => Cert.Cast.Gen.frame m ρ, fun m ρ _ => Cert.CastIdeal.Gen.frame m ρ, fun m ρ _ => frame_castRef m ρ trivial,
    trivial, Cert.RetClaim.claim, trivial, Cert.AttClaim.claim, trivial, Cert.PostCClaim.claim, trivial, Cert.PostAbClaim.claim, trivial, Cert.L1InClaim.claim, trivial, Cert.L0InClaim.claim, trivial, Cert.PostSClaim.claim, trivial, Cert.AdaClaim.claim, trivial, Cert.CastClaim.claim⟩

end Cert.Proof

end
